-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InFw (m : (ℓ : Loc Cert.InFw.nD Cert.InFw.τ Cert.InFw.sig) → Buf (Elt Bits) ℓ) : Prop :=
  True

def Pre_InFwIdeal (m : (ℓ : Loc Cert.InFwIdeal.nD Cert.InFwIdeal.τ Cert.InFwIdeal.sig) → Buf (Elt Ideal) ℓ) : Prop :=
  True

def Pre_InFwRefIdeal (m : (ℓ : Loc Cert.InFwRefIdeal.nD Cert.InFwRefIdeal.τ Cert.InFwRefIdeal.sig) → Buf (Elt Ideal) ℓ) : Prop :=
  True

def Pre_UpFw (m : (ℓ : Loc Cert.UpFw.nD Cert.UpFw.τ Cert.UpFw.sig) → Buf (Elt Bits) ℓ) : Prop :=
  True

def Pre_UpFwIdeal (m : (ℓ : Loc Cert.UpFwIdeal.nD Cert.UpFwIdeal.τ Cert.UpFwIdeal.sig) → Buf (Elt Ideal) ℓ) : Prop :=
  True

def Pre_UpFwRefIdeal (m : (ℓ : Loc Cert.UpFwRefIdeal.nD Cert.UpFwRefIdeal.τ Cert.UpFwRefIdeal.sig) → Buf (Elt Ideal) ℓ) : Prop :=
  True

def Pre_SconvDx (m : (ℓ : Loc Cert.SconvDx.nD Cert.SconvDx.τ Cert.SconvDx.sig) → Buf (Elt Bits) ℓ) : Prop :=
  True

def Pre_SconvDxIdeal (m : (ℓ : Loc Cert.SconvDxIdeal.nD Cert.SconvDxIdeal.τ Cert.SconvDxIdeal.sig) → Buf (Elt Ideal) ℓ) : Prop :=
  True

def Pre_SconvDxRefIdeal (m : (ℓ : Loc Cert.SconvDxRefIdeal.nD Cert.SconvDxRefIdeal.τ Cert.SconvDxRefIdeal.sig) → Buf (Elt Ideal) ℓ) : Prop :=
  True

def Pre_PostDx (m : (ℓ : Loc Cert.PostDx.nD Cert.PostDx.τ Cert.PostDx.sig) → Buf (Elt Bits) ℓ) : Prop :=
  True

def Pre_PostDxIdeal (m : (ℓ : Loc Cert.PostDxIdeal.nD Cert.PostDxIdeal.τ Cert.PostDxIdeal.sig) → Buf (Elt Ideal) ℓ) : Prop :=
  True

def Pre_PostDxRefIdeal (m : (ℓ : Loc Cert.PostDxRefIdeal.nD Cert.PostDxRefIdeal.τ Cert.PostDxRefIdeal.sig) → Buf (Elt Ideal) ℓ) : Prop :=
  True

def Pre_DownFw (m : (ℓ : Loc Cert.DownFw.nD Cert.DownFw.τ Cert.DownFw.sig) → Buf (Elt Bits) ℓ) : Prop :=
  True

def Pre_DownFwIdeal (m : (ℓ : Loc Cert.DownFwIdeal.nD Cert.DownFwIdeal.τ Cert.DownFwIdeal.sig) → Buf (Elt Ideal) ℓ) : Prop :=
  True

def Pre_DownFwRefIdeal (m : (ℓ : Loc Cert.DownFwRefIdeal.nD Cert.DownFwRefIdeal.τ Cert.DownFwRefIdeal.sig) → Buf (Elt Ideal) ℓ) : Prop :=
  True

def Pre_SconvFw (m : (ℓ : Loc Cert.SconvFw.nD Cert.SconvFw.τ Cert.SconvFw.sig) → Buf (Elt Bits) ℓ) : Prop :=
  True

def Pre_SconvFwIdeal (m : (ℓ : Loc Cert.SconvFwIdeal.nD Cert.SconvFwIdeal.τ Cert.SconvFwIdeal.sig) → Buf (Elt Ideal) ℓ) : Prop :=
  True

def Pre_SconvFwRefIdeal (m : (ℓ : Loc Cert.SconvFwRefIdeal.nD Cert.SconvFwRefIdeal.τ Cert.SconvFwRefIdeal.sig) → Buf (Elt Ideal) ℓ) : Prop :=
  True

def Pre_MergeFw (m : (ℓ : Loc Cert.MergeFw.nD Cert.MergeFw.τ Cert.MergeFw.sig) → Buf (Elt Bits) ℓ) : Prop :=
  True

def Pre_MergeFwIdeal (m : (ℓ : Loc Cert.MergeFwIdeal.nD Cert.MergeFwIdeal.τ Cert.MergeFwIdeal.sig) → Buf (Elt Ideal) ℓ) : Prop :=
  True

def Pre_MergeFwRefIdeal (m : (ℓ : Loc Cert.MergeFwRefIdeal.nD Cert.MergeFwRefIdeal.τ Cert.MergeFwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2)
      ∧ r.2.mem ((c.tc : Thread Cert.OutDx.nD Cert.OutDx.τ).loc Cert.OutDx.main_arg3) = m ((c.tc : Thread Cert.OutDx.nD Cert.OutDx.τ).loc Cert.OutDx.main_arg3))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
      ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2)
      ∧ r.2.mem ((c.tc : Thread Cert.OutDxRefIdeal.nD Cert.OutDxRefIdeal.τ).loc Cert.OutDxRefIdeal.main_arg3) = m ((c.tc : Thread Cert.OutDxRefIdeal.nD Cert.OutDxRefIdeal.τ).loc Cert.OutDxRefIdeal.main_arg3))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InFw [hInFw : Cert.InFw.Facts] : Prop :=
  ∀ (m : (ℓ : Loc Cert.InFw.nD Cert.InFw.τ Cert.InFw.sig) → Buf (Elt Bits) ℓ) (g : Dev Cert.InFw.nD → PrngReg), Pre_InFw m →
    θ_run (Cert.InFw.defs (F := Bits)) (onTc (τ := Cert.InFw.τ) (Cert.InFw.main (F := Bits))) ⟨m, fun _ => 0, g⟩ (fun r => (∀ c : Dev Cert.InFw.nD,
      r.2.mem ((c.tc : Thread Cert.InFw.nD Cert.InFw.τ).loc Cert.InFw.main_arg0) = m ((c.tc : Thread Cert.InFw.nD Cert.InFw.τ).loc Cert.InFw.main_arg0)
      ∧ r.2.mem ((c.tc : Thread Cert.InFw.nD Cert.InFw.τ).loc Cert.InFw.main_arg1) = m ((c.tc : Thread Cert.InFw.nD Cert.InFw.τ).loc Cert.InFw.main_arg1))
      ∧ r.2.sem = fun _ => 0)

def quiescent_InFwIdeal [hInFwIdeal : Cert.InFwIdeal.Facts] : Prop :=
  ∀ (m : (ℓ : Loc Cert.InFwIdeal.nD Cert.InFwIdeal.τ Cert.InFwIdeal.sig) → Buf (Elt Ideal) ℓ) (g : Dev Cert.InFwIdeal.nD → PrngReg), Pre_InFwIdeal m →
    θ_run (Cert.InFwIdeal.defs (F := Ideal)) (onTc (τ := Cert.InFwIdeal.τ) (Cert.InFwIdeal.main (F := Ideal))) ⟨m, fun _ => 0, g⟩ (fun r => (∀ c : Dev Cert.InFwIdeal.nD,
      r.2.mem ((c.tc : Thread Cert.InFwIdeal.nD Cert.InFwIdeal.τ).loc Cert.InFwIdeal.main_arg0) = m ((c.tc : Thread Cert.InFwIdeal.nD Cert.InFwIdeal.τ).loc Cert.InFwIdeal.main_arg0)
      ∧ r.2.mem ((c.tc : Thread Cert.InFwIdeal.nD Cert.InFwIdeal.τ).loc Cert.InFwIdeal.main_arg1) = m ((c.tc : Thread Cert.InFwIdeal.nD Cert.InFwIdeal.τ).loc Cert.InFwIdeal.main_arg1))
      ∧ r.2.sem = fun _ => 0)

def quiescent_InFwRefIdeal [hInFwRefIdeal : Cert.InFwRefIdeal.Facts] : Prop :=
  ∀ (m : (ℓ : Loc Cert.InFwRefIdeal.nD Cert.InFwRefIdeal.τ Cert.InFwRefIdeal.sig) → Buf (Elt Ideal) ℓ) (g : Dev Cert.InFwRefIdeal.nD → PrngReg), Pre_InFwRefIdeal m →
    θ_run (Cert.InFwRefIdeal.defs (F := Ideal)) (onTc (τ := Cert.InFwRefIdeal.τ) (Cert.InFwRefIdeal.main (F := Ideal))) ⟨m, fun _ => 0, g⟩ (fun r => (∀ c : Dev Cert.InFwRefIdeal.nD,
      r.2.mem ((c.tc : Thread Cert.InFwRefIdeal.nD Cert.InFwRefIdeal.τ).loc Cert.InFwRefIdeal.main_arg0) = m ((c.tc : Thread Cert.InFwRefIdeal.nD Cert.InFwRefIdeal.τ).loc Cert.InFwRefIdeal.main_arg0)
      ∧ r.2.mem ((c.tc : Thread Cert.InFwRefIdeal.nD Cert.InFwRefIdeal.τ).loc Cert.InFwRefIdeal.main_arg1) = m ((c.tc : Thread Cert.InFwRefIdeal.nD Cert.InFwRefIdeal.τ).loc Cert.InFwRefIdeal.main_arg1))
      ∧ r.2.sem = fun _ => 0)

def quiescent_UpFw [hUpFw : Cert.UpFw.Facts] : Prop :=
  ∀ (m : (ℓ : Loc Cert.UpFw.nD Cert.UpFw.τ Cert.UpFw.sig) → Buf (Elt Bits) ℓ) (g : Dev Cert.UpFw.nD → PrngReg), Pre_UpFw m →
    θ_run (Cert.UpFw.defs (F := Bits)) (onTc (τ := Cert.UpFw.τ) (Cert.UpFw.main (F := Bits))) ⟨m, fun _ => 0, g⟩ (fun r => (∀ c : Dev Cert.UpFw.nD,
      r.2.mem ((c.tc : Thread Cert.UpFw.nD Cert.UpFw.τ).loc Cert.UpFw.main_arg0) = m ((c.tc : Thread Cert.UpFw.nD Cert.UpFw.τ).loc Cert.UpFw.main_arg0)
      ∧ r.2.mem ((c.tc : Thread Cert.UpFw.nD Cert.UpFw.τ).loc Cert.UpFw.main_arg1) = m ((c.tc : Thread Cert.UpFw.nD Cert.UpFw.τ).loc Cert.UpFw.main_arg1))
      ∧ r.2.sem = fun _ => 0)

def quiescent_UpFwIdeal [hUpFwIdeal : Cert.UpFwIdeal.Facts] : Prop :=
  ∀ (m : (ℓ : Loc Cert.UpFwIdeal.nD Cert.UpFwIdeal.τ Cert.UpFwIdeal.sig) → Buf (Elt Ideal) ℓ) (g : Dev Cert.UpFwIdeal.nD → PrngReg), Pre_UpFwIdeal m →
    θ_run (Cert.UpFwIdeal.defs (F := Ideal)) (onTc (τ := Cert.UpFwIdeal.τ) (Cert.UpFwIdeal.main (F := Ideal))) ⟨m, fun _ => 0, g⟩ (fun r => (∀ c : Dev Cert.UpFwIdeal.nD,
      r.2.mem ((c.tc : Thread Cert.UpFwIdeal.nD Cert.UpFwIdeal.τ).loc Cert.UpFwIdeal.main_arg0) = m ((c.tc : Thread Cert.UpFwIdeal.nD Cert.UpFwIdeal.τ).loc Cert.UpFwIdeal.main_arg0)
      ∧ r.2.mem ((c.tc : Thread Cert.UpFwIdeal.nD Cert.UpFwIdeal.τ).loc Cert.UpFwIdeal.main_arg1) = m ((c.tc : Thread Cert.UpFwIdeal.nD Cert.UpFwIdeal.τ).loc Cert.UpFwIdeal.main_arg1))
      ∧ r.2.sem = fun _ => 0)

def quiescent_UpFwRefIdeal [hUpFwRefIdeal : Cert.UpFwRefIdeal.Facts] : Prop :=
  ∀ (m : (ℓ : Loc Cert.UpFwRefIdeal.nD Cert.UpFwRefIdeal.τ Cert.UpFwRefIdeal.sig) → Buf (Elt Ideal) ℓ) (g : Dev Cert.UpFwRefIdeal.nD → PrngReg), Pre_UpFwRefIdeal m →
    θ_run (Cert.UpFwRefIdeal.defs (F := Ideal)) (onTc (τ := Cert.UpFwRefIdeal.τ) (Cert.UpFwRefIdeal.main (F := Ideal))) ⟨m, fun _ => 0, g⟩ (fun r => (∀ c : Dev Cert.UpFwRefIdeal.nD,
      r.2.mem ((c.tc : Thread Cert.UpFwRefIdeal.nD Cert.UpFwRefIdeal.τ).loc Cert.UpFwRefIdeal.main_arg0) = m ((c.tc : Thread Cert.UpFwRefIdeal.nD Cert.UpFwRefIdeal.τ).loc Cert.UpFwRefIdeal.main_arg0)
      ∧ r.2.mem ((c.tc : Thread Cert.UpFwRefIdeal.nD Cert.UpFwRefIdeal.τ).loc Cert.UpFwRefIdeal.main_arg1) = m ((c.tc : Thread Cert.UpFwRefIdeal.nD Cert.UpFwRefIdeal.τ).loc Cert.UpFwRefIdeal.main_arg1))
      ∧ r.2.sem = fun _ => 0)

def quiescent_SconvDx [hSconvDx : Cert.SconvDx.Facts] : Prop :=
  ∀ (m : (ℓ : Loc Cert.SconvDx.nD Cert.SconvDx.τ Cert.SconvDx.sig) → Buf (Elt Bits) ℓ) (g : Dev Cert.SconvDx.nD → PrngReg), Pre_SconvDx m →
    θ_run (Cert.SconvDx.defs (F := Bits)) (onTc (τ := Cert.SconvDx.τ) (Cert.SconvDx.main (F := Bits))) ⟨m, fun _ => 0, g⟩ (fun r => (∀ c : Dev Cert.SconvDx.nD,
      r.2.mem ((c.tc : Thread Cert.SconvDx.nD Cert.SconvDx.τ).loc Cert.SconvDx.main_arg0) = m ((c.tc : Thread Cert.SconvDx.nD Cert.SconvDx.τ).loc Cert.SconvDx.main_arg0)
      ∧ r.2.mem ((c.tc : Thread Cert.SconvDx.nD Cert.SconvDx.τ).loc Cert.SconvDx.main_arg1) = m ((c.tc : Thread Cert.SconvDx.nD Cert.SconvDx.τ).loc Cert.SconvDx.main_arg1)
      ∧ r.2.mem ((c.tc : Thread Cert.SconvDx.nD Cert.SconvDx.τ).loc Cert.SconvDx.main_arg2) = m ((c.tc : Thread Cert.SconvDx.nD Cert.SconvDx.τ).loc Cert.SconvDx.main_arg2)
      ∧ r.2.mem ((c.tc : Thread Cert.SconvDx.nD Cert.SconvDx.τ).loc Cert.SconvDx.main_arg3) = m ((c.tc : Thread Cert.SconvDx.nD Cert.SconvDx.τ).loc Cert.SconvDx.main_arg3)
      ∧ r.2.mem ((c.tc : Thread Cert.SconvDx.nD Cert.SconvDx.τ).loc Cert.SconvDx.main_arg4) = m ((c.tc : Thread Cert.SconvDx.nD Cert.SconvDx.τ).loc Cert.SconvDx.main_arg4))
      ∧ r.2.sem = fun _ => 0)

def quiescent_SconvDxIdeal [hSconvDxIdeal : Cert.SconvDxIdeal.Facts] : Prop :=
  ∀ (m : (ℓ : Loc Cert.SconvDxIdeal.nD Cert.SconvDxIdeal.τ Cert.SconvDxIdeal.sig) → Buf (Elt Ideal) ℓ) (g : Dev Cert.SconvDxIdeal.nD → PrngReg), Pre_SconvDxIdeal m →
    θ_run (Cert.SconvDxIdeal.defs (F := Ideal)) (onTc (τ := Cert.SconvDxIdeal.τ) (Cert.SconvDxIdeal.main (F := Ideal))) ⟨m, fun _ => 0, g⟩ (fun r => (∀ c : Dev Cert.SconvDxIdeal.nD,
      r.2.mem ((c.tc : Thread Cert.SconvDxIdeal.nD Cert.SconvDxIdeal.τ).loc Cert.SconvDxIdeal.main_arg0) = m ((c.tc : Thread Cert.SconvDxIdeal.nD Cert.SconvDxIdeal.τ).loc Cert.SconvDxIdeal.main_arg0)
      ∧ r.2.mem ((c.tc : Thread Cert.SconvDxIdeal.nD Cert.SconvDxIdeal.τ).loc Cert.SconvDxIdeal.main_arg1) = m ((c.tc : Thread Cert.SconvDxIdeal.nD Cert.SconvDxIdeal.τ).loc Cert.SconvDxIdeal.main_arg1)
      ∧ r.2.mem ((c.tc : Thread Cert.SconvDxIdeal.nD Cert.SconvDxIdeal.τ).loc Cert.SconvDxIdeal.main_arg2) = m ((c.tc : Thread Cert.SconvDxIdeal.nD Cert.SconvDxIdeal.τ).loc Cert.SconvDxIdeal.main_arg2)
      ∧ r.2.mem ((c.tc : Thread Cert.SconvDxIdeal.nD Cert.SconvDxIdeal.τ).loc Cert.SconvDxIdeal.main_arg3) = m ((c.tc : Thread Cert.SconvDxIdeal.nD Cert.SconvDxIdeal.τ).loc Cert.SconvDxIdeal.main_arg3)
      ∧ r.2.mem ((c.tc : Thread Cert.SconvDxIdeal.nD Cert.SconvDxIdeal.τ).loc Cert.SconvDxIdeal.main_arg4) = m ((c.tc : Thread Cert.SconvDxIdeal.nD Cert.SconvDxIdeal.τ).loc Cert.SconvDxIdeal.main_arg4))
      ∧ r.2.sem = fun _ => 0)

def quiescent_SconvDxRefIdeal [hSconvDxRefIdeal : Cert.SconvDxRefIdeal.Facts] : Prop :=
  ∀ (m : (ℓ : Loc Cert.SconvDxRefIdeal.nD Cert.SconvDxRefIdeal.τ Cert.SconvDxRefIdeal.sig) → Buf (Elt Ideal) ℓ) (g : Dev Cert.SconvDxRefIdeal.nD → PrngReg), Pre_SconvDxRefIdeal m →
    θ_run (Cert.SconvDxRefIdeal.defs (F := Ideal)) (onTc (τ := Cert.SconvDxRefIdeal.τ) (Cert.SconvDxRefIdeal.main (F := Ideal))) ⟨m, fun _ => 0, g⟩ (fun r => (∀ c : Dev Cert.SconvDxRefIdeal.nD,
      r.2.mem ((c.tc : Thread Cert.SconvDxRefIdeal.nD Cert.SconvDxRefIdeal.τ).loc Cert.SconvDxRefIdeal.main_arg0) = m ((c.tc : Thread Cert.SconvDxRefIdeal.nD Cert.SconvDxRefIdeal.τ).loc Cert.SconvDxRefIdeal.main_arg0)
      ∧ r.2.mem ((c.tc : Thread Cert.SconvDxRefIdeal.nD Cert.SconvDxRefIdeal.τ).loc Cert.SconvDxRefIdeal.main_arg1) = m ((c.tc : Thread Cert.SconvDxRefIdeal.nD Cert.SconvDxRefIdeal.τ).loc Cert.SconvDxRefIdeal.main_arg1)
      ∧ r.2.mem ((c.tc : Thread Cert.SconvDxRefIdeal.nD Cert.SconvDxRefIdeal.τ).loc Cert.SconvDxRefIdeal.main_arg2) = m ((c.tc : Thread Cert.SconvDxRefIdeal.nD Cert.SconvDxRefIdeal.τ).loc Cert.SconvDxRefIdeal.main_arg2)
      ∧ r.2.mem ((c.tc : Thread Cert.SconvDxRefIdeal.nD Cert.SconvDxRefIdeal.τ).loc Cert.SconvDxRefIdeal.main_arg3) = m ((c.tc : Thread Cert.SconvDxRefIdeal.nD Cert.SconvDxRefIdeal.τ).loc Cert.SconvDxRefIdeal.main_arg3)
      ∧ r.2.mem ((c.tc : Thread Cert.SconvDxRefIdeal.nD Cert.SconvDxRefIdeal.τ).loc Cert.SconvDxRefIdeal.main_arg4) = m ((c.tc : Thread Cert.SconvDxRefIdeal.nD Cert.SconvDxRefIdeal.τ).loc Cert.SconvDxRefIdeal.main_arg4))
      ∧ r.2.sem = fun _ => 0)

def quiescent_PostDx [hPostDx : Cert.PostDx.Facts] : Prop :=
  ∀ (m : (ℓ : Loc Cert.PostDx.nD Cert.PostDx.τ Cert.PostDx.sig) → Buf (Elt Bits) ℓ) (g : Dev Cert.PostDx.nD → PrngReg), Pre_PostDx m →
    θ_run (Cert.PostDx.defs (F := Bits)) (onTc (τ := Cert.PostDx.τ) (Cert.PostDx.main (F := Bits))) ⟨m, fun _ => 0, g⟩ (fun r => (∀ c : Dev Cert.PostDx.nD,
      r.2.mem ((c.tc : Thread Cert.PostDx.nD Cert.PostDx.τ).loc Cert.PostDx.main_arg0) = m ((c.tc : Thread Cert.PostDx.nD Cert.PostDx.τ).loc Cert.PostDx.main_arg0)
      ∧ r.2.mem ((c.tc : Thread Cert.PostDx.nD Cert.PostDx.τ).loc Cert.PostDx.main_arg1) = m ((c.tc : Thread Cert.PostDx.nD Cert.PostDx.τ).loc Cert.PostDx.main_arg1)
      ∧ r.2.mem ((c.tc : Thread Cert.PostDx.nD Cert.PostDx.τ).loc Cert.PostDx.main_arg2) = m ((c.tc : Thread Cert.PostDx.nD Cert.PostDx.τ).loc Cert.PostDx.main_arg2))
      ∧ r.2.sem = fun _ => 0)

def quiescent_PostDxIdeal [hPostDxIdeal : Cert.PostDxIdeal.Facts] : Prop :=
  ∀ (m : (ℓ : Loc Cert.PostDxIdeal.nD Cert.PostDxIdeal.τ Cert.PostDxIdeal.sig) → Buf (Elt Ideal) ℓ) (g : Dev Cert.PostDxIdeal.nD → PrngReg), Pre_PostDxIdeal m →
    θ_run (Cert.PostDxIdeal.defs (F := Ideal)) (onTc (τ := Cert.PostDxIdeal.τ) (Cert.PostDxIdeal.main (F := Ideal))) ⟨m, fun _ => 0, g⟩ (fun r => (∀ c : Dev Cert.PostDxIdeal.nD,
      r.2.mem ((c.tc : Thread Cert.PostDxIdeal.nD Cert.PostDxIdeal.τ).loc Cert.PostDxIdeal.main_arg0) = m ((c.tc : Thread Cert.PostDxIdeal.nD Cert.PostDxIdeal.τ).loc Cert.PostDxIdeal.main_arg0)
      ∧ r.2.mem ((c.tc : Thread Cert.PostDxIdeal.nD Cert.PostDxIdeal.τ).loc Cert.PostDxIdeal.main_arg1) = m ((c.tc : Thread Cert.PostDxIdeal.nD Cert.PostDxIdeal.τ).loc Cert.PostDxIdeal.main_arg1)
      ∧ r.2.mem ((c.tc : Thread Cert.PostDxIdeal.nD Cert.PostDxIdeal.τ).loc Cert.PostDxIdeal.main_arg2) = m ((c.tc : Thread Cert.PostDxIdeal.nD Cert.PostDxIdeal.τ).loc Cert.PostDxIdeal.main_arg2))
      ∧ r.2.sem = fun _ => 0)

def quiescent_PostDxRefIdeal [hPostDxRefIdeal : Cert.PostDxRefIdeal.Facts] : Prop :=
  ∀ (m : (ℓ : Loc Cert.PostDxRefIdeal.nD Cert.PostDxRefIdeal.τ Cert.PostDxRefIdeal.sig) → Buf (Elt Ideal) ℓ) (g : Dev Cert.PostDxRefIdeal.nD → PrngReg), Pre_PostDxRefIdeal m →
    θ_run (Cert.PostDxRefIdeal.defs (F := Ideal)) (onTc (τ := Cert.PostDxRefIdeal.τ) (Cert.PostDxRefIdeal.main (F := Ideal))) ⟨m, fun _ => 0, g⟩ (fun r => (∀ c : Dev Cert.PostDxRefIdeal.nD,
      r.2.mem ((c.tc : Thread Cert.PostDxRefIdeal.nD Cert.PostDxRefIdeal.τ).loc Cert.PostDxRefIdeal.main_arg0) = m ((c.tc : Thread Cert.PostDxRefIdeal.nD Cert.PostDxRefIdeal.τ).loc Cert.PostDxRefIdeal.main_arg0)
      ∧ r.2.mem ((c.tc : Thread Cert.PostDxRefIdeal.nD Cert.PostDxRefIdeal.τ).loc Cert.PostDxRefIdeal.main_arg1) = m ((c.tc : Thread Cert.PostDxRefIdeal.nD Cert.PostDxRefIdeal.τ).loc Cert.PostDxRefIdeal.main_arg1)
      ∧ r.2.mem ((c.tc : Thread Cert.PostDxRefIdeal.nD Cert.PostDxRefIdeal.τ).loc Cert.PostDxRefIdeal.main_arg2) = m ((c.tc : Thread Cert.PostDxRefIdeal.nD Cert.PostDxRefIdeal.τ).loc Cert.PostDxRefIdeal.main_arg2))
      ∧ r.2.sem = fun _ => 0)

def quiescent_DownFw [hDownFw : Cert.DownFw.Facts] : Prop :=
  ∀ (m : (ℓ : Loc Cert.DownFw.nD Cert.DownFw.τ Cert.DownFw.sig) → Buf (Elt Bits) ℓ) (g : Dev Cert.DownFw.nD → PrngReg), Pre_DownFw m →
    θ_run (Cert.DownFw.defs (F := Bits)) (onTc (τ := Cert.DownFw.τ) (Cert.DownFw.main (F := Bits))) ⟨m, fun _ => 0, g⟩ (fun r => (∀ c : Dev Cert.DownFw.nD,
      r.2.mem ((c.tc : Thread Cert.DownFw.nD Cert.DownFw.τ).loc Cert.DownFw.main_arg0) = m ((c.tc : Thread Cert.DownFw.nD Cert.DownFw.τ).loc Cert.DownFw.main_arg0)
      ∧ r.2.mem ((c.tc : Thread Cert.DownFw.nD Cert.DownFw.τ).loc Cert.DownFw.main_arg1) = m ((c.tc : Thread Cert.DownFw.nD Cert.DownFw.τ).loc Cert.DownFw.main_arg1)
      ∧ r.2.mem ((c.tc : Thread Cert.DownFw.nD Cert.DownFw.τ).loc Cert.DownFw.main_arg2) = m ((c.tc : Thread Cert.DownFw.nD Cert.DownFw.τ).loc Cert.DownFw.main_arg2)
      ∧ r.2.mem ((c.tc : Thread Cert.DownFw.nD Cert.DownFw.τ).loc Cert.DownFw.main_arg3) = m ((c.tc : Thread Cert.DownFw.nD Cert.DownFw.τ).loc Cert.DownFw.main_arg3)
      ∧ r.2.mem ((c.tc : Thread Cert.DownFw.nD Cert.DownFw.τ).loc Cert.DownFw.main_arg4) = m ((c.tc : Thread Cert.DownFw.nD Cert.DownFw.τ).loc Cert.DownFw.main_arg4))
      ∧ r.2.sem = fun _ => 0)

def quiescent_DownFwIdeal [hDownFwIdeal : Cert.DownFwIdeal.Facts] : Prop :=
  ∀ (m : (ℓ : Loc Cert.DownFwIdeal.nD Cert.DownFwIdeal.τ Cert.DownFwIdeal.sig) → Buf (Elt Ideal) ℓ) (g : Dev Cert.DownFwIdeal.nD → PrngReg), Pre_DownFwIdeal m →
    θ_run (Cert.DownFwIdeal.defs (F := Ideal)) (onTc (τ := Cert.DownFwIdeal.τ) (Cert.DownFwIdeal.main (F := Ideal))) ⟨m, fun _ => 0, g⟩ (fun r => (∀ c : Dev Cert.DownFwIdeal.nD,
      r.2.mem ((c.tc : Thread Cert.DownFwIdeal.nD Cert.DownFwIdeal.τ).loc Cert.DownFwIdeal.main_arg0) = m ((c.tc : Thread Cert.DownFwIdeal.nD Cert.DownFwIdeal.τ).loc Cert.DownFwIdeal.main_arg0)
      ∧ r.2.mem ((c.tc : Thread Cert.DownFwIdeal.nD Cert.DownFwIdeal.τ).loc Cert.DownFwIdeal.main_arg1) = m ((c.tc : Thread Cert.DownFwIdeal.nD Cert.DownFwIdeal.τ).loc Cert.DownFwIdeal.main_arg1)
      ∧ r.2.mem ((c.tc : Thread Cert.DownFwIdeal.nD Cert.DownFwIdeal.τ).loc Cert.DownFwIdeal.main_arg2) = m ((c.tc : Thread Cert.DownFwIdeal.nD Cert.DownFwIdeal.τ).loc Cert.DownFwIdeal.main_arg2)
      ∧ r.2.mem ((c.tc : Thread Cert.DownFwIdeal.nD Cert.DownFwIdeal.τ).loc Cert.DownFwIdeal.main_arg3) = m ((c.tc : Thread Cert.DownFwIdeal.nD Cert.DownFwIdeal.τ).loc Cert.DownFwIdeal.main_arg3)
      ∧ r.2.mem ((c.tc : Thread Cert.DownFwIdeal.nD Cert.DownFwIdeal.τ).loc Cert.DownFwIdeal.main_arg4) = m ((c.tc : Thread Cert.DownFwIdeal.nD Cert.DownFwIdeal.τ).loc Cert.DownFwIdeal.main_arg4))
      ∧ r.2.sem = fun _ => 0)

def quiescent_DownFwRefIdeal [hDownFwRefIdeal : Cert.DownFwRefIdeal.Facts] : Prop :=
  ∀ (m : (ℓ : Loc Cert.DownFwRefIdeal.nD Cert.DownFwRefIdeal.τ Cert.DownFwRefIdeal.sig) → Buf (Elt Ideal) ℓ) (g : Dev Cert.DownFwRefIdeal.nD → PrngReg), Pre_DownFwRefIdeal m →
    θ_run (Cert.DownFwRefIdeal.defs (F := Ideal)) (onTc (τ := Cert.DownFwRefIdeal.τ) (Cert.DownFwRefIdeal.main (F := Ideal))) ⟨m, fun _ => 0, g⟩ (fun r => (∀ c : Dev Cert.DownFwRefIdeal.nD,
      r.2.mem ((c.tc : Thread Cert.DownFwRefIdeal.nD Cert.DownFwRefIdeal.τ).loc Cert.DownFwRefIdeal.main_arg0) = m ((c.tc : Thread Cert.DownFwRefIdeal.nD Cert.DownFwRefIdeal.τ).loc Cert.DownFwRefIdeal.main_arg0)
      ∧ r.2.mem ((c.tc : Thread Cert.DownFwRefIdeal.nD Cert.DownFwRefIdeal.τ).loc Cert.DownFwRefIdeal.main_arg1) = m ((c.tc : Thread Cert.DownFwRefIdeal.nD Cert.DownFwRefIdeal.τ).loc Cert.DownFwRefIdeal.main_arg1)
      ∧ r.2.mem ((c.tc : Thread Cert.DownFwRefIdeal.nD Cert.DownFwRefIdeal.τ).loc Cert.DownFwRefIdeal.main_arg2) = m ((c.tc : Thread Cert.DownFwRefIdeal.nD Cert.DownFwRefIdeal.τ).loc Cert.DownFwRefIdeal.main_arg2)
      ∧ r.2.mem ((c.tc : Thread Cert.DownFwRefIdeal.nD Cert.DownFwRefIdeal.τ).loc Cert.DownFwRefIdeal.main_arg3) = m ((c.tc : Thread Cert.DownFwRefIdeal.nD Cert.DownFwRefIdeal.τ).loc Cert.DownFwRefIdeal.main_arg3)
      ∧ r.2.mem ((c.tc : Thread Cert.DownFwRefIdeal.nD Cert.DownFwRefIdeal.τ).loc Cert.DownFwRefIdeal.main_arg4) = m ((c.tc : Thread Cert.DownFwRefIdeal.nD Cert.DownFwRefIdeal.τ).loc Cert.DownFwRefIdeal.main_arg4))
      ∧ r.2.sem = fun _ => 0)

def quiescent_SconvFw [hSconvFw : Cert.SconvFw.Facts] : Prop :=
  ∀ (m : (ℓ : Loc Cert.SconvFw.nD Cert.SconvFw.τ Cert.SconvFw.sig) → Buf (Elt Bits) ℓ) (g : Dev Cert.SconvFw.nD → PrngReg), Pre_SconvFw m →
    θ_run (Cert.SconvFw.defs (F := Bits)) (onTc (τ := Cert.SconvFw.τ) (Cert.SconvFw.main (F := Bits))) ⟨m, fun _ => 0, g⟩ (fun r => (∀ c : Dev Cert.SconvFw.nD,
      r.2.mem ((c.tc : Thread Cert.SconvFw.nD Cert.SconvFw.τ).loc Cert.SconvFw.main_arg0) = m ((c.tc : Thread Cert.SconvFw.nD Cert.SconvFw.τ).loc Cert.SconvFw.main_arg0)
      ∧ r.2.mem ((c.tc : Thread Cert.SconvFw.nD Cert.SconvFw.τ).loc Cert.SconvFw.main_arg1) = m ((c.tc : Thread Cert.SconvFw.nD Cert.SconvFw.τ).loc Cert.SconvFw.main_arg1)
      ∧ r.2.mem ((c.tc : Thread Cert.SconvFw.nD Cert.SconvFw.τ).loc Cert.SconvFw.main_arg2) = m ((c.tc : Thread Cert.SconvFw.nD Cert.SconvFw.τ).loc Cert.SconvFw.main_arg2)
      ∧ r.2.mem ((c.tc : Thread Cert.SconvFw.nD Cert.SconvFw.τ).loc Cert.SconvFw.main_arg3) = m ((c.tc : Thread Cert.SconvFw.nD Cert.SconvFw.τ).loc Cert.SconvFw.main_arg3))
      ∧ r.2.sem = fun _ => 0)

def quiescent_SconvFwIdeal [hSconvFwIdeal : Cert.SconvFwIdeal.Facts] : Prop :=
  ∀ (m : (ℓ : Loc Cert.SconvFwIdeal.nD Cert.SconvFwIdeal.τ Cert.SconvFwIdeal.sig) → Buf (Elt Ideal) ℓ) (g : Dev Cert.SconvFwIdeal.nD → PrngReg), Pre_SconvFwIdeal m →
    θ_run (Cert.SconvFwIdeal.defs (F := Ideal)) (onTc (τ := Cert.SconvFwIdeal.τ) (Cert.SconvFwIdeal.main (F := Ideal))) ⟨m, fun _ => 0, g⟩ (fun r => (∀ c : Dev Cert.SconvFwIdeal.nD,
      r.2.mem ((c.tc : Thread Cert.SconvFwIdeal.nD Cert.SconvFwIdeal.τ).loc Cert.SconvFwIdeal.main_arg0) = m ((c.tc : Thread Cert.SconvFwIdeal.nD Cert.SconvFwIdeal.τ).loc Cert.SconvFwIdeal.main_arg0)
      ∧ r.2.mem ((c.tc : Thread Cert.SconvFwIdeal.nD Cert.SconvFwIdeal.τ).loc Cert.SconvFwIdeal.main_arg1) = m ((c.tc : Thread Cert.SconvFwIdeal.nD Cert.SconvFwIdeal.τ).loc Cert.SconvFwIdeal.main_arg1)
      ∧ r.2.mem ((c.tc : Thread Cert.SconvFwIdeal.nD Cert.SconvFwIdeal.τ).loc Cert.SconvFwIdeal.main_arg2) = m ((c.tc : Thread Cert.SconvFwIdeal.nD Cert.SconvFwIdeal.τ).loc Cert.SconvFwIdeal.main_arg2)
      ∧ r.2.mem ((c.tc : Thread Cert.SconvFwIdeal.nD Cert.SconvFwIdeal.τ).loc Cert.SconvFwIdeal.main_arg3) = m ((c.tc : Thread Cert.SconvFwIdeal.nD Cert.SconvFwIdeal.τ).loc Cert.SconvFwIdeal.main_arg3))
      ∧ r.2.sem = fun _ => 0)

def quiescent_SconvFwRefIdeal [hSconvFwRefIdeal : Cert.SconvFwRefIdeal.Facts] : Prop :=
  ∀ (m : (ℓ : Loc Cert.SconvFwRefIdeal.nD Cert.SconvFwRefIdeal.τ Cert.SconvFwRefIdeal.sig) → Buf (Elt Ideal) ℓ) (g : Dev Cert.SconvFwRefIdeal.nD → PrngReg), Pre_SconvFwRefIdeal m →
    θ_run (Cert.SconvFwRefIdeal.defs (F := Ideal)) (onTc (τ := Cert.SconvFwRefIdeal.τ) (Cert.SconvFwRefIdeal.main (F := Ideal))) ⟨m, fun _ => 0, g⟩ (fun r => (∀ c : Dev Cert.SconvFwRefIdeal.nD,
      r.2.mem ((c.tc : Thread Cert.SconvFwRefIdeal.nD Cert.SconvFwRefIdeal.τ).loc Cert.SconvFwRefIdeal.main_arg0) = m ((c.tc : Thread Cert.SconvFwRefIdeal.nD Cert.SconvFwRefIdeal.τ).loc Cert.SconvFwRefIdeal.main_arg0)
      ∧ r.2.mem ((c.tc : Thread Cert.SconvFwRefIdeal.nD Cert.SconvFwRefIdeal.τ).loc Cert.SconvFwRefIdeal.main_arg1) = m ((c.tc : Thread Cert.SconvFwRefIdeal.nD Cert.SconvFwRefIdeal.τ).loc Cert.SconvFwRefIdeal.main_arg1)
      ∧ r.2.mem ((c.tc : Thread Cert.SconvFwRefIdeal.nD Cert.SconvFwRefIdeal.τ).loc Cert.SconvFwRefIdeal.main_arg2) = m ((c.tc : Thread Cert.SconvFwRefIdeal.nD Cert.SconvFwRefIdeal.τ).loc Cert.SconvFwRefIdeal.main_arg2)
      ∧ r.2.mem ((c.tc : Thread Cert.SconvFwRefIdeal.nD Cert.SconvFwRefIdeal.τ).loc Cert.SconvFwRefIdeal.main_arg3) = m ((c.tc : Thread Cert.SconvFwRefIdeal.nD Cert.SconvFwRefIdeal.τ).loc Cert.SconvFwRefIdeal.main_arg3))
      ∧ r.2.sem = fun _ => 0)

def quiescent_MergeFw [hMergeFw : Cert.MergeFw.Facts] : Prop :=
  ∀ (m : (ℓ : Loc Cert.MergeFw.nD Cert.MergeFw.τ Cert.MergeFw.sig) → Buf (Elt Bits) ℓ) (g : Dev Cert.MergeFw.nD → PrngReg), Pre_MergeFw m →
    θ_run (Cert.MergeFw.defs (F := Bits)) (onTc (τ := Cert.MergeFw.τ) (Cert.MergeFw.main (F := Bits))) ⟨m, fun _ => 0, g⟩ (fun r => (∀ c : Dev Cert.MergeFw.nD,
      r.2.mem ((c.tc : Thread Cert.MergeFw.nD Cert.MergeFw.τ).loc Cert.MergeFw.main_arg0) = m ((c.tc : Thread Cert.MergeFw.nD Cert.MergeFw.τ).loc Cert.MergeFw.main_arg0)
      ∧ r.2.mem ((c.tc : Thread Cert.MergeFw.nD Cert.MergeFw.τ).loc Cert.MergeFw.main_arg1) = m ((c.tc : Thread Cert.MergeFw.nD Cert.MergeFw.τ).loc Cert.MergeFw.main_arg1)
      ∧ r.2.mem ((c.tc : Thread Cert.MergeFw.nD Cert.MergeFw.τ).loc Cert.MergeFw.main_arg2) = m ((c.tc : Thread Cert.MergeFw.nD Cert.MergeFw.τ).loc Cert.MergeFw.main_arg2)
      ∧ r.2.mem ((c.tc : Thread Cert.MergeFw.nD Cert.MergeFw.τ).loc Cert.MergeFw.main_arg3) = m ((c.tc : Thread Cert.MergeFw.nD Cert.MergeFw.τ).loc Cert.MergeFw.main_arg3)
      ∧ r.2.mem ((c.tc : Thread Cert.MergeFw.nD Cert.MergeFw.τ).loc Cert.MergeFw.main_arg4) = m ((c.tc : Thread Cert.MergeFw.nD Cert.MergeFw.τ).loc Cert.MergeFw.main_arg4)
      ∧ r.2.mem ((c.tc : Thread Cert.MergeFw.nD Cert.MergeFw.τ).loc Cert.MergeFw.main_arg5) = m ((c.tc : Thread Cert.MergeFw.nD Cert.MergeFw.τ).loc Cert.MergeFw.main_arg5)
      ∧ r.2.mem ((c.tc : Thread Cert.MergeFw.nD Cert.MergeFw.τ).loc Cert.MergeFw.main_arg6) = m ((c.tc : Thread Cert.MergeFw.nD Cert.MergeFw.τ).loc Cert.MergeFw.main_arg6)
      ∧ r.2.mem ((c.tc : Thread Cert.MergeFw.nD Cert.MergeFw.τ).loc Cert.MergeFw.main_arg7) = m ((c.tc : Thread Cert.MergeFw.nD Cert.MergeFw.τ).loc Cert.MergeFw.main_arg7)
      ∧ r.2.mem ((c.tc : Thread Cert.MergeFw.nD Cert.MergeFw.τ).loc Cert.MergeFw.main_arg8) = m ((c.tc : Thread Cert.MergeFw.nD Cert.MergeFw.τ).loc Cert.MergeFw.main_arg8)
      ∧ r.2.mem ((c.tc : Thread Cert.MergeFw.nD Cert.MergeFw.τ).loc Cert.MergeFw.main_arg9) = m ((c.tc : Thread Cert.MergeFw.nD Cert.MergeFw.τ).loc Cert.MergeFw.main_arg9)
      ∧ r.2.mem ((c.tc : Thread Cert.MergeFw.nD Cert.MergeFw.τ).loc Cert.MergeFw.main_arg10) = m ((c.tc : Thread Cert.MergeFw.nD Cert.MergeFw.τ).loc Cert.MergeFw.main_arg10)
      ∧ r.2.mem ((c.tc : Thread Cert.MergeFw.nD Cert.MergeFw.τ).loc Cert.MergeFw.main_arg11) = m ((c.tc : Thread Cert.MergeFw.nD Cert.MergeFw.τ).loc Cert.MergeFw.main_arg11))
      ∧ r.2.sem = fun _ => 0)

def quiescent_MergeFwIdeal [hMergeFwIdeal : Cert.MergeFwIdeal.Facts] : Prop :=
  ∀ (m : (ℓ : Loc Cert.MergeFwIdeal.nD Cert.MergeFwIdeal.τ Cert.MergeFwIdeal.sig) → Buf (Elt Ideal) ℓ) (g : Dev Cert.MergeFwIdeal.nD → PrngReg), Pre_MergeFwIdeal m →
    θ_run (Cert.MergeFwIdeal.defs (F := Ideal)) (onTc (τ := Cert.MergeFwIdeal.τ) (Cert.MergeFwIdeal.main (F := Ideal))) ⟨m, fun _ => 0, g⟩ (fun r => (∀ c : Dev Cert.MergeFwIdeal.nD,
      r.2.mem ((c.tc : Thread Cert.MergeFwIdeal.nD Cert.MergeFwIdeal.τ).loc Cert.MergeFwIdeal.main_arg0) = m ((c.tc : Thread Cert.MergeFwIdeal.nD Cert.MergeFwIdeal.τ).loc Cert.MergeFwIdeal.main_arg0)
      ∧ r.2.mem ((c.tc : Thread Cert.MergeFwIdeal.nD Cert.MergeFwIdeal.τ).loc Cert.MergeFwIdeal.main_arg1) = m ((c.tc : Thread Cert.MergeFwIdeal.nD Cert.MergeFwIdeal.τ).loc Cert.MergeFwIdeal.main_arg1)
      ∧ r.2.mem ((c.tc : Thread Cert.MergeFwIdeal.nD Cert.MergeFwIdeal.τ).loc Cert.MergeFwIdeal.main_arg2) = m ((c.tc : Thread Cert.MergeFwIdeal.nD Cert.MergeFwIdeal.τ).loc Cert.MergeFwIdeal.main_arg2)
      ∧ r.2.mem ((c.tc : Thread Cert.MergeFwIdeal.nD Cert.MergeFwIdeal.τ).loc Cert.MergeFwIdeal.main_arg3) = m ((c.tc : Thread Cert.MergeFwIdeal.nD Cert.MergeFwIdeal.τ).loc Cert.MergeFwIdeal.main_arg3)
      ∧ r.2.mem ((c.tc : Thread Cert.MergeFwIdeal.nD Cert.MergeFwIdeal.τ).loc Cert.MergeFwIdeal.main_arg4) = m ((c.tc : Thread Cert.MergeFwIdeal.nD Cert.MergeFwIdeal.τ).loc Cert.MergeFwIdeal.main_arg4)
      ∧ r.2.mem ((c.tc : Thread Cert.MergeFwIdeal.nD Cert.MergeFwIdeal.τ).loc Cert.MergeFwIdeal.main_arg5) = m ((c.tc : Thread Cert.MergeFwIdeal.nD Cert.MergeFwIdeal.τ).loc Cert.MergeFwIdeal.main_arg5)
      ∧ r.2.mem ((c.tc : Thread Cert.MergeFwIdeal.nD Cert.MergeFwIdeal.τ).loc Cert.MergeFwIdeal.main_arg6) = m ((c.tc : Thread Cert.MergeFwIdeal.nD Cert.MergeFwIdeal.τ).loc Cert.MergeFwIdeal.main_arg6)
      ∧ r.2.mem ((c.tc : Thread Cert.MergeFwIdeal.nD Cert.MergeFwIdeal.τ).loc Cert.MergeFwIdeal.main_arg7) = m ((c.tc : Thread Cert.MergeFwIdeal.nD Cert.MergeFwIdeal.τ).loc Cert.MergeFwIdeal.main_arg7)
      ∧ r.2.mem ((c.tc : Thread Cert.MergeFwIdeal.nD Cert.MergeFwIdeal.τ).loc Cert.MergeFwIdeal.main_arg8) = m ((c.tc : Thread Cert.MergeFwIdeal.nD Cert.MergeFwIdeal.τ).loc Cert.MergeFwIdeal.main_arg8)
      ∧ r.2.mem ((c.tc : Thread Cert.MergeFwIdeal.nD Cert.MergeFwIdeal.τ).loc Cert.MergeFwIdeal.main_arg9) = m ((c.tc : Thread Cert.MergeFwIdeal.nD Cert.MergeFwIdeal.τ).loc Cert.MergeFwIdeal.main_arg9)
      ∧ r.2.mem ((c.tc : Thread Cert.MergeFwIdeal.nD Cert.MergeFwIdeal.τ).loc Cert.MergeFwIdeal.main_arg10) = m ((c.tc : Thread Cert.MergeFwIdeal.nD Cert.MergeFwIdeal.τ).loc Cert.MergeFwIdeal.main_arg10)
      ∧ r.2.mem ((c.tc : Thread Cert.MergeFwIdeal.nD Cert.MergeFwIdeal.τ).loc Cert.MergeFwIdeal.main_arg11) = m ((c.tc : Thread Cert.MergeFwIdeal.nD Cert.MergeFwIdeal.τ).loc Cert.MergeFwIdeal.main_arg11))
      ∧ r.2.sem = fun _ => 0)

def quiescent_MergeFwRefIdeal [hMergeFwRefIdeal : Cert.MergeFwRefIdeal.Facts] : Prop :=
  ∀ (m : (ℓ : Loc Cert.MergeFwRefIdeal.nD Cert.MergeFwRefIdeal.τ Cert.MergeFwRefIdeal.sig) → Buf (Elt Ideal) ℓ) (g : Dev Cert.MergeFwRefIdeal.nD → PrngReg), Pre_MergeFwRefIdeal m →
    θ_run (Cert.MergeFwRefIdeal.defs (F := Ideal)) (onTc (τ := Cert.MergeFwRefIdeal.τ) (Cert.MergeFwRefIdeal.main (F := Ideal))) ⟨m, fun _ => 0, g⟩ (fun r => (∀ c : Dev Cert.MergeFwRefIdeal.nD,
      r.2.mem ((c.tc : Thread Cert.MergeFwRefIdeal.nD Cert.MergeFwRefIdeal.τ).loc Cert.MergeFwRefIdeal.main_arg0) = m ((c.tc : Thread Cert.MergeFwRefIdeal.nD Cert.MergeFwRefIdeal.τ).loc Cert.MergeFwRefIdeal.main_arg0)
      ∧ r.2.mem ((c.tc : Thread Cert.MergeFwRefIdeal.nD Cert.MergeFwRefIdeal.τ).loc Cert.MergeFwRefIdeal.main_arg1) = m ((c.tc : Thread Cert.MergeFwRefIdeal.nD Cert.MergeFwRefIdeal.τ).loc Cert.MergeFwRefIdeal.main_arg1)
      ∧ r.2.mem ((c.tc : Thread Cert.MergeFwRefIdeal.nD Cert.MergeFwRefIdeal.τ).loc Cert.MergeFwRefIdeal.main_arg2) = m ((c.tc : Thread Cert.MergeFwRefIdeal.nD Cert.MergeFwRefIdeal.τ).loc Cert.MergeFwRefIdeal.main_arg2)
      ∧ r.2.mem ((c.tc : Thread Cert.MergeFwRefIdeal.nD Cert.MergeFwRefIdeal.τ).loc Cert.MergeFwRefIdeal.main_arg3) = m ((c.tc : Thread Cert.MergeFwRefIdeal.nD Cert.MergeFwRefIdeal.τ).loc Cert.MergeFwRefIdeal.main_arg3)
      ∧ r.2.mem ((c.tc : Thread Cert.MergeFwRefIdeal.nD Cert.MergeFwRefIdeal.τ).loc Cert.MergeFwRefIdeal.main_arg4) = m ((c.tc : Thread Cert.MergeFwRefIdeal.nD Cert.MergeFwRefIdeal.τ).loc Cert.MergeFwRefIdeal.main_arg4)
      ∧ r.2.mem ((c.tc : Thread Cert.MergeFwRefIdeal.nD Cert.MergeFwRefIdeal.τ).loc Cert.MergeFwRefIdeal.main_arg5) = m ((c.tc : Thread Cert.MergeFwRefIdeal.nD Cert.MergeFwRefIdeal.τ).loc Cert.MergeFwRefIdeal.main_arg5)
      ∧ r.2.mem ((c.tc : Thread Cert.MergeFwRefIdeal.nD Cert.MergeFwRefIdeal.τ).loc Cert.MergeFwRefIdeal.main_arg6) = m ((c.tc : Thread Cert.MergeFwRefIdeal.nD Cert.MergeFwRefIdeal.τ).loc Cert.MergeFwRefIdeal.main_arg6)
      ∧ r.2.mem ((c.tc : Thread Cert.MergeFwRefIdeal.nD Cert.MergeFwRefIdeal.τ).loc Cert.MergeFwRefIdeal.main_arg7) = m ((c.tc : Thread Cert.MergeFwRefIdeal.nD Cert.MergeFwRefIdeal.τ).loc Cert.MergeFwRefIdeal.main_arg7)
      ∧ r.2.mem ((c.tc : Thread Cert.MergeFwRefIdeal.nD Cert.MergeFwRefIdeal.τ).loc Cert.MergeFwRefIdeal.main_arg8) = m ((c.tc : Thread Cert.MergeFwRefIdeal.nD Cert.MergeFwRefIdeal.τ).loc Cert.MergeFwRefIdeal.main_arg8)
      ∧ r.2.mem ((c.tc : Thread Cert.MergeFwRefIdeal.nD Cert.MergeFwRefIdeal.τ).loc Cert.MergeFwRefIdeal.main_arg9) = m ((c.tc : Thread Cert.MergeFwRefIdeal.nD Cert.MergeFwRefIdeal.τ).loc Cert.MergeFwRefIdeal.main_arg9)
      ∧ r.2.mem ((c.tc : Thread Cert.MergeFwRefIdeal.nD Cert.MergeFwRefIdeal.τ).loc Cert.MergeFwRefIdeal.main_arg10) = m ((c.tc : Thread Cert.MergeFwRefIdeal.nD Cert.MergeFwRefIdeal.τ).loc Cert.MergeFwRefIdeal.main_arg10)
      ∧ r.2.mem ((c.tc : Thread Cert.MergeFwRefIdeal.nD Cert.MergeFwRefIdeal.τ).loc Cert.MergeFwRefIdeal.main_arg11) = m ((c.tc : Thread Cert.MergeFwRefIdeal.nD Cert.MergeFwRefIdeal.τ).loc Cert.MergeFwRefIdeal.main_arg11))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E38AA3B#32 (((1 / 8) * (Real.log 2)⁻¹ : ℝ) : EReal)
  ∧ IdealRules.named_const.Statement Cert.KernelIdeal.κ "neg" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)) (v3 : (c : Dev Cert.KernelIdeal.nD) → Buf (Elt Ideal) ((c.tc : Thread Cert.KernelIdeal.nD Cert.KernelIdeal.τ).loc Cert.KernelIdeal.main_v47_3)) (v4 : (c : Dev Cert.KernelIdeal.nD) → Buf (Elt Ideal) ((c.tc : Thread Cert.KernelIdeal.nD Cert.KernelIdeal.τ).loc Cert.KernelIdeal.main_v47_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_v47_3) = v3 c
          ∧ r.2.mem ((c.tc : Thread Cert.KernelIdeal.nD Cert.KernelIdeal.τ).loc Cert.KernelIdeal.main_v47_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v5_0)) (v1 : (c : Dev Cert.UpDxIdeal.nD) → Buf (Elt Ideal) ((c.tc : Thread Cert.UpDxIdeal.nD Cert.UpDxIdeal.τ).loc Cert.UpDxIdeal.main_v5_1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v5_0) = v0 c
          ∧ r.2.mem ((c.tc : Thread Cert.UpDxIdeal.nD Cert.UpDxIdeal.τ).loc Cert.UpDxIdeal.main_v5_1) = v1 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v38) = v0 c
          ∧ r.2.mem ((c.tc : Thread Cert.UpDxRefIdeal.nD Cert.UpDxRefIdeal.τ).loc Cert.UpDxRefIdeal.main_v39) = v1 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v5_0)) (v1 : (c : Dev Cert.InDxIdeal.nD) → Buf (Elt Ideal) ((c.tc : Thread Cert.InDxIdeal.nD Cert.InDxIdeal.τ).loc Cert.InDxIdeal.main_v5_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v5_0) = v0 c
          ∧ r.2.mem ((c.tc : Thread Cert.InDxIdeal.nD Cert.InDxIdeal.τ).loc Cert.InDxIdeal.main_v5_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v38) = v0 c
          ∧ r.2.mem ((c.tc : Thread Cert.InDxRefIdeal.nD Cert.InDxRefIdeal.τ).loc Cert.InDxRefIdeal.main_v39) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)
      ∧ m' ((c.tc : Thread Cert.OutDxRefIdeal.nD Cert.OutDxRefIdeal.τ).loc Cert.OutDxRefIdeal.main_arg3) = m ((c.tc : Thread Cert.OutDxIdeal.nD Cert.OutDxIdeal.τ).loc Cert.OutDxIdeal.main_arg3)) →
    ∃ (v0 : (c : Dev Cert.OutDxIdeal.nD) → Buf (Elt Ideal) ((c.tc : Thread Cert.OutDxIdeal.nD Cert.OutDxIdeal.τ).loc Cert.OutDxIdeal.main_v2_0)) (v1 : (c : Dev Cert.OutDxIdeal.nD) → Buf (Elt Ideal) ((c.tc : Thread Cert.OutDxIdeal.nD Cert.OutDxIdeal.τ).loc Cert.OutDxIdeal.main_v2_1)) (v2 : (c : Dev Cert.OutDxIdeal.nD) → Buf (Elt Ideal) ((c.tc : Thread Cert.OutDxIdeal.nD Cert.OutDxIdeal.τ).loc Cert.OutDxIdeal.main_v2_2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2_0) = v0 c
          ∧ r.2.mem ((c.tc : Thread Cert.OutDxIdeal.nD Cert.OutDxIdeal.τ).loc Cert.OutDxIdeal.main_v2_1) = v1 c
          ∧ r.2.mem ((c.tc : Thread Cert.OutDxIdeal.nD Cert.OutDxIdeal.τ).loc Cert.OutDxIdeal.main_v2_2) = v2 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
          ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v39) = v0 c
          ∧ r.2.mem ((c.tc : Thread Cert.OutDxRefIdeal.nD Cert.OutDxRefIdeal.τ).loc Cert.OutDxRefIdeal.main_v40) = v1 c
          ∧ r.2.mem ((c.tc : Thread Cert.OutDxRefIdeal.nD Cert.OutDxRefIdeal.τ).loc Cert.OutDxRefIdeal.main_v38) = v2 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2)
          ∧ r.2.mem ((c.tc : Thread Cert.OutDxRefIdeal.nD Cert.OutDxRefIdeal.τ).loc Cert.OutDxRefIdeal.main_arg3) = m' ((c.tc : Thread Cert.OutDxRefIdeal.nD Cert.OutDxRefIdeal.τ).loc Cert.OutDxRefIdeal.main_arg3))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v2) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InFw_InFwIdeal : Prop :=
  True

def algebraic_InFwIdeal_InFwRefIdeal [hInFwIdeal : Cert.InFwIdeal.Facts] [hInFwRefIdeal : Cert.InFwRefIdeal.Facts] : Prop :=
  ∀ (m : (ℓ : Loc Cert.InFwIdeal.nD Cert.InFwIdeal.τ Cert.InFwIdeal.sig) → Buf (Elt Ideal) ℓ) (g : Dev Cert.InFwIdeal.nD → PrngReg)
    (m' : (ℓ : Loc Cert.InFwRefIdeal.nD Cert.InFwRefIdeal.τ Cert.InFwRefIdeal.sig) → Buf (Elt Ideal) ℓ) (g' : Dev Cert.InFwRefIdeal.nD → PrngReg), Pre_InFwIdeal m →
    (∀ c : Dev Cert.InFwIdeal.nD,
      m' ((c.tc : Thread Cert.InFwRefIdeal.nD Cert.InFwRefIdeal.τ).loc Cert.InFwRefIdeal.main_arg0) = m ((c.tc : Thread Cert.InFwIdeal.nD Cert.InFwIdeal.τ).loc Cert.InFwIdeal.main_arg0)
      ∧ m' ((c.tc : Thread Cert.InFwRefIdeal.nD Cert.InFwRefIdeal.τ).loc Cert.InFwRefIdeal.main_arg1) = m ((c.tc : Thread Cert.InFwIdeal.nD Cert.InFwIdeal.τ).loc Cert.InFwIdeal.main_arg1)) →
    ∃ (v0 : (c : Dev Cert.InFwIdeal.nD) → Buf (Elt Ideal) ((c.tc : Thread Cert.InFwIdeal.nD Cert.InFwIdeal.τ).loc Cert.InFwIdeal.main_v3)),
      θ_run (Cert.InFwIdeal.defs (F := Ideal)) (onTc (τ := Cert.InFwIdeal.τ) (Cert.InFwIdeal.main (F := Ideal))) ⟨m, fun _ => 0, g⟩ (fun r => ∀ c : Dev Cert.InFwIdeal.nD,
          r.2.mem ((c.tc : Thread Cert.InFwIdeal.nD Cert.InFwIdeal.τ).loc Cert.InFwIdeal.main_v3) = v0 c
          ∧ r.2.mem ((c.tc : Thread Cert.InFwIdeal.nD Cert.InFwIdeal.τ).loc Cert.InFwIdeal.main_arg0) = m ((c.tc : Thread Cert.InFwIdeal.nD Cert.InFwIdeal.τ).loc Cert.InFwIdeal.main_arg0)
          ∧ r.2.mem ((c.tc : Thread Cert.InFwIdeal.nD Cert.InFwIdeal.τ).loc Cert.InFwIdeal.main_arg1) = m ((c.tc : Thread Cert.InFwIdeal.nD Cert.InFwIdeal.τ).loc Cert.InFwIdeal.main_arg1))
      ∧ θ_run (Cert.InFwRefIdeal.defs (F := Ideal)) (onTc (τ := Cert.InFwRefIdeal.τ) (Cert.InFwRefIdeal.main (F := Ideal))) ⟨m', fun _ => 0, g'⟩ (fun r => ∀ c : Dev Cert.InFwRefIdeal.nD,
          r.2.mem ((c.tc : Thread Cert.InFwRefIdeal.nD Cert.InFwRefIdeal.τ).loc Cert.InFwRefIdeal.main_v0) = v0 c
          ∧ r.2.mem ((c.tc : Thread Cert.InFwRefIdeal.nD Cert.InFwRefIdeal.τ).loc Cert.InFwRefIdeal.main_arg0) = m' ((c.tc : Thread Cert.InFwRefIdeal.nD Cert.InFwRefIdeal.τ).loc Cert.InFwRefIdeal.main_arg0)
          ∧ r.2.mem ((c.tc : Thread Cert.InFwRefIdeal.nD Cert.InFwRefIdeal.τ).loc Cert.InFwRefIdeal.main_arg1) = m' ((c.tc : Thread Cert.InFwRefIdeal.nD Cert.InFwRefIdeal.τ).loc Cert.InFwRefIdeal.main_arg1))

def preserves_UpFw_UpFwIdeal : Prop :=
  True

def algebraic_UpFwIdeal_UpFwRefIdeal [hUpFwIdeal : Cert.UpFwIdeal.Facts] [hUpFwRefIdeal : Cert.UpFwRefIdeal.Facts] : Prop :=
  ∀ (m : (ℓ : Loc Cert.UpFwIdeal.nD Cert.UpFwIdeal.τ Cert.UpFwIdeal.sig) → Buf (Elt Ideal) ℓ) (g : Dev Cert.UpFwIdeal.nD → PrngReg)
    (m' : (ℓ : Loc Cert.UpFwRefIdeal.nD Cert.UpFwRefIdeal.τ Cert.UpFwRefIdeal.sig) → Buf (Elt Ideal) ℓ) (g' : Dev Cert.UpFwRefIdeal.nD → PrngReg), Pre_UpFwIdeal m →
    (∀ c : Dev Cert.UpFwIdeal.nD,
      m' ((c.tc : Thread Cert.UpFwRefIdeal.nD Cert.UpFwRefIdeal.τ).loc Cert.UpFwRefIdeal.main_arg0) = m ((c.tc : Thread Cert.UpFwIdeal.nD Cert.UpFwIdeal.τ).loc Cert.UpFwIdeal.main_arg0)
      ∧ m' ((c.tc : Thread Cert.UpFwRefIdeal.nD Cert.UpFwRefIdeal.τ).loc Cert.UpFwRefIdeal.main_arg1) = m ((c.tc : Thread Cert.UpFwIdeal.nD Cert.UpFwIdeal.τ).loc Cert.UpFwIdeal.main_arg1)) →
    ∃ (v0 : (c : Dev Cert.UpFwIdeal.nD) → Buf (Elt Ideal) ((c.tc : Thread Cert.UpFwIdeal.nD Cert.UpFwIdeal.τ).loc Cert.UpFwIdeal.main_v3)),
      θ_run (Cert.UpFwIdeal.defs (F := Ideal)) (onTc (τ := Cert.UpFwIdeal.τ) (Cert.UpFwIdeal.main (F := Ideal))) ⟨m, fun _ => 0, g⟩ (fun r => ∀ c : Dev Cert.UpFwIdeal.nD,
          r.2.mem ((c.tc : Thread Cert.UpFwIdeal.nD Cert.UpFwIdeal.τ).loc Cert.UpFwIdeal.main_v3) = v0 c
          ∧ r.2.mem ((c.tc : Thread Cert.UpFwIdeal.nD Cert.UpFwIdeal.τ).loc Cert.UpFwIdeal.main_arg0) = m ((c.tc : Thread Cert.UpFwIdeal.nD Cert.UpFwIdeal.τ).loc Cert.UpFwIdeal.main_arg0)
          ∧ r.2.mem ((c.tc : Thread Cert.UpFwIdeal.nD Cert.UpFwIdeal.τ).loc Cert.UpFwIdeal.main_arg1) = m ((c.tc : Thread Cert.UpFwIdeal.nD Cert.UpFwIdeal.τ).loc Cert.UpFwIdeal.main_arg1))
      ∧ θ_run (Cert.UpFwRefIdeal.defs (F := Ideal)) (onTc (τ := Cert.UpFwRefIdeal.τ) (Cert.UpFwRefIdeal.main (F := Ideal))) ⟨m', fun _ => 0, g'⟩ (fun r => ∀ c : Dev Cert.UpFwRefIdeal.nD,
          r.2.mem ((c.tc : Thread Cert.UpFwRefIdeal.nD Cert.UpFwRefIdeal.τ).loc Cert.UpFwRefIdeal.main_v0) = v0 c
          ∧ r.2.mem ((c.tc : Thread Cert.UpFwRefIdeal.nD Cert.UpFwRefIdeal.τ).loc Cert.UpFwRefIdeal.main_arg0) = m' ((c.tc : Thread Cert.UpFwRefIdeal.nD Cert.UpFwRefIdeal.τ).loc Cert.UpFwRefIdeal.main_arg0)
          ∧ r.2.mem ((c.tc : Thread Cert.UpFwRefIdeal.nD Cert.UpFwRefIdeal.τ).loc Cert.UpFwRefIdeal.main_arg1) = m' ((c.tc : Thread Cert.UpFwRefIdeal.nD Cert.UpFwRefIdeal.τ).loc Cert.UpFwRefIdeal.main_arg1))

def preserves_SconvDx_SconvDxIdeal : Prop :=
  True

def algebraic_SconvDxIdeal_SconvDxRefIdeal [hSconvDxIdeal : Cert.SconvDxIdeal.Facts] [hSconvDxRefIdeal : Cert.SconvDxRefIdeal.Facts] : Prop :=
  ∀ (m : (ℓ : Loc Cert.SconvDxIdeal.nD Cert.SconvDxIdeal.τ Cert.SconvDxIdeal.sig) → Buf (Elt Ideal) ℓ) (g : Dev Cert.SconvDxIdeal.nD → PrngReg)
    (m' : (ℓ : Loc Cert.SconvDxRefIdeal.nD Cert.SconvDxRefIdeal.τ Cert.SconvDxRefIdeal.sig) → Buf (Elt Ideal) ℓ) (g' : Dev Cert.SconvDxRefIdeal.nD → PrngReg), Pre_SconvDxIdeal m →
    (∀ c : Dev Cert.SconvDxIdeal.nD,
      m' ((c.tc : Thread Cert.SconvDxRefIdeal.nD Cert.SconvDxRefIdeal.τ).loc Cert.SconvDxRefIdeal.main_arg0) = m ((c.tc : Thread Cert.SconvDxIdeal.nD Cert.SconvDxIdeal.τ).loc Cert.SconvDxIdeal.main_arg0)
      ∧ m' ((c.tc : Thread Cert.SconvDxRefIdeal.nD Cert.SconvDxRefIdeal.τ).loc Cert.SconvDxRefIdeal.main_arg1) = m ((c.tc : Thread Cert.SconvDxIdeal.nD Cert.SconvDxIdeal.τ).loc Cert.SconvDxIdeal.main_arg1)
      ∧ m' ((c.tc : Thread Cert.SconvDxRefIdeal.nD Cert.SconvDxRefIdeal.τ).loc Cert.SconvDxRefIdeal.main_arg2) = m ((c.tc : Thread Cert.SconvDxIdeal.nD Cert.SconvDxIdeal.τ).loc Cert.SconvDxIdeal.main_arg2)
      ∧ m' ((c.tc : Thread Cert.SconvDxRefIdeal.nD Cert.SconvDxRefIdeal.τ).loc Cert.SconvDxRefIdeal.main_arg3) = m ((c.tc : Thread Cert.SconvDxIdeal.nD Cert.SconvDxIdeal.τ).loc Cert.SconvDxIdeal.main_arg3)
      ∧ m' ((c.tc : Thread Cert.SconvDxRefIdeal.nD Cert.SconvDxRefIdeal.τ).loc Cert.SconvDxRefIdeal.main_arg4) = m ((c.tc : Thread Cert.SconvDxIdeal.nD Cert.SconvDxIdeal.τ).loc Cert.SconvDxIdeal.main_arg4)) →
    ∃ (v0 : (c : Dev Cert.SconvDxIdeal.nD) → Buf (Elt Ideal) ((c.tc : Thread Cert.SconvDxIdeal.nD Cert.SconvDxIdeal.τ).loc Cert.SconvDxIdeal.main_v3_0)) (v1 : (c : Dev Cert.SconvDxIdeal.nD) → Buf (Elt Ideal) ((c.tc : Thread Cert.SconvDxIdeal.nD Cert.SconvDxIdeal.τ).loc Cert.SconvDxIdeal.main_v3_1)) (v2 : (c : Dev Cert.SconvDxIdeal.nD) → Buf (Elt Ideal) ((c.tc : Thread Cert.SconvDxIdeal.nD Cert.SconvDxIdeal.τ).loc Cert.SconvDxIdeal.main_v3_2)) (v3 : (c : Dev Cert.SconvDxIdeal.nD) → Buf (Elt Ideal) ((c.tc : Thread Cert.SconvDxIdeal.nD Cert.SconvDxIdeal.τ).loc Cert.SconvDxIdeal.main_v3_3)),
      θ_run (Cert.SconvDxIdeal.defs (F := Ideal)) (onTc (τ := Cert.SconvDxIdeal.τ) (Cert.SconvDxIdeal.main (F := Ideal))) ⟨m, fun _ => 0, g⟩ (fun r => ∀ c : Dev Cert.SconvDxIdeal.nD,
          r.2.mem ((c.tc : Thread Cert.SconvDxIdeal.nD Cert.SconvDxIdeal.τ).loc Cert.SconvDxIdeal.main_v3_0) = v0 c
          ∧ r.2.mem ((c.tc : Thread Cert.SconvDxIdeal.nD Cert.SconvDxIdeal.τ).loc Cert.SconvDxIdeal.main_v3_1) = v1 c
          ∧ r.2.mem ((c.tc : Thread Cert.SconvDxIdeal.nD Cert.SconvDxIdeal.τ).loc Cert.SconvDxIdeal.main_v3_2) = v2 c
          ∧ r.2.mem ((c.tc : Thread Cert.SconvDxIdeal.nD Cert.SconvDxIdeal.τ).loc Cert.SconvDxIdeal.main_v3_3) = v3 c
          ∧ r.2.mem ((c.tc : Thread Cert.SconvDxIdeal.nD Cert.SconvDxIdeal.τ).loc Cert.SconvDxIdeal.main_arg0) = m ((c.tc : Thread Cert.SconvDxIdeal.nD Cert.SconvDxIdeal.τ).loc Cert.SconvDxIdeal.main_arg0)
          ∧ r.2.mem ((c.tc : Thread Cert.SconvDxIdeal.nD Cert.SconvDxIdeal.τ).loc Cert.SconvDxIdeal.main_arg1) = m ((c.tc : Thread Cert.SconvDxIdeal.nD Cert.SconvDxIdeal.τ).loc Cert.SconvDxIdeal.main_arg1)
          ∧ r.2.mem ((c.tc : Thread Cert.SconvDxIdeal.nD Cert.SconvDxIdeal.τ).loc Cert.SconvDxIdeal.main_arg2) = m ((c.tc : Thread Cert.SconvDxIdeal.nD Cert.SconvDxIdeal.τ).loc Cert.SconvDxIdeal.main_arg2)
          ∧ r.2.mem ((c.tc : Thread Cert.SconvDxIdeal.nD Cert.SconvDxIdeal.τ).loc Cert.SconvDxIdeal.main_arg3) = m ((c.tc : Thread Cert.SconvDxIdeal.nD Cert.SconvDxIdeal.τ).loc Cert.SconvDxIdeal.main_arg3)
          ∧ r.2.mem ((c.tc : Thread Cert.SconvDxIdeal.nD Cert.SconvDxIdeal.τ).loc Cert.SconvDxIdeal.main_arg4) = m ((c.tc : Thread Cert.SconvDxIdeal.nD Cert.SconvDxIdeal.τ).loc Cert.SconvDxIdeal.main_arg4))
      ∧ θ_run (Cert.SconvDxRefIdeal.defs (F := Ideal)) (onTc (τ := Cert.SconvDxRefIdeal.τ) (Cert.SconvDxRefIdeal.main (F := Ideal))) ⟨m', fun _ => 0, g'⟩ (fun r => ∀ c : Dev Cert.SconvDxRefIdeal.nD,
          r.2.mem ((c.tc : Thread Cert.SconvDxRefIdeal.nD Cert.SconvDxRefIdeal.τ).loc Cert.SconvDxRefIdeal.main_v62) = v0 c
          ∧ r.2.mem ((c.tc : Thread Cert.SconvDxRefIdeal.nD Cert.SconvDxRefIdeal.τ).loc Cert.SconvDxRefIdeal.main_v63) = v1 c
          ∧ r.2.mem ((c.tc : Thread Cert.SconvDxRefIdeal.nD Cert.SconvDxRefIdeal.τ).loc Cert.SconvDxRefIdeal.main_v64) = v2 c
          ∧ r.2.mem ((c.tc : Thread Cert.SconvDxRefIdeal.nD Cert.SconvDxRefIdeal.τ).loc Cert.SconvDxRefIdeal.main_v65) = v3 c
          ∧ r.2.mem ((c.tc : Thread Cert.SconvDxRefIdeal.nD Cert.SconvDxRefIdeal.τ).loc Cert.SconvDxRefIdeal.main_arg0) = m' ((c.tc : Thread Cert.SconvDxRefIdeal.nD Cert.SconvDxRefIdeal.τ).loc Cert.SconvDxRefIdeal.main_arg0)
          ∧ r.2.mem ((c.tc : Thread Cert.SconvDxRefIdeal.nD Cert.SconvDxRefIdeal.τ).loc Cert.SconvDxRefIdeal.main_arg1) = m' ((c.tc : Thread Cert.SconvDxRefIdeal.nD Cert.SconvDxRefIdeal.τ).loc Cert.SconvDxRefIdeal.main_arg1)
          ∧ r.2.mem ((c.tc : Thread Cert.SconvDxRefIdeal.nD Cert.SconvDxRefIdeal.τ).loc Cert.SconvDxRefIdeal.main_arg2) = m' ((c.tc : Thread Cert.SconvDxRefIdeal.nD Cert.SconvDxRefIdeal.τ).loc Cert.SconvDxRefIdeal.main_arg2)
          ∧ r.2.mem ((c.tc : Thread Cert.SconvDxRefIdeal.nD Cert.SconvDxRefIdeal.τ).loc Cert.SconvDxRefIdeal.main_arg3) = m' ((c.tc : Thread Cert.SconvDxRefIdeal.nD Cert.SconvDxRefIdeal.τ).loc Cert.SconvDxRefIdeal.main_arg3)
          ∧ r.2.mem ((c.tc : Thread Cert.SconvDxRefIdeal.nD Cert.SconvDxRefIdeal.τ).loc Cert.SconvDxRefIdeal.main_arg4) = m' ((c.tc : Thread Cert.SconvDxRefIdeal.nD Cert.SconvDxRefIdeal.τ).loc Cert.SconvDxRefIdeal.main_arg4))

def preserves_PostDx_PostDxIdeal : Prop :=
  True

def algebraic_PostDxIdeal_PostDxRefIdeal [hPostDxIdeal : Cert.PostDxIdeal.Facts] [hPostDxRefIdeal : Cert.PostDxRefIdeal.Facts] : Prop :=
  ∀ (m : (ℓ : Loc Cert.PostDxIdeal.nD Cert.PostDxIdeal.τ Cert.PostDxIdeal.sig) → Buf (Elt Ideal) ℓ) (g : Dev Cert.PostDxIdeal.nD → PrngReg)
    (m' : (ℓ : Loc Cert.PostDxRefIdeal.nD Cert.PostDxRefIdeal.τ Cert.PostDxRefIdeal.sig) → Buf (Elt Ideal) ℓ) (g' : Dev Cert.PostDxRefIdeal.nD → PrngReg), Pre_PostDxIdeal m →
    (∀ c : Dev Cert.PostDxIdeal.nD,
      m' ((c.tc : Thread Cert.PostDxRefIdeal.nD Cert.PostDxRefIdeal.τ).loc Cert.PostDxRefIdeal.main_arg0) = m ((c.tc : Thread Cert.PostDxIdeal.nD Cert.PostDxIdeal.τ).loc Cert.PostDxIdeal.main_arg0)
      ∧ m' ((c.tc : Thread Cert.PostDxRefIdeal.nD Cert.PostDxRefIdeal.τ).loc Cert.PostDxRefIdeal.main_arg1) = m ((c.tc : Thread Cert.PostDxIdeal.nD Cert.PostDxIdeal.τ).loc Cert.PostDxIdeal.main_arg1)
      ∧ m' ((c.tc : Thread Cert.PostDxRefIdeal.nD Cert.PostDxRefIdeal.τ).loc Cert.PostDxRefIdeal.main_arg2) = m ((c.tc : Thread Cert.PostDxIdeal.nD Cert.PostDxIdeal.τ).loc Cert.PostDxIdeal.main_arg2)) →
    ∃ (v0 : (c : Dev Cert.PostDxIdeal.nD) → Buf (Elt Ideal) ((c.tc : Thread Cert.PostDxIdeal.nD Cert.PostDxIdeal.τ).loc Cert.PostDxIdeal.main_v1_0)) (v1 : (c : Dev Cert.PostDxIdeal.nD) → Buf (Elt Ideal) ((c.tc : Thread Cert.PostDxIdeal.nD Cert.PostDxIdeal.τ).loc Cert.PostDxIdeal.main_v1_1)),
      θ_run (Cert.PostDxIdeal.defs (F := Ideal)) (onTc (τ := Cert.PostDxIdeal.τ) (Cert.PostDxIdeal.main (F := Ideal))) ⟨m, fun _ => 0, g⟩ (fun r => ∀ c : Dev Cert.PostDxIdeal.nD,
          r.2.mem ((c.tc : Thread Cert.PostDxIdeal.nD Cert.PostDxIdeal.τ).loc Cert.PostDxIdeal.main_v1_0) = v0 c
          ∧ r.2.mem ((c.tc : Thread Cert.PostDxIdeal.nD Cert.PostDxIdeal.τ).loc Cert.PostDxIdeal.main_v1_1) = v1 c
          ∧ r.2.mem ((c.tc : Thread Cert.PostDxIdeal.nD Cert.PostDxIdeal.τ).loc Cert.PostDxIdeal.main_arg0) = m ((c.tc : Thread Cert.PostDxIdeal.nD Cert.PostDxIdeal.τ).loc Cert.PostDxIdeal.main_arg0)
          ∧ r.2.mem ((c.tc : Thread Cert.PostDxIdeal.nD Cert.PostDxIdeal.τ).loc Cert.PostDxIdeal.main_arg1) = m ((c.tc : Thread Cert.PostDxIdeal.nD Cert.PostDxIdeal.τ).loc Cert.PostDxIdeal.main_arg1)
          ∧ r.2.mem ((c.tc : Thread Cert.PostDxIdeal.nD Cert.PostDxIdeal.τ).loc Cert.PostDxIdeal.main_arg2) = m ((c.tc : Thread Cert.PostDxIdeal.nD Cert.PostDxIdeal.τ).loc Cert.PostDxIdeal.main_arg2))
      ∧ θ_run (Cert.PostDxRefIdeal.defs (F := Ideal)) (onTc (τ := Cert.PostDxRefIdeal.τ) (Cert.PostDxRefIdeal.main (F := Ideal))) ⟨m', fun _ => 0, g'⟩ (fun r => ∀ c : Dev Cert.PostDxRefIdeal.nD,
          r.2.mem ((c.tc : Thread Cert.PostDxRefIdeal.nD Cert.PostDxRefIdeal.τ).loc Cert.PostDxRefIdeal.main_v36) = v0 c
          ∧ r.2.mem ((c.tc : Thread Cert.PostDxRefIdeal.nD Cert.PostDxRefIdeal.τ).loc Cert.PostDxRefIdeal.main_v37) = v1 c
          ∧ r.2.mem ((c.tc : Thread Cert.PostDxRefIdeal.nD Cert.PostDxRefIdeal.τ).loc Cert.PostDxRefIdeal.main_arg0) = m' ((c.tc : Thread Cert.PostDxRefIdeal.nD Cert.PostDxRefIdeal.τ).loc Cert.PostDxRefIdeal.main_arg0)
          ∧ r.2.mem ((c.tc : Thread Cert.PostDxRefIdeal.nD Cert.PostDxRefIdeal.τ).loc Cert.PostDxRefIdeal.main_arg1) = m' ((c.tc : Thread Cert.PostDxRefIdeal.nD Cert.PostDxRefIdeal.τ).loc Cert.PostDxRefIdeal.main_arg1)
          ∧ r.2.mem ((c.tc : Thread Cert.PostDxRefIdeal.nD Cert.PostDxRefIdeal.τ).loc Cert.PostDxRefIdeal.main_arg2) = m' ((c.tc : Thread Cert.PostDxRefIdeal.nD Cert.PostDxRefIdeal.τ).loc Cert.PostDxRefIdeal.main_arg2))

def preserves_DownFw_DownFwIdeal : Prop :=
  True

def algebraic_DownFwIdeal_DownFwRefIdeal [hDownFwIdeal : Cert.DownFwIdeal.Facts] [hDownFwRefIdeal : Cert.DownFwRefIdeal.Facts] : Prop :=
  ∀ (m : (ℓ : Loc Cert.DownFwIdeal.nD Cert.DownFwIdeal.τ Cert.DownFwIdeal.sig) → Buf (Elt Ideal) ℓ) (g : Dev Cert.DownFwIdeal.nD → PrngReg)
    (m' : (ℓ : Loc Cert.DownFwRefIdeal.nD Cert.DownFwRefIdeal.τ Cert.DownFwRefIdeal.sig) → Buf (Elt Ideal) ℓ) (g' : Dev Cert.DownFwRefIdeal.nD → PrngReg), Pre_DownFwIdeal m →
    (∀ c : Dev Cert.DownFwIdeal.nD,
      m' ((c.tc : Thread Cert.DownFwRefIdeal.nD Cert.DownFwRefIdeal.τ).loc Cert.DownFwRefIdeal.main_arg0) = m ((c.tc : Thread Cert.DownFwIdeal.nD Cert.DownFwIdeal.τ).loc Cert.DownFwIdeal.main_arg0)
      ∧ m' ((c.tc : Thread Cert.DownFwRefIdeal.nD Cert.DownFwRefIdeal.τ).loc Cert.DownFwRefIdeal.main_arg1) = m ((c.tc : Thread Cert.DownFwIdeal.nD Cert.DownFwIdeal.τ).loc Cert.DownFwIdeal.main_arg1)
      ∧ m' ((c.tc : Thread Cert.DownFwRefIdeal.nD Cert.DownFwRefIdeal.τ).loc Cert.DownFwRefIdeal.main_arg2) = m ((c.tc : Thread Cert.DownFwIdeal.nD Cert.DownFwIdeal.τ).loc Cert.DownFwIdeal.main_arg2)
      ∧ m' ((c.tc : Thread Cert.DownFwRefIdeal.nD Cert.DownFwRefIdeal.τ).loc Cert.DownFwRefIdeal.main_arg3) = m ((c.tc : Thread Cert.DownFwIdeal.nD Cert.DownFwIdeal.τ).loc Cert.DownFwIdeal.main_arg3)
      ∧ m' ((c.tc : Thread Cert.DownFwRefIdeal.nD Cert.DownFwRefIdeal.τ).loc Cert.DownFwRefIdeal.main_arg4) = m ((c.tc : Thread Cert.DownFwIdeal.nD Cert.DownFwIdeal.τ).loc Cert.DownFwIdeal.main_arg4)) →
    ∃ (v0 : (c : Dev Cert.DownFwIdeal.nD) → Buf (Elt Ideal) ((c.tc : Thread Cert.DownFwIdeal.nD Cert.DownFwIdeal.τ).loc Cert.DownFwIdeal.main_v4_0)) (v1 : (c : Dev Cert.DownFwIdeal.nD) → Buf (Elt Ideal) ((c.tc : Thread Cert.DownFwIdeal.nD Cert.DownFwIdeal.τ).loc Cert.DownFwIdeal.main_v4_1)) (v2 : (c : Dev Cert.DownFwIdeal.nD) → Buf (Elt Ideal) ((c.tc : Thread Cert.DownFwIdeal.nD Cert.DownFwIdeal.τ).loc Cert.DownFwIdeal.main_v4_2)),
      θ_run (Cert.DownFwIdeal.defs (F := Ideal)) (onTc (τ := Cert.DownFwIdeal.τ) (Cert.DownFwIdeal.main (F := Ideal))) ⟨m, fun _ => 0, g⟩ (fun r => ∀ c : Dev Cert.DownFwIdeal.nD,
          r.2.mem ((c.tc : Thread Cert.DownFwIdeal.nD Cert.DownFwIdeal.τ).loc Cert.DownFwIdeal.main_v4_0) = v0 c
          ∧ r.2.mem ((c.tc : Thread Cert.DownFwIdeal.nD Cert.DownFwIdeal.τ).loc Cert.DownFwIdeal.main_v4_1) = v1 c
          ∧ r.2.mem ((c.tc : Thread Cert.DownFwIdeal.nD Cert.DownFwIdeal.τ).loc Cert.DownFwIdeal.main_v4_2) = v2 c
          ∧ r.2.mem ((c.tc : Thread Cert.DownFwIdeal.nD Cert.DownFwIdeal.τ).loc Cert.DownFwIdeal.main_arg0) = m ((c.tc : Thread Cert.DownFwIdeal.nD Cert.DownFwIdeal.τ).loc Cert.DownFwIdeal.main_arg0)
          ∧ r.2.mem ((c.tc : Thread Cert.DownFwIdeal.nD Cert.DownFwIdeal.τ).loc Cert.DownFwIdeal.main_arg1) = m ((c.tc : Thread Cert.DownFwIdeal.nD Cert.DownFwIdeal.τ).loc Cert.DownFwIdeal.main_arg1)
          ∧ r.2.mem ((c.tc : Thread Cert.DownFwIdeal.nD Cert.DownFwIdeal.τ).loc Cert.DownFwIdeal.main_arg2) = m ((c.tc : Thread Cert.DownFwIdeal.nD Cert.DownFwIdeal.τ).loc Cert.DownFwIdeal.main_arg2)
          ∧ r.2.mem ((c.tc : Thread Cert.DownFwIdeal.nD Cert.DownFwIdeal.τ).loc Cert.DownFwIdeal.main_arg3) = m ((c.tc : Thread Cert.DownFwIdeal.nD Cert.DownFwIdeal.τ).loc Cert.DownFwIdeal.main_arg3)
          ∧ r.2.mem ((c.tc : Thread Cert.DownFwIdeal.nD Cert.DownFwIdeal.τ).loc Cert.DownFwIdeal.main_arg4) = m ((c.tc : Thread Cert.DownFwIdeal.nD Cert.DownFwIdeal.τ).loc Cert.DownFwIdeal.main_arg4))
      ∧ θ_run (Cert.DownFwRefIdeal.defs (F := Ideal)) (onTc (τ := Cert.DownFwRefIdeal.τ) (Cert.DownFwRefIdeal.main (F := Ideal))) ⟨m', fun _ => 0, g'⟩ (fun r => ∀ c : Dev Cert.DownFwRefIdeal.nD,
          r.2.mem ((c.tc : Thread Cert.DownFwRefIdeal.nD Cert.DownFwRefIdeal.τ).loc Cert.DownFwRefIdeal.main_v0) = v0 c
          ∧ r.2.mem ((c.tc : Thread Cert.DownFwRefIdeal.nD Cert.DownFwRefIdeal.τ).loc Cert.DownFwRefIdeal.main_v14) = v1 c
          ∧ r.2.mem ((c.tc : Thread Cert.DownFwRefIdeal.nD Cert.DownFwRefIdeal.τ).loc Cert.DownFwRefIdeal.main_v28) = v2 c
          ∧ r.2.mem ((c.tc : Thread Cert.DownFwRefIdeal.nD Cert.DownFwRefIdeal.τ).loc Cert.DownFwRefIdeal.main_arg0) = m' ((c.tc : Thread Cert.DownFwRefIdeal.nD Cert.DownFwRefIdeal.τ).loc Cert.DownFwRefIdeal.main_arg0)
          ∧ r.2.mem ((c.tc : Thread Cert.DownFwRefIdeal.nD Cert.DownFwRefIdeal.τ).loc Cert.DownFwRefIdeal.main_arg1) = m' ((c.tc : Thread Cert.DownFwRefIdeal.nD Cert.DownFwRefIdeal.τ).loc Cert.DownFwRefIdeal.main_arg1)
          ∧ r.2.mem ((c.tc : Thread Cert.DownFwRefIdeal.nD Cert.DownFwRefIdeal.τ).loc Cert.DownFwRefIdeal.main_arg2) = m' ((c.tc : Thread Cert.DownFwRefIdeal.nD Cert.DownFwRefIdeal.τ).loc Cert.DownFwRefIdeal.main_arg2)
          ∧ r.2.mem ((c.tc : Thread Cert.DownFwRefIdeal.nD Cert.DownFwRefIdeal.τ).loc Cert.DownFwRefIdeal.main_arg3) = m' ((c.tc : Thread Cert.DownFwRefIdeal.nD Cert.DownFwRefIdeal.τ).loc Cert.DownFwRefIdeal.main_arg3)
          ∧ r.2.mem ((c.tc : Thread Cert.DownFwRefIdeal.nD Cert.DownFwRefIdeal.τ).loc Cert.DownFwRefIdeal.main_arg4) = m' ((c.tc : Thread Cert.DownFwRefIdeal.nD Cert.DownFwRefIdeal.τ).loc Cert.DownFwRefIdeal.main_arg4))

def preserves_SconvFw_SconvFwIdeal : Prop :=
  True

def algebraic_SconvFwIdeal_SconvFwRefIdeal [hSconvFwIdeal : Cert.SconvFwIdeal.Facts] [hSconvFwRefIdeal : Cert.SconvFwRefIdeal.Facts] : Prop :=
  ∀ (m : (ℓ : Loc Cert.SconvFwIdeal.nD Cert.SconvFwIdeal.τ Cert.SconvFwIdeal.sig) → Buf (Elt Ideal) ℓ) (g : Dev Cert.SconvFwIdeal.nD → PrngReg)
    (m' : (ℓ : Loc Cert.SconvFwRefIdeal.nD Cert.SconvFwRefIdeal.τ Cert.SconvFwRefIdeal.sig) → Buf (Elt Ideal) ℓ) (g' : Dev Cert.SconvFwRefIdeal.nD → PrngReg), Pre_SconvFwIdeal m →
    (∀ c : Dev Cert.SconvFwIdeal.nD,
      m' ((c.tc : Thread Cert.SconvFwRefIdeal.nD Cert.SconvFwRefIdeal.τ).loc Cert.SconvFwRefIdeal.main_arg0) = m ((c.tc : Thread Cert.SconvFwIdeal.nD Cert.SconvFwIdeal.τ).loc Cert.SconvFwIdeal.main_arg0)
      ∧ m' ((c.tc : Thread Cert.SconvFwRefIdeal.nD Cert.SconvFwRefIdeal.τ).loc Cert.SconvFwRefIdeal.main_arg1) = m ((c.tc : Thread Cert.SconvFwIdeal.nD Cert.SconvFwIdeal.τ).loc Cert.SconvFwIdeal.main_arg1)
      ∧ m' ((c.tc : Thread Cert.SconvFwRefIdeal.nD Cert.SconvFwRefIdeal.τ).loc Cert.SconvFwRefIdeal.main_arg2) = m ((c.tc : Thread Cert.SconvFwIdeal.nD Cert.SconvFwIdeal.τ).loc Cert.SconvFwIdeal.main_arg2)
      ∧ m' ((c.tc : Thread Cert.SconvFwRefIdeal.nD Cert.SconvFwRefIdeal.τ).loc Cert.SconvFwRefIdeal.main_arg3) = m ((c.tc : Thread Cert.SconvFwIdeal.nD Cert.SconvFwIdeal.τ).loc Cert.SconvFwIdeal.main_arg3)) →
    ∃ (v0 : (c : Dev Cert.SconvFwIdeal.nD) → Buf (Elt Ideal) ((c.tc : Thread Cert.SconvFwIdeal.nD Cert.SconvFwIdeal.τ).loc Cert.SconvFwIdeal.main_v3)),
      θ_run (Cert.SconvFwIdeal.defs (F := Ideal)) (onTc (τ := Cert.SconvFwIdeal.τ) (Cert.SconvFwIdeal.main (F := Ideal))) ⟨m, fun _ => 0, g⟩ (fun r => ∀ c : Dev Cert.SconvFwIdeal.nD,
          r.2.mem ((c.tc : Thread Cert.SconvFwIdeal.nD Cert.SconvFwIdeal.τ).loc Cert.SconvFwIdeal.main_v3) = v0 c
          ∧ r.2.mem ((c.tc : Thread Cert.SconvFwIdeal.nD Cert.SconvFwIdeal.τ).loc Cert.SconvFwIdeal.main_arg0) = m ((c.tc : Thread Cert.SconvFwIdeal.nD Cert.SconvFwIdeal.τ).loc Cert.SconvFwIdeal.main_arg0)
          ∧ r.2.mem ((c.tc : Thread Cert.SconvFwIdeal.nD Cert.SconvFwIdeal.τ).loc Cert.SconvFwIdeal.main_arg1) = m ((c.tc : Thread Cert.SconvFwIdeal.nD Cert.SconvFwIdeal.τ).loc Cert.SconvFwIdeal.main_arg1)
          ∧ r.2.mem ((c.tc : Thread Cert.SconvFwIdeal.nD Cert.SconvFwIdeal.τ).loc Cert.SconvFwIdeal.main_arg2) = m ((c.tc : Thread Cert.SconvFwIdeal.nD Cert.SconvFwIdeal.τ).loc Cert.SconvFwIdeal.main_arg2)
          ∧ r.2.mem ((c.tc : Thread Cert.SconvFwIdeal.nD Cert.SconvFwIdeal.τ).loc Cert.SconvFwIdeal.main_arg3) = m ((c.tc : Thread Cert.SconvFwIdeal.nD Cert.SconvFwIdeal.τ).loc Cert.SconvFwIdeal.main_arg3))
      ∧ θ_run (Cert.SconvFwRefIdeal.defs (F := Ideal)) (onTc (τ := Cert.SconvFwRefIdeal.τ) (Cert.SconvFwRefIdeal.main (F := Ideal))) ⟨m', fun _ => 0, g'⟩ (fun r => ∀ c : Dev Cert.SconvFwRefIdeal.nD,
          r.2.mem ((c.tc : Thread Cert.SconvFwRefIdeal.nD Cert.SconvFwRefIdeal.τ).loc Cert.SconvFwRefIdeal.main_v24) = v0 c
          ∧ r.2.mem ((c.tc : Thread Cert.SconvFwRefIdeal.nD Cert.SconvFwRefIdeal.τ).loc Cert.SconvFwRefIdeal.main_arg0) = m' ((c.tc : Thread Cert.SconvFwRefIdeal.nD Cert.SconvFwRefIdeal.τ).loc Cert.SconvFwRefIdeal.main_arg0)
          ∧ r.2.mem ((c.tc : Thread Cert.SconvFwRefIdeal.nD Cert.SconvFwRefIdeal.τ).loc Cert.SconvFwRefIdeal.main_arg1) = m' ((c.tc : Thread Cert.SconvFwRefIdeal.nD Cert.SconvFwRefIdeal.τ).loc Cert.SconvFwRefIdeal.main_arg1)
          ∧ r.2.mem ((c.tc : Thread Cert.SconvFwRefIdeal.nD Cert.SconvFwRefIdeal.τ).loc Cert.SconvFwRefIdeal.main_arg2) = m' ((c.tc : Thread Cert.SconvFwRefIdeal.nD Cert.SconvFwRefIdeal.τ).loc Cert.SconvFwRefIdeal.main_arg2)
          ∧ r.2.mem ((c.tc : Thread Cert.SconvFwRefIdeal.nD Cert.SconvFwRefIdeal.τ).loc Cert.SconvFwRefIdeal.main_arg3) = m' ((c.tc : Thread Cert.SconvFwRefIdeal.nD Cert.SconvFwRefIdeal.τ).loc Cert.SconvFwRefIdeal.main_arg3))

def preserves_MergeFw_MergeFwIdeal : Prop :=
  True

def algebraic_MergeFwIdeal_MergeFwRefIdeal [hMergeFwIdeal : Cert.MergeFwIdeal.Facts] [hMergeFwRefIdeal : Cert.MergeFwRefIdeal.Facts] : Prop :=
  ∀ (m : (ℓ : Loc Cert.MergeFwIdeal.nD Cert.MergeFwIdeal.τ Cert.MergeFwIdeal.sig) → Buf (Elt Ideal) ℓ) (g : Dev Cert.MergeFwIdeal.nD → PrngReg)
    (m' : (ℓ : Loc Cert.MergeFwRefIdeal.nD Cert.MergeFwRefIdeal.τ Cert.MergeFwRefIdeal.sig) → Buf (Elt Ideal) ℓ) (g' : Dev Cert.MergeFwRefIdeal.nD → PrngReg), Pre_MergeFwIdeal m →
    (∀ c : Dev Cert.MergeFwIdeal.nD,
      m' ((c.tc : Thread Cert.MergeFwRefIdeal.nD Cert.MergeFwRefIdeal.τ).loc Cert.MergeFwRefIdeal.main_arg0) = m ((c.tc : Thread Cert.MergeFwIdeal.nD Cert.MergeFwIdeal.τ).loc Cert.MergeFwIdeal.main_arg0)
      ∧ m' ((c.tc : Thread Cert.MergeFwRefIdeal.nD Cert.MergeFwRefIdeal.τ).loc Cert.MergeFwRefIdeal.main_arg1) = m ((c.tc : Thread Cert.MergeFwIdeal.nD Cert.MergeFwIdeal.τ).loc Cert.MergeFwIdeal.main_arg1)
      ∧ m' ((c.tc : Thread Cert.MergeFwRefIdeal.nD Cert.MergeFwRefIdeal.τ).loc Cert.MergeFwRefIdeal.main_arg2) = m ((c.tc : Thread Cert.MergeFwIdeal.nD Cert.MergeFwIdeal.τ).loc Cert.MergeFwIdeal.main_arg2)
      ∧ m' ((c.tc : Thread Cert.MergeFwRefIdeal.nD Cert.MergeFwRefIdeal.τ).loc Cert.MergeFwRefIdeal.main_arg3) = m ((c.tc : Thread Cert.MergeFwIdeal.nD Cert.MergeFwIdeal.τ).loc Cert.MergeFwIdeal.main_arg3)
      ∧ m' ((c.tc : Thread Cert.MergeFwRefIdeal.nD Cert.MergeFwRefIdeal.τ).loc Cert.MergeFwRefIdeal.main_arg4) = m ((c.tc : Thread Cert.MergeFwIdeal.nD Cert.MergeFwIdeal.τ).loc Cert.MergeFwIdeal.main_arg4)
      ∧ m' ((c.tc : Thread Cert.MergeFwRefIdeal.nD Cert.MergeFwRefIdeal.τ).loc Cert.MergeFwRefIdeal.main_arg5) = m ((c.tc : Thread Cert.MergeFwIdeal.nD Cert.MergeFwIdeal.τ).loc Cert.MergeFwIdeal.main_arg5)
      ∧ m' ((c.tc : Thread Cert.MergeFwRefIdeal.nD Cert.MergeFwRefIdeal.τ).loc Cert.MergeFwRefIdeal.main_arg6) = m ((c.tc : Thread Cert.MergeFwIdeal.nD Cert.MergeFwIdeal.τ).loc Cert.MergeFwIdeal.main_arg6)
      ∧ m' ((c.tc : Thread Cert.MergeFwRefIdeal.nD Cert.MergeFwRefIdeal.τ).loc Cert.MergeFwRefIdeal.main_arg7) = m ((c.tc : Thread Cert.MergeFwIdeal.nD Cert.MergeFwIdeal.τ).loc Cert.MergeFwIdeal.main_arg7)
      ∧ m' ((c.tc : Thread Cert.MergeFwRefIdeal.nD Cert.MergeFwRefIdeal.τ).loc Cert.MergeFwRefIdeal.main_arg8) = m ((c.tc : Thread Cert.MergeFwIdeal.nD Cert.MergeFwIdeal.τ).loc Cert.MergeFwIdeal.main_arg8)
      ∧ m' ((c.tc : Thread Cert.MergeFwRefIdeal.nD Cert.MergeFwRefIdeal.τ).loc Cert.MergeFwRefIdeal.main_arg9) = m ((c.tc : Thread Cert.MergeFwIdeal.nD Cert.MergeFwIdeal.τ).loc Cert.MergeFwIdeal.main_arg9)
      ∧ m' ((c.tc : Thread Cert.MergeFwRefIdeal.nD Cert.MergeFwRefIdeal.τ).loc Cert.MergeFwRefIdeal.main_arg10) = m ((c.tc : Thread Cert.MergeFwIdeal.nD Cert.MergeFwIdeal.τ).loc Cert.MergeFwIdeal.main_arg10)
      ∧ m' ((c.tc : Thread Cert.MergeFwRefIdeal.nD Cert.MergeFwRefIdeal.τ).loc Cert.MergeFwRefIdeal.main_arg11) = m ((c.tc : Thread Cert.MergeFwIdeal.nD Cert.MergeFwIdeal.τ).loc Cert.MergeFwIdeal.main_arg11)) →
    ∃ (v0 : (c : Dev Cert.MergeFwIdeal.nD) → Buf (Elt Ideal) ((c.tc : Thread Cert.MergeFwIdeal.nD Cert.MergeFwIdeal.τ).loc Cert.MergeFwIdeal.main_v11_0)) (v1 : (c : Dev Cert.MergeFwIdeal.nD) → Buf (Elt Ideal) ((c.tc : Thread Cert.MergeFwIdeal.nD Cert.MergeFwIdeal.τ).loc Cert.MergeFwIdeal.main_v11_1)) (v2 : (c : Dev Cert.MergeFwIdeal.nD) → Buf (Elt Ideal) ((c.tc : Thread Cert.MergeFwIdeal.nD Cert.MergeFwIdeal.τ).loc Cert.MergeFwIdeal.main_v11_2)) (v3 : (c : Dev Cert.MergeFwIdeal.nD) → Buf (Elt Ideal) ((c.tc : Thread Cert.MergeFwIdeal.nD Cert.MergeFwIdeal.τ).loc Cert.MergeFwIdeal.main_v11_3)),
      θ_run (Cert.MergeFwIdeal.defs (F := Ideal)) (onTc (τ := Cert.MergeFwIdeal.τ) (Cert.MergeFwIdeal.main (F := Ideal))) ⟨m, fun _ => 0, g⟩ (fun r => ∀ c : Dev Cert.MergeFwIdeal.nD,
          r.2.mem ((c.tc : Thread Cert.MergeFwIdeal.nD Cert.MergeFwIdeal.τ).loc Cert.MergeFwIdeal.main_v11_0) = v0 c
          ∧ r.2.mem ((c.tc : Thread Cert.MergeFwIdeal.nD Cert.MergeFwIdeal.τ).loc Cert.MergeFwIdeal.main_v11_1) = v1 c
          ∧ r.2.mem ((c.tc : Thread Cert.MergeFwIdeal.nD Cert.MergeFwIdeal.τ).loc Cert.MergeFwIdeal.main_v11_2) = v2 c
          ∧ r.2.mem ((c.tc : Thread Cert.MergeFwIdeal.nD Cert.MergeFwIdeal.τ).loc Cert.MergeFwIdeal.main_v11_3) = v3 c
          ∧ r.2.mem ((c.tc : Thread Cert.MergeFwIdeal.nD Cert.MergeFwIdeal.τ).loc Cert.MergeFwIdeal.main_arg0) = m ((c.tc : Thread Cert.MergeFwIdeal.nD Cert.MergeFwIdeal.τ).loc Cert.MergeFwIdeal.main_arg0)
          ∧ r.2.mem ((c.tc : Thread Cert.MergeFwIdeal.nD Cert.MergeFwIdeal.τ).loc Cert.MergeFwIdeal.main_arg1) = m ((c.tc : Thread Cert.MergeFwIdeal.nD Cert.MergeFwIdeal.τ).loc Cert.MergeFwIdeal.main_arg1)
          ∧ r.2.mem ((c.tc : Thread Cert.MergeFwIdeal.nD Cert.MergeFwIdeal.τ).loc Cert.MergeFwIdeal.main_arg2) = m ((c.tc : Thread Cert.MergeFwIdeal.nD Cert.MergeFwIdeal.τ).loc Cert.MergeFwIdeal.main_arg2)
          ∧ r.2.mem ((c.tc : Thread Cert.MergeFwIdeal.nD Cert.MergeFwIdeal.τ).loc Cert.MergeFwIdeal.main_arg3) = m ((c.tc : Thread Cert.MergeFwIdeal.nD Cert.MergeFwIdeal.τ).loc Cert.MergeFwIdeal.main_arg3)
          ∧ r.2.mem ((c.tc : Thread Cert.MergeFwIdeal.nD Cert.MergeFwIdeal.τ).loc Cert.MergeFwIdeal.main_arg4) = m ((c.tc : Thread Cert.MergeFwIdeal.nD Cert.MergeFwIdeal.τ).loc Cert.MergeFwIdeal.main_arg4)
          ∧ r.2.mem ((c.tc : Thread Cert.MergeFwIdeal.nD Cert.MergeFwIdeal.τ).loc Cert.MergeFwIdeal.main_arg5) = m ((c.tc : Thread Cert.MergeFwIdeal.nD Cert.MergeFwIdeal.τ).loc Cert.MergeFwIdeal.main_arg5)
          ∧ r.2.mem ((c.tc : Thread Cert.MergeFwIdeal.nD Cert.MergeFwIdeal.τ).loc Cert.MergeFwIdeal.main_arg6) = m ((c.tc : Thread Cert.MergeFwIdeal.nD Cert.MergeFwIdeal.τ).loc Cert.MergeFwIdeal.main_arg6)
          ∧ r.2.mem ((c.tc : Thread Cert.MergeFwIdeal.nD Cert.MergeFwIdeal.τ).loc Cert.MergeFwIdeal.main_arg7) = m ((c.tc : Thread Cert.MergeFwIdeal.nD Cert.MergeFwIdeal.τ).loc Cert.MergeFwIdeal.main_arg7)
          ∧ r.2.mem ((c.tc : Thread Cert.MergeFwIdeal.nD Cert.MergeFwIdeal.τ).loc Cert.MergeFwIdeal.main_arg8) = m ((c.tc : Thread Cert.MergeFwIdeal.nD Cert.MergeFwIdeal.τ).loc Cert.MergeFwIdeal.main_arg8)
          ∧ r.2.mem ((c.tc : Thread Cert.MergeFwIdeal.nD Cert.MergeFwIdeal.τ).loc Cert.MergeFwIdeal.main_arg9) = m ((c.tc : Thread Cert.MergeFwIdeal.nD Cert.MergeFwIdeal.τ).loc Cert.MergeFwIdeal.main_arg9)
          ∧ r.2.mem ((c.tc : Thread Cert.MergeFwIdeal.nD Cert.MergeFwIdeal.τ).loc Cert.MergeFwIdeal.main_arg10) = m ((c.tc : Thread Cert.MergeFwIdeal.nD Cert.MergeFwIdeal.τ).loc Cert.MergeFwIdeal.main_arg10)
          ∧ r.2.mem ((c.tc : Thread Cert.MergeFwIdeal.nD Cert.MergeFwIdeal.τ).loc Cert.MergeFwIdeal.main_arg11) = m ((c.tc : Thread Cert.MergeFwIdeal.nD Cert.MergeFwIdeal.τ).loc Cert.MergeFwIdeal.main_arg11))
      ∧ θ_run (Cert.MergeFwRefIdeal.defs (F := Ideal)) (onTc (τ := Cert.MergeFwRefIdeal.τ) (Cert.MergeFwRefIdeal.main (F := Ideal))) ⟨m', fun _ => 0, g'⟩ (fun r => ∀ c : Dev Cert.MergeFwRefIdeal.nD,
          r.2.mem ((c.tc : Thread Cert.MergeFwRefIdeal.nD Cert.MergeFwRefIdeal.τ).loc Cert.MergeFwRefIdeal.main_v39) = v0 c
          ∧ r.2.mem ((c.tc : Thread Cert.MergeFwRefIdeal.nD Cert.MergeFwRefIdeal.τ).loc Cert.MergeFwRefIdeal.main_v24) = v1 c
          ∧ r.2.mem ((c.tc : Thread Cert.MergeFwRefIdeal.nD Cert.MergeFwRefIdeal.τ).loc Cert.MergeFwRefIdeal.main_v38) = v2 c
          ∧ r.2.mem ((c.tc : Thread Cert.MergeFwRefIdeal.nD Cert.MergeFwRefIdeal.τ).loc Cert.MergeFwRefIdeal.main_v53) = v3 c
          ∧ r.2.mem ((c.tc : Thread Cert.MergeFwRefIdeal.nD Cert.MergeFwRefIdeal.τ).loc Cert.MergeFwRefIdeal.main_arg0) = m' ((c.tc : Thread Cert.MergeFwRefIdeal.nD Cert.MergeFwRefIdeal.τ).loc Cert.MergeFwRefIdeal.main_arg0)
          ∧ r.2.mem ((c.tc : Thread Cert.MergeFwRefIdeal.nD Cert.MergeFwRefIdeal.τ).loc Cert.MergeFwRefIdeal.main_arg1) = m' ((c.tc : Thread Cert.MergeFwRefIdeal.nD Cert.MergeFwRefIdeal.τ).loc Cert.MergeFwRefIdeal.main_arg1)
          ∧ r.2.mem ((c.tc : Thread Cert.MergeFwRefIdeal.nD Cert.MergeFwRefIdeal.τ).loc Cert.MergeFwRefIdeal.main_arg2) = m' ((c.tc : Thread Cert.MergeFwRefIdeal.nD Cert.MergeFwRefIdeal.τ).loc Cert.MergeFwRefIdeal.main_arg2)
          ∧ r.2.mem ((c.tc : Thread Cert.MergeFwRefIdeal.nD Cert.MergeFwRefIdeal.τ).loc Cert.MergeFwRefIdeal.main_arg3) = m' ((c.tc : Thread Cert.MergeFwRefIdeal.nD Cert.MergeFwRefIdeal.τ).loc Cert.MergeFwRefIdeal.main_arg3)
          ∧ r.2.mem ((c.tc : Thread Cert.MergeFwRefIdeal.nD Cert.MergeFwRefIdeal.τ).loc Cert.MergeFwRefIdeal.main_arg4) = m' ((c.tc : Thread Cert.MergeFwRefIdeal.nD Cert.MergeFwRefIdeal.τ).loc Cert.MergeFwRefIdeal.main_arg4)
          ∧ r.2.mem ((c.tc : Thread Cert.MergeFwRefIdeal.nD Cert.MergeFwRefIdeal.τ).loc Cert.MergeFwRefIdeal.main_arg5) = m' ((c.tc : Thread Cert.MergeFwRefIdeal.nD Cert.MergeFwRefIdeal.τ).loc Cert.MergeFwRefIdeal.main_arg5)
          ∧ r.2.mem ((c.tc : Thread Cert.MergeFwRefIdeal.nD Cert.MergeFwRefIdeal.τ).loc Cert.MergeFwRefIdeal.main_arg6) = m' ((c.tc : Thread Cert.MergeFwRefIdeal.nD Cert.MergeFwRefIdeal.τ).loc Cert.MergeFwRefIdeal.main_arg6)
          ∧ r.2.mem ((c.tc : Thread Cert.MergeFwRefIdeal.nD Cert.MergeFwRefIdeal.τ).loc Cert.MergeFwRefIdeal.main_arg7) = m' ((c.tc : Thread Cert.MergeFwRefIdeal.nD Cert.MergeFwRefIdeal.τ).loc Cert.MergeFwRefIdeal.main_arg7)
          ∧ r.2.mem ((c.tc : Thread Cert.MergeFwRefIdeal.nD Cert.MergeFwRefIdeal.τ).loc Cert.MergeFwRefIdeal.main_arg8) = m' ((c.tc : Thread Cert.MergeFwRefIdeal.nD Cert.MergeFwRefIdeal.τ).loc Cert.MergeFwRefIdeal.main_arg8)
          ∧ r.2.mem ((c.tc : Thread Cert.MergeFwRefIdeal.nD Cert.MergeFwRefIdeal.τ).loc Cert.MergeFwRefIdeal.main_arg9) = m' ((c.tc : Thread Cert.MergeFwRefIdeal.nD Cert.MergeFwRefIdeal.τ).loc Cert.MergeFwRefIdeal.main_arg9)
          ∧ r.2.mem ((c.tc : Thread Cert.MergeFwRefIdeal.nD Cert.MergeFwRefIdeal.τ).loc Cert.MergeFwRefIdeal.main_arg10) = m' ((c.tc : Thread Cert.MergeFwRefIdeal.nD Cert.MergeFwRefIdeal.τ).loc Cert.MergeFwRefIdeal.main_arg10)
          ∧ r.2.mem ((c.tc : Thread Cert.MergeFwRefIdeal.nD Cert.MergeFwRefIdeal.τ).loc Cert.MergeFwRefIdeal.main_arg11) = m' ((c.tc : Thread Cert.MergeFwRefIdeal.nD Cert.MergeFwRefIdeal.τ).loc Cert.MergeFwRefIdeal.main_arg11))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hInDx : Cert.InDx.Facts) (hInDxIdeal : Cert.InDxIdeal.Facts) (hInDxRefIdeal : Cert.InDxRefIdeal.Facts) (hOutDx : Cert.OutDx.Facts) (hOutDxIdeal : Cert.OutDxIdeal.Facts) (hOutDxRefIdeal : Cert.OutDxRefIdeal.Facts) (hUpDw : Cert.UpDw.Facts) (hUpDwIdeal : Cert.UpDwIdeal.Facts) (hUpDwRefIdeal : Cert.UpDwRefIdeal.Facts) (hInDw : Cert.InDw.Facts) (hInDwIdeal : Cert.InDwIdeal.Facts) (hInDwRefIdeal : Cert.InDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hOutDw : Cert.OutDw.Facts) (hOutDwIdeal : Cert.OutDwIdeal.Facts) (hOutDwRefIdeal : Cert.OutDwRefIdeal.Facts) (hInFw : Cert.InFw.Facts) (hInFwIdeal : Cert.InFwIdeal.Facts) (hInFwRefIdeal : Cert.InFwRefIdeal.Facts) (hUpFw : Cert.UpFw.Facts) (hUpFwIdeal : Cert.UpFwIdeal.Facts) (hUpFwRefIdeal : Cert.UpFwRefIdeal.Facts) (hSconvDx : Cert.SconvDx.Facts) (hSconvDxIdeal : Cert.SconvDxIdeal.Facts) (hSconvDxRefIdeal : Cert.SconvDxRefIdeal.Facts) (hPostDx : Cert.PostDx.Facts) (hPostDxIdeal : Cert.PostDxIdeal.Facts) (hPostDxRefIdeal : Cert.PostDxRefIdeal.Facts) (hDownFw : Cert.DownFw.Facts) (hDownFwIdeal : Cert.DownFwIdeal.Facts) (hDownFwRefIdeal : Cert.DownFwRefIdeal.Facts) (hSconvFw : Cert.SconvFw.Facts) (hSconvFwIdeal : Cert.SconvFwIdeal.Facts) (hSconvFwRefIdeal : Cert.SconvFwRefIdeal.Facts) (hMergeFw : Cert.MergeFw.Facts) (hMergeFwIdeal : Cert.MergeFwIdeal.Facts) (hMergeFwRefIdeal : Cert.MergeFwRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_InDx (hInDx := hInDx)
    ∧ quiescent_InDxIdeal (hInDxIdeal := hInDxIdeal)
    ∧ quiescent_InDxRefIdeal (hInDxRefIdeal := hInDxRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InFw (hInFw := hInFw)
    ∧ quiescent_InFwIdeal (hInFwIdeal := hInFwIdeal)
    ∧ quiescent_InFwRefIdeal (hInFwRefIdeal := hInFwRefIdeal)
    ∧ quiescent_UpFw (hUpFw := hUpFw)
    ∧ quiescent_UpFwIdeal (hUpFwIdeal := hUpFwIdeal)
    ∧ quiescent_UpFwRefIdeal (hUpFwRefIdeal := hUpFwRefIdeal)
    ∧ quiescent_SconvDx (hSconvDx := hSconvDx)
    ∧ quiescent_SconvDxIdeal (hSconvDxIdeal := hSconvDxIdeal)
    ∧ quiescent_SconvDxRefIdeal (hSconvDxRefIdeal := hSconvDxRefIdeal)
    ∧ quiescent_PostDx (hPostDx := hPostDx)
    ∧ quiescent_PostDxIdeal (hPostDxIdeal := hPostDxIdeal)
    ∧ quiescent_PostDxRefIdeal (hPostDxRefIdeal := hPostDxRefIdeal)
    ∧ quiescent_DownFw (hDownFw := hDownFw)
    ∧ quiescent_DownFwIdeal (hDownFwIdeal := hDownFwIdeal)
    ∧ quiescent_DownFwRefIdeal (hDownFwRefIdeal := hDownFwRefIdeal)
    ∧ quiescent_SconvFw (hSconvFw := hSconvFw)
    ∧ quiescent_SconvFwIdeal (hSconvFwIdeal := hSconvFwIdeal)
    ∧ quiescent_SconvFwRefIdeal (hSconvFwRefIdeal := hSconvFwRefIdeal)
    ∧ quiescent_MergeFw (hMergeFw := hMergeFw)
    ∧ quiescent_MergeFwIdeal (hMergeFwIdeal := hMergeFwIdeal)
    ∧ quiescent_MergeFwRefIdeal (hMergeFwRefIdeal := hMergeFwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDx_UpDxIdeal
    ∧ algebraic_UpDxIdeal_UpDxRefIdeal (hUpDxIdeal := hUpDxIdeal) (hUpDxRefIdeal := hUpDxRefIdeal)
    ∧ preserves_InDx_InDxIdeal
    ∧ algebraic_InDxIdeal_InDxRefIdeal (hInDxIdeal := hInDxIdeal) (hInDxRefIdeal := hInDxRefIdeal)
    ∧ preserves_OutDx_OutDxIdeal
    ∧ algebraic_OutDxIdeal_OutDxRefIdeal (hOutDxIdeal := hOutDxIdeal) (hOutDxRefIdeal := hOutDxRefIdeal)
    ∧ preserves_UpDw_UpDwIdeal
    ∧ algebraic_UpDwIdeal_UpDwRefIdeal (hUpDwIdeal := hUpDwIdeal) (hUpDwRefIdeal := hUpDwRefIdeal)
    ∧ preserves_InDw_InDwIdeal
    ∧ algebraic_InDwIdeal_InDwRefIdeal (hInDwIdeal := hInDwIdeal) (hInDwRefIdeal := hInDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_OutDw_OutDwIdeal
    ∧ algebraic_OutDwIdeal_OutDwRefIdeal (hOutDwIdeal := hOutDwIdeal) (hOutDwRefIdeal := hOutDwRefIdeal)
    ∧ preserves_InFw_InFwIdeal
    ∧ algebraic_InFwIdeal_InFwRefIdeal (hInFwIdeal := hInFwIdeal) (hInFwRefIdeal := hInFwRefIdeal)
    ∧ preserves_UpFw_UpFwIdeal
    ∧ algebraic_UpFwIdeal_UpFwRefIdeal (hUpFwIdeal := hUpFwIdeal) (hUpFwRefIdeal := hUpFwRefIdeal)
    ∧ preserves_SconvDx_SconvDxIdeal
    ∧ algebraic_SconvDxIdeal_SconvDxRefIdeal (hSconvDxIdeal := hSconvDxIdeal) (hSconvDxRefIdeal := hSconvDxRefIdeal)
    ∧ preserves_PostDx_PostDxIdeal
    ∧ algebraic_PostDxIdeal_PostDxRefIdeal (hPostDxIdeal := hPostDxIdeal) (hPostDxRefIdeal := hPostDxRefIdeal)
    ∧ preserves_DownFw_DownFwIdeal
    ∧ algebraic_DownFwIdeal_DownFwRefIdeal (hDownFwIdeal := hDownFwIdeal) (hDownFwRefIdeal := hDownFwRefIdeal)
    ∧ preserves_SconvFw_SconvFwIdeal
    ∧ algebraic_SconvFwIdeal_SconvFwRefIdeal (hSconvFwIdeal := hSconvFwIdeal) (hSconvFwRefIdeal := hSconvFwRefIdeal)
    ∧ preserves_MergeFw_MergeFwIdeal
    ∧ algebraic_MergeFwIdeal_MergeFwRefIdeal (hMergeFwIdeal := hMergeFwIdeal) (hMergeFwRefIdeal := hMergeFwRefIdeal)
-- ==== Pre_finite.lean ====
abbrev S4096x512 : Shape := ⟨2, ![4096, 512]⟩
abbrev S4096x8 : Shape := ⟨2, ![4096, 8]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x512 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  main_v23

def fn {F : FTy → Type} [FloatOps F] (main_arg0 : FVec F S4096x512 .f32) (main_arg1 : FVec F S4096x512 .f32) (main_arg2 : FVec F S4096x512 .f32) (main_arg3 : FVec F S4096x8 .f32) (main_arg4 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_v13 main_v16
-- ==== Kernel.lean ====
abbrev S4096x512 : Shape := ⟨2, ![4096, 512]⟩
abbrev S4096x8 : Shape := ⟨2, ![4096, 8]⟩
abbrev S_ : Shape := ⟨0, ![]⟩
abbrev S4096x3072 : Shape := ⟨2, ![4096, 3072]⟩
abbrev S4096x1536 : Shape := ⟨2, ![4096, 1536]⟩
abbrev S4096x6144 : Shape := ⟨2, ![4096, 6144]⟩
abbrev S4096x8x64 : Shape := ⟨3, ![4096, 8, 64]⟩
abbrev S8x4096x4096 : Shape := ⟨3, ![8, 4096, 4096]⟩
abbrev S8x4096 : Shape := ⟨2, ![8, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096x1 : Shape := ⟨3, ![8, 4096, 1]⟩
abbrev S8x1x4096 : Shape := ⟨3, ![8, 1, 4096]⟩
abbrev S8x64x4096 : Shape := ⟨3, ![8, 64, 4096]⟩
abbrev S8x4096x128 : Shape := ⟨3, ![8, 4096, 128]⟩
abbrev S4096x128 : Shape := ⟨2, ![4096, 128]⟩
abbrev S8x128 : Shape := ⟨2, ![8, 128]⟩
abbrev S128x4096 : Shape := ⟨2, ![128, 4096]⟩
abbrev S4x8x4096 : Shape := ⟨3, ![4, 8, 4096]⟩
abbrev S4x4096x128 : Shape := ⟨3, ![4, 4096, 128]⟩
abbrev S512x128 : Shape := ⟨2, ![512, 128]⟩
abbrev S8x512 : Shape := ⟨2, ![8, 512]⟩
abbrev S2x4096x128 : Shape := ⟨3, ![2, 4096, 128]⟩
abbrev S1x8x512 : Shape := ⟨3, ![1, 8, 512]⟩
abbrev S1x4096x128 : Shape := ⟨3, ![1, 4096, 128]⟩
abbrev S1x128 : Shape := ⟨2, ![1, 128]⟩
abbrev S512 : Shape := ⟨1, ![512]⟩
abbrev S1x512 : Shape := ⟨2, ![1, 512]⟩
abbrev S1x512x128 : Shape := ⟨3, ![1, 512, 128]⟩
abbrev S512x512 : Shape := ⟨2, ![512, 512]⟩
abbrev S512x1 : Shape := ⟨2, ![512, 1]⟩

abbrev nBuf : Space → Nat
  | .hbm => 70
  | .vmem => 26
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x512, .f32⟩
  | .hbm, ⟨5, _⟩ => ⟨S_, .f32⟩
  | .hbm, ⟨6, _⟩ => ⟨S4096x3072, .f32⟩
  | .hbm, ⟨7, _⟩ => ⟨S_, .f32⟩
  | .hbm, ⟨8, _⟩ => ⟨S4096x1536, .f32⟩
  | .hbm, ⟨9, _⟩ => ⟨S4096x6144, .f32⟩
  | .hbm, ⟨10, _⟩ => ⟨S4096x8x64, .f32⟩
  | .hbm, ⟨11, _⟩ => ⟨S4096x8x64, .f32⟩
  | .hbm, ⟨12, _⟩ => ⟨S4096x8x64, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096, .f32⟩
  | .hbm, ⟨18, _⟩ => ⟨S4096, .i32⟩
  | .hbm, ⟨19, _⟩ => ⟨S4096x1, .i32⟩
  | .hbm, ⟨20, _⟩ => ⟨S4096, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S8x4096x1, .f32⟩
  | .hbm, ⟨26, _⟩ => ⟨S8x1x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S8x4096x4096, .f32⟩
  | .hbm, ⟨46, _⟩ => ⟨S8x4096x4096, .f32⟩
  | .hbm, ⟨47, _⟩ => ⟨S8x64x4096, .f32⟩
  | .hbm, ⟨48, _⟩ => ⟨S4096x8x64, .f32⟩
  | .hbm, ⟨49, _⟩ => ⟨S4096x512, .f32⟩
  | .hbm, ⟨50, _⟩ => ⟨S8x4096x1, .f32⟩
  | .hbm, ⟨51, _⟩ => ⟨S8x4096x1, .f32⟩
  | .hbm, ⟨52, _⟩ => ⟨S_, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x128, .f32⟩
  | .hbm, ⟨57, _⟩ => ⟨S_, .i32⟩
  | .hbm, ⟨58, _⟩ => ⟨S_, .f32⟩
  | .hbm, ⟨59, _⟩ => ⟨S4096x128, .f32⟩
  | .hbm, ⟨60, _⟩ => ⟨S_, .f32⟩
  | .hbm, ⟨61, _⟩ => ⟨S8x128, .f32⟩
  | .hbm, ⟨62, _⟩ => ⟨S128x4096, .f32⟩
  | .hbm, ⟨63, _⟩ => ⟨S8x4096, .f32⟩
  | .hbm, ⟨64, _⟩ => ⟨S4096x512, .bf16⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4x8x4096, .f32⟩
  | .hbm, ⟨69, _⟩ => ⟨S4x4096x128, .f32⟩
  | .local _ .vmem, ⟨0, _⟩ => ⟨S4096x128, .f32⟩
  | .local _ .vmem, ⟨1, _⟩ => ⟨S4096x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S4096x128, .f32⟩
  | .local _ .vmem, ⟨7, _⟩ => ⟨S8x512, .f32⟩
  | .local _ .vmem, ⟨8, _⟩ => ⟨S8x512, .f32⟩
  | .local _ .vmem, ⟨9, _⟩ => ⟨S2x4096x128, .f32⟩
  | .local _ .vmem, ⟨10, _⟩ => ⟨S2x4096x128, .f32⟩
  | .local _ .vmem, ⟨11, _⟩ => ⟨S4096x128, .bf16⟩
  | .local _ .vmem, ⟨12, _⟩ => ⟨S4096x128, .bf16⟩
  | .local _ .vmem, ⟨13, _⟩ => ⟨S4096x128, .f32⟩
  | .local _ .vmem, ⟨14, _⟩ => ⟨S4096x128, .f32⟩
  | .local _ .vmem, ⟨15, _⟩ => ⟨S8x128, .f32⟩
  | .local _ .vmem, ⟨16, _⟩ => ⟨S4096x128, .f32⟩
  | .local _ .vmem, ⟨17, _⟩ => ⟨S4096x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1x8x512, .f32⟩
  | .local _ .vmem, ⟨23, _⟩ => ⟨S1x8x512, .f32⟩
  | .local _ .vmem, ⟨24, _⟩ => ⟨S1x4096x128, .f32⟩
  | .local _ .vmem, ⟨25, _⟩ => ⟨S1x4096x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_call1_v0 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47_0 : Ref sig .tc := ⟨.hbm, 65, rfl⟩
abbrev main_v47_1 : Ref sig .tc := ⟨.hbm, 66, rfl⟩
abbrev main_v47_2 : Ref sig .tc := ⟨.hbm, 67, rfl⟩
abbrev main_v47_3 : Ref sig .tc := ⟨.hbm, 68, rfl⟩
abbrev main_v47_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v54 : BitVec 32 := Scalar.muli arg1 c512_i32
  v54
def k0_off1 (i : grid0.Coords) : Fin 2 → Nat :=
  let arg1 : BitVec 32 := BitVec.ofNat 32 (i 1).val
  let c512_i32 : BitVec 32 := 512#32
  let v54 : BitVec 32 := Scalar.muli arg1 c512_i32
  let v55 : BitVec 32 := v54
  let v56 : Index := Scalar.indexCast v55
  let c0_17 : Index := 0#32
  ![v56.toNat, 0]
def k0_off2 (i : grid0.Coords) : Fin 3 → Nat :=
  let c0_24 : Index := 0#32
  let arg1 : BitVec 32 := BitVec.ofNat 32 (i 1).val
  let c512_i32 : BitVec 32 := 512#32
  let v54 : BitVec 32 := Scalar.muli arg1 c512_i32
  let v55 : BitVec 32 := v54
  let v76 : Index := Scalar.indexCast v55
  let c0_25 : Index := 0#32
  ![0, v76.toNat, 0]
def k0_off3 (i : grid0.Coords) : Fin 3 → Nat :=
  let c1 : Index := 1#32
  let arg1 : BitVec 32 := BitVec.ofNat 32 (i 1).val
  let c512_i32 : BitVec 32 := 512#32
  let v54 : BitVec 32 := Scalar.muli arg1 c512_i32
  let v55 : BitVec 32 := v54
  let v103 : Index := Scalar.indexCast v55
  let c0_34 : Index := 0#32
  ![1, v103.toNat, 0]
def k0_off4 (i : grid0.Coords) : Fin 3 → Nat :=
  let c0_56 : Index := 0#32
  let arg1 : BitVec 32 := BitVec.ofNat 32 (i 1).val
  let c512_i32 : BitVec 32 := 512#32
  let v54 : BitVec 32 := Scalar.muli arg1 c512_i32
  let v55 : BitVec 32 := v54
  let v177 : Index := Scalar.indexCast v55
  let c0_57 : Index := 0#32
  ![0, v177.toNat, 0]
@[reducible] def k0_t1_loop (i : grid0.Coords) : Scf.Loop 32 :=
  let arg1 : BitVec 32 := BitVec.ofNat 32 (i 1).val
  let c1_i32_65 : BitVec 32 := 1#32
  let v204 : BitVec 32 := Scalar.addi arg1 c1_i32_65
  let c8_i32 : BitVec 32 := 8#32
  let v205 : BitVec 32 := Scalar.subi c8_i32 v204
  let c1_i32_66 : BitVec 32 := 1#32
  let v207 : BitVec 32 := Scalar.divsi v205 c1_i32_66
  let v208 : BitVec 32 := Scalar.muli v207 c1_i32_66
  let v209 : BitVec 32 := Scalar.addi v204 v208
  let c1_i32_67 : BitVec 32 := 1#32
  ⟨v204, v209, c1_i32_67⟩
def k0_mult2 (i : grid0.Coords) (k0_t1 : Fin (k0_t1_loop i).trips) : BitVec 32 :=
  let arg1 : BitVec 32 := BitVec.ofNat 32 (i 1).val
  let c1_i32_65 : BitVec 32 := 1#32
  let v204 : BitVec 32 := Scalar.addi arg1 c1_i32_65
  let c1_i32_67 : BitVec 32 := 1#32
  let arg16 : BitVec 32 := Scf.iv v204 c1_i32_67 k0_t1
  let c512_i32_80 : BitVec 32 := 512#32
  let v237 : BitVec 32 := Scalar.muli arg16 c512_i32_80
  v237
def k0_off5 (i : grid0.Coords) (k0_t1 : Fin (k0_t1_loop i).trips) : Fin 2 → Nat :=
  let arg1 : BitVec 32 := BitVec.ofNat 32 (i 1).val
  let c1_i32_65 : BitVec 32 := 1#32
  let v204 : BitVec 32 := Scalar.addi arg1 c1_i32_65
  let c1_i32_67 : BitVec 32 := 1#32
  let arg16 : BitVec 32 := Scf.iv v204 c1_i32_67 k0_t1
  let c512_i32_80 : BitVec 32 := 512#32
  let v237 : BitVec 32 := Scalar.muli arg16 c512_i32_80
  let v238 : BitVec 32 := v237
  let v239 : Index := Scalar.indexCast v238
  let c0_81 : Index := 0#32
  ![v239.toNat, 0]
def k0_off6 (i : grid0.Coords) (k0_t1 : Fin (k0_t1_loop i).trips) : Fin 3 → Nat :=
  let c0_88 : Index := 0#32
  let arg1 : BitVec 32 := BitVec.ofNat 32 (i 1).val
  let c1_i32_65 : BitVec 32 := 1#32
  let v204 : BitVec 32 := Scalar.addi arg1 c1_i32_65
  let c1_i32_67 : BitVec 32 := 1#32
  let arg16 : BitVec 32 := Scf.iv v204 c1_i32_67 k0_t1
  let c512_i32_80 : BitVec 32 := 512#32
  let v237 : BitVec 32 := Scalar.muli arg16 c512_i32_80
  let v238 : BitVec 32 := v237
  let v259 : Index := Scalar.indexCast v238
  let c0_89 : Index := 0#32
  ![0, v259.toNat, 0]
def k0_off7 (i : grid0.Coords) (k0_t1 : Fin (k0_t1_loop i).trips) : Fin 3 → Nat :=
  let c1_97 : Index := 1#32
  let arg1 : BitVec 32 := BitVec.ofNat 32 (i 1).val
  let c1_i32_65 : BitVec 32 := 1#32
  let v204 : BitVec 32 := Scalar.addi arg1 c1_i32_65
  let c1_i32_67 : BitVec 32 := 1#32
  let arg16 : BitVec 32 := Scf.iv v204 c1_i32_67 k0_t1
  let c512_i32_80 : BitVec 32 := 512#32
  let v237 : BitVec 32 := Scalar.muli arg16 c512_i32_80
  let v238 : BitVec 32 := v237
  let v281 : Index := Scalar.indexCast v238
  let c0_98 : Index := 0#32
  ![1, v281.toNat, 0]
def k0_off8 (i : grid0.Coords) (k0_t1 : Fin (k0_t1_loop i).trips) : Fin 3 → Nat :=
  let c0_119 : Index := 0#32
  let arg1 : BitVec 32 := BitVec.ofNat 32 (i 1).val
  let c1_i32_65 : BitVec 32 := 1#32
  let v204 : BitVec 32 := Scalar.addi arg1 c1_i32_65
  let c1_i32_67 : BitVec 32 := 1#32
  let arg16 : BitVec 32 := Scf.iv v204 c1_i32_67 k0_t1
  let c512_i32_80 : BitVec 32 := 512#32
  let v237 : BitVec 32 := Scalar.muli arg16 c512_i32_80
  let v238 : BitVec 32 := v237
  let v350 : Index := Scalar.indexCast v238
  let c0_120 : Index := 0#32
  ![0, v350.toNat, 0]
@[reducible] def k0_t2_loop (i : grid0.Coords) : Scf.Loop 32 :=
  let arg1 : BitVec 32 := BitVec.ofNat 32 (i 1).val
  let c1_i32_65 : BitVec 32 := 1#32
  let v204 : BitVec 32 := Scalar.addi arg1 c1_i32_65
  let c8_i32 : BitVec 32 := 8#32
  let v205 : BitVec 32 := Scalar.subi c8_i32 v204
  let c1_i32_66 : BitVec 32 := 1#32
  let v207 : BitVec 32 := Scalar.divsi v205 c1_i32_66
  let v208 : BitVec 32 := Scalar.muli v207 c1_i32_66
  let v209 : BitVec 32 := Scalar.addi v204 v208
  let v206 : BitVec 32 := Scalar.addi v204 v205
  let c1_i32_68 : BitVec 32 := 1#32
  ⟨v209, v206, c1_i32_68⟩
def k0_mult3 (i : grid0.Coords) (k0_t2 : Fin (k0_t2_loop i).trips) : BitVec 32 :=
  let arg1 : BitVec 32 := BitVec.ofNat 32 (i 1).val
  let c1_i32_65 : BitVec 32 := 1#32
  let v204 : BitVec 32 := Scalar.addi arg1 c1_i32_65
  let c8_i32 : BitVec 32 := 8#32
  let v205 : BitVec 32 := Scalar.subi c8_i32 v204
  let c1_i32_66 : BitVec 32 := 1#32
  let v207 : BitVec 32 := Scalar.divsi v205 c1_i32_66
  let v208 : BitVec 32 := Scalar.muli v207 c1_i32_66
  let v209 : BitVec 32 := Scalar.addi v204 v208
  let c1_i32_68 : BitVec 32 := 1#32
  let arg16 : BitVec 32 := Scf.iv v209 c1_i32_68 k0_t2
  let c512_i32_80 : BitVec 32 := 512#32
  let v237 : BitVec 32 := Scalar.muli arg16 c512_i32_80
  v237
def k0_off9 (i : grid0.Coords) (k0_t2 : Fin (k0_t2_loop i).trips) : Fin 2 → Nat :=
  let arg1 : BitVec 32 := BitVec.ofNat 32 (i 1).val
  let c1_i32_65 : BitVec 32 := 1#32
  let v204 : BitVec 32 := Scalar.addi arg1 c1_i32_65
  let c8_i32 : BitVec 32 := 8#32
  let v205 : BitVec 32 := Scalar.subi c8_i32 v204
  let c1_i32_66 : BitVec 32 := 1#32
  let v207 : BitVec 32 := Scalar.divsi v205 c1_i32_66
  let v208 : BitVec 32 := Scalar.muli v207 c1_i32_66
  let v209 : BitVec 32 := Scalar.addi v204 v208
  let c1_i32_68 : BitVec 32 := 1#32
  let arg16 : BitVec 32 := Scf.iv v209 c1_i32_68 k0_t2
  let c512_i32_80 : BitVec 32 := 512#32
  let v237 : BitVec 32 := Scalar.muli arg16 c512_i32_80
  let v238 : BitVec 32 := v237
  let v239 : Index := Scalar.indexCast v238
  let c0_81 : Index := 0#32
  ![v239.toNat, 0]
def k0_off10 (i : grid0.Coords) (k0_t2 : Fin (k0_t2_loop i).trips) : Fin 3 → Nat :=
  let c0_88 : Index := 0#32
  let arg1 : BitVec 32 := BitVec.ofNat 32 (i 1).val
  let c1_i32_65 : BitVec 32 := 1#32
  let v204 : BitVec 32 := Scalar.addi arg1 c1_i32_65
  let c8_i32 : BitVec 32 := 8#32
  let v205 : BitVec 32 := Scalar.subi c8_i32 v204
  let c1_i32_66 : BitVec 32 := 1#32
  let v207 : BitVec 32 := Scalar.divsi v205 c1_i32_66
  let v208 : BitVec 32 := Scalar.muli v207 c1_i32_66
  let v209 : BitVec 32 := Scalar.addi v204 v208
  let c1_i32_68 : BitVec 32 := 1#32
  let arg16 : BitVec 32 := Scf.iv v209 c1_i32_68 k0_t2
  let c512_i32_80 : BitVec 32 := 512#32
  let v237 : BitVec 32 := Scalar.muli arg16 c512_i32_80
  let v238 : BitVec 32 := v237
  let v259 : Index := Scalar.indexCast v238
  let c0_89 : Index := 0#32
  ![0, v259.toNat, 0]
def k0_off11 (i : grid0.Coords) (k0_t2 : Fin (k0_t2_loop i).trips) : Fin 3 → Nat :=
  let c1_97 : Index := 1#32
  let arg1 : BitVec 32 := BitVec.ofNat 32 (i 1).val
  let c1_i32_65 : BitVec 32 := 1#32
  let v204 : BitVec 32 := Scalar.addi arg1 c1_i32_65
  let c8_i32 : BitVec 32 := 8#32
  let v205 : BitVec 32 := Scalar.subi c8_i32 v204
  let c1_i32_66 : BitVec 32 := 1#32
  let v207 : BitVec 32 := Scalar.divsi v205 c1_i32_66
  let v208 : BitVec 32 := Scalar.muli v207 c1_i32_66
  let v209 : BitVec 32 := Scalar.addi v204 v208
  let c1_i32_68 : BitVec 32 := 1#32
  let arg16 : BitVec 32 := Scf.iv v209 c1_i32_68 k0_t2
  let c512_i32_80 : BitVec 32 := 512#32
  let v237 : BitVec 32 := Scalar.muli arg16 c512_i32_80
  let v238 : BitVec 32 := v237
  let v281 : Index := Scalar.indexCast v238
  let c0_98 : Index := 0#32
  ![1, v281.toNat, 0]
def k0_off12 (i : grid0.Coords) (k0_t2 : Fin (k0_t2_loop i).trips) : Fin 3 → Nat :=
  let c0_119 : Index := 0#32
  let arg1 : BitVec 32 := BitVec.ofNat 32 (i 1).val
  let c1_i32_65 : BitVec 32 := 1#32
  let v204 : BitVec 32 := Scalar.addi arg1 c1_i32_65
  let c8_i32 : BitVec 32 := 8#32
  let v205 : BitVec 32 := Scalar.subi c8_i32 v204
  let c1_i32_66 : BitVec 32 := 1#32
  let v207 : BitVec 32 := Scalar.divsi v205 c1_i32_66
  let v208 : BitVec 32 := Scalar.muli v207 c1_i32_66
  let v209 : BitVec 32 := Scalar.addi v204 v208
  let c1_i32_68 : BitVec 32 := 1#32
  let arg16 : BitVec 32 := Scf.iv v209 c1_i32_68 k0_t2
  let c512_i32_80 : BitVec 32 := 512#32
  let v237 : BitVec 32 := Scalar.muli arg16 c512_i32_80
  let v238 : BitVec 32 := v237
  let v350 : Index := Scalar.indexCast v238
  let c0_120 : Index := 0#32
  ![0, v350.toNat, 0]
def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "neg" => some ⊥
  | "qscale" => some (((1 / 8) * (Real.log 2)⁻¹ : ℝ) : EReal)
  | _ => none
-- ==== ReferenceIdeal.lean ====
abbrev S4096x512 : Shape := ⟨2, ![4096, 512]⟩
abbrev S4096x8 : Shape := ⟨2, ![4096, 8]⟩
abbrev S4096x8x64 : Shape := ⟨3, ![4096, 8, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x64x4096 : Shape := ⟨3, ![8, 64, 4096]⟩
abbrev S8x4096x64 : Shape := ⟨3, ![8, 4096, 64]⟩
abbrev S4x2x4096 : Shape := ⟨3, ![4, 2, 4096]⟩
abbrev S4x8x4096 : Shape := ⟨3, ![4, 8, 4096]⟩
abbrev S4096x4x2 : Shape := ⟨3, ![4096, 4, 2]⟩
abbrev S4x4096x2 : Shape := ⟨3, ![4, 4096, 2]⟩
abbrev S4x4096x128 : Shape := ⟨3, ![4, 4096, 128]⟩

abbrev nBuf : Space → Nat
  | .hbm => 130
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x8, .f32⟩
  | 4 => ⟨S4096x512, .f32⟩
  | 5 => ⟨S4096x8x64, .f32⟩
  | 6 => ⟨S4096x8x64, .f32⟩
  | 7 => ⟨S4096x8x64, .f32⟩
  | 8 => ⟨S8x4096x4096, .f32⟩
  | 9 => ⟨S_, .f32⟩
  | 10 => ⟨S8x4096x4096, .f32⟩
  | 11 => ⟨S8x4096x4096, .f32⟩
  | 12 => ⟨S8x4096, .f32⟩
  | 13 => ⟨S8x4096x1, .f32⟩
  | 14 => ⟨S8x4096, .f32⟩
  | 15 => ⟨S8x1x4096, .f32⟩
  | 16 => ⟨S8x4096x4096, .f32⟩
  | 17 => ⟨S8x4096x4096, .f32⟩
  | 18 => ⟨S8x4096x4096, .f32⟩
  | 19 => ⟨S4096, .i32⟩
  | 20 => ⟨S4096x1, .i32⟩
  | 21 => ⟨S4096, .i32⟩
  | 22 => ⟨S1x4096, .i32⟩
  | 23 => ⟨S4096x4096, .i32⟩
  | 24 => ⟨S4096x4096, .i32⟩
  | 25 => ⟨S4096x4096, .i1⟩
  | 26 => ⟨S8x4096x4096, .f32⟩
  | 27 => ⟨S_, .f32⟩
  | 28 => ⟨S_, .f32⟩
  | 29 => ⟨S8x4096x4096, .i1⟩
  | 30 => ⟨S8x4096x4096, .f32⟩
  | 31 => ⟨S8x4096x4096, .f32⟩
  | 32 => ⟨S_, .f32⟩
  | 33 => ⟨S8x4096x4096, .f32⟩
  | 34 => ⟨S_, .f32⟩
  | 35 => ⟨S8x4096, .f32⟩
  | 36 => ⟨S8x4096x1, .f32⟩
  | 37 => ⟨S8x4096x4096, .f32⟩
  | 38 => ⟨S8x4096x4096, .i1⟩
  | 39 => ⟨S8x4096x4096, .f32⟩
  | 40 => ⟨S_, .f32⟩
  | 41 => ⟨S8x4096, .f32⟩
  | 42 => ⟨S_, .f32⟩
  | 43 => ⟨S8x4096, .f32⟩
  | 44 => ⟨S8x4096, .f32⟩
  | 45 => ⟨S_, .f32⟩
  | 46 => ⟨S8x4096, .f32⟩
  | 47 => ⟨S8x4096, .i1⟩
  | 48 => ⟨S_, .f32⟩
  | 49 => ⟨S8x4096, .f32⟩
  | 50 => ⟨S8x4096, .i1⟩
  | 51 => ⟨S_, .f32⟩
  | 52 => ⟨S8x4096, .f32⟩
  | 53 => ⟨S_, .f32⟩
  | 54 => ⟨S8x4096, .f32⟩
  | 55 => ⟨S_, .f32⟩
  | 56 => ⟨S8x4096, .f32⟩
  | 57 => ⟨S8x4096, .f32⟩
  | 58 => ⟨S8x4096, .f32⟩
  | 59 => ⟨S8x4096x1, .f32⟩
  | 60 => ⟨S8x4096x4096, .f32⟩
  | 61 => ⟨S8x4096x4096, .f32⟩
  | 62 => ⟨S8x4096x4096, .f32⟩
  | 63 => ⟨S_, .f32⟩
  | 64 => ⟨S8x4096, .f32⟩
  | 65 => ⟨S8x4096x1, .f32⟩
  | 66 => ⟨S8x4096x4096, .f32⟩
  | 67 => ⟨S8x4096x4096, .f32⟩
  | 68 => ⟨S8x4096x1, .f32⟩
  | 69 => ⟨S_, .f32⟩
  | 70 => ⟨S8x4096x1, .f32⟩
  | 71 => ⟨S8x4096x1, .f32⟩
  | 72 => ⟨S8x64x4096, .f32⟩
  | 73 => ⟨S4096x8x64, .f32⟩
  | 74 => ⟨S4096x512, .f32⟩
  | 75 => ⟨S4096x8x64, .f32⟩
  | 76 => ⟨S8x64x4096, .f32⟩
  | 77 => ⟨S8x4096x4096, .f32⟩
  | 78 => ⟨S8x64x4096, .f32⟩
  | 79 => ⟨S4096x8x64, .f32⟩
  | 80 => ⟨S8x4096x4096, .f32⟩
  | 81 => ⟨S8x4096x4096, .f32⟩
  | 82 => ⟨S8x4096x4096, .f32⟩
  | 83 => ⟨S_, .f32⟩
  | 84 => ⟨S8x4096, .f32⟩
  | 85 => ⟨S8x4096x1, .f32⟩
  | 86 => ⟨S8x4096x1, .f32⟩
  | 87 => ⟨S8x4096x4096, .f32⟩
  | 88 => ⟨S8x4096x4096, .f32⟩
  | 89 => ⟨S_, .f32⟩
  | 90 => ⟨S8x4096, .f32⟩
  | 91 => ⟨S8x4096x4096, .f32⟩
  | 92 => ⟨S8x4096x4096, .f32⟩
  | 93 => ⟨S8x4096x4096, .f32⟩
  | 94 => ⟨S_, .f32⟩
  | 95 => ⟨S8x4096x4096, .f32⟩
  | 96 => ⟨S8x4096x4096, .f32⟩
  | 97 => ⟨S_, .f32⟩
  | 98 => ⟨S8x4096, .f32⟩
  | 99 => ⟨S8x4096x1, .f32⟩
  | 100 => ⟨S8x4096x4096, .f32⟩
  | 101 => ⟨S_, .f32⟩
  | 102 => ⟨S8x4096, .f32⟩
  | 103 => ⟨S8x1x4096, .f32⟩
  | 104 => ⟨S_, .f32⟩
  | 105 => ⟨S8x4096, .f32⟩
  | 106 => ⟨S4096x8, .f32⟩
  | 107 => ⟨S_, .f32⟩
  | 108 => ⟨S8x4096, .f32⟩
  | 109 => ⟨S4096x8, .f32⟩
  | 110 => ⟨S_, .f32⟩
  | 111 => ⟨S8x4096x4096, .f32⟩
  | 112 => ⟨S8x4096x4096, .f32⟩
  | 113 => ⟨S8x4096x64, .f32⟩
  | 114 => ⟨S4096x8x64, .f32⟩
  | 115 => ⟨S8x4096x64, .f32⟩
  | 116 => ⟨S4096x8x64, .f32⟩
  | 117 => ⟨S4096x512, .f32⟩
  | 118 => ⟨S4096x512, .f32⟩
  | 119 => ⟨S4096x512, .f32⟩
  | 120 => ⟨S8x4096, .f32⟩
  | 121 => ⟨S4x2x4096, .f32⟩
  | 122 => ⟨S_, .i32⟩
  | 123 => ⟨S_, .f32⟩
  | 124 => ⟨S4x8x4096, .f32⟩
  | 125 => ⟨S4096x4x2, .f32⟩
  | 126 => ⟨S4x4096x2, .f32⟩
  | 127 => ⟨S_, .i32⟩
  | _ => ⟨S4096x512, .f32⟩

abbrev hbmTy0_1 (i : Nat) : BufTy := match i % 128 with
  | 0 => ⟨S_, .f32⟩
  | 1 => ⟨S4x4096x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c : Ref sig .tc := ⟨.hbm, 122, rfl⟩
abbrev main_call2_v0 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_18 : Ref sig .tc := ⟨.hbm, 127, rfl⟩
abbrev main_call3_v0 : Ref sig .tc := ⟨.hbm, 128, rfl⟩
abbrev main_v94 : Ref sig .tc := ⟨.hbm, 129, rfl⟩

abbrev nD : Nat := 1
abbrev τ : Topo := Topo.v7x

variable {F : FTy → Type} [FloatOps F]
-- ==== UpDx.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S8x128 : Shape := ⟨2, ![8, 128]⟩
abbrev S5632x1024 : Shape := ⟨2, ![5632, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S_, .f32⟩
  | .hbm, ⟨6, _⟩ => ⟨S8x128, .f32⟩
  | .hbm, ⟨7, _⟩ => ⟨S4096x5632, .bf16⟩
  | .hbm, ⟨8, _⟩ => ⟨S5632x1024, .f32⟩
  | .hbm, ⟨9, _⟩ => ⟨S5632x1024, .bf16⟩
  | .hbm, ⟨10, _⟩ => ⟨S1x1024, .f32⟩
  | .hbm, ⟨11, _⟩ => ⟨S4096x1024, .f32⟩
  | .hbm, ⟨12, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== UpDxRefIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== InDx.lean ====
abbrev S4096x1024 : Shape := ⟨2, ![4096, 1024]⟩
abbrev S1024 : Shape := ⟨1, ![1024]⟩
abbrev S1024x6144 : Shape := ⟨2, ![1024, 6144]⟩
abbrev S4096x6144 : Shape := ⟨2, ![4096, 6144]⟩
abbrev S_ : Shape := ⟨0, ![]⟩
abbrev S8x128 : Shape := ⟨2, ![8, 128]⟩
abbrev S6144x1024 : Shape := ⟨2, ![6144, 1024]⟩
abbrev S1x1024 : Shape := ⟨2, ![1, 1024]⟩
abbrev S512x6144 : Shape := ⟨2, ![512, 6144]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S4096x6144, .f32⟩
  | .hbm, ⟨4, _⟩ => ⟨S4096x1024, .f32⟩
  | .hbm, ⟨5, _⟩ => ⟨S_, .f32⟩
  | .hbm, ⟨6, _⟩ => ⟨S8x128, .f32⟩
  | .hbm, ⟨7, _⟩ => ⟨S4096x6144, .bf16⟩
  | .hbm, ⟨8, _⟩ => ⟨S6144x1024, .f32⟩
  | .hbm, ⟨9, _⟩ => ⟨S6144x1024, .bf16⟩
  | .hbm, ⟨10, _⟩ => ⟨S1x1024, .f32⟩
  | .hbm, ⟨11, _⟩ => ⟨S4096x1024, .f32⟩
  | .hbm, ⟨12, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S6144x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InDxRefIdeal.lean ====
abbrev S4096x1024 : Shape := ⟨2, ![4096, 1024]⟩
abbrev S1024 : Shape := ⟨1, ![1024]⟩
abbrev S1024x6144 : Shape := ⟨2, ![1024, 6144]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S4096x6144, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x6144, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== OutDx.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S1x1024, .f32⟩
  | .hbm, ⟨5, _⟩ => ⟨S1024x1024, .bf16⟩
  | .hbm, ⟨6, _⟩ => ⟨S4096x1024, .bf16⟩
  | .hbm, ⟨7, _⟩ => ⟨S1x1024, .f32⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_22 : BitVec 32 := 0#32
  let v48 : BitVec 1 := Scalar.cmpi .eq arg0 c0_i32_22
  let v49 : BitVec 32 := Scalar.extui v48
  let c0_i32_23 : BitVec 32 := 0#32
  let v50 : BitVec 1 := Scalar.cmpi .ne v49 c0_i32_23
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutDxRefIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== UpDw.lean ====
abbrev S4096x1024 : Shape := ⟨2, ![4096, 1024]⟩
abbrev S4096x5632 : Shape := ⟨2, ![4096, 5632]⟩
abbrev S5632x1024 : Shape := ⟨2, ![5632, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x5632, .bf16⟩
  | .hbm, ⟨3, _⟩ => ⟨S4096x1024, .bf16⟩
  | .hbm, ⟨4, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDwRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S5632x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDw.lean ====
abbrev S4096x1024 : Shape := ⟨2, ![4096, 1024]⟩
abbrev S4096x6144 : Shape := ⟨2, ![4096, 6144]⟩
abbrev S6144x1024 : Shape := ⟨2, ![6144, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S4096x6144, .bf16⟩
  | .hbm, ⟨3, _⟩ => ⟨S4096x1024, .bf16⟩
  | .hbm, ⟨4, _⟩ => ⟨S6144x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDwRefIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S_, .f32⟩
  | .hbm, ⟨3, _⟩ => ⟨S1024x6144, .f32⟩
  | .hbm, ⟨4, _⟩ => ⟨S4096x6144, .f32⟩
  | .hbm, ⟨5, _⟩ => ⟨S6144x1024, .f32⟩
  | .hbm, ⟨6, _⟩ => ⟨S1024x6144, .f32⟩
  | .hbm, ⟨7, _⟩ => ⟨S6144x1024, .f32⟩
  | .hbm, ⟨8, _⟩ => ⟨S6144x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx.lean ====
abbrev S2816x1024 : Shape := ⟨2, ![2816, 1024]⟩
abbrev S4096x1024 : Shape := ⟨2, ![4096, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S4096x1024, .bf16⟩
  | .hbm, ⟨3, _⟩ => ⟨S2816x1024, .bf16⟩
  | .hbm, ⟨4, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxRefIdeal.lean ====
abbrev S2816x1024 : Shape := ⟨2, ![2816, 1024]⟩
abbrev S4096x1024 : Shape := ⟨2, ![4096, 1024]⟩
abbrev S_ : Shape := ⟨0, ![]⟩
abbrev S4096x2816 : Shape := ⟨2, ![4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InFw.lean ====
abbrev S4096x1024 : Shape := ⟨2, ![4096, 1024]⟩
abbrev S1024x6144 : Shape := ⟨2, ![1024, 6144]⟩
abbrev S6144x1024 : Shape := ⟨2, ![6144, 1024]⟩
abbrev S4096x6144 : Shape := ⟨2, ![4096, 6144]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S4096x1024, .bf16⟩
  | .hbm, ⟨3, _⟩ => ⟨S6144x1024, .f32⟩
  | .hbm, ⟨4, _⟩ => ⟨S6144x1024, .bf16⟩
  | .hbm, ⟨5, _⟩ => ⟨S4096x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InFwRefIdeal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S4096x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpFw.lean ====
abbrev S4096x1024 : Shape := ⟨2, ![4096, 1024]⟩
abbrev S1024x5632 : Shape := ⟨2, ![1024, 5632]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S5632x1024, .f32⟩
  | .hbm, ⟨4, _⟩ => ⟨S5632x1024, .bf16⟩
  | .hbm, ⟨5, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpFwRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SconvDx.lean ====
abbrev S4096x256 : Shape := ⟨2, ![4096, 256]⟩
abbrev S3x256 : Shape := ⟨2, ![3, 256]⟩
abbrev S_ : Shape := ⟨0, ![]⟩
abbrev S4096x4608 : Shape := ⟨2, ![4096, 4608]⟩
abbrev S4096x768 : Shape := ⟨2, ![4096, 768]⟩
abbrev S4096x6144 : Shape := ⟨2, ![4096, 6144]⟩
abbrev S8x256 : Shape := ⟨2, ![8, 256]⟩
abbrev S4096x128 : Shape := ⟨2, ![4096, 128]⟩
abbrev S3x128 : Shape := ⟨2, ![3, 128]⟩
abbrev S8x128 : Shape := ⟨2, ![8, 128]⟩
abbrev S1x128 : Shape := ⟨2, ![1, 128]⟩
abbrev S128 : Shape := ⟨1, ![128]⟩

abbrev nBuf : Space → Nat
  | .hbm => 14
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S3x256, .f32⟩
  | .hbm, ⟨4, _⟩ => ⟨S4096x256, .f32⟩
  | .hbm, ⟨5, _⟩ => ⟨S_, .f32⟩
  | .hbm, ⟨6, _⟩ => ⟨S4096x4608, .f32⟩
  | .hbm, ⟨7, _⟩ => ⟨S_, .f32⟩
  | .hbm, ⟨8, _⟩ => ⟨S4096x768, .f32⟩
  | .hbm, ⟨9, _⟩ => ⟨S4096x6144, .f32⟩
  | .hbm, ⟨10, _⟩ => ⟨S4096x256, .bf16⟩
  | .hbm, ⟨11, _⟩ => ⟨S4096x256, .bf16⟩
  | .hbm, ⟨12, _⟩ => ⟨S4096x256, .bf16⟩
  | .hbm, ⟨13, _⟩ => ⟨S8x256, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S4096x128, .f32⟩
  | .local _ .vmem, ⟨9, _⟩ => ⟨S4096x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S8x128, .f32⟩
  | .local _ .vmem, ⟨17, _⟩ => ⟨S8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c38_i32 : BitVec 32 := 38#32
  let v0 : BitVec 32 := Scalar.addi c38_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SconvDxRefIdeal.lean ====
abbrev S4096x256 : Shape := ⟨2, ![4096, 256]⟩
abbrev S3x256 : Shape := ⟨2, ![3, 256]⟩
abbrev S_ : Shape := ⟨0, ![]⟩
abbrev S2x256 : Shape := ⟨2, ![2, 256]⟩
abbrev S4098x256 : Shape := ⟨2, ![4098, 256]⟩
abbrev S1x256 : Shape := ⟨2, ![1, 256]⟩
abbrev S256 : Shape := ⟨1, ![256]⟩
abbrev S8x256 : Shape := ⟨2, ![8, 256]⟩

abbrev nBuf : Space → Nat
  | .hbm => 87
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S3x256, .f32⟩
  | .hbm, ⟨4, _⟩ => ⟨S4096x256, .f32⟩
  | .hbm, ⟨5, _⟩ => ⟨S4096x256, .f32⟩
  | .hbm, ⟨6, _⟩ => ⟨S_, .f32⟩
  | .hbm, ⟨7, _⟩ => ⟨S2x256, .f32⟩
  | .hbm, ⟨8, _⟩ => ⟨S4098x256, .f32⟩
  | .hbm, ⟨9, _⟩ => ⟨S_, .f32⟩
  | .hbm, ⟨10, _⟩ => ⟨S2x256, .f32⟩
  | .hbm, ⟨11, _⟩ => ⟨S4096x256, .f32⟩
  | .hbm, ⟨12, _⟩ => ⟨S1x256, .f32⟩
  | .hbm, ⟨13, _⟩ => ⟨S256, .f32⟩
  | .hbm, ⟨14, _⟩ => ⟨S1x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S1x256, .f32⟩
  | .hbm, ⟨19, _⟩ => ⟨S256, .f32⟩
  | .hbm, ⟨20, _⟩ => ⟨S1x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S1x256, .f32⟩
  | .hbm, ⟨26, _⟩ => ⟨S256, .f32⟩
  | .hbm, ⟨27, _⟩ => ⟨S1x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S_, .f32⟩
  | .hbm, ⟨36, _⟩ => ⟨S256, .f32⟩
  | .hbm, ⟨37, _⟩ => ⟨S1x256, .f32⟩
  | .hbm, ⟨38, _⟩ => ⟨S4096x256, .f32⟩
  | .hbm, ⟨39, _⟩ => ⟨S4096x256, .f32⟩
  | .hbm, ⟨40, _⟩ => ⟨S_, .f32⟩
  | .hbm, ⟨41, _⟩ => ⟨S256, .f32⟩
  | .hbm, ⟨42, _⟩ => ⟨S1x256, .f32⟩
  | .hbm, ⟨43, _⟩ => ⟨S_, .f32⟩
  | .hbm, ⟨44, _⟩ => ⟨S3x256, .f32⟩
  | .hbm, ⟨45, _⟩ => ⟨S_, .f32⟩
  | .hbm, ⟨46, _⟩ => ⟨S4098x256, .f32⟩
  | .hbm, ⟨47, _⟩ => ⟨S4096x256, .f32⟩
  | .hbm, ⟨48, _⟩ => ⟨S_, .f32⟩
  | .hbm, ⟨49, _⟩ => ⟨S256, .f32⟩
  | .hbm, ⟨50, _⟩ => ⟨S1x256, .f32⟩
  | .hbm, ⟨51, _⟩ => ⟨S4096x256, .f32⟩
  | .hbm, ⟨52, _⟩ => ⟨S4096x256, .f32⟩
  | .hbm, ⟨53, _⟩ => ⟨S_, .f32⟩
  | .hbm, ⟨54, _⟩ => ⟨S256, .f32⟩
  | .hbm, ⟨55, _⟩ => ⟨S1x256, .f32⟩
  | .hbm, ⟨56, _⟩ => ⟨S_, .f32⟩
  | .hbm, ⟨57, _⟩ => ⟨S3x256, .f32⟩
  | .hbm, ⟨58, _⟩ => ⟨S3x256, .f32⟩
  | .hbm, ⟨59, _⟩ => ⟨S_, .f32⟩
  | .hbm, ⟨60, _⟩ => ⟨S4098x256, .f32⟩
  | .hbm, ⟨61, _⟩ => ⟨S4098x256, .f32⟩
  | .hbm, ⟨62, _⟩ => ⟨S4096x256, .f32⟩
  | .hbm, ⟨63, _⟩ => ⟨S_, .f32⟩
  | .hbm, ⟨64, _⟩ => ⟨S256, .f32⟩
  | .hbm, ⟨65, _⟩ => ⟨S1x256, .f32⟩
  | .hbm, ⟨66, _⟩ => ⟨S4096x256, .f32⟩
  | .hbm, ⟨67, _⟩ => ⟨S4096x256, .f32⟩
  | .hbm, ⟨68, _⟩ => ⟨S_, .f32⟩
  | .hbm, ⟨69, _⟩ => ⟨S256, .f32⟩
  | .hbm, ⟨70, _⟩ => ⟨S1x256, .f32⟩
  | .hbm, ⟨71, _⟩ => ⟨S_, .f32⟩
  | .hbm, ⟨72, _⟩ => ⟨S3x256, .f32⟩
  | .hbm, ⟨73, _⟩ => ⟨S3x256, .f32⟩
  | .hbm, ⟨74, _⟩ => ⟨S_, .f32⟩
  | .hbm, ⟨75, _⟩ => ⟨S4098x256, .f32⟩
  | .hbm, ⟨76, _⟩ => ⟨S4098x256, .f32⟩
  | .hbm, ⟨77, _⟩ => ⟨S2x256, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S4096x256, .bf16⟩
  | .hbm, ⟨82, _⟩ => ⟨S4096x256, .bf16⟩
  | .hbm, ⟨83, _⟩ => ⟨S4096x256, .bf16⟩
  | .hbm, ⟨84, _⟩ => ⟨S_, .i32⟩
  | .hbm, ⟨85, _⟩ => ⟨S_, .f32⟩
  | .hbm, ⟨86, _⟩ => ⟨S8x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c : Ref sig .tc := ⟨.hbm, 84, rfl⟩
abbrev main_call0_v0 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== PostDx.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostDxRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | .hbm, ⟨49, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== DownFw.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownFwRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== SconvFw.lean ====
abbrev S4096x256 : Shape := ⟨2, ![4096, 256]⟩
abbrev S3x256 : Shape := ⟨2, ![3, 256]⟩
abbrev S_ : Shape := ⟨0, ![]⟩
abbrev S4096x4608 : Shape := ⟨2, ![4096, 4608]⟩
abbrev S4096x768 : Shape := ⟨2, ![4096, 768]⟩
abbrev S4096x6144 : Shape := ⟨2, ![4096, 6144]⟩
abbrev S4096x128 : Shape := ⟨2, ![4096, 128]⟩
abbrev S3x128 : Shape := ⟨2, ![3, 128]⟩
abbrev S1x128 : Shape := ⟨2, ![1, 128]⟩

abbrev nBuf : Space → Nat
  | .hbm => 10
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S3x256, .f32⟩
  | .hbm, ⟨4, _⟩ => ⟨S_, .f32⟩
  | .hbm, ⟨5, _⟩ => ⟨S4096x4608, .f32⟩
  | .hbm, ⟨6, _⟩ => ⟨S_, .f32⟩
  | .hbm, ⟨7, _⟩ => ⟨S4096x768, .f32⟩
  | .hbm, ⟨8, _⟩ => ⟨S4096x6144, .f32⟩
  | .hbm, ⟨9, _⟩ => ⟨S4096x256, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c38_i32 : BitVec 32 := 38#32
  let v0 : BitVec 32 := Scalar.addi c38_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SconvFwRefIdeal.lean ====
abbrev S4096x256 : Shape := ⟨2, ![4096, 256]⟩
abbrev S3x256 : Shape := ⟨2, ![3, 256]⟩
abbrev S_ : Shape := ⟨0, ![]⟩
abbrev S2x256 : Shape := ⟨2, ![2, 256]⟩
abbrev S4098x256 : Shape := ⟨2, ![4098, 256]⟩
abbrev S1x256 : Shape := ⟨2, ![1, 256]⟩
abbrev S256 : Shape := ⟨1, ![256]⟩

abbrev nBuf : Space → Nat
  | .hbm => 30
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S3x256, .f32⟩
  | .hbm, ⟨4, _⟩ => ⟨S4096x256, .f32⟩
  | .hbm, ⟨5, _⟩ => ⟨S_, .f32⟩
  | .hbm, ⟨6, _⟩ => ⟨S2x256, .f32⟩
  | .hbm, ⟨7, _⟩ => ⟨S4098x256, .f32⟩
  | .hbm, ⟨8, _⟩ => ⟨S4096x256, .f32⟩
  | .hbm, ⟨9, _⟩ => ⟨S1x256, .f32⟩
  | .hbm, ⟨10, _⟩ => ⟨S256, .f32⟩
  | .hbm, ⟨11, _⟩ => ⟨S1x256, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S1x256, .f32⟩
  | .hbm, ⟨16, _⟩ => ⟨S256, .f32⟩
  | .hbm, ⟨17, _⟩ => ⟨S1x256, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S1x256, .f32⟩
  | .hbm, ⟨23, _⟩ => ⟨S256, .f32⟩
  | .hbm, ⟨24, _⟩ => ⟨S1x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== MergeFw.lean ====
abbrev S4096x3072 : Shape := ⟨2, ![4096, 3072]⟩
abbrev S3x1024 : Shape := ⟨2, ![3, 1024]⟩
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S1024x1024 : Shape := ⟨2, ![1024, 1024]⟩
abbrev S4096x1024 : Shape := ⟨2, ![4096, 1024]⟩
abbrev S1024 : Shape := ⟨1, ![1024]⟩
abbrev S_ : Shape := ⟨0, ![]⟩
abbrev S4096x6144 : Shape := ⟨2, ![4096, 6144]⟩
abbrev S1x1024 : Shape := ⟨2, ![1, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 28
  | .vmem => 29
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x512, .f32⟩
  | .hbm, ⟨3, _⟩ => ⟨S4096x256, .f32⟩
  | .hbm, ⟨4, _⟩ => ⟨S4096x256, .f32⟩
  | .hbm, ⟨5, _⟩ => ⟨S512x1024, .f32⟩
  | .hbm, ⟨6, _⟩ => ⟨S256x1024, .f32⟩
  | .hbm, ⟨7, _⟩ => ⟨S256x1024, .f32⟩
  | .hbm, ⟨8, _⟩ => ⟨S1024x1024, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S4096x3072, .f32⟩
  | .hbm, ⟨14, _⟩ => ⟨S4096x6144, .f32⟩
  | .hbm, ⟨15, _⟩ => ⟨S4096x512, .bf16⟩
  | .hbm, ⟨16, _⟩ => ⟨S4096x256, .bf16⟩
  | .hbm, ⟨17, _⟩ => ⟨S4096x256, .bf16⟩
  | .hbm, ⟨18, _⟩ => ⟨S512x1024, .bf16⟩
  | .hbm, ⟨19, _⟩ => ⟨S256x1024, .bf16⟩
  | .hbm, ⟨20, _⟩ => ⟨S256x1024, .bf16⟩
  | .hbm, ⟨21, _⟩ => ⟨S1024x1024, .bf16⟩
  | .hbm, ⟨22, _⟩ => ⟨S1x1024, .f32⟩
  | .hbm, ⟨23, _⟩ => ⟨S1x1024, .f32⟩
  | .hbm, ⟨24, _⟩ => ⟨S4096x1024, .bf16⟩
  | .hbm, ⟨25, _⟩ => ⟨S4096x1024, .f32⟩
  | .hbm, ⟨26, _⟩ => ⟨S4096x1024, .f32⟩
  | .hbm, ⟨27, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S3x1024, .f32⟩
  | .local _ .vmem, ⟨7, _⟩ => ⟨S512x512, .bf16⟩
  | .local _ .vmem, ⟨8, _⟩ => ⟨S512x512, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x1024, .bf16⟩
  | .local _ .vmem, ⟨14, _⟩ => ⟨S256x1024, .bf16⟩
  | .local _ .vmem, ⟨15, _⟩ => ⟨S256x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeFwRefIdeal.lean ====
abbrev S4096x3072 : Shape := ⟨2, ![4096, 3072]⟩
abbrev S3x1024 : Shape := ⟨2, ![3, 1024]⟩
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S1024x1024 : Shape := ⟨2, ![1024, 1024]⟩
abbrev S4096x1024 : Shape := ⟨2, ![4096, 1024]⟩
abbrev S1024 : Shape := ⟨1, ![1024]⟩
abbrev S4096x3x1024 : Shape := ⟨3, ![4096, 3, 1024]⟩
abbrev S1x3x1024 : Shape := ⟨3, ![1, 3, 1024]⟩
abbrev S_ : Shape := ⟨0, ![]⟩
abbrev S4096x1x1024 : Shape := ⟨3, ![4096, 1, 1024]⟩
abbrev S4096 : Shape := ⟨1, ![4096]⟩
abbrev S4096x1 : Shape := ⟨2, ![4096, 1]⟩
abbrev S1x1024 : Shape := ⟨2, ![1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x512, .f32⟩
  | .hbm, ⟨3, _⟩ => ⟨S4096x256, .f32⟩
  | .hbm, ⟨4, _⟩ => ⟨S4096x256, .f32⟩
  | .hbm, ⟨5, _⟩ => ⟨S512x1024, .f32⟩
  | .hbm, ⟨6, _⟩ => ⟨S256x1024, .f32⟩
  | .hbm, ⟨7, _⟩ => ⟨S256x1024, .f32⟩
  | .hbm, ⟨8, _⟩ => ⟨S1024x1024, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S4096x3x1024, .f32⟩
  | .hbm, ⟨13, _⟩ => ⟨S1x3x1024, .f32⟩
  | .hbm, ⟨14, _⟩ => ⟨S4096x3x1024, .f32⟩
  | .hbm, ⟨15, _⟩ => ⟨S4096x3x1024, .f32⟩
  | .hbm, ⟨16, _⟩ => ⟨S4096x3x1024, .f32⟩
  | .hbm, ⟨17, _⟩ => ⟨S4096x3x1024, .f32⟩
  | .hbm, ⟨18, _⟩ => ⟨S_, .f32⟩
  | .hbm, ⟨19, _⟩ => ⟨S4096x3x1024, .f32⟩
  | .hbm, ⟨20, _⟩ => ⟨S4096x3x1024, .f32⟩
  | .hbm, ⟨21, _⟩ => ⟨S_, .f32⟩
  | .hbm, ⟨22, _⟩ => ⟨S4096x3x1024, .f32⟩
  | .hbm, ⟨23, _⟩ => ⟨S4096x3x1024, .f32⟩
  | .hbm, ⟨24, _⟩ => ⟨S4096x1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.UpDxValue.lean ====
/- What the kernel `ffn_up_dx` leaves in its two result arrays, over the extended reals: the reference's two results.
   The kernel runs over eight blocks of 512 rows. Each block's rows of the first result are the residual gradient plus the
   gradient through the normalisation, and the second result, the gradient of the scale, is one row that every block adds its
   column sums to. -/
module

public import proofs.«01_k».proof.Proof.Gen.UpDxIdeal.Value
public import proofs.«01_k».proof.Proof.Gen.UpDxRefIdeal.Read
public import Idealize.ShloMosaic.Lib.Pipeline.ValueKit
public import Idealize.ShloMosaic.Lib.Pointwise
public import Idealize.ShloMosaic.Lib.StableHlo.Run

@[expose] public section

set_option maxRecDepth 16384

noncomputable section

namespace Cert.UpDxIdeal.Value

open Cert.UpDxIdeal Cert.UpDxIdeal.Gen Idealize.ShloMosaic Idealize.ShloMosaic.TcCoe Idealize.SL.Sem
open Idealize.ShloMosaic.Pipeline (Dat)
open Cert.UpDxRefIdeal.Read

variable (m : (ℓ : Loc nD τ sig) → Buf (Elt Ideal) ℓ)

/-- Which block each window stands at: the row windows at the point's block of rows, the others at their whole array. -/
theorem index_eq : ∀ t : Fin cfg0.N, win0_0.index t = ![t.val, 0] ∧ win0_1.index t = ![0, 0]
    ∧ win0_2.index t = ![t.val, 0] ∧ win0_3.index t = ![0, 0] ∧ win0_4.index t = ![t.val, 0]
    ∧ win0_6.index t = ![t.val, 0] :=
  (by decide +kernel : ∀ t : Fin grid0.N, _)

/-- The first result after the run is the reference's gradient of the input, row block by row block. The two sums have the
    same terms; the kernel adds the residual's gradient last and the reference first. -/
theorem final_dx (c : Dev nD) : (dats m 0 c).arrAt 6 cfg0.N
    = val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨e0, e1, e2, e3, e4, e6⟩ := index_eq t
  blk_simp
  rw [after0_6]
  have hout : (outsAt0 m c t.val t.isLt).1
      = k0_pay1 (k0_pay8 (iblk m c 0 t) (iblk m c 1 t) (iblk m c 2 t) (iblk m c 3 t)) (iblk m c 4 t) := by
    by_cases h : t.val % 8 = 0
    · rw [outsAt0_A m c t h]; funext i; frame_out
    · rw [outsAt0_B m c t h]; funext i; frame_out
  rw [hout]
  idx_vars y
  unfold_payloads
  pointwise [
      val_main_v0, val_main_v1, val_main_v2, val_main_v3, val_main_v4, val_main_v5, val_main_v6, val_main_v7,
      val_main_v8, val_main_v9, val_main_v10, val_main_v11, val_main_v12, val_main_v13, val_main_v14, val_main_v15,
      val_main_v16, val_main_v17, val_main_v18, val_main_v19, val_main_v20, val_main_v21, val_main_v22, val_main_v23,
      val_main_v24, val_main_v25, val_main_v26, val_main_v27, val_main_v28, val_main_v29, val_main_v30, val_main_v31,
      val_main_v32, val_main_v33, val_main_v34, val_main_v35, val_main_v36, val_main_v37, val_main_v38, val_main_cst,
      val_main_cst_0, val_main_cst_1, val_main_cst_2, val_main_cst_3, val_main_cst_4, val_main_cst_5, val_main_cst_6,
      val_main_cst_7]
  simp only [add_assoc]
  blk_point [iblk, V, e0, e1, e2, e3, e4, e6]

/-- One block's addend to column `j` of the scale's gradient: over its rows, the normalised row times the gradient that comes
    back through the product. -/
def dgTerm (dh : S512x5632.Idx → EReal) (w : S5632x1024.Idx → EReal) (x : S512x1024.Idx → EReal) (j : Fin 1024) : EReal :=
  ∑ r : Fin 512, x (ix2 r j) *
    Ideal.rsqrt (Ideal.div (∑ k : Fin 1024, x (ix2 r k) * x (ix2 r k))
      (Ideal.ofBits FTy.f32 1149239296#32) + Ideal.ofBits FTy.f32 897988541#32) *
    ∑ k : Fin 5632, dh (ix2 r k) * w (ix2 k j)

/-- The second result after the run is the reference's gradient of the scale: the eight blocks' addends, summed from zero, are
    the sum over all the rows. -/
theorem final_dg (c : Dev nD) : (dats m 0 c).arrAt 7 cfg0.N
    = val_main_v39 (F := Ideal) (m ((c : Thread nD τ).loc main_arg0)) (m ((c : Thread nD τ).loc main_arg2))
        (m ((c : Thread nD τ).loc main_arg3)) := by
  refine (dats m 0 c).arrAt_eq_of_after_last 7 t0_7 (by decide +kernel) _ fun j => ?_
  blk_simp
  rw [after0_7]
  refine (Pipeline.eq_sum_fin_of_reset_step_apply_last (fun n h => (outsAt0 m c n h).2) 8 (fun _ => 0)
    (fun t i => dgTerm (iblk m c 0 t) (iblk m c 1 t) (iblk m c 2 t) (i 1))
    (fun t h j => ?_) (fun t h j => ?_) (by decide) t0_7 rfl _).trans ?_
  · rw [outsAt0_A m c t h]
    frame_out
    idx_vars j
    unfold_payloads
    pointwise [dgTerm]
  · rw [outsAt0_B m c t h]
    frame_out
    idx_vars j
    unfold_payloads
    pointwise [dgTerm]
  · idx_vars j
    pointwise [
      val_main_v0, val_main_v1, val_main_v2, val_main_v3, val_main_v4, val_main_v5, val_main_v6, val_main_v7,
      val_main_v8, val_main_v9, val_main_v10, val_main_v11, val_main_v12, val_main_v13, val_main_v14, val_main_v15,
      val_main_v16, val_main_v17, val_main_v18, val_main_v19, val_main_v20, val_main_v21, val_main_v22, val_main_v23,
      val_main_v24, val_main_v25, val_main_v26, val_main_v27, val_main_v28, val_main_v29, val_main_v30, val_main_v31,
      val_main_v32, val_main_v33, val_main_v34, val_main_v35, val_main_v36, val_main_v37, val_main_v38, val_main_cst,
      val_main_cst_0, val_main_cst_1, val_main_cst_2, val_main_cst_3, val_main_cst_4, val_main_cst_5, val_main_cst_6,
      val_main_cst_7, val_main_v39, dgTerm]
    simp only [Finset.univ_unique, Finset.sum_const, Finset.card_singleton, one_smul]
    refine Fin.sum_mul_add_congr fun t k hl => ?_
    obtain ⟨e0, e1, e2, e3, e4, e6⟩ := index_eq t
    blk_point [iblk, V, e0, e1, e2, e3, e4, e6]

end Cert.UpDxIdeal.Value

end

end
-- ==== Proof.InDxValue.lean ====
/- What the kernel `proj_in_dx` leaves in its two result arrays, over the extended reals: the reference's two results.
   The kernel runs over eight blocks of 512 rows. Each block's rows of the first result are the residual gradient plus the
   gradient through the normalisation, and the second result, the gradient of the scale, is one row that every block adds its
   column sums to. -/
module

public import proofs.«01_k».proof.Proof.Gen.InDxIdeal.Value
public import proofs.«01_k».proof.Proof.Gen.InDxRefIdeal.Read
public import Idealize.ShloMosaic.Lib.Pipeline.ValueKit
public import Idealize.ShloMosaic.Lib.Pointwise
public import Idealize.ShloMosaic.Lib.StableHlo.Run

@[expose] public section

set_option maxRecDepth 16384

noncomputable section

namespace Cert.InDxIdeal.Value

open Cert.InDxIdeal Cert.InDxIdeal.Gen Idealize.ShloMosaic Idealize.ShloMosaic.TcCoe Idealize.SL.Sem
open Idealize.ShloMosaic.Pipeline (Dat)
open Cert.InDxRefIdeal.Read

variable (m : (ℓ : Loc nD τ sig) → Buf (Elt Ideal) ℓ)

/-- Which block each window stands at: the row windows at the point's block of rows, the others at their whole array. -/
theorem index_eq : ∀ t : Fin cfg0.N, win0_0.index t = ![t.val, 0] ∧ win0_1.index t = ![0, 0]
    ∧ win0_2.index t = ![t.val, 0] ∧ win0_3.index t = ![0, 0] ∧ win0_4.index t = ![t.val, 0]
    ∧ win0_6.index t = ![t.val, 0] :=
  (by decide +kernel : ∀ t : Fin grid0.N, _)

/-- The first result after the run is the reference's gradient of the input, row block by row block. The two sums have the
    same terms; the kernel adds the residual's gradient last and the reference first. -/
theorem final_dx (c : Dev nD) : (dats m 0 c).arrAt 6 cfg0.N
    = val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨e0, e1, e2, e3, e4, e6⟩ := index_eq t
  blk_simp
  rw [after0_6]
  have hout : (outsAt0 m c t.val t.isLt).1
      = k0_pay1 (k0_pay8 (iblk m c 0 t) (iblk m c 1 t) (iblk m c 2 t) (iblk m c 3 t)) (iblk m c 4 t) := by
    by_cases h : t.val % 8 = 0
    · rw [outsAt0_A m c t h]; funext i; frame_out
    · rw [outsAt0_B m c t h]; funext i; frame_out
  rw [hout]
  idx_vars y
  unfold_payloads
  pointwise [
      val_main_v0, val_main_v1, val_main_v2, val_main_v3, val_main_v4, val_main_v5, val_main_v6, val_main_v7,
      val_main_v8, val_main_v9, val_main_v10, val_main_v11, val_main_v12, val_main_v13, val_main_v14, val_main_v15,
      val_main_v16, val_main_v17, val_main_v18, val_main_v19, val_main_v20, val_main_v21, val_main_v22, val_main_v23,
      val_main_v24, val_main_v25, val_main_v26, val_main_v27, val_main_v28, val_main_v29, val_main_v30, val_main_v31,
      val_main_v32, val_main_v33, val_main_v34, val_main_v35, val_main_v36, val_main_v37, val_main_v38, val_main_cst,
      val_main_cst_0, val_main_cst_1, val_main_cst_2, val_main_cst_3, val_main_cst_4, val_main_cst_5, val_main_cst_6,
      val_main_cst_7]
  simp only [add_assoc]
  blk_point [iblk, V, e0, e1, e2, e3, e4, e6]

/-- One block's addend to column `j` of the scale's gradient: over its rows, the normalised row times the gradient that comes
    back through the product. -/
def dgTerm (dh : S512x6144.Idx → EReal) (w : S6144x1024.Idx → EReal) (x : S512x1024.Idx → EReal) (j : Fin 1024) : EReal :=
  ∑ r : Fin 512, x (ix2 r j) *
    Ideal.rsqrt (Ideal.div (∑ k : Fin 1024, x (ix2 r k) * x (ix2 r k))
      (Ideal.ofBits FTy.f32 1149239296#32) + Ideal.ofBits FTy.f32 897988541#32) *
    ∑ k : Fin 6144, dh (ix2 r k) * w (ix2 k j)

/-- The second result after the run is the reference's gradient of the scale: the eight blocks' addends, summed from zero, are
    the sum over all the rows. -/
theorem final_dg (c : Dev nD) : (dats m 0 c).arrAt 7 cfg0.N
    = val_main_v39 (F := Ideal) (m ((c : Thread nD τ).loc main_arg0)) (m ((c : Thread nD τ).loc main_arg2))
        (m ((c : Thread nD τ).loc main_arg3)) := by
  refine (dats m 0 c).arrAt_eq_of_after_last 7 t0_7 (by decide +kernel) _ fun j => ?_
  blk_simp
  rw [after0_7]
  refine (Pipeline.eq_sum_fin_of_reset_step_apply_last (fun n h => (outsAt0 m c n h).2) 8 (fun _ => 0)
    (fun t i => dgTerm (iblk m c 0 t) (iblk m c 1 t) (iblk m c 2 t) (i 1))
    (fun t h j => ?_) (fun t h j => ?_) (by decide) t0_7 rfl _).trans ?_
  · rw [outsAt0_A m c t h]
    frame_out
    idx_vars j
    unfold_payloads
    pointwise [dgTerm]
  · rw [outsAt0_B m c t h]
    frame_out
    idx_vars j
    unfold_payloads
    pointwise [dgTerm]
  · idx_vars j
    pointwise [
      val_main_v0, val_main_v1, val_main_v2, val_main_v3, val_main_v4, val_main_v5, val_main_v6, val_main_v7,
      val_main_v8, val_main_v9, val_main_v10, val_main_v11, val_main_v12, val_main_v13, val_main_v14, val_main_v15,
      val_main_v16, val_main_v17, val_main_v18, val_main_v19, val_main_v20, val_main_v21, val_main_v22, val_main_v23,
      val_main_v24, val_main_v25, val_main_v26, val_main_v27, val_main_v28, val_main_v29, val_main_v30, val_main_v31,
      val_main_v32, val_main_v33, val_main_v34, val_main_v35, val_main_v36, val_main_v37, val_main_v38, val_main_cst,
      val_main_cst_0, val_main_cst_1, val_main_cst_2, val_main_cst_3, val_main_cst_4, val_main_cst_5, val_main_cst_6,
      val_main_cst_7, val_main_v39, dgTerm]
    simp only [Finset.univ_unique, Finset.sum_const, Finset.card_singleton, one_smul]
    refine Fin.sum_mul_add_congr fun t k hl => ?_
    obtain ⟨e0, e1, e2, e3, e4, e6⟩ := index_eq t
    blk_point [iblk, V, e0, e1, e2, e3, e4, e6]

end Cert.InDxIdeal.Value

end

end
-- ==== Proof.OutDxValue.lean ====
/- What the kernel `proj_out_dx` leaves in its three result arrays, over the extended reals: the reference's three results.
   The kernel runs over eight blocks of 512 rows. Each block's rows of the first result are the gradient through the
   normalisation, those of the third are their product with the weight, and the second result, the gradient of the scale, is
   one row that every block adds its column sums to. -/
module

public import proofs.«01_k».proof.Proof.Gen.OutDxIdeal.Value
public import proofs.«01_k».proof.Proof.Gen.OutDxRefIdeal.Read
public import Idealize.ShloMosaic.Lib.Pipeline.ValueKit
public import Idealize.ShloMosaic.Lib.Pointwise
public import Idealize.ShloMosaic.Lib.StableHlo.Run

@[expose] public section

set_option maxRecDepth 16384

noncomputable section

namespace Cert.OutDxIdeal.Value

open Cert.OutDxIdeal Cert.OutDxIdeal.Gen Idealize.ShloMosaic Idealize.ShloMosaic.TcCoe Idealize.SL.Sem
open Idealize.ShloMosaic.Pipeline (Dat)
open Cert.OutDxRefIdeal.Read

variable (m : (ℓ : Loc nD τ sig) → Buf (Elt Ideal) ℓ)

/-- Which block each window stands at: the row windows at the point's block of rows, the others at their whole array. -/
theorem index_eq : ∀ t : Fin cfg0.N, win0_0.index t = ![t.val, 0] ∧ win0_1.index t = ![0, 0]
    ∧ win0_2.index t = ![t.val, 0] ∧ win0_3.index t = ![0, 0] ∧ win0_4.index t = ![t.val, 0]
    ∧ win0_6.index t = ![t.val, 0] :=
  (by decide +kernel : ∀ t : Fin grid0.N, _)

/-- The first result after the run is the reference's gradient through the normalisation, row block by row block. -/
theorem final_do (c : Dev nD) : (dats m 0 c).arrAt 4 cfg0.N
    = val_main_v39 (F := Ideal) (m ((c : Thread nD τ).loc main_arg0)) (m ((c : Thread nD τ).loc main_arg1))
        (m ((c : Thread nD τ).loc main_arg3)) := by
  refine (dats m 0 c).arrAt_eq_of_covers 4 _ (by decide +kernel) fun t hf y => ?_
  obtain ⟨e0, e1, e2, e3, e4, e6⟩ := index_eq t
  blk_simp
  rw [after0_4]
  have hout : (outsAt0 m c t.val t.isLt).1 = k0_pay7 (iblk m c 0 t) (iblk m c 1 t) (iblk m c 2 t) := by
    by_cases h : t.val % 8 = 0
    · rw [outsAt0_A m c t h]; funext i; frame_out
    · rw [outsAt0_B m c t h]; funext i; frame_out
  rw [hout]
  idx_vars y
  unfold_payloads
  pointwise [
      val_main_v0, val_main_v1, val_main_v2, val_main_v3, val_main_v4, val_main_v5, val_main_v6, val_main_v7,
      val_main_v8, val_main_v9, val_main_v10, val_main_v11, val_main_v12, val_main_v13, val_main_v14,
      val_main_v15, val_main_v16, val_main_v17, val_main_v18, val_main_v19, val_main_v20, val_main_v21,
      val_main_v22, val_main_v23, val_main_v24, val_main_v25, val_main_v26, val_main_v27, val_main_v28,
      val_main_v29, val_main_v30, val_main_v31, val_main_v32, val_main_v33, val_main_v34, val_main_v35,
      val_main_v36, val_main_v37, val_main_v38, val_main_v39, val_main_v40, val_main_cst, val_main_cst_0,
      val_main_cst_1, val_main_cst_2, val_main_cst_3, val_main_cst_4, val_main_cst_5, val_main_cst_6,
      val_main_cst_7, val_main_cst_8]
  blk_point [iblk, V, e0, e1, e2, e3, e4, e6]

/-- The third result after the run is the reference's gradient of the merged heads, row block by row block. -/
theorem final_dm (c : Dev nD) : (dats m 0 c).arrAt 6 cfg0.N
    = val_main_v38 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  obtain ⟨e0, e1, e2, e3, e4, e6⟩ := index_eq t
  blk_simp
  rw [after0_6]
  have hout : (outsAt0 m c t.val t.isLt).2.2
      = k0_pay3 (k0_pay7 (iblk m c 0 t) (iblk m c 1 t) (iblk m c 2 t)) (iblk m c 3 t) := by
    by_cases h : t.val % 8 = 0
    · rw [outsAt0_A m c t h]; funext i; frame_out
    · rw [outsAt0_B m c t h]; funext i; frame_out
  rw [hout]
  idx_vars y
  unfold_payloads
  pointwise [
      val_main_v0, val_main_v1, val_main_v2, val_main_v3, val_main_v4, val_main_v5, val_main_v6, val_main_v7,
      val_main_v8, val_main_v9, val_main_v10, val_main_v11, val_main_v12, val_main_v13, val_main_v14,
      val_main_v15, val_main_v16, val_main_v17, val_main_v18, val_main_v19, val_main_v20, val_main_v21,
      val_main_v22, val_main_v23, val_main_v24, val_main_v25, val_main_v26, val_main_v27, val_main_v28,
      val_main_v29, val_main_v30, val_main_v31, val_main_v32, val_main_v33, val_main_v34, val_main_v35,
      val_main_v36, val_main_v37, val_main_v38, val_main_v39, val_main_v40, val_main_cst, val_main_cst_0,
      val_main_cst_1, val_main_cst_2, val_main_cst_3, val_main_cst_4, val_main_cst_5, val_main_cst_6,
      val_main_cst_7, val_main_cst_8]
  blk_point [iblk, V, e0, e1, e2, e3, e4, e6]

/-- One block's addend to column `j` of the scale's gradient: over its rows, the normalised row times the incoming gradient. -/
def dgTerm (o : S512x1024.Idx → EReal) (dx : S512x1024.Idx → EReal) (j : Fin 1024) : EReal :=
  ∑ r : Fin 512, o (ix2 r j) *
    Ideal.rsqrt (Ideal.div (∑ k : Fin 1024, o (ix2 r k) * o (ix2 r k))
      (Ideal.ofBits FTy.f32 1149239296#32) + Ideal.ofBits FTy.f32 897988541#32) * dx (ix2 r j)

/-- The second result after the run is the reference's gradient of the scale: the eight blocks' addends, summed from zero, are
    the sum over all the rows. -/
theorem final_dg (c : Dev nD) : (dats m 0 c).arrAt 5 cfg0.N
    = val_main_v40 (F := Ideal) (m ((c : Thread nD τ).loc main_arg0)) (m ((c : Thread nD τ).loc main_arg3)) := by
  refine (dats m 0 c).arrAt_eq_of_after_last 5 t0_7 (by decide +kernel) _ fun j => ?_
  blk_simp
  rw [after0_5]
  refine (Pipeline.eq_sum_fin_of_reset_step_apply_last (fun n h => (outsAt0 m c n h).2.1) 8 (fun _ => 0)
    (fun t i => dgTerm (iblk m c 0 t) (iblk m c 2 t) (i 1))
    (fun t h j => ?_) (fun t h j => ?_) (by decide) t0_7 rfl _).trans ?_
  · rw [outsAt0_A m c t h]
    frame_out
    idx_vars j
    unfold_payloads
    pointwise [dgTerm]
  · rw [outsAt0_B m c t h]
    frame_out
    idx_vars j
    unfold_payloads
    pointwise [dgTerm]
  · idx_vars j
    pointwise [
      val_main_v0, val_main_v1, val_main_v2, val_main_v3, val_main_v4, val_main_v5, val_main_v6, val_main_v7,
      val_main_v8, val_main_v9, val_main_v10, val_main_v11, val_main_v12, val_main_v13, val_main_v14,
      val_main_v15, val_main_v16, val_main_v17, val_main_v18, val_main_v19, val_main_v20, val_main_v21,
      val_main_v22, val_main_v23, val_main_v24, val_main_v25, val_main_v26, val_main_v27, val_main_v28,
      val_main_v29, val_main_v30, val_main_v31, val_main_v32, val_main_v33, val_main_v34, val_main_v35,
      val_main_v36, val_main_v37, val_main_v38, val_main_v39, val_main_v40, val_main_cst, val_main_cst_0,
      val_main_cst_1, val_main_cst_2, val_main_cst_3, val_main_cst_4, val_main_cst_5, val_main_cst_6,
      val_main_cst_7, val_main_cst_8, dgTerm]
    simp only [Finset.univ_unique, Finset.sum_const, Finset.card_singleton, one_smul]
    refine Fin.sum_mul_add_congr fun t k hl => ?_
    obtain ⟨e0, e1, e2, e3, e4, e6⟩ := index_eq t
    blk_point [iblk, V, e0, e1, e2, e3, e4, e6]

end Cert.OutDxIdeal.Value

end

end
-- ==== Proof.UpDwValue.lean ====
/- What the kernel `ffn_up_dw` leaves in its result array, over the extended reals: the reference's gradient of the weight.
   The kernel goes over eleven blocks of 512 columns of its first operand; each block's product with the whole of the second
   operand, summed over all 4096 rows, is one block of rows of the result. -/
module

public import proofs.«01_k».proof.Proof.Gen.UpDwIdeal.Value
public import proofs.«01_k».proof.Proof.Gen.UpDwRefIdeal.Read
public import Idealize.ShloMosaic.Lib.Pipeline.ValueKit
public import Idealize.ShloMosaic.Lib.Pointwise
public import Idealize.ShloMosaic.Lib.StableHlo.Run

@[expose] public section

set_option maxRecDepth 16384

noncomputable section

namespace Cert.UpDwIdeal.Value

open Cert.UpDwIdeal Cert.UpDwIdeal.Gen Idealize.ShloMosaic Idealize.ShloMosaic.TcCoe Idealize.SL.Sem
open Idealize.ShloMosaic.Pipeline (Dat)
open Cert.UpDwRefIdeal.Read

variable (m : (ℓ : Loc nD τ sig) → Buf (Elt Ideal) ℓ)

/-- Which block each window stands at: the first operand's at the point's block of columns, the second's at its whole array,
    the result's at the point's block of rows. -/
theorem index_eq : ∀ t : Fin cfg0.N, win0_0.index t = ![0, t.val] ∧ win0_1.index t = ![0, 0]
    ∧ win0_2.index t = ![t.val, 0] :=
  (by decide +kernel : ∀ t : Fin grid0.N, _)

/-- The result after the run is the reference's gradient of the weight, block of rows by block of rows. -/
theorem final_dw (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index_eq t
  blk_simp
  rw [after0_2]
  have hout : out0_2 (iblk m c 0 t) (iblk m c 1 t) = k0_pay1 (iblk m c 0 t) (iblk m c 1 t) := by
    funext i; frame_out
  rw [hout]
  idx_vars y
  unfold_payloads
  pointwise [val_main_v0, val_main_v1, val_main_v2, val_main_v3, val_main_v4, val_main_v5]
  blk_point [iblk, V, e0, e1, e2]

end Cert.UpDwIdeal.Value

end

end
-- ==== Proof.InDwValue.lean ====
/- What the kernel `proj_in_dw` leaves in its result array, over the extended reals: the reference's gradient of the weight.
   The kernel goes over six blocks of 1024 columns of its first operand; each block's product with the whole of the second
   operand, summed over all 4096 rows, is one block of rows of the result. -/
module

public import proofs.«01_k».proof.Proof.Gen.InDwIdeal.Value
public import proofs.«01_k».proof.Proof.Gen.InDwRefIdeal.Read
public import Idealize.ShloMosaic.Lib.Pipeline.ValueKit
public import Idealize.ShloMosaic.Lib.Pointwise
public import Idealize.ShloMosaic.Lib.StableHlo.Run

@[expose] public section

set_option maxRecDepth 16384

noncomputable section

namespace Cert.InDwIdeal.Value

open Cert.InDwIdeal Cert.InDwIdeal.Gen Idealize.ShloMosaic Idealize.ShloMosaic.TcCoe Idealize.SL.Sem
open Idealize.ShloMosaic.Pipeline (Dat)
open Cert.InDwRefIdeal.Read

variable (m : (ℓ : Loc nD τ sig) → Buf (Elt Ideal) ℓ)

/-- Which block each window stands at: the first operand's at the point's block of columns, the second's at its whole array,
    the result's at the point's block of rows. -/
theorem index_eq : ∀ t : Fin cfg0.N, win0_0.index t = ![0, t.val] ∧ win0_1.index t = ![0, 0]
    ∧ win0_2.index t = ![t.val, 0] :=
  (by decide +kernel : ∀ t : Fin grid0.N, _)

/-- The result after the run is the reference's gradient of the weight, block of rows by block of rows. -/
theorem final_dw (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index_eq t
  blk_simp
  rw [after0_2]
  have hout : out0_2 (iblk m c 0 t) (iblk m c 1 t) = k0_pay1 (iblk m c 0 t) (iblk m c 1 t) := by
    funext i; frame_out
  rw [hout]
  idx_vars y
  unfold_payloads
  pointwise [val_main_v0, val_main_v1, val_main_v2, val_main_v3, val_main_v4, val_main_v5]
  blk_point [iblk, V, e0, e1, e2]

end Cert.InDwIdeal.Value

end

end
-- ==== Proof.DownDxValue.lean ====
/- What the kernel `ffn_down_dx` leaves in its result array, over the extended reals: the reference's gradient of the product's
   left operand. The kernel goes over two blocks of 1408 columns of the result and, within each, over four blocks of 1024
   rows; each block is the product of the row block of the incoming gradient with the column block's rows of the weight. -/
module

public import proofs.«01_k».proof.Proof.Gen.DownDxIdeal.Value
public import proofs.«01_k».proof.Proof.Gen.DownDxRefIdeal.Read
public import Idealize.ShloMosaic.Lib.Pipeline.ValueKit
public import Idealize.ShloMosaic.Lib.Pointwise
public import Idealize.ShloMosaic.Lib.StableHlo.Run

@[expose] public section

set_option maxRecDepth 16384

noncomputable section

namespace Cert.DownDxIdeal.Value

open Cert.DownDxIdeal Cert.DownDxIdeal.Gen Idealize.ShloMosaic Idealize.ShloMosaic.TcCoe Idealize.SL.Sem
open Idealize.ShloMosaic.Pipeline (Dat)
open Cert.DownDxRefIdeal.Read

variable (m : (ℓ : Loc nD τ sig) → Buf (Elt Ideal) ℓ)

/-- Which block each window stands at, of the point's column block `t / 4` and its row block `t % 4`. -/
theorem index_eq : ∀ t : Fin cfg0.N, win0_0.index t = ![t.val % 4, 0] ∧ win0_1.index t = ![t.val / 4, 0]
    ∧ win0_2.index t = ![t.val % 4, t.val / 4] :=
  (by decide +kernel : ∀ t : Fin grid0.N, _)

/-- The result after the run is the reference's gradient, block by block. -/
theorem final_dx (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index_eq t
  blk_simp
  rw [after0_2]
  have hout : out0_2 (iblk m c 0 t) (iblk m c 1 t) = k0_pay1 (iblk m c 0 t) (iblk m c 1 t) := by
    funext i; frame_out
  rw [hout]
  idx_vars y
  unfold_payloads
  pointwise [val_main_v0, val_main_v1, val_main_v2]
  blk_point [iblk, V, e0, e1, e2]

end Cert.DownDxIdeal.Value

end

end
-- ==== Proof.DownDwValue.lean ====
/- What the kernel `ffn_down_dw` leaves in its result array, over the extended reals: the reference's gradient of the weight.
   The kernel goes over eleven blocks of 256 columns of its first operand; each block's product with the whole of the second
   operand, summed over all 4096 rows, is one block of rows of the result. -/
module

public import proofs.«01_k».proof.Proof.Gen.DownDwIdeal.Value
public import proofs.«01_k».proof.Proof.Gen.DownDwRefIdeal.Read
public import Idealize.ShloMosaic.Lib.Pipeline.ValueKit
public import Idealize.ShloMosaic.Lib.Pointwise
public import Idealize.ShloMosaic.Lib.StableHlo.Run

@[expose] public section

set_option maxRecDepth 16384

noncomputable section

namespace Cert.DownDwIdeal.Value

open Cert.DownDwIdeal Cert.DownDwIdeal.Gen Idealize.ShloMosaic Idealize.ShloMosaic.TcCoe Idealize.SL.Sem
open Idealize.ShloMosaic.Pipeline (Dat)
open Cert.DownDwRefIdeal.Read

variable (m : (ℓ : Loc nD τ sig) → Buf (Elt Ideal) ℓ)

/-- Which block each window stands at: the first operand's at the point's block of columns, the second's at its whole array,
    the result's at the point's block of rows. -/
theorem index_eq : ∀ t : Fin cfg0.N, win0_0.index t = ![0, t.val] ∧ win0_1.index t = ![0, 0]
    ∧ win0_2.index t = ![t.val, 0] :=
  (by decide +kernel : ∀ t : Fin grid0.N, _)

/-- The result after the run is the reference's gradient of the weight, block of rows by block of rows. -/
theorem final_dw (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index_eq t
  blk_simp
  rw [after0_2]
  have hout : out0_2 (iblk m c 0 t) (iblk m c 1 t) = k0_pay1 (iblk m c 0 t) (iblk m c 1 t) := by
    funext i; frame_out
  rw [hout]
  idx_vars y
  unfold_payloads
  pointwise [val_main_v0, val_main_v1, val_main_v2, val_main_v3, val_main_v4]
  refine (Finset.sum_congr rfl fun (x : Fin 4096) _ => @mul_comm EReal _ (iblk m c 0 t (ix2 x y0)) (iblk m c 1 t (ix2 x y1))).trans ?_
  blk_point [iblk, V, e0, e1, e2]

end Cert.DownDwIdeal.Value

end

end
-- ==== Proof.OutDwValue.lean ====
/- What the kernel `proj_out_dw` leaves in its result array, over the extended reals: the reference's gradient of the weight,
   the product of its two operands summed over all 4096 rows, in one block. -/
module

public import proofs.«01_k».proof.Proof.Gen.OutDwIdeal.Value
public import proofs.«01_k».proof.Proof.Gen.OutDwRefIdeal.Read
public import Idealize.ShloMosaic.Lib.Pipeline.ValueKit
public import Idealize.ShloMosaic.Lib.Pointwise
public import Idealize.ShloMosaic.Lib.StableHlo.Run

@[expose] public section

set_option maxRecDepth 16384

noncomputable section

namespace Cert.OutDwIdeal.Value

open Cert.OutDwIdeal Cert.OutDwIdeal.Gen Idealize.ShloMosaic Idealize.ShloMosaic.TcCoe Idealize.SL.Sem
open Idealize.ShloMosaic.Pipeline (Dat)
open Cert.OutDwRefIdeal.Read

variable (m : (ℓ : Loc nD τ sig) → Buf (Elt Ideal) ℓ)

/-- Which block each window stands at: the first operand's at the point's block of columns, the second's at its whole array,
    the result's at the point's block of rows. -/
theorem index_eq : ∀ t : Fin cfg0.N, win0_0.index t = ![0, t.val] ∧ win0_1.index t = ![0, 0]
    ∧ win0_2.index t = ![t.val, 0] :=
  (by decide +kernel : ∀ t : Fin grid0.N, _)

/-- The result after the run is the reference's gradient of the weight, block of rows by block of rows. -/
theorem final_dw (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index_eq t
  blk_simp
  rw [after0_2]
  have hout : out0_2 (iblk m c 0 t) (iblk m c 1 t) = k0_pay1 (iblk m c 0 t) (iblk m c 1 t) := by
    funext i; frame_out
  rw [hout]
  idx_vars y
  unfold_payloads
  pointwise [val_main_v0, val_main_v1, val_main_v2, val_main_v3, val_main_v4]
  refine (Finset.sum_congr rfl fun (x : Fin 4096) _ => @mul_comm EReal _ (iblk m c 0 t (ix2 x y0)) (iblk m c 1 t (ix2 x y1))).trans ?_
  blk_point [iblk, V, e0, e1, e2]

end Cert.OutDwIdeal.Value

end

end
-- ==== Proof.InFwValue.lean ====
/- What the kernel `proj_in` leaves in its result array, over the extended reals: the reference's product. The kernel goes over
   four blocks of 1024 rows of the result and six blocks of 1024 columns; each block is the product of the row block
   of the first operand with the column block of the weight. -/
module

public import proofs.«01_k».proof.Proof.Gen.InFwIdeal.Value
public import proofs.«01_k».proof.Proof.Gen.InFwRefIdeal.Read
public import Idealize.ShloMosaic.Lib.Pipeline.ValueKit
public import Idealize.ShloMosaic.Lib.Pointwise
public import Idealize.ShloMosaic.Lib.StableHlo.Run

@[expose] public section

set_option maxRecDepth 16384

noncomputable section

namespace Cert.InFwIdeal.Value

open Cert.InFwIdeal Cert.InFwIdeal.Gen Idealize.ShloMosaic Idealize.ShloMosaic.TcCoe Idealize.SL.Sem
open Idealize.ShloMosaic.Pipeline (Dat)
open Cert.InFwRefIdeal.Read

variable (m : (ℓ : Loc nD τ sig) → Buf (Elt Ideal) ℓ)

/-- Which block each window stands at, of the point's row block `t / 6` and its column block `t % 6`. -/
theorem index_eq : ∀ t : Fin cfg0.N, win0_0.index t = ![t.val / 6, 0] ∧ win0_1.index t = ![t.val % 6, 0]
    ∧ win0_2.index t = ![t.val / 6, t.val % 6] :=
  (by decide +kernel : ∀ t : Fin grid0.N, _)

/-- The result after the run is the reference's product, block by block. -/
theorem final_h (c : Dev nD) : (dats m 0 c).arrAt 2 cfg0.N
    = val_main_v0 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index_eq t
  blk_simp
  rw [after0_2]
  have hout : out0_2 (iblk m c 0 t) (iblk m c 1 t) = k0_pay1 (iblk m c 0 t) (iblk m c 1 t) := by
    funext i; frame_out
  rw [hout]
  idx_vars y
  unfold_payloads
  pointwise [val_main_v0]
  blk_point [iblk, V, e0, e1, e2]

end Cert.InFwIdeal.Value

end

end
-- ==== Proof.UpFwValue.lean ====
/- What the kernel `ffn_up` leaves in its result array, over the extended reals: the reference's product. The kernel goes over
   four blocks of 1024 rows of the result and four blocks of 1408 columns; each block is the product of the row block
   of the first operand with the column block of the weight. -/
module

public import proofs.«01_k».proof.Proof.Gen.UpFwIdeal.Value
public import proofs.«01_k».proof.Proof.Gen.UpFwRefIdeal.Read
public import Idealize.ShloMosaic.Lib.Pipeline.ValueKit
public import Idealize.ShloMosaic.Lib.Pointwise
public import Idealize.ShloMosaic.Lib.StableHlo.Run

@[expose] public section

set_option maxRecDepth 16384

noncomputable section

namespace Cert.UpFwIdeal.Value

open Cert.UpFwIdeal Cert.UpFwIdeal.Gen Idealize.ShloMosaic Idealize.ShloMosaic.TcCoe Idealize.SL.Sem
open Idealize.ShloMosaic.Pipeline (Dat)
open Cert.UpFwRefIdeal.Read

variable (m : (ℓ : Loc nD τ sig) → Buf (Elt Ideal) ℓ)

/-- Which block each window stands at, of the point's column block `t / 4` and its row block `t % 4`. -/
theorem index_eq : ∀ t : Fin cfg0.N, win0_0.index t = ![t.val % 4, 0] ∧ win0_1.index t = ![t.val / 4, 0]
    ∧ win0_2.index t = ![t.val % 4, t.val / 4] :=
  (by decide +kernel : ∀ t : Fin grid0.N, _)

/-- The result after the run is the reference's product, block by block. -/
theorem final_h (c : Dev nD) : (dats m 0 c).arrAt 2 cfg0.N
    = val_main_v0 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index_eq t
  blk_simp
  rw [after0_2]
  have hout : out0_2 (iblk m c 0 t) (iblk m c 1 t) = k0_pay1 (iblk m c 0 t) (iblk m c 1 t) := by
    funext i; frame_out
  rw [hout]
  idx_vars y
  unfold_payloads
  pointwise [val_main_v0]
  blk_point [iblk, V, e0, e1, e2]

end Cert.UpFwIdeal.Value

end

end
-- ==== Proof.SconvPoint.lean ====
/- The kernel `sconv_bwd` at one point, which holds 128 columns: its four outputs in terms of the columns moved up and down. -/
module

public import proofs.«01_k».proof.Proof.Gen.SconvDxIdeal.Value
public import proofs.«01_k».proof.Proof.Gen.SconvDxRefIdeal.Read
public import Idealize.ShloMosaic.Lib.Pipeline.ValueKit
public import Idealize.ShloMosaic.Lib.Pointwise
public import Idealize.ShloMosaic.Lib.StableHlo.Run

@[expose] public section

set_option maxRecDepth 16384

noncomputable section

namespace Cert.SconvDxIdeal.Value

open Cert.SconvDxIdeal Cert.SconvDxIdeal.Gen Idealize.ShloMosaic Idealize.ShloMosaic.TcCoe Idealize.SL.Sem
open Idealize.ShloMosaic.Pipeline (Dat)
open Cert.SconvDxRefIdeal.Read

/-- The column `f` moved down by `k` rows: zero in the first `k`. -/
def prev (k : Nat) (f : Fin 4096 → EReal) (r : Fin 4096) : EReal := if k ≤ r.val then f ⟨r.val - k, by omega⟩ else 0
/-- The column `f` moved up by `k` rows: zero in the last `k`. -/
def next (k : Nat) (f : Fin 4096 → EReal) (r : Fin 4096) : EReal := if h : r.val + k < 4096 then f ⟨r.val + k, h⟩ else 0

theorem sel_ge1 {α : Type} (r : Fin 4096) (a b : α) :
    Scalar.select (IntOp.cmpi .sge (BitVec.ofNat 32 r.val) 1#32) a b = if 1 ≤ r.val then a else b := by
  have h : ∀ r : Fin 4096, (IntOp.cmpi .sge (BitVec.ofNat 32 r.val) 1#32 = 1) ↔ 1 ≤ r.val := by decide +kernel
  unfold Scalar.select
  simp only [h]

theorem sel_ge2 {α : Type} (r : Fin 4096) (a b : α) :
    Scalar.select (IntOp.cmpi .sge (BitVec.ofNat 32 r.val) 2#32) a b = if 2 ≤ r.val then a else b := by
  have h : ∀ r : Fin 4096, (IntOp.cmpi .sge (BitVec.ofNat 32 r.val) 2#32 = 1) ↔ 2 ≤ r.val := by decide +kernel
  unfold Scalar.select
  simp only [h]

theorem sel_lt1 {α : Type} (r : Fin 4096) (a b : α) :
    Scalar.select (IntOp.cmpi .slt (BitVec.ofNat 32 r.val) 4095#32) a b = if r.val + 1 < 4096 then a else b := by
  have h : ∀ r : Fin 4096, (IntOp.cmpi .slt (BitVec.ofNat 32 r.val) 4095#32 = 1) ↔ r.val + 1 < 4096 := by decide +kernel
  unfold Scalar.select
  simp only [h]

theorem sel_lt2 {α : Type} (r : Fin 4096) (a b : α) :
    Scalar.select (IntOp.cmpi .slt (BitVec.ofNat 32 r.val) 4094#32) a b = if r.val + 2 < 4096 then a else b := by
  have h : ∀ r : Fin 4096, (IntOp.cmpi .slt (BitVec.ofNat 32 r.val) 4094#32 = 1) ↔ r.val + 2 < 4096 := by decide +kernel
  unfold Scalar.select
  simp only [h]

theorem sel_row {α : Type} (r : Fin 8) (k : Fin 3) (a b : α) :
    Scalar.select (IntOp.cmpi .eq (BitVec.ofNat 32 r.val) (BitVec.ofNat 32 k.val)) a b = if r.val = k.val then a else b := by
  have h : ∀ (r : Fin 8) (k : Fin 3), (IntOp.cmpi .eq (BitVec.ofNat 32 r.val) (BitVec.ofNat 32 k.val) = 1) ↔ r.val = k.val := by
    decide +kernel
  unfold Scalar.select
  simp only [h]

theorem mul_prev (k : Nat) (hk : k < 4096) (a : EReal) (f : Fin 4096 → EReal) (r : Fin 4096) (hb : (r.val + 4096 - k) % 4096 < 4096) :
    (if k ≤ r.val then a * f ⟨(r.val + 4096 - k) % 4096, hb⟩ else 0) = a * prev k f r := by
  unfold prev
  by_cases h : k ≤ r.val
  · rw [if_pos h, if_pos h]
    exact congrArg (a * f ·) (Fin.ext (by show (r.val + 4096 - k) % 4096 = r.val - k; omega))
  · rw [if_neg h, if_neg h, mul_zero]

theorem mul_next (k j : Nat) (hk : k + j = 4096) (hk0 : 0 < k) (a : EReal) (f : Fin 4096 → EReal) (r : Fin 4096)
    (hb : (r.val + 4096 - j) % 4096 < 4096) :
    (if r.val + k < 4096 then a * f ⟨(r.val + 4096 - j) % 4096, hb⟩ else 0) = a * next k f r := by
  unfold next
  by_cases h : r.val + k < 4096
  · rw [if_pos h, dif_pos h]
    exact congrArg (a * f ·) (Fin.ext (by show (r.val + 4096 - j) % 4096 = r.val + k; omega))
  · rw [if_neg h, dif_neg h, mul_zero]

theorem next_mul (k j : Nat) (hk : k + j = 4096) (hk0 : 0 < k) (a : EReal) (f : Fin 4096 → EReal) (r : Fin 4096)
    (hb : (r.val + 4096 - j) % 4096 < 4096) :
    (if r.val + k < 4096 then f ⟨(r.val + 4096 - j) % 4096, hb⟩ * a else 0) = next k f r * a := by
  unfold next
  by_cases h : r.val + k < 4096
  · rw [if_pos h, dif_pos h]
    exact congrArg (f · * a) (Fin.ext (by show (r.val + 4096 - j) % 4096 = r.val + k; omega))
  · rw [if_neg h, dif_neg h, zero_mul]

/-- Moving one factor up or the other down by `k` rows gives the same sum of products: the rows that fall out meet zeros. -/
theorem sum_shift (k : Nat) (hk : k < 4096) (E X : Fin 4096 → EReal) : ∑ s, next k E s * X s = ∑ s, prev k X s * E s := by
  refine Fintype.sum_equiv (Equiv.addRight (⟨k, hk⟩ : Fin 4096)) _ _ fun s => ?_
  have hv : ((Equiv.addRight (⟨k, hk⟩ : Fin 4096)) s).val = (s.val + k) % 4096 := Fin.val_add s ⟨k, hk⟩
  generalize (Equiv.addRight (⟨k, hk⟩ : Fin 4096)) s = u at hv ⊢
  have hs := s.isLt
  unfold next prev
  by_cases h : s.val + k < 4096
  · rw [dif_pos h, if_pos (by omega), mul_comm]
    exact congrArg₂ (fun a b => X a * E b) (Fin.ext (by show s.val = u.val - k; omega)) (Fin.ext (by show s.val + k = u.val; omega))
  · rw [dif_neg h, if_neg (by omega), zero_mul, zero_mul]

/-- One point's first output: the cotangent times the convolution of the product of the gate and the branch. -/
theorem pt5 (x0 x1 x2 x4 : Vec Ideal S4096x128 .f32) (x3 : Vec Ideal S3x128 .f32) (r : Fin 4096) (l : Fin 128) :
    out0_5 x0 x1 x2 x3 x4 (ix2 r l) = x4 (ix2 r l) * (x3 (ix2 2 l) * (x1 (ix2 r l) * x2 (ix2 r l))
      + x3 (ix2 1 l) * prev 1 (fun s => x1 (ix2 s l) * x2 (ix2 s l)) r + x3 (ix2 0 l) * prev 2 (fun s => x1 (ix2 s l) * x2 (ix2 s l)) r) := by
  unfold out0_5
  frame_out
  unfold_payloads
  pointwise
  simp only [sel_ge1, sel_ge2]
  exact congrArg (x4 (ix2 r l) * ·) (congrArg₂ (· + ·) (congrArg (_ + ·)
    (mul_prev 1 (by decide) (x3 (ix2 1 l)) (fun s => x1 (ix2 s l) * x2 (ix2 s l)) r (Nat.mod_lt _ (by decide))))
    (mul_prev 2 (by decide) (x3 (ix2 0 l)) (fun s => x1 (ix2 s l) * x2 (ix2 s l)) r (Nat.mod_lt _ (by decide))))

set_option maxRecDepth 200000 in
/-- One point's second output: the convolution run backwards over the gated cotangent, times the branch. -/
theorem pt6 (x0 x1 x2 x4 : Vec Ideal S4096x128 .f32) (x3 : Vec Ideal S3x128 .f32) (r : Fin 4096) (l : Fin 128) :
    out0_6 x0 x1 x2 x3 x4 (ix2 r l) = (x3 (ix2 2 l) * (x4 (ix2 r l) * x0 (ix2 r l))
      + x3 (ix2 1 l) * next 1 (fun s => x4 (ix2 s l) * x0 (ix2 s l)) r + x3 (ix2 0 l) * next 2 (fun s => x4 (ix2 s l) * x0 (ix2 s l)) r)
      * x2 (ix2 r l) := by
  unfold out0_6
  frame_out
  unfold_payloads
  pointwise
  simp only [sel_lt1, sel_lt2]
  exact congrArg (· * x2 (ix2 r l)) (congrArg₂ (· + ·) (congrArg (_ + ·)
    (mul_next 1 4095 rfl (by decide) (x3 (ix2 1 l)) (fun s => x4 (ix2 s l) * x0 (ix2 s l)) r (Nat.mod_lt _ (by decide))))
    (mul_next 2 4094 rfl (by decide) (x3 (ix2 0 l)) (fun s => x4 (ix2 s l) * x0 (ix2 s l)) r (Nat.mod_lt _ (by decide))))

set_option maxRecDepth 200000 in
/-- One point's third output: the same times the gate. -/
theorem pt7 (x0 x1 x2 x4 : Vec Ideal S4096x128 .f32) (x3 : Vec Ideal S3x128 .f32) (r : Fin 4096) (l : Fin 128) :
    out0_7 x0 x1 x2 x3 x4 (ix2 r l) = (x3 (ix2 2 l) * (x4 (ix2 r l) * x0 (ix2 r l))
      + x3 (ix2 1 l) * next 1 (fun s => x4 (ix2 s l) * x0 (ix2 s l)) r + x3 (ix2 0 l) * next 2 (fun s => x4 (ix2 s l) * x0 (ix2 s l)) r)
      * x1 (ix2 r l) := by
  unfold out0_7
  frame_out
  unfold_payloads
  pointwise
  simp only [sel_lt1, sel_lt2]
  exact congrArg (· * x1 (ix2 r l)) (congrArg₂ (· + ·) (congrArg (_ + ·)
    (mul_next 1 4095 rfl (by decide) (x3 (ix2 1 l)) (fun s => x4 (ix2 s l) * x0 (ix2 s l)) r (Nat.mod_lt _ (by decide))))
    (mul_next 2 4094 rfl (by decide) (x3 (ix2 0 l)) (fun s => x4 (ix2 s l) * x0 (ix2 s l)) r (Nat.mod_lt _ (by decide))))

set_option maxRecDepth 200000 in
theorem row0 (v0 : IVec S4096x128 32) (v6 v33 : FVec Ideal S4096x128 .f32) (l : Fin 128)
    (h0 : ∀ s : Fin 4096, v0 (ix2 s l) = BitVec.ofNat 32 s.val) :
    k0_pay13 v0 v6 v33 (ix2 0 l) = ∑ s, next 2 (fun s => v33 (ix2 s l)) s * v6 (ix2 s l) := by
  unfold k0_pay13 k0_pay11
  pointwise
  simp only [h0, sel_lt2]
  exact Finset.sum_congr rfl fun s _ =>
    next_mul 2 4094 rfl (by decide) (v6 (ix2 s l)) (fun s => v33 (ix2 s l)) s (Nat.mod_lt _ (by decide))

set_option maxRecDepth 200000 in
theorem row1 (v0 v34 : IVec S4096x128 32) (v6 v33 : FVec Ideal S4096x128 .f32) (r : Fin 8) (l : Fin 128)
    (h0 : ∀ s : Fin 4096, v0 (ix2 s l) = BitVec.ofNat 32 s.val) (h34 : ∀ s : Fin 4096, v34 (ix2 s l) = 4095#32) :
    k0_pay17 v0 v6 v33 v34 (ix2 r l) = ∑ s, next 1 (fun s => v33 (ix2 s l)) s * v6 (ix2 s l) := by
  unfold k0_pay17 k0_pay10
  pointwise
  simp only [h0, h34, sel_lt1]
  exact Finset.sum_congr rfl fun s _ =>
    next_mul 1 4095 rfl (by decide) (v6 (ix2 s l)) (fun s => v33 (ix2 s l)) s (Nat.mod_lt _ (by decide))

theorem row2 (v6 v33 : FVec Ideal S4096x128 .f32) (r : Fin 8) (l : Fin 128) :
    k0_pay16 v6 v33 (ix2 r l) = if r.val = 2 then ∑ s, v33 (ix2 s l) * v6 (ix2 s l) else 0 := by
  unfold k0_pay16
  pointwise
  exact sel_row r 2 _ _

theorem rows3 (v63 : FVec Ideal S1x128 .f32) (v74 v76 : FVec Ideal S8x128 .f32) (r : Fin 8) (l : Fin 128) :
    k0_pay1 v63 k0_pay14 k0_pay15 v74 v76 (ix2 r l)
      = if r.val = 0 then v63 (ix2 0 l) else if r.val = 1 then v76 (ix2 r l) else v74 (ix2 r l) := by
  unfold k0_pay1 k0_pay14 k0_pay15
  pointwise
  exact (sel_row r 0 _ _).trans (if_congr Iff.rfl rfl (sel_row r 1 _ _))

/-- One point's fourth output: the three sums in its first rows, zeros below. -/
theorem pt8 (x0 x1 x2 x4 : Vec Ideal S4096x128 .f32) (x3 : Vec Ideal S3x128 .f32) (r : Fin 8) (l : Fin 128) :
    out0_8 x0 x1 x2 x3 x4 (ix2 r l) =
      if r.val = 0 then ∑ s, next 2 (fun s => x4 (ix2 s l) * x0 (ix2 s l)) s * (x1 (ix2 s l) * x2 (ix2 s l))
      else if r.val = 1 then ∑ s, next 1 (fun s => x4 (ix2 s l) * x0 (ix2 s l)) s * (x1 (ix2 s l) * x2 (ix2 s l))
      else if r.val = 2 then ∑ s : Fin 4096, (x4 (ix2 s l) * x0 (ix2 s l)) * (x1 (ix2 s l) * x2 (ix2 s l)) else 0 := by
  have e18 : ∀ s : Fin 4096, k0_pay18 x0 x1 x2 x3 x4 (ix2 s l) = BitVec.ofNat 32 s.val := by
    intro s; unfold_payloads; pointwise
  have e19 : ∀ s : Fin 4096, k0_pay19 x0 x1 x2 x3 x4 (ix2 s l) = x1 (ix2 s l) * x2 (ix2 s l) := by
    intro s; unfold_payloads; pointwise
  have e20 : ∀ s : Fin 4096, k0_pay20 x0 x1 x2 x3 x4 (ix2 s l) = x4 (ix2 s l) * x0 (ix2 s l) := by
    intro s; unfold_payloads; pointwise
  have e21 : ∀ s : Fin 4096, k0_pay21 x0 x1 x2 x3 x4 (ix2 s l) = 4095#32 := by
    intro s; unfold_payloads; pointwise
  unfold out0_8
  frame_out
  rw [rows3, row0 _ _ _ l e18, row1 _ _ _ _ r l e18 e21, row2]
  simp only [e19, e20]

end Cert.SconvDxIdeal.Value
end
end
-- ==== Proof.SconvRef.lean ====
/- The reference of `sconv_bwd` read at an index, brought to the form of the kernel's outputs (SconvPoint.lean). -/
module

public import proofs.«01_k».proof.Proof.Gen.SconvDxIdeal.Value
public import proofs.«01_k».proof.Proof.Gen.SconvDxRefIdeal.Read
public import proofs.«01_k».proof.Proof.SconvPoint
public import Idealize.ShloMosaic.Lib.Pipeline.ValueKit
public import Idealize.ShloMosaic.Lib.Pointwise
public import Idealize.ShloMosaic.Lib.StableHlo.Run

@[expose] public section

set_option maxRecDepth 16384

noncomputable section

namespace Cert.SconvDxIdeal.Value

open Cert.SconvDxIdeal Cert.SconvDxIdeal.Gen Idealize.ShloMosaic Idealize.ShloMosaic.TcCoe Idealize.SL.Sem
open Idealize.ShloMosaic.Pipeline (Dat)
open Cert.SconvDxRefIdeal.Read

theorem ref_v17 (x1 x2 : FVec Ideal S4096x256 .f32) (r : Fin 4096) (l : Fin 256) : val_main_v17 (F := Ideal) x1 x2 (ix2 r l) = prev 1 (fun s => x1 (ix2 s l) * x2 (ix2 s l)) r := by
  pointwise [val_main_v17, val_main_v2, val_main_v1, val_main_v0, val_main_cst]
  unfold prev
  by_cases h : 1 ≤ r.val
  · rw [dif_neg (by omega), if_pos h]
    exact congrArg (fun s => x1 (ix2 s l) * x2 (ix2 s l)) (Fin.ext (by show 1 + r.val - 2 = r.val - 1; omega))
  · rw [dif_pos (by omega), if_neg h]

theorem ref_v10 (x1 x2 : FVec Ideal S4096x256 .f32) (r : Fin 4096) (l : Fin 256) : val_main_v10 (F := Ideal) x1 x2 (ix2 r l) = prev 2 (fun s => x1 (ix2 s l) * x2 (ix2 s l)) r := by
  pointwise [val_main_v10, val_main_v2, val_main_v1, val_main_v0, val_main_cst]
  unfold prev
  by_cases h : 2 ≤ r.val
  · rw [dif_neg (by omega), if_pos h]
  · rw [dif_pos (by omega), if_neg h]

theorem ref_v4 (x1 x2 : FVec Ideal S4096x256 .f32) (r : Fin 4096) (l : Fin 256) : val_main_v4 (F := Ideal) x1 x2 (ix2 r l) = x1 (ix2 r l) * x2 (ix2 r l) := by
  pointwise [val_main_v4, val_main_v2, val_main_v1, val_main_v0, val_main_cst]

theorem conv_comm (a b c w0 w1 w2 : EReal) : a * w2 + b * w0 + c * w1 = w2 * a + w1 * c + w0 * b := by
  rw [mul_comm a, mul_comm b, mul_comm c, add_right_comm]

theorem back_comm (a b c w0 w1 w2 : EReal) : a * w1 + b * w0 + c * w2 = w2 * c + w1 * a + w0 * b := by
  rw [mul_comm a, mul_comm b, mul_comm c, add_comm, ← add_assoc]

theorem up1 (f g : Fin 4096 → EReal) (a : EReal) (r : Fin 4096) :
    (if h : 1 ≤ 2 + r.val ∧ 2 + r.val - 1 < 4096 then f ⟨2 + r.val - 1, h.2⟩ * g ⟨2 + r.val - 1, h.2⟩ * a else 0)
      = next 1 (fun s => g s * f s) r * a := by
  unfold next
  by_cases h : r.val + 1 < 4096
  · rw [dif_pos ⟨by omega, by omega⟩, dif_pos h]
    have e : (⟨2 + r.val - 1, by omega⟩ : Fin 4096) = ⟨r.val + 1, h⟩ := Fin.ext (by show 2 + r.val - 1 = r.val + 1; omega)
    rw [e, mul_comm (f _)]
  · rw [dif_neg (by omega), dif_neg h, zero_mul]

theorem up2 (f g : Fin 4096 → EReal) (a : EReal) (r : Fin 4096) :
    (if h : 2 + r.val < 4096 then f ⟨2 + r.val, h⟩ * g ⟨2 + r.val, h⟩ * a else 0) = next 2 (fun s => g s * f s) r * a := by
  unfold next
  by_cases h : r.val + 2 < 4096
  · rw [dif_pos (by omega), dif_pos h]
    have e : (⟨2 + r.val, by omega⟩ : Fin 4096) = ⟨r.val + 2, h⟩ := Fin.ext (by show 2 + r.val = r.val + 2; omega)
    rw [e, mul_comm (f _)]
  · rw [dif_neg (by omega), dif_neg h, zero_mul]

/-- The reference's gradient of the outer gate. -/
theorem ref62 (x1 x2 x4 : FVec Ideal S4096x256 .f32) (x3 : FVec Ideal S3x256 .f32) (r : Fin 4096) (l : Fin 256) :
    val_main_v62 (F := Ideal) x1 x2 x3 x4 (ix2 r l) = x4 (ix2 r l) * (x3 (ix2 2 l) * (x1 (ix2 r l) * x2 (ix2 r l))
      + x3 (ix2 1 l) * prev 1 (fun s => x1 (ix2 s l) * x2 (ix2 s l)) r + x3 (ix2 0 l) * prev 2 (fun s => x1 (ix2 s l) * x2 (ix2 s l)) r) := by
  pointwise [val_main_v62, val_main_v26, val_main_v23, val_main_v22, val_main_v21, val_main_v20, val_main_v19, val_main_v18,
    val_main_v16, val_main_v15, val_main_v14, val_main_v13, val_main_v12, val_main_v11, val_main_v9, val_main_v8, val_main_v7,
    val_main_v6, val_main_v5]
  rw [ref_v4, ref_v10, ref_v17]
  exact congrArg (x4 (ix2 r l) * ·) (conv_comm _ _ _ _ _ _)

/-- The reference's gradient of the inner gate. -/
theorem ref63 (x0 x2 x4 : FVec Ideal S4096x256 .f32) (x3 : FVec Ideal S3x256 .f32) (r : Fin 4096) (l : Fin 256) :
    val_main_v63 (F := Ideal) x0 x2 x3 x4 (ix2 r l) = (x3 (ix2 2 l) * (x4 (ix2 r l) * x0 (ix2 r l))
      + x3 (ix2 1 l) * next 1 (fun s => x4 (ix2 s l) * x0 (ix2 s l)) r + x3 (ix2 0 l) * next 2 (fun s => x4 (ix2 s l) * x0 (ix2 s l)) r) * x2 (ix2 r l) := by
  pointwise [val_main_v63, val_main_v61, val_main_v59, val_main_v58, val_main_v57, val_main_v56, val_main_v51, val_main_v46, val_main_v45, val_main_v40,
    val_main_v35, val_main_v31, val_main_v30, val_main_v39, val_main_v50, val_main_v25, val_main_cst_4, val_main_cst_8, val_main_v20,
    val_main_v19, val_main_v18, val_main_v13, val_main_v12, val_main_v11, val_main_v7, val_main_v6, val_main_v5]
  refine congrArg (· * x2 (ix2 r l)) (Eq.trans ?_ (back_comm (next 1 (fun s => x4 (ix2 s l) * x0 (ix2 s l)) r) (next 2 (fun s => x4 (ix2 s l) * x0 (ix2 s l)) r)
    (x4 (ix2 r l) * x0 (ix2 r l)) (x3 (ix2 0 l)) (x3 (ix2 1 l)) (x3 (ix2 2 l))))
  exact congrArg₂ (· + ·) (congrArg₂ (· + ·) (up1 (fun s => x0 (ix2 s l)) (fun s => x4 (ix2 s l)) _ r)
    (up2 (fun s => x0 (ix2 s l)) (fun s => x4 (ix2 s l)) _ r)) (congrArg (· * x3 (ix2 2 l)) (mul_comm (x0 (ix2 r l) : EReal) (x4 (ix2 r l))))

/-- The reference's gradient of the branch. -/
theorem ref64 (x0 x1 x4 : FVec Ideal S4096x256 .f32) (x3 : FVec Ideal S3x256 .f32) (r : Fin 4096) (l : Fin 256) :
    val_main_v64 (F := Ideal) x0 x1 x3 x4 (ix2 r l) = (x3 (ix2 2 l) * (x4 (ix2 r l) * x0 (ix2 r l))
      + x3 (ix2 1 l) * next 1 (fun s => x4 (ix2 s l) * x0 (ix2 s l)) r + x3 (ix2 0 l) * next 2 (fun s => x4 (ix2 s l) * x0 (ix2 s l)) r) * x1 (ix2 r l) := by
  pointwise [val_main_v64, val_main_v60, val_main_v59, val_main_v58, val_main_v57, val_main_v56, val_main_v51, val_main_v46, val_main_v45, val_main_v40,
    val_main_v35, val_main_v31, val_main_v30, val_main_v39, val_main_v50, val_main_v25, val_main_cst_4, val_main_cst_8, val_main_v20,
    val_main_v19, val_main_v18, val_main_v13, val_main_v12, val_main_v11, val_main_v7, val_main_v6, val_main_v5]
  refine (mul_comm (x1 (ix2 r l) : EReal) _).trans ?_
  refine congrArg (· * x1 (ix2 r l)) (Eq.trans ?_ (back_comm (next 1 (fun s => x4 (ix2 s l) * x0 (ix2 s l)) r) (next 2 (fun s => x4 (ix2 s l) * x0 (ix2 s l)) r)
    (x4 (ix2 r l) * x0 (ix2 r l)) (x3 (ix2 0 l)) (x3 (ix2 1 l)) (x3 (ix2 2 l))))
  exact congrArg₂ (· + ·) (congrArg₂ (· + ·) (up1 (fun s => x0 (ix2 s l)) (fun s => x4 (ix2 s l)) _ r)
    (up2 (fun s => x0 (ix2 s l)) (fun s => x4 (ix2 s l)) _ r)) (congrArg (· * x3 (ix2 2 l)) (mul_comm (x0 (ix2 r l) : EReal) (x4 (ix2 r l))))

theorem sum_back (k : Nat) (hk : k < 4096) (f g X : Fin 4096 → EReal) :
    ∑ s, prev k X s * (f s * g s) = ∑ s, next k (fun s => g s * f s) s * X s :=
  (Finset.sum_congr rfl fun s _ => congrArg (prev k X s * ·) (mul_comm (f s) (g s))).trans (sum_shift k hk (fun s => g s * f s) X).symm

/-- The reference's gradient of the weight, with zeros below its three rows. -/
theorem ref65 (x0 x1 x2 x4 : FVec Ideal S4096x256 .f32) (r : Fin 8) (l : Fin 256) :
    val_main_v65 (F := Ideal) x0 x1 x2 x4 (ix2 r l) =
      if r.val = 0 then ∑ s, next 2 (fun s => x4 (ix2 s l) * x0 (ix2 s l)) s * (x1 (ix2 s l) * x2 (ix2 s l))
      else if r.val = 1 then ∑ s, next 1 (fun s => x4 (ix2 s l) * x0 (ix2 s l)) s * (x1 (ix2 s l) * x2 (ix2 s l))
      else if r.val = 2 then ∑ s : Fin 4096, (x4 (ix2 s l) * x0 (ix2 s l)) * (x1 (ix2 s l) * x2 (ix2 s l)) else 0 := by
  pointwise [val_main_v65, val_main_v55, val_main_v54, val_main_v53, val_main_v52, val_main_v49, val_main_v48, val_main_v47,
    val_main_v44, val_main_v43, val_main_v42, val_main_v41, val_main_v38, val_main_v37, val_main_v36, val_main_v34, val_main_v33,
    val_main_v32, val_main_v29, val_main_v28, val_main_v27, val_main_v25, val_main_cst_1, val_main_cst_2, val_main_cst_3,
    val_main_cst_5, val_main_cst_6, val_main_cst_7, val_main_cst_9, val_main_cst_10, val_main_cst_11, val_main_call0_v0, val_main_c]
  simp only [ref_v4, ref_v10, ref_v17, Fin.sum_univ_one]
  rcases (by omega : r.val = 0 ∨ r.val = 1 ∨ r.val = 2 ∨ 3 ≤ r.val) with h | h | h | h
  · rw [dif_pos (by omega), dif_neg (by omega), dif_pos (by omega), dif_neg (by omega), if_pos h, zero_add, add_zero]
    exact sum_back 2 (by decide) (fun s => x0 (ix2 s l)) (fun s => x4 (ix2 s l)) (fun s => x1 (ix2 s l) * x2 (ix2 s l))
  · rw [dif_pos (by omega), dif_pos (by omega), dif_neg (by omega), dif_neg (by omega), if_neg (by omega), if_pos h, add_zero, add_zero]
    exact sum_back 1 (by decide) (fun s => x0 (ix2 s l)) (fun s => x4 (ix2 s l)) (fun s => x1 (ix2 s l) * x2 (ix2 s l))
  · rw [dif_pos (by omega), dif_neg (by omega), dif_neg (by omega), dif_pos (by omega), if_neg (by omega), if_neg (by omega), if_pos h,
      zero_add, zero_add]
    exact Finset.sum_congr rfl fun s _ => (mul_comm (x1 (ix2 s l) * x2 (ix2 s l) : EReal) (x0 (ix2 s l) * x4 (ix2 s l))).trans
      (congrArg (· * (x1 (ix2 s l) * x2 (ix2 s l))) (mul_comm (x0 (ix2 s l) : EReal) (x4 (ix2 s l))))
  · rw [dif_neg (by omega), if_neg (by omega), if_neg (by omega), if_neg (by omega)]
    show ((((0#32 : BitVec 32).toInt : ℤ) : ℝ) : EReal) = 0
    simp

end Cert.SconvDxIdeal.Value

end

end
-- ==== Proof.SconvDxValue.lean ====
/- The kernel `sconv_bwd` leaves the gradients of the gated short convolution: each point's blocks are columns of the arguments
   (the gates and the branch lie among zeros in the projection's rows), and each output is the reference's at those columns. -/
module

public import proofs.«01_k».proof.Proof.Gen.SconvDxIdeal.Value
public import proofs.«01_k».proof.Proof.Gen.SconvDxRefIdeal.Read
public import proofs.«01_k».proof.Proof.SconvPoint
public import proofs.«01_k».proof.Proof.SconvRef
public import Idealize.ShloMosaic.Lib.StableHlo.ReadAt
public import Idealize.ShloMosaic.Lib.Pipeline.ValueKit
public import Idealize.ShloMosaic.Lib.Pointwise
public import Idealize.ShloMosaic.Lib.StableHlo.Run

@[expose] public section

set_option maxRecDepth 16384

noncomputable section

namespace Cert.SconvDxIdeal.Value

open Cert.SconvDxIdeal Cert.SconvDxIdeal.Gen Idealize.ShloMosaic Idealize.ShloMosaic.TcCoe Idealize.SL.Sem
open Idealize.ShloMosaic.Pipeline (Dat)
open Cert.SconvDxRefIdeal.Read

variable (m : (ℓ : Loc nD τ sig) → Buf (Elt Ideal) ℓ)

/-- The blocks of a point: the three windows of the projection's rows start at columns 4608, 4864 and 5120. -/
theorem index_eq : ∀ t : Fin cfg0.N, win0_0.index t = ![0, 36 + t.val] ∧ win0_1.index t = ![0, 38 + t.val]
    ∧ win0_2.index t = ![0, 40 + t.val] ∧ win0_3.index t = ![0, t.val] ∧ win0_4.index t = ![0, t.val]
    ∧ win0_5.index t = ![0, t.val] ∧ win0_6.index t = ![0, t.val] ∧ win0_7.index t = ![0, t.val]
    ∧ win0_8.index t = ![0, t.val] :=
  (by decide +kernel : ∀ t : Fin grid0.N, _)

/-- The projection's rows: the gates and the branch among zeros. -/
def hostH (a b h : FVec Ideal S4096x256 .f32) : FVec Ideal S4096x6144 .f32 :=
  concatenate S4096x6144 1 [⟨S4096x4608, (broadcastInDim S4096x4608 ![] bcast_S_S4096x4608 (constant (F := Ideal) S_ .f32 0x00000000#32) : FVec Ideal S4096x4608 .f32)⟩,
    ⟨S4096x256, a⟩, ⟨S4096x256, b⟩, ⟨S4096x256, h⟩,
    ⟨S4096x768, (broadcastInDim S4096x768 ![] bcast_S_S4096x768 (constant (F := Ideal) S_ .f32 0x00000000#32) : FVec Ideal S4096x768 .f32)⟩]
    concatenates_S4096x4608_S4096x256_S4096x256_S4096x256_S4096x768_S4096x6144_d1

theorem hostH_a (a b h : FVec Ideal S4096x256 .f32) (r : Fin 4096) (n : Fin 6144) (l : Fin 256) (e : n.val = 4608 + l.val) :
    hostH a b h (ix2 r n) = a (ix2 r l) := by
  pointwise [hostH]
  rw [dif_neg (by omega), dif_pos (by omega)]
  exact congrArg a (congrArg (ix2 r) (Fin.ext (by show n.val - 4608 = l.val; omega)))

theorem hostH_b (a b h : FVec Ideal S4096x256 .f32) (r : Fin 4096) (n : Fin 6144) (l : Fin 256) (e : n.val = 4864 + l.val) :
    hostH a b h (ix2 r n) = b (ix2 r l) := by
  pointwise [hostH]
  rw [dif_neg (by omega), dif_neg (by omega), dif_pos (by omega)]
  exact congrArg b (congrArg (ix2 r) (Fin.ext (by show n.val - 4608 - 256 = l.val; omega)))

theorem hostH_h (a b h : FVec Ideal S4096x256 .f32) (r : Fin 4096) (n : Fin 6144) (l : Fin 256) (e : n.val = 5120 + l.val) :
    hostH a b h (ix2 r n) = h (ix2 r l) := by
  pointwise [hostH]
  rw [dif_neg (by omega), dif_neg (by omega), dif_neg (by omega), dif_pos (by omega)]
  exact congrArg h (congrArg (ix2 r) (Fin.ext (by show n.val - 4608 - 256 - 256 = l.val; omega)))

theorem V_h (c : Dev nD) : V m c main_v2 = hostH (m ((c : Thread nD τ).loc main_arg0)) (m ((c : Thread nD τ).loc main_arg1)) (m ((c : Thread nD τ).loc main_arg2)) := by
  unfold V hostOps0
  after_reads_simp
  rfl

/-- Column `l` of point `t`'s 128 among the 256. -/
def col (t : Fin cfg0.N) (l : Fin 128) : Fin 256 := ⟨t.val * 128 + l.val, by have : t.val < 2 := t.isLt; omega⟩

theorem at0 (c : Dev nD) (t : Fin cfg0.N) (s : Fin 4096) (l : Fin 128) :
    iblk m c 0 t (ix2 s l) = V m c main_v2 (ix2 s ⟨(36 + t.val) * 128 + l.val, by have : t.val < 2 := t.isLt; omega⟩) := by
  obtain ⟨e0, e1, e2, -⟩ := index_eq t
  blk_point [iblk, e0]

theorem blk0 (c : Dev nD) (t : Fin cfg0.N) (s : Fin 4096) (l : Fin 128) :
    iblk m c 0 t (ix2 s l) = (m ((c : Thread nD τ).loc main_arg0) : FVec Ideal S4096x256 .f32) (ix2 s (col t l)) := by
  rw [at0, V_h]
  exact hostH_a _ _ _ s _ (col t l) (by show (36 + t.val) * 128 + l.val = _ + (t.val * 128 + l.val); omega)

theorem at1 (c : Dev nD) (t : Fin cfg0.N) (s : Fin 4096) (l : Fin 128) :
    iblk m c 1 t (ix2 s l) = V m c main_v2 (ix2 s ⟨(38 + t.val) * 128 + l.val, by have : t.val < 2 := t.isLt; omega⟩) := by
  obtain ⟨e0, e1, e2, -⟩ := index_eq t
  blk_point [iblk, e1]

theorem blk1 (c : Dev nD) (t : Fin cfg0.N) (s : Fin 4096) (l : Fin 128) :
    iblk m c 1 t (ix2 s l) = (m ((c : Thread nD τ).loc main_arg1) : FVec Ideal S4096x256 .f32) (ix2 s (col t l)) := by
  rw [at1, V_h]
  exact hostH_b _ _ _ s _ (col t l) (by show (38 + t.val) * 128 + l.val = _ + (t.val * 128 + l.val); omega)

theorem at2 (c : Dev nD) (t : Fin cfg0.N) (s : Fin 4096) (l : Fin 128) :
    iblk m c 2 t (ix2 s l) = V m c main_v2 (ix2 s ⟨(40 + t.val) * 128 + l.val, by have : t.val < 2 := t.isLt; omega⟩) := by
  obtain ⟨e0, e1, e2, -⟩ := index_eq t
  blk_point [iblk, e2]

theorem blk2 (c : Dev nD) (t : Fin cfg0.N) (s : Fin 4096) (l : Fin 128) :
    iblk m c 2 t (ix2 s l) = (m ((c : Thread nD τ).loc main_arg2) : FVec Ideal S4096x256 .f32) (ix2 s (col t l)) := by
  rw [at2, V_h]
  exact hostH_h _ _ _ s _ (col t l) (by show (40 + t.val) * 128 + l.val = _ + (t.val * 128 + l.val); omega)

theorem blk3 (c : Dev nD) (t : Fin cfg0.N) (s : Fin 3) (l : Fin 128) :
    iblk m c 3 t (ix2 s l) = (m ((c : Thread nD τ).loc main_arg3) : FVec Ideal S3x256 .f32) (ix2 s (col t l)) := by
  obtain ⟨e0, e1, e2, e3, e4, -⟩ := index_eq t
  blk_point [iblk, V, e3, col]

theorem blk4 (c : Dev nD) (t : Fin cfg0.N) (s : Fin 4096) (l : Fin 128) :
    iblk m c 4 t (ix2 s l) = (m ((c : Thread nD τ).loc main_arg4) : FVec Ideal S4096x256 .f32) (ix2 s (col t l)) := by
  obtain ⟨e0, e1, e2, e3, e4, -⟩ := index_eq t
  blk_point [iblk, V, e4, col]

/-- The gradient of the outer gate, as the reference spells it. -/
theorem final_db (c : Dev nD) : (dats m 0 c).arrAt 5 cfg0.N
    = val_main_v62 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨e0, e1, e2, e3, e4, e5, e6, e7, e8⟩ := index_eq t
  blk_simp
  rw [after0_5]
  idx_vars y
  rw [pt5]
  simp only [blk0, blk1, blk2, blk3, blk4]
  refine (ref62 _ _ _ _ y0 (col t y1)).symm.trans ?_
  blk_point [e5, col]

/-- The gradient of the inner gate, as the reference spells it. -/
theorem final_dc (c : Dev nD) : (dats m 0 c).arrAt 6 cfg0.N
    = val_main_v63 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨e0, e1, e2, e3, e4, e5, e6, e7, e8⟩ := index_eq t
  blk_simp
  rw [after0_6]
  idx_vars y
  rw [pt6]
  simp only [blk0, blk1, blk2, blk3, blk4]
  refine (ref63 _ _ _ _ y0 (col t y1)).symm.trans ?_
  blk_point [e6, col]

/-- The gradient of the branch, as the reference spells it. -/
theorem final_dh (c : Dev nD) : (dats m 0 c).arrAt 7 cfg0.N
    = val_main_v64 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 7 _ (by decide +kernel) fun t hf y => ?_
  obtain ⟨e0, e1, e2, e3, e4, e5, e6, e7, e8⟩ := index_eq t
  blk_simp
  rw [after0_7]
  idx_vars y
  rw [pt7]
  simp only [blk0, blk1, blk2, blk3, blk4]
  refine (ref64 _ _ _ _ y0 (col t y1)).symm.trans ?_
  blk_point [e7, col]

/-- The gradient of the convolution's weight, as the reference spells it. -/
theorem final_dw (c : Dev nD) : (dats m 0 c).arrAt 8 cfg0.N
    = val_main_v65 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t hf y => ?_
  obtain ⟨e0, e1, e2, e3, e4, e5, e6, e7, e8⟩ := index_eq t
  blk_simp
  rw [after0_8]
  idx_vars y
  rw [pt8]
  simp only [blk0, blk1, blk2, blk3, blk4]
  refine (ref65 _ _ _ _ y0 (col t y1)).symm.trans ?_
  blk_point [e8, col]

end Cert.SconvDxIdeal.Value

end

end
-- ==== Proof.PostDxValue.lean ====
/- What the kernel `postnorm_bwd` leaves in its two result arrays, over the extended reals: the reference's gradients through the
   normalisation and of its scale. Eight blocks of 512 rows; the scale's gradient is one row that every block adds to. -/
module

public import proofs.«01_k».proof.Proof.Gen.PostDxIdeal.Value
public import proofs.«01_k».proof.Proof.Gen.PostDxRefIdeal.Read
public import Idealize.ShloMosaic.Lib.Pipeline.ValueKit
public import Idealize.ShloMosaic.Lib.Pointwise
public import Idealize.ShloMosaic.Lib.StableHlo.Run
public import Idealize.ShloMosaic.Lib.StableHlo.ReadAt

@[expose] public section

set_option maxRecDepth 16384

noncomputable section

namespace Cert.PostDxIdeal.Value

open Cert.PostDxIdeal Cert.PostDxIdeal.Gen Idealize.ShloMosaic Idealize.ShloMosaic.TcCoe Idealize.SL.Sem
open Idealize.ShloMosaic.Pipeline (Dat)
open Cert.PostDxRefIdeal.Read

variable (m : (ℓ : Loc nD τ sig) → Buf (Elt Ideal) ℓ)

/-- Which block each window stands at: the row windows at the point's block of rows, the others at their whole array. -/
theorem index_eq : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The first result after the run is the reference's gradient through the normalisation, row block by row block. -/
theorem final_do (c : Dev nD) : (dats m 0 c).arrAt 3 cfg0.N
    = val_main_v36 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  obtain ⟨e0, e1, e2, e3⟩ := index_eq t
  blk_simp
  rw [after0_3]
  have hout : (outsAt0 m c t.val t.isLt).1 = k0_pay6 (iblk m c 0 t) (iblk m c 1 t) (iblk m c 2 t) := by
    by_cases h : t.val % 8 = 0
    · rw [outsAt0_A m c t h]; funext i; frame_out
    · rw [outsAt0_B m c t h]; funext i; frame_out
  rw [hout]
  idx_vars y
  unfold_payloads
  pointwise [
      val_main_v0, val_main_cst, val_main_v1, val_main_v2, val_main_cst_0, val_main_v3, val_main_v4,
      val_main_cst_1, val_main_v5, val_main_v6, val_main_v7, val_main_v8, val_main_cst_2, val_main_v9,
      val_main_v10, val_main_v11, val_main_v12, val_main_v13, val_main_v14, val_main_v15, val_main_v16,
      val_main_cst_3, val_main_v17, val_main_v18, val_main_v19, val_main_v20, val_main_cst_4, val_main_v21,
      val_main_v22, val_main_cst_5, val_main_v23, val_main_v24, val_main_v25, val_main_v26, val_main_v27,
      val_main_cst_6, val_main_v28, val_main_v29, val_main_cst_7, val_main_v30, val_main_v31, val_main_v32,
      val_main_v33, val_main_v34, val_main_v35, val_main_v36, val_main_v37]
  blk_point [iblk, V, e0, e1, e2, e3]

/-- One block's addend to column `j` of the scale's gradient: over its rows, the normalised row times the incoming gradient. -/
def dgTerm (o : S512x1024.Idx → EReal) (dx : S512x1024.Idx → EReal) (j : Fin 1024) : EReal :=
  ∑ r : Fin 512, o (ix2 r j) *
    Ideal.rsqrt (Ideal.div (∑ k : Fin 1024, o (ix2 r k) * o (ix2 r k))
      (Ideal.ofBits FTy.f32 1149239296#32) + Ideal.ofBits FTy.f32 897988541#32) * dx (ix2 r j)

/-- The second result after the run is the reference's gradient of the scale: the eight blocks' addends, summed from zero, are
    the sum over all the rows. -/
theorem final_dg (c : Dev nD) : (dats m 0 c).arrAt 4 cfg0.N
    = val_main_v37 (F := Ideal) (m ((c : Thread nD τ).loc main_arg0)) (m ((c : Thread nD τ).loc main_arg2)) := by
  refine (dats m 0 c).arrAt_eq_of_after_last 4 t0_7 (by decide +kernel) _ fun j => ?_
  blk_simp
  rw [after0_4]
  refine (Pipeline.eq_sum_fin_of_reset_step_apply_last (fun n h => (outsAt0 m c n h).2) 8 (fun _ => 0)
    (fun t i => dgTerm (iblk m c 0 t) (iblk m c 2 t) (i 1))
    (fun t h j => ?_) (fun t h j => ?_) (by decide) t0_7 rfl _).trans ?_
  · rw [outsAt0_A m c t h]
    frame_out
    idx_vars j
    unfold_payloads
    pointwise [dgTerm]
  · rw [outsAt0_B m c t h]
    frame_out
    idx_vars j
    unfold_payloads
    pointwise [dgTerm]
  · idx_vars j
    pointwise [
      val_main_v0, val_main_cst, val_main_v1, val_main_v2, val_main_cst_0, val_main_v3, val_main_v4,
      val_main_cst_1, val_main_v5, val_main_v6, val_main_v7, val_main_v8, val_main_cst_2, val_main_v9,
      val_main_v10, val_main_v11, val_main_v12, val_main_v13, val_main_v14, val_main_v15, val_main_v16,
      val_main_cst_3, val_main_v17, val_main_v18, val_main_v19, val_main_v20, val_main_cst_4, val_main_v21,
      val_main_v22, val_main_cst_5, val_main_v23, val_main_v24, val_main_v25, val_main_v26, val_main_v27,
      val_main_cst_6, val_main_v28, val_main_v29, val_main_cst_7, val_main_v30, val_main_v31, val_main_v32,
      val_main_v33, val_main_v34, val_main_v35, val_main_v36, val_main_v37, dgTerm]
    simp only [Finset.univ_unique, Finset.sum_const, Finset.card_singleton, one_smul]
    refine Fin.sum_mul_add_congr fun t k hl => ?_
    obtain ⟨e0, e1, e2, e3⟩ := index_eq t
    blk_point [iblk, V, e0, e1, e2, e3]

end Cert.PostDxIdeal.Value

end

end
-- ==== Proof.DownFwValue.lean ====
/- The forward call `ffn_down` leaves, over the extended reals, the reference's product, residual sum and normalised rows. -/
module

public import proofs.«01_k».proof.Proof.Gen.DownFwIdeal.Value
public import proofs.«01_k».proof.Proof.Gen.DownFwRefIdeal.Read
public import Idealize.ShloMosaic.Lib.Pipeline.ValueKit
public import Idealize.ShloMosaic.Lib.Pointwise
public import Idealize.ShloMosaic.Lib.StableHlo.Run
public import Idealize.ShloMosaic.Lib.StableHlo.ReadAt

@[expose] public section

set_option maxRecDepth 16384

noncomputable section

namespace Cert.DownFwIdeal.Value

open Cert.DownFwIdeal Cert.DownFwIdeal.Gen Idealize.ShloMosaic Idealize.ShloMosaic.TcCoe Idealize.SL.Sem
open Idealize.ShloMosaic.Pipeline (Dat)
open Cert.DownFwRefIdeal.Read

variable (m : (ℓ : Loc nD τ sig) → Buf (Elt Ideal) ℓ)

theorem index_eq : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![t.val, 0] :=
  (by decide +kernel : ∀ t : Fin grid0.N, _)

/-- The product. -/
theorem final_o (c : Dev nD) : (dats m 0 c).arrAt 5 cfg0.N
    = val_main_v0 (F := Ideal) (m ((c : Thread nD τ).loc main_arg0)) (m ((c : Thread nD τ).loc main_arg1)) := by
  refine (dats m 0 c).arrAt_eq_of_covers 5 _ (by decide +kernel) fun t hf y => ?_
  obtain ⟨e0, e1, e2, e3, e4, e5, e6, e7⟩ := index_eq t
  blk_simp
  rw [after0_5]
  idx_vars y
  unfold out0_5
  frame_out
  unfold_payloads
  pointwise [
      val_main_v0, val_main_v1, val_main_cst, val_main_v2, val_main_v3, val_main_cst_0, val_main_v4, val_main_v5,
      val_main_cst_1, val_main_v6, val_main_v7, val_main_v8, val_main_v9, val_main_v10, val_main_v11, val_main_v12,
      val_main_v13, val_main_v14, val_main_v15, val_main_cst_2, val_main_v16, val_main_v17, val_main_cst_3,
      val_main_v18, val_main_v19, val_main_cst_4, val_main_v20, val_main_v21, val_main_v22, val_main_v23,
      val_main_v24, val_main_v25, val_main_v26, val_main_v27, val_main_v28]
  blk_point [iblk, V, e0, e1, e2, e3, e4, e5, e6, e7]

/-- The residual sum. -/
theorem final_x (c : Dev nD) : (dats m 0 c).arrAt 6 cfg0.N
    = val_main_v14 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  obtain ⟨e0, e1, e2, e3, e4, e5, e6, e7⟩ := index_eq t
  blk_simp
  rw [after0_6]
  idx_vars y
  unfold out0_6
  frame_out
  unfold_payloads
  pointwise [
      val_main_v0, val_main_v1, val_main_cst, val_main_v2, val_main_v3, val_main_cst_0, val_main_v4, val_main_v5,
      val_main_cst_1, val_main_v6, val_main_v7, val_main_v8, val_main_v9, val_main_v10, val_main_v11, val_main_v12,
      val_main_v13, val_main_v14, val_main_v15, val_main_cst_2, val_main_v16, val_main_v17, val_main_cst_3,
      val_main_v18, val_main_v19, val_main_cst_4, val_main_v20, val_main_v21, val_main_v22, val_main_v23,
      val_main_v24, val_main_v25, val_main_v26, val_main_v27, val_main_v28]
  blk_point [iblk, V, e0, e1, e2, e3, e4, e5, e6, e7]

/-- The normalised rows. -/
theorem final_xn (c : Dev nD) : (dats m 0 c).arrAt 7 cfg0.N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  obtain ⟨e0, e1, e2, e3, e4, e5, e6, e7⟩ := index_eq t
  blk_simp
  rw [after0_7]
  idx_vars y
  unfold out0_7
  frame_out
  unfold_payloads
  pointwise [
      val_main_v0, val_main_v1, val_main_cst, val_main_v2, val_main_v3, val_main_cst_0, val_main_v4, val_main_v5,
      val_main_cst_1, val_main_v6, val_main_v7, val_main_v8, val_main_v9, val_main_v10, val_main_v11, val_main_v12,
      val_main_v13, val_main_v14, val_main_v15, val_main_cst_2, val_main_v16, val_main_v17, val_main_cst_3,
      val_main_v18, val_main_v19, val_main_cst_4, val_main_v20, val_main_v21, val_main_v22, val_main_v23,
      val_main_v24, val_main_v25, val_main_v26, val_main_v27, val_main_v28]
  blk_point [iblk, V, e0, e1, e2, e3, e4, e5, e6, e7]

end Cert.DownFwIdeal.Value

end

end
-- ==== Proof.SconvFwValue.lean ====
/- The forward call `sconv_fwd` leaves, over the extended reals, the reference's gated short convolution. -/
module

public import proofs.«01_k».proof.Proof.Gen.SconvFwIdeal.Value
public import proofs.«01_k».proof.Proof.Gen.SconvFwRefIdeal.Read
public import proofs.«01_k».proof.Proof.SconvPoint
public import proofs.«01_k».proof.Proof.SconvRef
public import Idealize.ShloMosaic.Lib.Pipeline.ValueKit
public import Idealize.ShloMosaic.Lib.Pointwise
public import Idealize.ShloMosaic.Lib.StableHlo.Run
public import Idealize.ShloMosaic.Lib.StableHlo.ReadAt

@[expose] public section

set_option maxRecDepth 16384

noncomputable section

namespace Cert.SconvFwIdeal.Value

open Cert.SconvFwIdeal Cert.SconvFwIdeal.Gen Idealize.ShloMosaic Idealize.ShloMosaic.TcCoe Idealize.SL.Sem
open Idealize.ShloMosaic.Pipeline (Dat)
open Cert.SconvFwRefIdeal.Read

variable (m : (ℓ : Loc nD τ sig) → Buf (Elt Ideal) ℓ)

open Cert.SconvDxIdeal.Value (prev sel_ge1 sel_ge2 mul_prev conv_comm)

/-- One point's output: the gate times the convolution of the product of the inner gate and the branch. -/
theorem pt (x0 x1 x2 : Vec Ideal S4096x128 .f32) (x3 : Vec Ideal S3x128 .f32) (r : Fin 4096) (l : Fin 128) :
    out0_4 x0 x1 x2 x3 (ix2 r l) = x0 (ix2 r l) * (x3 (ix2 2 l) * (x1 (ix2 r l) * x2 (ix2 r l))
      + x3 (ix2 1 l) * prev 1 (fun s => x1 (ix2 s l) * x2 (ix2 s l)) r + x3 (ix2 0 l) * prev 2 (fun s => x1 (ix2 s l) * x2 (ix2 s l)) r) := by
  unfold out0_4
  frame_out
  unfold_payloads
  pointwise
  simp only [sel_ge1, sel_ge2]
  exact congrArg (x0 (ix2 r l) * ·) (congrArg₂ (· + ·) (congrArg (_ + ·)
    (mul_prev 1 (by decide) (x3 (ix2 1 l)) (fun s => x1 (ix2 s l) * x2 (ix2 s l)) r (Nat.mod_lt _ (by decide))))
    (mul_prev 2 (by decide) (x3 (ix2 0 l)) (fun s => x1 (ix2 s l) * x2 (ix2 s l)) r (Nat.mod_lt _ (by decide))))

theorem ref_v16 (x1 x2 : FVec Ideal S4096x256 .f32) (r : Fin 4096) (l : Fin 256) : val_main_v16 (F := Ideal) x1 x2 (ix2 r l) = prev 1 (fun s => x1 (ix2 s l) * x2 (ix2 s l)) r := by
  pointwise [val_main_v16, val_main_v2, val_main_v1, val_main_v0, val_main_cst]
  unfold prev
  by_cases h : 1 ≤ r.val
  · rw [dif_neg (by omega), if_pos h]
    exact congrArg (fun s => x1 (ix2 s l) * x2 (ix2 s l)) (Fin.ext (by show 1 + r.val - 2 = r.val - 1; omega))
  · rw [dif_pos (by omega), if_neg h]

theorem ref_v9 (x1 x2 : FVec Ideal S4096x256 .f32) (r : Fin 4096) (l : Fin 256) : val_main_v9 (F := Ideal) x1 x2 (ix2 r l) = prev 2 (fun s => x1 (ix2 s l) * x2 (ix2 s l)) r := by
  pointwise [val_main_v9, val_main_v2, val_main_v1, val_main_v0, val_main_cst]
  unfold prev
  by_cases h : 2 ≤ r.val
  · rw [dif_neg (by omega), if_pos h]
  · rw [dif_pos (by omega), if_neg h]

theorem ref_v3 (x1 x2 : FVec Ideal S4096x256 .f32) (r : Fin 4096) (l : Fin 256) : val_main_v3 (F := Ideal) x1 x2 (ix2 r l) = x1 (ix2 r l) * x2 (ix2 r l) := by
  pointwise [val_main_v3, val_main_v2, val_main_v1, val_main_v0, val_main_cst]

/-- The reference's result. -/
theorem ref (x0 x1 x2 : FVec Ideal S4096x256 .f32) (x3 : FVec Ideal S3x256 .f32) (r : Fin 4096) (l : Fin 256) :
    val_main_v24 (F := Ideal) x0 x1 x2 x3 (ix2 r l) = x0 (ix2 r l) * (x3 (ix2 2 l) * (x1 (ix2 r l) * x2 (ix2 r l))
      + x3 (ix2 1 l) * prev 1 (fun s => x1 (ix2 s l) * x2 (ix2 s l)) r + x3 (ix2 0 l) * prev 2 (fun s => x1 (ix2 s l) * x2 (ix2 s l)) r) := by
  pointwise [
      val_main_v4, val_main_v5, val_main_v6, val_main_v7, val_main_v8, val_main_v10, val_main_v11, val_main_v12,
      val_main_v13, val_main_v14, val_main_v15, val_main_v17, val_main_v18, val_main_v19, val_main_v20,
      val_main_v21, val_main_v22, val_main_v23, val_main_v24]
  rw [ref_v3, ref_v9, ref_v16]
  exact congrArg (x0 (ix2 r l) * ·) (conv_comm _ _ _ _ _ _)

theorem index_eq : ∀ t : Fin cfg0.N, win0_0.index t = ![0, 36 + t.val] ∧ win0_1.index t = ![0, 38 + t.val]
    ∧ win0_2.index t = ![0, 40 + t.val] ∧ win0_3.index t = ![0, t.val] ∧ win0_4.index t = ![0, t.val] :=
  (by decide +kernel : ∀ t : Fin grid0.N, _)

/-- The projection's rows: the gates and the branch among zeros. -/
def hostH (a b h : FVec Ideal S4096x256 .f32) : FVec Ideal S4096x6144 .f32 :=
  concatenate S4096x6144 1 [⟨S4096x4608, (broadcastInDim S4096x4608 ![] bcast_S_S4096x4608 (constant (F := Ideal) S_ .f32 0x00000000#32) : FVec Ideal S4096x4608 .f32)⟩,
    ⟨S4096x256, a⟩, ⟨S4096x256, b⟩, ⟨S4096x256, h⟩,
    ⟨S4096x768, (broadcastInDim S4096x768 ![] bcast_S_S4096x768 (constant (F := Ideal) S_ .f32 0x00000000#32) : FVec Ideal S4096x768 .f32)⟩]
    concatenates_S4096x4608_S4096x256_S4096x256_S4096x256_S4096x768_S4096x6144_d1

theorem hostH_a (a b h : FVec Ideal S4096x256 .f32) (r : Fin 4096) (n : Fin 6144) (l : Fin 256) (e : n.val = 4608 + l.val) :
    hostH a b h (ix2 r n) = a (ix2 r l) := by
  pointwise [hostH]
  rw [dif_neg (by omega), dif_pos (by omega)]
  exact congrArg a (congrArg (ix2 r) (Fin.ext (by show n.val - 4608 = l.val; omega)))

theorem hostH_b (a b h : FVec Ideal S4096x256 .f32) (r : Fin 4096) (n : Fin 6144) (l : Fin 256) (e : n.val = 4864 + l.val) :
    hostH a b h (ix2 r n) = b (ix2 r l) := by
  pointwise [hostH]
  rw [dif_neg (by omega), dif_neg (by omega), dif_pos (by omega)]
  exact congrArg b (congrArg (ix2 r) (Fin.ext (by show n.val - 4608 - 256 = l.val; omega)))

theorem hostH_h (a b h : FVec Ideal S4096x256 .f32) (r : Fin 4096) (n : Fin 6144) (l : Fin 256) (e : n.val = 5120 + l.val) :
    hostH a b h (ix2 r n) = h (ix2 r l) := by
  pointwise [hostH]
  rw [dif_neg (by omega), dif_neg (by omega), dif_neg (by omega), dif_pos (by omega)]
  exact congrArg h (congrArg (ix2 r) (Fin.ext (by show n.val - 4608 - 256 - 256 = l.val; omega)))

theorem V_h (c : Dev nD) : V m c main_v2 = hostH (m ((c : Thread nD τ).loc main_arg0)) (m ((c : Thread nD τ).loc main_arg1)) (m ((c : Thread nD τ).loc main_arg2)) := by
  unfold V hostOps0
  after_reads_simp
  rfl

/-- Column `l` of point `t`'s 128 among the 256. -/
def col (t : Fin cfg0.N) (l : Fin 128) : Fin 256 := ⟨t.val * 128 + l.val, by have : t.val < 2 := t.isLt; omega⟩

theorem at0 (c : Dev nD) (t : Fin cfg0.N) (s : Fin 4096) (l : Fin 128) :
    iblk m c 0 t (ix2 s l) = V m c main_v2 (ix2 s ⟨(36 + t.val) * 128 + l.val, by have : t.val < 2 := t.isLt; omega⟩) := by
  obtain ⟨e0, e1, e2, -⟩ := index_eq t
  blk_point [iblk, e0]

theorem blk0 (c : Dev nD) (t : Fin cfg0.N) (s : Fin 4096) (l : Fin 128) :
    iblk m c 0 t (ix2 s l) = (m ((c : Thread nD τ).loc main_arg0) : FVec Ideal S4096x256 .f32) (ix2 s (col t l)) := by
  rw [at0, V_h]
  exact hostH_a _ _ _ s _ (col t l) (by show (36 + t.val) * 128 + l.val = _ + (t.val * 128 + l.val); omega)

theorem at1 (c : Dev nD) (t : Fin cfg0.N) (s : Fin 4096) (l : Fin 128) :
    iblk m c 1 t (ix2 s l) = V m c main_v2 (ix2 s ⟨(38 + t.val) * 128 + l.val, by have : t.val < 2 := t.isLt; omega⟩) := by
  obtain ⟨e0, e1, e2, -⟩ := index_eq t
  blk_point [iblk, e1]

theorem blk1 (c : Dev nD) (t : Fin cfg0.N) (s : Fin 4096) (l : Fin 128) :
    iblk m c 1 t (ix2 s l) = (m ((c : Thread nD τ).loc main_arg1) : FVec Ideal S4096x256 .f32) (ix2 s (col t l)) := by
  rw [at1, V_h]
  exact hostH_b _ _ _ s _ (col t l) (by show (38 + t.val) * 128 + l.val = _ + (t.val * 128 + l.val); omega)

theorem at2 (c : Dev nD) (t : Fin cfg0.N) (s : Fin 4096) (l : Fin 128) :
    iblk m c 2 t (ix2 s l) = V m c main_v2 (ix2 s ⟨(40 + t.val) * 128 + l.val, by have : t.val < 2 := t.isLt; omega⟩) := by
  obtain ⟨e0, e1, e2, -⟩ := index_eq t
  blk_point [iblk, e2]

theorem blk2 (c : Dev nD) (t : Fin cfg0.N) (s : Fin 4096) (l : Fin 128) :
    iblk m c 2 t (ix2 s l) = (m ((c : Thread nD τ).loc main_arg2) : FVec Ideal S4096x256 .f32) (ix2 s (col t l)) := by
  rw [at2, V_h]
  exact hostH_h _ _ _ s _ (col t l) (by show (40 + t.val) * 128 + l.val = _ + (t.val * 128 + l.val); omega)

theorem blk3 (c : Dev nD) (t : Fin cfg0.N) (s : Fin 3) (l : Fin 128) :
    iblk m c 3 t (ix2 s l) = (m ((c : Thread nD τ).loc main_arg3) : FVec Ideal S3x256 .f32) (ix2 s (col t l)) := by
  obtain ⟨e0, e1, e2, e3, -⟩ := index_eq t
  blk_point [iblk, V, e3, col]

/-- The call's result is the reference's. -/
theorem final_y (c : Dev nD) : (dats m 0 c).arrAt 4 cfg0.N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4⟩ := index_eq t
  blk_simp
  rw [after0_4]
  idx_vars y
  rw [pt]
  simp only [blk0, blk1, blk2, blk3]
  refine (ref _ _ _ _ y0 (col t y1)).symm.trans ?_
  blk_point [e4, col]

end Cert.SconvFwIdeal.Value

end

end
-- ==== Proof.MergeFwValue.lean ====
/- The forward call `merge_proj_out` leaves, over the extended reals, the reference's gated sum of the three branches, its product
   with the output projection, the residual sum and the normalised rows. -/
module

public import proofs.«01_k».proof.Proof.Gen.MergeFwIdeal.Value
public import proofs.«01_k».proof.Proof.Gen.MergeFwRefIdeal.Read
public import Idealize.ShloMosaic.Lib.Pipeline.ValueKit
public import Idealize.ShloMosaic.Lib.Pointwise
public import Idealize.ShloMosaic.Lib.StableHlo.Run
public import Idealize.ShloMosaic.Lib.StableHlo.ReadAt

@[expose] public section

set_option maxRecDepth 16384

noncomputable section

namespace Cert.MergeFwIdeal.Value

open Cert.MergeFwIdeal Cert.MergeFwIdeal.Gen Idealize.ShloMosaic Idealize.ShloMosaic.TcCoe Idealize.SL.Sem
open Idealize.ShloMosaic.Pipeline (Dat)
open Cert.MergeFwRefIdeal.Read

variable (m : (ℓ : Loc nD τ sig) → Buf (Elt Ideal) ℓ)

/-- The gated sum of three rows. -/
def merged (g0 g1 g2 : EReal) (a wa : Fin 512 → EReal) (b wb c wc : Fin 256 → EReal) : EReal :=
  Ideal.logistic g0 * ∑ k, a k * wa k + Ideal.logistic g1 * ∑ k, b k * wb k + Ideal.logistic g2 * ∑ k, c k * wc k

/-- One point's gated sum. -/
theorem pt (x0 x1 x2 : Vec Ideal S512x1024 .f32) (x3 : Vec Ideal S3x1024 .f32) (x4 : Vec Ideal S512x512 .bf16) (x5 x6 : Vec Ideal S512x256 .bf16) (x7 : Vec Ideal S512x1024 .bf16)
    (x8 x9 : Vec Ideal S256x1024 .bf16) (x10 : Vec Ideal S1024x1024 .bf16) (x11 : Vec Ideal S512x1024 .f32) (x12 x13 : Vec Ideal S1x1024 .f32) (r : Fin 512) (l : Fin 1024) :
    k0_pay5 (k0_pay10 x0 x1 x2 x3 x4 x5 x6 x7 x8 x9 x10 x11 x12 x13) (k0_pay11 x0 x1 x2 x3 x4 x5 x6 x7 x8 x9 x10 x11 x12 x13)
      (k0_pay12 x0 x1 x2 x3 x4 x5 x6 x7 x8 x9 x10 x11 x12 x13) x9 (ix2 r l)
    = merged (x0 (ix2 r l) + x3 (ix2 0 l)) (x1 (ix2 r l) + x3 (ix2 1 l)) (x2 (ix2 r l) + x3 (ix2 2 l))
        (fun k => x4 (ix2 r k)) (fun k => x7 (ix2 k l)) (fun k => x5 (ix2 r k)) (fun k => x8 (ix2 k l))
        (fun k => x6 (ix2 r k)) (fun k => x9 (ix2 k l)) := by
  unfold k0_pay10 k0_pay11 k0_pay12
  unfold_payloads
  pointwise [merged]

/-- The reference's gate of branch 0. -/
theorem gate0 (x0 : FVec Ideal S4096x3072 .f32) (x1 : FVec Ideal S3x1024 .f32) (r : Fin 4096) (l : Fin 1024) :
    val_main_v11 (F := Ideal) x0 x1 (ix2 r l)
      = Ideal.logistic (x0 (ix2 r ⟨0 + l.val, by omega⟩) + x1 (ix2 0 l)) := by
  pointwise [val_main_v0, val_main_v1, val_main_v2, val_main_v3, val_main_v4, val_main_v5, val_main_v6, val_main_v7, val_main_v8, val_main_v9, val_main_cst, val_main_cst_0, val_main_v10, val_main_v11]
  rfl

/-- The reference's gate of branch 1. -/
theorem gate1 (x0 : FVec Ideal S4096x3072 .f32) (x1 : FVec Ideal S3x1024 .f32) (r : Fin 4096) (l : Fin 1024) :
    val_main_v15 (F := Ideal) x0 x1 (ix2 r l)
      = Ideal.logistic (x0 (ix2 r ⟨1024 + l.val, by omega⟩) + x1 (ix2 1 l)) := by
  pointwise [val_main_v0, val_main_v1, val_main_v2, val_main_v3, val_main_v4, val_main_v5, val_main_v6, val_main_v7, val_main_v8, val_main_v9, val_main_cst, val_main_cst_0, val_main_v14, val_main_v15]
  rfl

/-- The reference's gate of branch 2. -/
theorem gate2 (x0 : FVec Ideal S4096x3072 .f32) (x1 : FVec Ideal S3x1024 .f32) (r : Fin 4096) (l : Fin 1024) :
    val_main_v20 (F := Ideal) x0 x1 (ix2 r l)
      = Ideal.logistic (x0 (ix2 r ⟨2048 + l.val, by omega⟩) + x1 (ix2 2 l)) := by
  pointwise [val_main_v0, val_main_v1, val_main_v2, val_main_v3, val_main_v4, val_main_v5, val_main_v6, val_main_v7, val_main_v8, val_main_v9, val_main_cst, val_main_cst_0, val_main_v19, val_main_v20]
  rfl

/-- The reference's gated sum. -/
theorem ref (x0 : FVec Ideal S4096x3072 .f32) (x1 : FVec Ideal S3x1024 .f32) (x2 : FVec Ideal S4096x512 .f32) (x3 x4 : FVec Ideal S4096x256 .f32)
    (x5 : FVec Ideal S512x1024 .f32) (x6 x7 : FVec Ideal S256x1024 .f32) (r : Fin 4096) (l : Fin 1024) :
    val_main_v23 (F := Ideal) x0 x1 x2 x3 x4 x5 x6 x7 (ix2 r l)
      = merged (x0 (ix2 r ⟨0 + l.val, by omega⟩) + x1 (ix2 0 l)) (x0 (ix2 r ⟨1024 + l.val, by omega⟩) + x1 (ix2 1 l))
        (x0 (ix2 r ⟨2048 + l.val, by omega⟩) + x1 (ix2 2 l))
        (fun k => x2 (ix2 r k)) (fun k => x5 (ix2 k l)) (fun k => x3 (ix2 r k)) (fun k => x6 (ix2 k l))
        (fun k => x4 (ix2 r k)) (fun k => x7 (ix2 k l)) := by
  pointwise [val_main_v12, val_main_v13, val_main_v16, val_main_v17, val_main_v18, val_main_v21, val_main_v22, val_main_v23, merged]
  simp only [gate0, gate1, gate2, Nat.zero_add]

theorem index_eq : ∀ t : Fin cfg0.N, win0_0.index t = ![t.val, 0] ∧ win0_1.index t = ![t.val, 1] ∧ win0_2.index t = ![t.val, 2]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0]
    ∧ win0_11.index t = ![t.val, 0] ∧ win0_12.index t = ![0, 0] ∧ win0_13.index t = ![0, 0] ∧ win0_14.index t = ![t.val, 0]
    ∧ win0_15.index t = ![t.val, 0] ∧ win0_16.index t = ![t.val, 0] ∧ win0_17.index t = ![t.val, 0] :=
  (by decide +kernel : ∀ t : Fin grid0.N, _)

/-- The projection's rows: the gates' logits, and zeros behind them. -/
def hostH (a : FVec Ideal S4096x3072 .f32) : FVec Ideal S4096x6144 .f32 :=
  concatenate S4096x6144 1 [⟨S4096x3072, a⟩,
    ⟨S4096x3072, (broadcastInDim S4096x3072 ![] bcast_S_S4096x3072 (constant (F := Ideal) S_ .f32 0x00000000#32) : FVec Ideal S4096x3072 .f32)⟩]
    concatenates_S4096x3072_S4096x3072_S4096x6144_d1

theorem hostH_a (a : FVec Ideal S4096x3072 .f32) (r : Fin 4096) (n : Fin 6144) (l : Fin 3072) (e : n.val = l.val) :
    hostH a (ix2 r n) = a (ix2 r l) := by
  pointwise [hostH]
  rw [dif_pos (by omega)]
  exact congrArg a (congrArg (ix2 r) (Fin.ext e))

theorem V_h (c : Dev nD) : V m c main_v1 = hostH (m ((c : Thread nD τ).loc main_arg0)) := by
  unfold V hostOps0
  after_reads_simp
  rfl

/-- Row `r` of point `t`'s 512 among the 4096. -/
def row (t : Fin cfg0.N) (r : Fin 512) : Fin 4096 := ⟨t.val * 512 + r.val, by have : t.val < 8 := t.isLt; omega⟩

theorem at0 (c : Dev nD) (t : Fin cfg0.N) (s : Fin 512) (l : Fin 1024) :
    iblk m c 0 t (ix2 s l) = V m c main_v1 (ix2 (row t s) ⟨0 * 1024 + l.val, by omega⟩) := by
  obtain ⟨e0, e1, e2, -⟩ := index_eq t
  blk_point [iblk, e0, row]

theorem blk0 (c : Dev nD) (t : Fin cfg0.N) (s : Fin 512) (l : Fin 1024) :
    iblk m c 0 t (ix2 s l) = (m ((c : Thread nD τ).loc main_arg0) : FVec Ideal S4096x3072 .f32) (ix2 (row t s) ⟨0 + l.val, by omega⟩) := by
  rw [at0, V_h]
  exact hostH_a _ _ _ ⟨0 + l.val, by omega⟩ (by show 0 * 1024 + l.val = 0 + l.val; omega)

theorem at1 (c : Dev nD) (t : Fin cfg0.N) (s : Fin 512) (l : Fin 1024) :
    iblk m c 1 t (ix2 s l) = V m c main_v1 (ix2 (row t s) ⟨1 * 1024 + l.val, by omega⟩) := by
  obtain ⟨e0, e1, e2, -⟩ := index_eq t
  blk_point [iblk, e1, row]

theorem blk1 (c : Dev nD) (t : Fin cfg0.N) (s : Fin 512) (l : Fin 1024) :
    iblk m c 1 t (ix2 s l) = (m ((c : Thread nD τ).loc main_arg0) : FVec Ideal S4096x3072 .f32) (ix2 (row t s) ⟨1024 + l.val, by omega⟩) := by
  rw [at1, V_h]
  exact hostH_a _ _ _ ⟨1024 + l.val, by omega⟩ (by show 1 * 1024 + l.val = 1024 + l.val; omega)

theorem at2 (c : Dev nD) (t : Fin cfg0.N) (s : Fin 512) (l : Fin 1024) :
    iblk m c 2 t (ix2 s l) = V m c main_v1 (ix2 (row t s) ⟨2 * 1024 + l.val, by omega⟩) := by
  obtain ⟨e0, e1, e2, -⟩ := index_eq t
  blk_point [iblk, e2, row]

theorem blk2 (c : Dev nD) (t : Fin cfg0.N) (s : Fin 512) (l : Fin 1024) :
    iblk m c 2 t (ix2 s l) = (m ((c : Thread nD τ).loc main_arg0) : FVec Ideal S4096x3072 .f32) (ix2 (row t s) ⟨2048 + l.val, by omega⟩) := by
  rw [at2, V_h]
  exact hostH_a _ _ _ ⟨2048 + l.val, by omega⟩ (by show 2 * 1024 + l.val = 2048 + l.val; omega)

theorem blk3 (c : Dev nD) (t : Fin cfg0.N) (s : Fin 3) (l : Fin 1024) :
    iblk m c 3 t (ix2 s l) = (m ((c : Thread nD τ).loc main_arg1) : FVec Ideal S3x1024 .f32) (ix2 (s) l) := by
  obtain ⟨e0, e1, e2, e3, e4, e5, e6, e7, e8, e9, e10, e11, e12, e13, e14, e15, e16, e17⟩ := index_eq t
  blk_point [iblk, V, e3]

theorem blk4 (c : Dev nD) (t : Fin cfg0.N) (s : Fin 512) (l : Fin 512) :
    iblk m c 4 t (ix2 s l) = (m ((c : Thread nD τ).loc main_arg2) : FVec Ideal S4096x512 .f32) (ix2 (row t s) l) := by
  obtain ⟨e0, e1, e2, e3, e4, e5, e6, e7, e8, e9, e10, e11, e12, e13, e14, e15, e16, e17⟩ := index_eq t
  blk_point [iblk, V, e4, row]

theorem blk5 (c : Dev nD) (t : Fin cfg0.N) (s : Fin 512) (l : Fin 256) :
    iblk m c 5 t (ix2 s l) = (m ((c : Thread nD τ).loc main_arg3) : FVec Ideal S4096x256 .f32) (ix2 (row t s) l) := by
  obtain ⟨e0, e1, e2, e3, e4, e5, e6, e7, e8, e9, e10, e11, e12, e13, e14, e15, e16, e17⟩ := index_eq t
  blk_point [iblk, V, e5, row]

theorem blk6 (c : Dev nD) (t : Fin cfg0.N) (s : Fin 512) (l : Fin 256) :
    iblk m c 6 t (ix2 s l) = (m ((c : Thread nD τ).loc main_arg4) : FVec Ideal S4096x256 .f32) (ix2 (row t s) l) := by
  obtain ⟨e0, e1, e2, e3, e4, e5, e6, e7, e8, e9, e10, e11, e12, e13, e14, e15, e16, e17⟩ := index_eq t
  blk_point [iblk, V, e6, row]

theorem blk7 (c : Dev nD) (t : Fin cfg0.N) (s : Fin 512) (l : Fin 1024) :
    iblk m c 7 t (ix2 s l) = (m ((c : Thread nD τ).loc main_arg5) : FVec Ideal S512x1024 .f32) (ix2 (s) l) := by
  obtain ⟨e0, e1, e2, e3, e4, e5, e6, e7, e8, e9, e10, e11, e12, e13, e14, e15, e16, e17⟩ := index_eq t
  blk_point [iblk, V, e7]

theorem blk8 (c : Dev nD) (t : Fin cfg0.N) (s : Fin 256) (l : Fin 1024) :
    iblk m c 8 t (ix2 s l) = (m ((c : Thread nD τ).loc main_arg6) : FVec Ideal S256x1024 .f32) (ix2 (s) l) := by
  obtain ⟨e0, e1, e2, e3, e4, e5, e6, e7, e8, e9, e10, e11, e12, e13, e14, e15, e16, e17⟩ := index_eq t
  blk_point [iblk, V, e8]

theorem blk9 (c : Dev nD) (t : Fin cfg0.N) (s : Fin 256) (l : Fin 1024) :
    iblk m c 9 t (ix2 s l) = (m ((c : Thread nD τ).loc main_arg7) : FVec Ideal S256x1024 .f32) (ix2 (s) l) := by
  obtain ⟨e0, e1, e2, e3, e4, e5, e6, e7, e8, e9, e10, e11, e12, e13, e14, e15, e16, e17⟩ := index_eq t
  blk_point [iblk, V, e9]

theorem blk10 (c : Dev nD) (t : Fin cfg0.N) (s : Fin 1024) (l : Fin 1024) :
    iblk m c 10 t (ix2 s l) = (m ((c : Thread nD τ).loc main_arg8) : FVec Ideal S1024x1024 .f32) (ix2 (s) l) := by
  obtain ⟨e0, e1, e2, e3, e4, e5, e6, e7, e8, e9, e10, e11, e12, e13, e14, e15, e16, e17⟩ := index_eq t
  blk_point [iblk, V, e10]

theorem blk11 (c : Dev nD) (t : Fin cfg0.N) (s : Fin 512) (l : Fin 1024) :
    iblk m c 11 t (ix2 s l) = (m ((c : Thread nD τ).loc main_arg9) : FVec Ideal S4096x1024 .f32) (ix2 (row t s) l) := by
  obtain ⟨e0, e1, e2, e3, e4, e5, e6, e7, e8, e9, e10, e11, e12, e13, e14, e15, e16, e17⟩ := index_eq t
  blk_point [iblk, V, e11, row]

theorem blk12 (c : Dev nD) (t : Fin cfg0.N) (s : Fin 1) (l : Fin 1024) :
    iblk m c 12 t (ix2 s l) = (m ((c : Thread nD τ).loc main_arg10) : FVec Ideal S1024 .f32) (ix1 l) := by
  obtain ⟨e0, e1, e2, e3, e4, e5, e6, e7, e8, e9, e10, e11, e12, e13, e14, e15, e16, e17⟩ := index_eq t
  blk_point [iblk, V, e12]

theorem blk13 (c : Dev nD) (t : Fin cfg0.N) (s : Fin 1) (l : Fin 1024) :
    iblk m c 13 t (ix2 s l) = (m ((c : Thread nD τ).loc main_arg11) : FVec Ideal S1024 .f32) (ix1 l) := by
  obtain ⟨e0, e1, e2, e3, e4, e5, e6, e7, e8, e9, e10, e11, e12, e13, e14, e15, e16, e17⟩ := index_eq t
  blk_point [iblk, V, e13]

/-- A point's gated sum is the reference's at the point's rows. -/
theorem merged_pt (c : Dev nD) (t : Fin cfg0.N) (r : Fin 512) (l : Fin 1024) :
    k0_pay5 (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 9 t) (ix2 r l)
    = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t r) l) := by
  rw [pt, ref]
  simp only [blk0, blk1, blk2, blk3, blk4, blk5, blk6, blk7, blk8, blk9]

/-- A point's product. -/
theorem o_pt (c : Dev nD) (t : Fin cfg0.N) (r : Fin 512) (l : Fin 1024) :
    k0_pay6 (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 9 t) (iblk m c 10 t) (ix2 r l)
    = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (row t r) l) := by
  unfold k0_pay6
  pointwise [val_main_v24]
  simp only [merged_pt, blk10]

/-- A point's residual sum. -/
theorem x_pt (c : Dev nD) (t : Fin cfg0.N) (r : Fin 512) (l : Fin 1024) :
    k0_pay7 (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 9 t) (iblk m c 10 t) (iblk m c 11 t) (iblk m c 12 t) (ix2 r l)
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t r) l) := by
  unfold k0_pay7
  pointwise [val_main_v25, val_main_v26, val_main_v27, val_main_v28, val_main_v29, val_main_v30, val_main_v31, val_main_v32, val_main_v33, val_main_v34, val_main_v35, val_main_v36, val_main_v37, val_main_v38, val_main_cst_1, val_main_cst_2, val_main_cst_3]
  simp only [o_pt, blk11, blk12]

/-- A point's normalised rows. -/
theorem xn_pt (c : Dev nD) (t : Fin cfg0.N) (r : Fin 512) (l : Fin 1024) :
    k0_pay1 (k0_pay7 (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 9 t) (iblk m c 10 t) (iblk m c 11 t) (iblk m c 12 t)) (k0_pay8 (iblk m c 13 t))
      (k0_pay9 (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 9 t) (iblk m c 10 t) (iblk m c 11 t) (iblk m c 12 t)) (Scalar.ofBits .f32 0x358637BD#32) (ix2 r l)
    = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 (row t r) l) := by
  unfold k0_pay1 k0_pay8 k0_pay9
  pointwise [val_main_v40, val_main_v41, val_main_v42, val_main_v43, val_main_v44, val_main_v45, val_main_v46, val_main_v47, val_main_v48, val_main_v49, val_main_v50, val_main_v51, val_main_v52, val_main_v53, val_main_cst_4, val_main_cst_5, val_main_cst_6]
  simp only [x_pt, blk13]

/-- The gated sum, as the reference spells it. -/
theorem final_m (c : Dev nD) : (dats m 0 c).arrAt 14 cfg0.N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 14 _ (by decide +kernel) fun t hf y => ?_
  obtain ⟨e0, e1, e2, e3, e4, e5, e6, e7, e8, e9, e10, e11, e12, e13, e14, e15, e16, e17⟩ := index_eq t
  blk_simp
  rw [after0_14]
  idx_vars y
  unfold out0_14
  frame_out
  refine (merged_pt m c t y0 y1).trans ?_
  pointwise [val_main_v39]
  blk_point [e14, row]

/-- The product, as the reference spells it. -/
theorem final_o (c : Dev nD) : (dats m 0 c).arrAt 15 cfg0.N
    = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 15 _ (by decide +kernel) fun t hf y => ?_
  obtain ⟨e0, e1, e2, e3, e4, e5, e6, e7, e8, e9, e10, e11, e12, e13, e14, e15, e16, e17⟩ := index_eq t
  blk_simp
  rw [after0_15]
  idx_vars y
  unfold out0_15
  frame_out
  refine (o_pt m c t y0 y1).trans ?_
  blk_point [e15, row]

/-- The residual sum, as the reference spells it. -/
theorem final_x (c : Dev nD) : (dats m 0 c).arrAt 16 cfg0.N
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 16 _ (by decide +kernel) fun t hf y => ?_
  obtain ⟨e0, e1, e2, e3, e4, e5, e6, e7, e8, e9, e10, e11, e12, e13, e14, e15, e16, e17⟩ := index_eq t
  blk_simp
  rw [after0_16]
  idx_vars y
  unfold out0_16
  frame_out
  refine (x_pt m c t y0 y1).trans ?_
  blk_point [e16, row]

/-- The normalised rows, as the reference spells them. -/
theorem final_xn (c : Dev nD) : (dats m 0 c).arrAt 17 cfg0.N
    = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 17 _ (by decide +kernel) fun t hf y => ?_
  obtain ⟨e0, e1, e2, e3, e4, e5, e6, e7, e8, e9, e10, e11, e12, e13, e14, e15, e16, e17⟩ := index_eq t
  blk_simp
  rw [after0_17]
  idx_vars y
  unfold out0_17
  frame_out
  refine (xn_pt m c t y0 y1).trans ?_
  blk_point [e17, row]

end Cert.MergeFwIdeal.Value

end

end
-- ==== Proof.AttMath.lean ====
module

public import Idealize.ShloMosaic.Lib.Pointwise

@[expose] public section

set_option maxRecDepth 16384

/-! The attention and its gradient over the real numbers: the scores, the masked exponentials, the weights and the
    gradient in the scores, with the facts that join the reference's shifted softmax and the kernel's powers of two
    to them. -/

noncomputable section

namespace Cert.KernelIdeal.Att

open Idealize.ShloMosaic

/-- A sum of reals among the extended reals. -/
theorem coe_sum {ι : Type} (s : Finset ι) (f : ι → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

/-- The maximum of a row is a real when no entry is +∞ and some entry is not −∞. -/
theorem fold_max_real {n : ℕ} (f : Fin n → EReal) (hf : ∀ x, f x ≠ ⊤) (x0 : Fin n) (h0 : f x0 ≠ ⊥) :
    ∃ M : ℝ, Finset.fold max (⊥ : EReal) f Finset.univ = (M : EReal) := by
  have e : Finset.fold max (⊥ : EReal) f Finset.univ = Finset.univ.sup f := rfl
  have h1 : Finset.univ.sup f ≠ ⊤ := by
    refine ne_of_lt ((Finset.sup_lt_iff bot_lt_top).2 fun x _ => lt_top_iff_ne_top.2 (hf x))
  have h2 : Finset.univ.sup f ≠ ⊥ := fun hb => h0 (le_bot_iff.1 (hb ▸ Finset.le_sup (f := f) (Finset.mem_univ x0)))
  exact ⟨_, e.trans (EReal.coe_toReal h1 h2).symm⟩

/-- The maximum of a row of equal entries. -/
theorem fold_max_const {n : ℕ} [NeZero n] (a : EReal) : Finset.fold max (⊥ : EReal) (fun _ : Fin n => a) Finset.univ = a := by
  have e : Finset.fold max (⊥ : EReal) (fun _ : Fin n => a) Finset.univ = Finset.univ.sup (fun _ : Fin n => a) := rfl
  rw [e, Finset.sup_const ⟨0, Finset.mem_univ _⟩]

/-- The pattern of −∞. -/
theorem ofBits_neg_inf : Ideal.ofBits FTy.f32 4286578688#32 = (⊥ : EReal) := by
  simp [Ideal.ofBits, Ideal.ieee]
/-- The pattern of one eighth. -/
theorem ofBits_eighth : Ideal.ofBits FTy.f32 1040187392#32 = ((1 / 8 : ℝ) : EReal) := by
  simp [Ideal.ofBits, Ideal.ieee]
  rw [← EReal.coe_mul]; norm_num
/-- The pattern of two. -/
theorem ofBits_two : Ideal.ofBits FTy.f32 1073741824#32 = ((2 : ℝ) : EReal) := by
  simp [Ideal.ofBits, Ideal.ieee]
  rw [← EReal.coe_mul]; norm_num

/-- Column `d` of head `h`. -/
def col (h : Fin 8) (d : Fin 64) : Fin 512 := ⟨h.val * 64 + d.val, by omega⟩

section real
variable (Q K V D : Fin 4096 → Fin 512 → ℝ) (C : Fin 4096 → Fin 8 → ℝ) (h : Fin 8) (r s : Fin 4096)

/-- The score: a query's product with a key, over 8, and the decay between their gates. -/
def scR : ℝ := (∑ d, Q r (col h d) * K s (col h d)) * (1 / 8) + (C r h - C s h)
/-- The exponential, nothing where the key comes later. -/
def exR : ℝ := if s ≤ r then Real.exp (scR Q K C h r s) else 0
/-- The row's sum. -/
def totR : ℝ := ∑ s, exR Q K C h r s
/-- The weight. -/
def prR : ℝ := exR Q K C h r s / totR Q K C h r
/-- The gradient in the weight. -/
def dpR : ℝ := ∑ d, D r (col h d) * V s (col h d)
/-- The gradient in the score. -/
def dsR : ℝ := prR Q K C h r s * (dpR V D h r s - ∑ t, prR Q K C h r t * dpR V D h r t)

theorem exR_nonneg : 0 ≤ exR Q K C h r s := by
  unfold exR; split
  · exact (Real.exp_pos _).le
  · exact le_rfl
theorem totR_pos : 0 < totR Q K C h r := by
  unfold totR
  refine Finset.sum_pos' (fun s _ => exR_nonneg Q K C h r s) ⟨r, Finset.mem_univ _, ?_⟩
  unfold exR; rw [if_pos le_rfl]; exact Real.exp_pos _
theorem prR_later (hs : ¬ s ≤ r) : prR Q K C h r s = 0 := by
  unfold prR exR; rw [if_neg hs, zero_div]
theorem dsR_later (hs : ¬ s ≤ r) : dsR Q K V D C h r s = 0 := by
  unfold dsR; rw [prR_later Q K C h r s hs, zero_mul]

/-- The exponential shifted by `M`. -/
def exM (M : ℝ) : ℝ := if s ≤ r then Real.exp (scR Q K C h r s - M) else 0
theorem exM_eq (M : ℝ) : exM Q K C h r s M = exR Q K C h r s * Real.exp (-M) := by
  unfold exM exR; split
  · rw [sub_eq_add_neg, Real.exp_add]
  · rw [zero_mul]
theorem sum_exM (M : ℝ) : (∑ s, exM Q K C h r s M) = totR Q K C h r * Real.exp (-M) := by
  simp only [exM_eq]; rw [← Finset.sum_mul]; rfl
theorem sum_exM_pos (M : ℝ) : 0 < ∑ s, exM Q K C h r s M := by
  rw [sum_exM]; exact mul_pos (totR_pos Q K C h r) (Real.exp_pos _)
theorem exM_div (M : ℝ) : exM Q K C h r s M / (∑ s, exM Q K C h r s M) = prR Q K C h r s := by
  rw [sum_exM, exM_eq, prR]
  exact mul_div_mul_right _ _ (Real.exp_pos _).ne'

/-- The gradient in the score as the derivative of a quotient gives it. -/
theorem ds_quot (M T : ℝ) (hT : T = ∑ s, exM Q K C h r s M) :
    (dpR V D h r s * (1 / T) + -∑ x, dpR V D h r x * (1 / (T * T)) * exM Q K C h r x M) * exM Q K C h r s M
      = dsR Q K V D C h r s := by
  have hp : 0 < T := by rw [hT]; exact sum_exM_pos Q K C h r M
  have he : ∀ x, exM Q K C h r x M = prR Q K C h r x * T := by
    intro x
    have := exM_div Q K C h r x M
    rw [← hT] at this
    rw [← this]; field_simp
  have hs : (∑ x, dpR V D h r x * (1 / (T * T)) * exM Q K C h r x M) = (∑ x, prR Q K C h r x * dpR V D h r x) * (1 / T) := by
    rw [Finset.sum_mul]
    refine Finset.sum_congr rfl fun x _ => ?_
    rw [he]; field_simp
  rw [hs, he s, dsR]
  field_simp
  ring

/-- The kernel's power of two is the weight. -/
theorem pow_two (M S : ℝ) (hS : S = ∑ d, Q r (col h d) * K s (col h d)) (hs : s ≤ r) :
    Real.rpow 2 ((S * (1 / 8 / Real.log 2) - C s h * (1 / Real.log 2)) -
        ((M + Real.log (∑ t, exM Q K C h r t M)) * (1 / Real.log 2) - C r h * (1 / Real.log 2))) = prR Q K C h r s := by
  have h2 : Real.log 2 ≠ 0 := (Real.log_pos one_lt_two).ne'
  have hp := sum_exM_pos Q K C h r M
  rw [← exM_div Q K C h r s M]
  show (2 : ℝ) ^ (_ : ℝ) = _
  rw [Real.rpow_def_of_pos two_pos]
  have e : Real.log 2 * ((S * (1 / 8 / Real.log 2) - C s h * (1 / Real.log 2)) -
        ((M + Real.log (∑ t, exM Q K C h r t M)) * (1 / Real.log 2) - C r h * (1 / Real.log 2)))
      = (scR Q K C h r s - M) - Real.log (∑ t, exM Q K C h r t M) := by
    unfold scR; rw [← hS]; field_simp; ring
  rw [e, Real.exp_sub, Real.exp_log hp]
  unfold exM; rw [if_pos hs]

/-- The row's sum of the output times its gradient. -/
theorem out_dot : (∑ d, D r (col h d) * ∑ t, prR Q K C h r t * V t (col h d))
    = ∑ t, prR Q K C h r t * dpR V D h r t := by
  simp only [dpR, Finset.mul_sum]
  rw [Finset.sum_comm]
  exact Finset.sum_congr rfl fun t _ => Finset.sum_congr rfl fun d _ => by ring

end real

end Cert.KernelIdeal.Att
end
-- ==== Proof.AttRef.lean ====
module

public import proofs.«01_k».proof.Proof.Gen.ReferenceIdeal.Read
public import proofs.«01_k».proof.Proof.AttMath
public import Idealize.ShloMosaic.Lib.Pointwise

@[expose] public section

set_option maxRecDepth 16384

/-! The reference's arrays, at arguments that are real numbers, as the real formulas of the attention's gradient. -/

noncomputable section

namespace Cert.KernelIdeal.Att

open Idealize.ShloMosaic Idealize.ShloMosaic.TcCoe
open Cert.ReferenceIdeal Cert.ReferenceIdeal.Gen Cert.ReferenceIdeal.Read

/-- The real matrix as an array. -/
def up (X : Fin 4096 → Fin 512 → ℝ) : (⟨S4096x512, .f32⟩ : BufTy).Contents (Elt Ideal) := fun i => ((X (i 0) (i 1) : ℝ) : EReal)
/-- The real gates as an array. -/
def upC (X : Fin 4096 → Fin 8 → ℝ) : (⟨S4096x8, .f32⟩ : BufTy).Contents (Elt Ideal) := fun i => ((X (i 0) (i 1) : ℝ) : EReal)

theorem up_at (X : Fin 4096 → Fin 512 → ℝ) (r : Fin 4096) (l : Fin 512) : up X (ix2 r l) = ((X r l : ℝ) : EReal) := rfl
theorem upC_at (X : Fin 4096 → Fin 8 → ℝ) (r : Fin 4096) (l : Fin 8) : upC X (ix2 r l) = ((X r l : ℝ) : EReal) := rfl

theorem sel_row {α : Type} (r s : Fin 4096) (a b : α) :
    Scalar.select (IntOp.cmpi .sge (BitVec.ofNat 32 r.val) (BitVec.ofNat 32 s.val)) a b = if s ≤ r then a else b := by
  have h : (IntOp.cmpi .sge (BitVec.ofNat 32 r.val) (BitVec.ofNat 32 s.val) = 1) ↔ s ≤ r := by
    have hy : (BitVec.ofNat 32 r.val).toInt = r.val := by
      have := r.isLt
      rw [BitVec.toInt_eq_toNat_of_lt (by rw [BitVec.toNat_ofNat]; omega), BitVec.toNat_ofNat]; omega
    have hs : (BitVec.ofNat 32 s.val).toInt = s.val := by
      have := s.isLt
      rw [BitVec.toInt_eq_toNat_of_lt (by rw [BitVec.toNat_ofNat]; omega), BitVec.toNat_ofNat]; omega
    simp only [IntOp.cmpi, BitVec.sle, hy, hs, Int.ofNat_le, Fin.le_def]
    by_cases hsy : s.val ≤ r.val <;> simp [hsy]
  unfold Scalar.select
  simp only [h]

theorem coe_ite (p : Prop) [Decidable p] (a b : ℝ) : (if p then ((a : ℝ) : EReal) else ((b : ℝ) : EReal)) = ((if p then a else b : ℝ) : EReal) := by
  split <;> rfl

variable (Q K V D : Fin 4096 → Fin 512 → ℝ) (C : Fin 4096 → Fin 8 → ℝ)

/-- The masked logits. -/
theorem r_logit (h : Fin 8) (r s : Fin 4096) :
    val_main_v21_0 (F := Ideal) (up Q) (up K) (upC C) (ix3 h r s) = if s ≤ r then ((scR Q K C h r s : ℝ) : EReal) else ⊥ := by
  generalize hq : up Q = x0
  generalize hk : up K = x1
  generalize hc : upC C = x3
  pointwise [val_main_v0, val_main_v1, val_main_v2, val_main_v3, val_main_v4, val_main_v5, val_main_v6, val_main_v7, val_main_v8,
    val_main_v9, val_main_v10, val_main_v11, val_main_v12, val_main_v13, val_main_v14, val_main_v15, val_main_v16, val_main_v17,
    val_main_v18, val_main_v19, val_main_v20, val_main_v21_1, val_main_v21_0, val_main_call0_v2, val_main_call0_v0, val_main_cst_0, val_main_cst]
  subst hq hk hc
  rw [sel_row]
  simp only [up_at, upC_at, ofBits_neg_inf, ofBits_eighth, ← EReal.coe_mul, coe_sum, ← EReal.coe_sub, ← EReal.coe_add]
  rfl

theorem r_max' (x0 x1 : (⟨S4096x512, .f32⟩ : BufTy).Contents (Elt Ideal)) (x3 : (⟨S4096x8, .f32⟩ : BufTy).Contents (Elt Ideal)) (h : Fin 8) (r : Fin 4096) :
    val_main_v22 (F := Ideal) x0 x1 x3 (ix2 h r)
      = Finset.fold max (Ideal.ofBits .f32 4286578688#32) (fun x => val_main_v21_0 (F := Ideal) x0 x1 x3 (ix3 h r x)) Finset.univ := by
  unfold val_main_v22
  generalize val_main_v21_0 (F := Ideal) x0 x1 x3 = y
  pointwise [val_main_cst_1]

/-- The row's maximum is a real. -/
theorem r_max (h : Fin 8) (r : Fin 4096) : ∃ M : ℝ, val_main_v22 (F := Ideal) (up Q) (up K) (upC C) (ix2 h r) = (M : EReal) := by
  rw [r_max', ofBits_neg_inf]
  refine fold_max_real _ (fun x => ?_) r ?_
  · rw [r_logit]; split
    · exact EReal.coe_ne_top _
    · exact bot_ne_top
  · rw [r_logit, if_pos le_rfl]; exact EReal.coe_ne_bot _

/-- The shifted exponential. -/
theorem r_exp (h : Fin 8) (r s : Fin 4096) (M : ℝ) (hM : val_main_v22 (F := Ideal) (up Q) (up K) (upC C) (ix2 h r) = (M : EReal)) :
    val_main_v42 (F := Ideal) (up Q) (up K) (upC C) (ix3 h r s) = ((exM Q K C h r s M : ℝ) : EReal) := by
  rw [val_main_v42_apply, val_main_v41_apply, val_main_v40_apply, val_main_v39_apply, val_main_v29_apply, val_main_v28_apply, r_logit]
  have e : (idx_main_v39 (idx_main_v40 (ix3 h r s))) = ix2 h r := by funext a; match a with | ⟨0, _⟩ => rfl | ⟨1, _⟩ => rfl
  rw [e, hM]
  have e2 : FloatOps.maximumf (F := Ideal) (φ := .f32) (val_main_cst_3 (F := Ideal) (idx_main_v28 (ix2 h r))) (M : EReal) = (M : EReal) := by
    show max (Ideal.ofBits .f32 4286578688#32) (M : EReal) = (M : EReal)
    rw [ofBits_neg_inf]; exact max_eq_right bot_le
  rw [e2]
  show Ideal.exp ((if s ≤ r then ((scR Q K C h r s : ℝ) : EReal) else ⊥) - (M : EReal)) = _
  unfold exM
  split
  · rw [← EReal.coe_sub, Ideal.exp_coe]
  · rw [EReal.bot_sub, Ideal.exp_bot]; rfl

theorem r_tot' (x0 x1 : (⟨S4096x512, .f32⟩ : BufTy).Contents (Elt Ideal)) (x3 : (⟨S4096x8, .f32⟩ : BufTy).Contents (Elt Ideal)) (h : Fin 8) (r : Fin 4096) :
    val_main_v44 (F := Ideal) x0 x1 x3 (ix3 h r 0) = ∑ x : Fin 4096, val_main_v42 (F := Ideal) x0 x1 x3 (ix3 h r x) := by
  unfold val_main_v44 val_main_v43
  generalize val_main_v42 (F := Ideal) x0 x1 x3 = y
  pointwise [val_main_cst_9]

theorem r_tot (h : Fin 8) (r : Fin 4096) (M : ℝ) (hM : val_main_v22 (F := Ideal) (up Q) (up K) (upC C) (ix2 h r) = (M : EReal)) :
    val_main_v44 (F := Ideal) (up Q) (up K) (upC C) (ix3 h r 0) = ((∑ s, exM Q K C h r s M : ℝ) : EReal) := by
  rw [r_tot', ← coe_sum]
  exact Finset.sum_congr rfl fun x _ => r_exp Q K C h r x M hM

theorem r_pr' (x0 x1 : (⟨S4096x512, .f32⟩ : BufTy).Contents (Elt Ideal)) (x3 : (⟨S4096x8, .f32⟩ : BufTy).Contents (Elt Ideal)) (h : Fin 8) (r s : Fin 4096) :
    val_main_v46 (F := Ideal) x0 x1 x3 (ix3 h r s)
      = Ideal.div (val_main_v42 (F := Ideal) x0 x1 x3 (ix3 h r s)) (∑ x : Fin 4096, val_main_v42 (F := Ideal) x0 x1 x3 (ix3 h r x)) := by
  unfold val_main_v46 val_main_v45 val_main_v44 val_main_v43
  generalize val_main_v42 (F := Ideal) x0 x1 x3 = y
  pointwise [val_main_cst_9]

/-- The weights. -/
theorem r_pr (h : Fin 8) (r s : Fin 4096) :
    val_main_v46 (F := Ideal) (up Q) (up K) (upC C) (ix3 h r s) = ((prR Q K C h r s : ℝ) : EReal) := by
  obtain ⟨M, hM⟩ := r_max Q K C h r
  rw [r_pr', ← r_tot', r_tot Q K C h r M hM, r_exp Q K C h r s M hM, Ideal.div_coe (sum_exM_pos Q K C h r M).ne', ← EReal.coe_mul,
    mul_one_div, exM_div]

theorem r_dp' (x2 x4 : (⟨S4096x512, .f32⟩ : BufTy).Contents (Elt Ideal)) (h : Fin 8) (r s : Fin 4096) :
    val_main_v55 (F := Ideal) x2 x4 (ix3 h r s) = ∑ d : Fin 64, x4 (ix2 r (col h d)) * x2 (ix2 s (col h d)) := by
  pointwise [val_main_v55, val_main_v54, val_main_v53, val_main_v2]
  rfl
theorem r_dp (h : Fin 8) (r s : Fin 4096) :
    val_main_v55 (F := Ideal) (up V) (up D) (ix3 h r s) = ((dpR V D h r s : ℝ) : EReal) := by
  rw [r_dp']
  simp only [up_at, ← EReal.coe_mul, coe_sum]
  rfl

theorem r_ds' (x0 x1 : (⟨S4096x512, .f32⟩ : BufTy).Contents (Elt Ideal)) (x2 : (⟨S4096x512, .f32⟩ : BufTy).Contents (Elt Ideal))
    (x3 : (⟨S4096x8, .f32⟩ : BufTy).Contents (Elt Ideal)) (x4 : (⟨S4096x512, .f32⟩ : BufTy).Contents (Elt Ideal)) (h : Fin 8) (r s : Fin 4096)
    (y : S8x4096x4096.Idx → EReal) (z : S8x4096x1.Idx → EReal) (w : S8x4096x4096.Idx → EReal)
    (hy : val_main_v42 (F := Ideal) x0 x1 x3 = y) (hz : val_main_v44 (F := Ideal) x0 x1 x3 = z) (hw : val_main_v55 (F := Ideal) x2 x4 = w) :
    val_main_v70 (F := Ideal) x0 x1 x2 x3 x4 (ix3 h r s) = if s ≤ r then
      (Ideal.div (w (ix3 h r s)) (z (ix3 h r 0)) + -∑ x : Fin 4096, w (ix3 h r x) * Ideal.div 1 (z (ix3 h r 0) * z (ix3 h r 0)) * y (ix3 h r x))
        * y (ix3 h r s) else 0 := by
  unfold val_main_v70 val_main_v69 val_main_v68 val_main_v67 val_main_v66 val_main_v65 val_main_v64 val_main_v63 val_main_v62 val_main_v61
    val_main_v60 val_main_v59 val_main_v58 val_main_v49 val_main_v48 val_main_v47
  rw [hy, hz, hw]
  clear hy hz hw
  pointwise [val_main_call1_v0, val_main_call1_cst, val_main_cst_10, val_main_cst_11, val_main_cst_12, val_main_v21_1, val_main_v19, val_main_v18, val_main_v17, val_main_v16,
    val_main_v15, val_main_v14, val_main_v13]
  rw [sel_row]
  simp only [Finset.univ_unique, Finset.sum_const, Finset.card_singleton, one_smul]

/-- The gradient in the scores. -/
theorem r_ds (h : Fin 8) (r s : Fin 4096) :
    val_main_v70 (F := Ideal) (up Q) (up K) (up V) (upC C) (up D) (ix3 h r s) = ((dsR Q K V D C h r s : ℝ) : EReal) := by
  obtain ⟨M, hM⟩ := r_max Q K C h r
  rw [r_ds' (up Q) (up K) (up V) (upC C) (up D) h r s _ _ _ rfl rfl rfl]
  have hT := sum_exM_pos Q K C h r M
  simp only [r_dp, r_tot Q K C h r M hM, r_exp Q K C h r _ M hM, ← EReal.coe_mul]
  split
  · rw [Ideal.div_coe hT.ne', Ideal.div_coe (mul_pos hT hT).ne', one_mul]
    simp only [← EReal.coe_mul, coe_sum, ← EReal.coe_neg, ← EReal.coe_add]
    rw [ds_quot Q K V D C h r s M _ rfl]
  · rename_i hs
    rw [dsR_later Q K V D C h r s hs]; rfl

/-- The head of a column. -/
def head (l : Fin 512) : Fin 8 := ⟨l.val / 64, by omega⟩

section out
variable (r s : Fin 4096) (l : Fin 512)

theorem r_dq : val_main_v88 (F := Ideal) (up Q) (up K) (up V) (upC C) (up D) (ix2 r l)
    = ((∑ s, dsR Q K V D C (head l) r s * (1 / 8) * K s l : ℝ) : EReal) := by
  have e : val_main_v88 (F := Ideal) (up Q) (up K) (up V) (upC C) (up D) (ix2 r l)
      = ∑ x : Fin 4096, val_main_v70 (F := Ideal) (up Q) (up K) (up V) (upC C) (up D) (ix3 (head l) r x) * Ideal.ofBits .f32 1040187392#32 * up K (ix2 x l) := by
    generalize up K = x1
    unfold val_main_v88 val_main_v85 val_main_v84 val_main_v81 val_main_v80
    generalize val_main_v70 (F := Ideal) (up Q) x1 (up V) (upC C) (up D) = y
    pointwise [val_main_v1, val_main_cst_17]
    rfl
  rw [e]
  simp only [r_ds, up_at, ofBits_eighth, ← EReal.coe_mul, coe_sum]

theorem r_dk : val_main_v87 (F := Ideal) (up Q) (up K) (up V) (upC C) (up D) (ix2 s l)
    = ((∑ r, dsR Q K V D C (head l) r s * (1 / 8) * Q r l : ℝ) : EReal) := by
  have e : val_main_v87 (F := Ideal) (up Q) (up K) (up V) (upC C) (up D) (ix2 s l)
      = ∑ x : Fin 4096, val_main_v70 (F := Ideal) (up Q) (up K) (up V) (upC C) (up D) (ix3 (head l) x s) * Ideal.ofBits .f32 1040187392#32 * up Q (ix2 x l) := by
    generalize up Q = x1
    unfold val_main_v87 val_main_v83 val_main_v82 val_main_v81 val_main_v80
    generalize val_main_v70 (F := Ideal) x1 (up K) (up V) (upC C) (up D) = y
    pointwise [val_main_v0, val_main_cst_17]
    rfl
  rw [e]
  simp only [r_ds, up_at, ofBits_eighth, ← EReal.coe_mul, coe_sum]

theorem r_dv : val_main_v86 (F := Ideal) (up Q) (up K) (upC C) (up D) (ix2 s l)
    = ((∑ r, D r l * prR Q K C (head l) r s : ℝ) : EReal) := by
  have e : val_main_v86 (F := Ideal) (up Q) (up K) (upC C) (up D) (ix2 s l)
      = ∑ x : Fin 4096, up D (ix2 x l) * val_main_v46 (F := Ideal) (up Q) (up K) (upC C) (ix3 (head l) x s) := by
    generalize up D = x1
    unfold val_main_v86 val_main_v57 val_main_v56 val_main_v54
    generalize val_main_v46 (F := Ideal) (up Q) (up K) (upC C) = y
    pointwise [val_main_v53]
    rfl
  rw [e]
  simp only [r_pr, up_at, ← EReal.coe_mul, coe_sum]

/-- The attention's output. -/
theorem r_att : val_main_v52 (F := Ideal) (up Q) (up K) (up V) (upC C) (ix2 r l)
    = ((∑ s, prR Q K C (head l) r s * V s l : ℝ) : EReal) := by
  have e : val_main_v52 (F := Ideal) (up Q) (up K) (up V) (upC C) (ix2 r l)
      = ∑ x : Fin 4096, up V (ix2 x l) * val_main_v46 (F := Ideal) (up Q) (up K) (upC C) (ix3 (head l) r x) := by
    generalize up V = x1
    unfold val_main_v52 val_main_v51 val_main_v50
    generalize val_main_v46 (F := Ideal) (up Q) (up K) (upC C) = y
    pointwise [val_main_v2]
    rfl
  rw [e]
  simp only [r_pr, up_at, ← EReal.coe_mul, coe_sum]
  simp only [mul_comm (V _ l)]

/-- The column sums, in the first two rows of each pair. -/
theorem r_dcs (p : Fin 4) (e : Fin 8) : val_main_v91 (F := Ideal) (up Q) (up K) (up V) (upC C) (up D) (ix3 p e s)
    = if h : e.val < 2 then ((∑ r, -dsR Q K V D C ⟨p.val * 2 + e.val, by omega⟩ r s : ℝ) : EReal) else 0 := by
  have e : val_main_v91 (F := Ideal) (up Q) (up K) (up V) (upC C) (up D) (ix3 p e s)
      = if h : e.val < 2 then
          (∑ x : Fin 4096, -val_main_v70 (F := Ideal) (up Q) (up K) (up V) (upC C) (up D) (ix3 ⟨p.val * 2 + e.val, by omega⟩ x s))
        else FloatOps.sitofp (F := Ideal) .f32 (0#32) := by
    unfold val_main_v91 val_main_v90 val_main_v89 val_main_v77 val_main_v76 val_main_v75 val_main_v74 val_main_v73
    generalize val_main_v70 (F := Ideal) (up Q) (up K) (up V) (upC C) (up D) = y
    pointwise [val_main_cst_14, val_main_cst_15, val_main_call2_v0, val_main_c]
    simp only [Finset.univ_unique, Finset.sum_const, Finset.card_singleton, one_smul]
  rw [e]
  simp only [r_ds, ← EReal.coe_neg, coe_sum]
  split
  · rfl
  · simp [FloatOps.sitofp]

/-- The row sums, in the first two lanes of each pair. -/
theorem r_dct (p : Fin 4) (e : Fin 128) : val_main_v94 (F := Ideal) (up Q) (up K) (up V) (upC C) (up D) (ix3 p r e)
    = if h : e.val < 2 then ((∑ s, dsR Q K V D C ⟨p.val * 2 + e.val, by omega⟩ r s : ℝ) : EReal) else 0 := by
  have e : val_main_v94 (F := Ideal) (up Q) (up K) (up V) (upC C) (up D) (ix3 p r e)
      = if h : e.val < 2 then
          (∑ x : Fin 4096, val_main_v70 (F := Ideal) (up Q) (up K) (up V) (upC C) (up D) (ix3 ⟨p.val * 2 + e.val, by omega⟩ r x))
        else FloatOps.sitofp (F := Ideal) .f32 (0#32) := by
    unfold val_main_v94 val_main_v93 val_main_v92 val_main_v79 val_main_v78 val_main_v72 val_main_v71
    generalize val_main_v70 (F := Ideal) (up Q) (up K) (up V) (upC C) (up D) = y
    pointwise [val_main_cst_13, val_main_cst_16, val_main_call3_v0, val_main_c_18]
    simp only [Finset.univ_unique, Finset.sum_const, Finset.card_singleton, one_smul]
  rw [e]
  simp only [r_ds, coe_sum]
  split
  · rfl
  · simp [FloatOps.sitofp]
end out

end Cert.KernelIdeal.Att
end
-- ==== Proof.AttLoops.lean ====
module

public import proofs.«01_k».proof.Proof.Gen.KernelIdeal.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.KernelIdeal.Att

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ
/-! ## `cc0_attention_bwd` -/

/-- The class of invariants of `k0_part11`'s counted loop `k0_t1_loop i` (`%210:6 = scf.for %arg16 =
   %204 to %209 step %c1_i32_67 iter_args(%arg17 = %155, %arg18 = %157, %arg19 = %150, %arg20 =
   %153, %arg21 = %173, %arg22 = %176) -> (vector<512x128xf32>, vector<512x128xf32>,
   vector<512x128xf32>, vector<512x128xf32>, vector<1x512xf32>, vector<1x512xf32>) : i32 {`), trip
   `k0_t1`, carrying `FVec F S512x128 .f32 × FVec F S512x128 .f32 × FVec F S512x128 .f32 × FVec F
   S512x128 .f32 × FVec F S1x512 .f32 × FVec F S1x512 .f32`, region `Gen.k0_t1_body`. Classifier:
   LISTED — every store at a `Rect.unit` through a memref parameter of the region, no rectangle
   computed from the carried value, no transfer or conditional inside: the invariant is the pieces
   of the trips before `k`; not affine (its bounds are not constants (the trip count reads a word
   from memory, or depends on the grid point or an outer trip)), so a frame cannot place those
   pieces and must find the memref written covered by a whole-block store of the same case. The
   region loads back what it stores into `arg11`, `arg15` (an accumulation): each trip's pieces are
   stated as functions of the contents it finds there. The same recursion (`Gen.st_k0_t1`) gives the
   carried value before trip `k`, each trip's yield a function the run finds. One trip calls the
   parts `k0_part1`, `k0_part2`, `k0_part3`. Per trip it STORES through arg11 at (k0_off5 i k0_t1);
   arg15 at (k0_off8 i k0_t1). It LOADS through arg2 at (k0_off5 i k0_t1); arg9 at (k0_off5 i
   k0_t1); arg8 at (k0_off5 i k0_t1); arg5 at (k0_off5 i k0_t1); arg7 at (k0_off6 i k0_t1); arg7 at
   (k0_off7 i k0_t1); arg11 at (k0_off5 i k0_t1); arg15 at (k0_off8 i k0_t1). GENERATED below:
   `Gen.loopInv_k0_t1` (`@[sl_loop]`), at the frame kit's algebra — a run at that algebra (the
   generated frame's, or a hand proof's over `MT nD τ sig Unit (Elt F) ℕ (UR sig nD τ) ℕ`) goes
   through the loop with nothing more to state; a proof at another algebra instances the class
   itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v204 : BitVec 32) (init : FVec F S512x128 .f32 × FVec F S512x128 .f32 × FVec F S512x128 .f32 × FVec F S512x128 .f32 × FVec F S1x512 .f32 × FVec F S1x512 .f32) :=
  Idealize.ShloMosaic.LoopInv (M := MT nD τ sig Ix (Elt F) Name U Lvl) Idealize.ShloMosaic.frame (wpE defs₀ 𝒱 (c : Thread nD τ) bd) E
    (k0_t1_loop i).lb (k0_t1_loop i).ub (k0_t1_loop i).st (k0_t1_ok i) init (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204)

/-! ### `k0_t1_loop i`: the generated invariant (classifier: listed) -/

/-- One trip's resources: what the region reads (arg2, arg5, arg7, arg8, arg9) at its contents, what
   it writes (arg11, arg15) at any. -/
abbrev Trip_k0_t1 (c : Dev nD) (arg2 : Memref sig .tc .vmem S4096x128 .f32) (arg5 : Memref sig .tc .vmem S4096x128 .f32) (arg7 : Memref sig .tc .vmem S2x4096x128 .f32) (arg8 : Memref sig .tc .vmem S4096x128 .bf16) (arg9 : Memref sig .tc .vmem S4096x128 .f32) (arg11 : Memref sig .tc .vmem S4096x128 .f32) (arg15 : Memref sig .tc .vmem S1x4096x128 .f32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (f_arg11 : BufTy.Contents (Elt F) arg11.view.ty) (f_arg15 : BufTy.Contents (Elt F) arg15.view.ty) : sProp 𝕄G :=
  iprop((arg2.view.loc (c : Thread nD τ) ↦[arg2.view.set]{fullShare} X_arg2) ∗ (arg5.view.loc (c : Thread nD τ) ↦[arg5.view.set]{fullShare} X_arg5) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg11.view.loc (c : Thread nD τ) ↦[arg11.view.set]{fullShare} f_arg11) ∗ (arg15.view.loc (c : Thread nD τ) ↦[arg15.view.set]{fullShare} f_arg15))

/-- ONE TRIP of `k0_t1_loop i` at a symbolic `k` and carried value `acc`, run by `sl_exec` (its
   rectangles where the program's in-range evidence puts them, their places unread): what it yields
   and the pieces it writes into arg11, arg15 are the run's own finds — the witnesses `sl_close`
   assigns handing the buffers to the continuation, as functions of the carried value and of the
   contents the trip finds in the memrefs it writes (the region loads some of them back).
   `@[irreducible]`: cited, never unfolded. -/
@[irreducible] def trip_k0_t1 (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v204 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (k : Fin (k0_t1_loop i).trips) :
    Σ' (R_k0_t1 : ((FVec F S512x128 .f32 × FVec F S512x128 .f32 × FVec F S512x128 .f32 × FVec F S512x128 .f32 × FVec F S1x512 .f32 × FVec F S1x512 .f32) → BufTy.Contents (Elt F) arg11.view.ty → BufTy.Contents (Elt F) arg15.view.ty → FVec F S512x128 .f32 × FVec F S512x128 .f32 × FVec F S512x128 .f32 × FVec F S512x128 .f32 × FVec F S1x512 .f32 × FVec F S1x512 .f32)) (L_arg11 : ((FVec F S512x128 .f32 × FVec F S512x128 .f32 × FVec F S512x128 .f32 × FVec F S512x128 .f32 × FVec F S1x512 .f32 × FVec F S1x512 .f32) → BufTy.Contents (Elt F) arg11.view.ty → BufTy.Contents (Elt F) arg15.view.ty → List (View.Piece (Elt F) S4096x128 .f32))) , { L_arg15 : ((FVec F S512x128 .f32 × FVec F S512x128 .f32 × FVec F S512x128 .f32 × FVec F S512x128 .f32 × FVec F S1x512 .f32 × FVec F S1x512 .f32) → BufTy.Contents (Elt F) arg11.view.ty → BufTy.Contents (Elt F) arg15.view.ty → List (View.Piece (Elt F) S1x4096x128 .f32)) // ∀ (E : Set ℕ) (acc : FVec F S512x128 .f32 × FVec F S512x128 .f32 × FVec F S512x128 .f32 × FVec F S512x128 .f32 × FVec F S1x512 .f32 × FVec F S1x512 .f32) (f_arg11 : BufTy.Contents (Elt F) arg11.view.ty) (f_arg15 : BufTy.Contents (Elt F) arg15.view.ty),
      Trip_k0_t1 (F := F) c arg2 arg5 arg7 arg8 arg9 arg11 arg15 X_arg2 X_arg5 X_arg7 X_arg8 X_arg9 f_arg11 f_arg15
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 k acc)
          (fun yld => iprop(⌜yld = R_k0_t1 acc f_arg11 f_arg15⌝ ∗ Trip_k0_t1 (F := F) c arg2 arg5 arg7 arg8 arg9 arg11 arg15 X_arg2 X_arg5 X_arg7 X_arg8 X_arg9 (arg11.view.writes (Elt F) f_arg11 (L_arg11 acc f_arg11 f_arg15)) (arg15.view.writes (Elt F) f_arg15 (L_arg15 acc f_arg11 f_arg15)))) } := by
  refine ⟨?_, ?_, ?_, fun E acc f_arg11 f_arg15 => ?run⟩
  case run =>
    unfold k0_t1_body
    iintro ⟨HR_arg2, HR_arg5, HR_arg7, HR_arg8, HR_arg9, HW_arg11, HW_arg15⟩
    sl_exec
    sl_step
    sl_close

/-- The trip's result (a plain projection of `trip_…`, for the recursion below to cite without its
   proof). -/
abbrev tripR_k0_t1 (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v204 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (k : Fin (k0_t1_loop i).trips) (acc : FVec F S512x128 .f32 × FVec F S512x128 .f32 × FVec F S512x128 .f32 × FVec F S512x128 .f32 × FVec F S1x512 .f32 × FVec F S1x512 .f32) (f_arg11 : BufTy.Contents (Elt F) arg11.view.ty) (f_arg15 : BufTy.Contents (Elt F) arg15.view.ty) : FVec F S512x128 .f32 × FVec F S512x128 .f32 × FVec F S512x128 .f32 × FVec F S512x128 .f32 × FVec F S1x512 .f32 × FVec F S1x512 .f32 :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 k).1 acc f_arg11 f_arg15

/-- The trip's piece lists (plain projections of `trip_…`, for the recursion below to cite without
   its proof), at the carried value and the contents the trip finds in the written memrefs. -/
abbrev tripL_k0_t1 (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v204 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (k : Fin (k0_t1_loop i).trips) (acc : FVec F S512x128 .f32 × FVec F S512x128 .f32 × FVec F S512x128 .f32 × FVec F S512x128 .f32 × FVec F S1x512 .f32 × FVec F S1x512 .f32) (f_arg11 : BufTy.Contents (Elt F) arg11.view.ty) (f_arg15 : BufTy.Contents (Elt F) arg15.view.ty) : List (View.Piece (Elt F) S4096x128 .f32) × List (View.Piece (Elt F) S1x4096x128 .f32) :=
  ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 k).2.1 acc f_arg11 f_arg15, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 k).2.2.1 acc f_arg11 f_arg15)

/-- Trip `k`'s contribution to the state the recursion `st_k0_t1` below carries (`prev`): its result
   as the new carried value and its pieces in front, per written memref; past the last trip, `prev`
   itself. -/
@[irreducible] def st_k0_t1Step (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v204 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) (G_arg15 : BufTy.Contents (Elt F) arg15.view.ty) (init : FVec F S512x128 .f32 × FVec F S512x128 .f32 × FVec F S512x128 .f32 × FVec F S512x128 .f32 × FVec F S1x512 .f32 × FVec F S1x512 .f32) (k : ℕ) (prev : (FVec F S512x128 .f32 × FVec F S512x128 .f32 × FVec F S512x128 .f32 × FVec F S512x128 .f32 × FVec F S1x512 .f32 × FVec F S1x512 .f32) × List (View.Piece (Elt F) S4096x128 .f32) × List (View.Piece (Elt F) S1x4096x128 .f32)) : (FVec F S512x128 .f32 × FVec F S512x128 .f32 × FVec F S512x128 .f32 × FVec F S512x128 .f32 × FVec F S1x512 .f32 × FVec F S1x512 .f32) × List (View.Piece (Elt F) S4096x128 .f32) × List (View.Piece (Elt F) S1x4096x128 .f32) :=
  if h : k < (k0_t1_loop i).trips then
    (tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 ⟨k, h⟩ prev.1 (arg11.view.writes (Elt F) G_arg11 prev.2.1) (arg15.view.writes (Elt F) G_arg15 prev.2.2), (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 ⟨k, h⟩ prev.1 (arg11.view.writes (Elt F) G_arg11 prev.2.1) (arg15.view.writes (Elt F) G_arg15 prev.2.2)).1 ++ prev.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 ⟨k, h⟩ prev.1 (arg11.view.writes (Elt F) G_arg11 prev.2.1) (arg15.view.writes (Elt F) G_arg15 prev.2.2)).2 ++ prev.2.2)
  else prev

/-- The STATE before trip `k`: the carried value and, per written memref, the pieces of the trips
   before (last first), starting from the contents `G_·` at loop entry; each trip's pieces taken at
   the contents the earlier trips left. -/
def st_k0_t1 (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v204 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) (G_arg15 : BufTy.Contents (Elt F) arg15.view.ty) (init : FVec F S512x128 .f32 × FVec F S512x128 .f32 × FVec F S512x128 .f32 × FVec F S512x128 .f32 × FVec F S1x512 .f32 × FVec F S1x512 .f32) : ℕ → (FVec F S512x128 .f32 × FVec F S512x128 .f32 × FVec F S512x128 .f32 × FVec F S512x128 .f32 × FVec F S1x512 .f32 × FVec F S1x512 .f32) × List (View.Piece (Elt F) S4096x128 .f32) × List (View.Piece (Elt F) S1x4096x128 .f32)
  | 0 => (init, [], [])
  | k + 1 => st_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k (st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k)

theorem st_k0_t1_succ (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v204 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) (G_arg15 : BufTy.Contents (Elt F) arg15.view.ty) (init : FVec F S512x128 .f32 × FVec F S512x128 .f32 × FVec F S512x128 .f32 × FVec F S512x128 .f32 × FVec F S1x512 .f32 × FVec F S1x512 .f32) (k : Fin (k0_t1_loop i).trips) :
    st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init (k.val + 1)
      = ((tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 k (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k.val).1 (arg11.view.writes (Elt F) G_arg11 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k.val).2.1) (arg15.view.writes (Elt F) G_arg15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k.val).2.2)), (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 k (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k.val).1 (arg11.view.writes (Elt F) G_arg11 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k.val).2.1) (arg15.view.writes (Elt F) G_arg15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k.val).2.2)).1 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k.val).2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 k (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k.val).1 (arg11.view.writes (Elt F) G_arg11 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k.val).2.1) (arg15.view.writes (Elt F) G_arg15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k.val).2.2)).2 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k.val).2.2) := by
  rw [st_k0_t1.eq_2]; unfold st_k0_t1Step; exact dif_pos k.isLt

/-- The carried value before trip 0 is the initial one: the invariant's equation at loop entry,
   which the run closes by this (`sl_pure`) without unfolding the value it holds. -/
theorem st_k0_t1_zero (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v204 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) (G_arg15 : BufTy.Contents (Elt F) arg15.view.ty) (init : FVec F S512x128 .f32 × FVec F S512x128 .f32 × FVec F S512x128 .f32 × FVec F S512x128 .f32 × FVec F S1x512 .f32 × FVec F S1x512 .f32) :
    (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init 0).1 = init := rfl

/-- THE INVARIANT before trip `k`: arg2, arg5, arg7, arg8, arg9 read at `X_·`; arg11, arg15 holding
   the pieces of the trips before `k` written over the contents at loop entry `G_·` (stated `∃ f, …
   ∗ ⌜f = …⌝`, so that a hypothesis of any contents matches and the equation is what is proved); and
   `acc` equal to the state's carried value (an equation the run substitutes after the loop). -/
abbrev inv_k0_t1 (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v204 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) (G_arg15 : BufTy.Contents (Elt F) arg15.view.ty) (init : FVec F S512x128 .f32 × FVec F S512x128 .f32 × FVec F S512x128 .f32 × FVec F S512x128 .f32 × FVec F S1x512 .f32 × FVec F S1x512 .f32) (k : ℕ) (acc : FVec F S512x128 .f32 × FVec F S512x128 .f32 × FVec F S512x128 .f32 × FVec F S512x128 .f32 × FVec F S1x512 .f32 × FVec F S1x512 .f32) : sProp 𝕄G :=
  iprop((arg2.view.loc (c : Thread nD τ) ↦[arg2.view.set]{fullShare} X_arg2) ∗ (arg5.view.loc (c : Thread nD τ) ↦[arg5.view.set]{fullShare} X_arg5) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (∃ f, (arg11.view.loc (c : Thread nD τ) ↦[arg11.view.set]{fullShare} f) ∗ ⌜f = arg11.view.writes (Elt F) G_arg11 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k).2.1⌝) ∗ (∃ f, (arg15.view.loc (c : Thread nD τ) ↦[arg15.view.set]{fullShare} f) ∗ ⌜f = arg15.view.writes (Elt F) G_arg15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k).2.2⌝) ∗ ⌜acc = (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k).1⌝)

set_option warn.classDefReducibility false in
/-- THE LOOP BY ITS INVARIANT — generated (`@[sl_loop]`: `sl_exec` finds it meeting `k0_t1_loop i`,
   fixing `X_· G_·` and `init` against the context; after the loop each written memref holds `writes
   G (st … trips).2` and what it yields is `(st … trips).1`). -/
@[sl_loop] def loopInv_k0_t1 (𝒱 : Variants) (c : Dev nD) (bd : Option 𝒱.V) (E : Set ℕ) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v204 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) (G_arg15 : BufTy.Contents (Elt F) arg15.view.ty) (init : FVec F S512x128 .f32 × FVec F S512x128 .f32 × FVec F S512x128 .f32 × FVec F S512x128 .f32 × FVec F S1x512 .f32 × FVec F S1x512 .f32) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 init where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init
  step k acc := by
    iintro ⟨HR_arg2, HR_arg5, HR_arg7, HR_arg8, HR_arg9, ⟨%f_arg11, HW_arg11, %h_arg11⟩, ⟨%f_arg15, HW_arg15, %h_arg15⟩, %h_acc⟩
    subst h_acc
    iapply (wp_wand_r Idealize.ShloMosaic.frame (wpE (defs₀ (F := F)) 𝒱 (c : Thread nD τ) bd) E)
    isplitl [HR_arg2 HR_arg5 HR_arg7 HR_arg8 HR_arg9 HW_arg11 HW_arg15]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 k).2.2.2 E (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v204 X_arg2 X_arg5 X_arg7 X_arg8 X_arg9 G_arg11 G_arg15 init k).1 f_arg11 f_arg15)
      isplitl [HR_arg2]; · iexact HR_arg2
      isplitl [HR_arg5]; · iexact HR_arg5
      isplitl [HR_arg7]; · iexact HR_arg7
      isplitl [HR_arg8]; · iexact HR_arg8
      isplitl [HR_arg9]; · iexact HR_arg9
      isplitl [HW_arg11]; · iexact HW_arg11
      iexact HW_arg15
    · iintro %yld ⟨%h_res, HR_arg2, HR_arg5, HR_arg7, HR_arg8, HR_arg9, HW_arg11, HW_arg15⟩
      isplitl [HR_arg2]; · iexact HR_arg2
      isplitl [HR_arg5]; · iexact HR_arg5
      isplitl [HR_arg7]; · iexact HR_arg7
      isplitl [HR_arg8]; · iexact HR_arg8
      isplitl [HR_arg9]; · iexact HR_arg9
      simp only [st_k0_t1_succ]
      isplitl [HW_arg11]
      · iexists _; isplitl [HW_arg11]; · iexact HW_arg11
        ipureintro; rw [h_arg11, h_arg15, ← View.writes_append]
      isplitl [HW_arg15]
      · iexists _; isplitl [HW_arg15]; · iexact HW_arg15
        ipureintro; rw [h_arg11, h_arg15, ← View.writes_append]
      ipureintro; rw [h_res, h_arg11, h_arg15]

/-- The class of invariants of `k0_part11`'s counted loop `k0_t2_loop i` (`%211:6 = scf.for %arg16 =
   %209 to %206 step %c1_i32_68 iter_args(%arg17 = %210#0, %arg18 = %210#1, %arg19 = %210#2, %arg20
   = %210#3, %arg21 = %210#4, %arg22 = %210#5) -> (vector<512x128xf32>, vector<512x128xf32>,
   vector<512x128xf32>, vector<512x128xf32>, vector<1x512xf32>, vector<1x512xf32>) : i32 {`), trip
   `k0_t2`, carrying `FVec F S512x128 .f32 × FVec F S512x128 .f32 × FVec F S512x128 .f32 × FVec F
   S512x128 .f32 × FVec F S1x512 .f32 × FVec F S1x512 .f32`, region `Gen.k0_t2_body`. Classifier:
   LISTED — every store at a `Rect.unit` through a memref parameter of the region, no rectangle
   computed from the carried value, no transfer or conditional inside: the invariant is the pieces
   of the trips before `k`; not affine (its bounds are not constants (the trip count reads a word
   from memory, or depends on the grid point or an outer trip)), so a frame cannot place those
   pieces and must find the memref written covered by a whole-block store of the same case. The
   region loads back what it stores into `arg11`, `arg15` (an accumulation): each trip's pieces are
   stated as functions of the contents it finds there. The same recursion (`Gen.st_k0_t2`) gives the
   carried value before trip `k`, each trip's yield a function the run finds. One trip calls the
   parts `k0_part4`, `k0_part5`, `k0_part6`. Per trip it STORES through arg11 at (k0_off9 i k0_t2);
   arg15 at (k0_off12 i k0_t2). It LOADS through arg2 at (k0_off9 i k0_t2); arg9 at (k0_off9 i
   k0_t2); arg8 at (k0_off9 i k0_t2); arg5 at (k0_off9 i k0_t2); arg7 at (k0_off10 i k0_t2); arg7 at
   (k0_off11 i k0_t2); arg11 at (k0_off9 i k0_t2); arg15 at (k0_off12 i k0_t2). GENERATED below:
   `Gen.loopInv_k0_t2` (`@[sl_loop]`), at the frame kit's algebra — a run at that algebra (the
   generated frame's, or a hand proof's over `MT nD τ sig Unit (Elt F) ℕ (UR sig nD τ) ℕ`) goes
   through the loop with nothing more to state; a proof at another algebra instances the class
   itself, after this one. -/
abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v209 : BitVec 32) (init : FVec F S512x128 .f32 × FVec F S512x128 .f32 × FVec F S512x128 .f32 × FVec F S512x128 .f32 × FVec F S1x512 .f32 × FVec F S1x512 .f32) :=
  Idealize.ShloMosaic.LoopInv (M := MT nD τ sig Ix (Elt F) Name U Lvl) Idealize.ShloMosaic.frame (wpE defs₀ 𝒱 (c : Thread nD τ) bd) E
    (k0_t2_loop i).lb (k0_t2_loop i).ub (k0_t2_loop i).st (k0_t2_ok i) init (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209)

/-! ### `k0_t2_loop i`: the generated invariant (classifier: listed) -/

/-- One trip's resources: what the region reads (arg2, arg5, arg7, arg8, arg9) at its contents, what
   it writes (arg11, arg15) at any. -/
abbrev Trip_k0_t2 (c : Dev nD) (arg2 : Memref sig .tc .vmem S4096x128 .f32) (arg5 : Memref sig .tc .vmem S4096x128 .f32) (arg7 : Memref sig .tc .vmem S2x4096x128 .f32) (arg8 : Memref sig .tc .vmem S4096x128 .bf16) (arg9 : Memref sig .tc .vmem S4096x128 .f32) (arg11 : Memref sig .tc .vmem S4096x128 .f32) (arg15 : Memref sig .tc .vmem S1x4096x128 .f32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (f_arg11 : BufTy.Contents (Elt F) arg11.view.ty) (f_arg15 : BufTy.Contents (Elt F) arg15.view.ty) : sProp 𝕄G :=
  iprop((arg2.view.loc (c : Thread nD τ) ↦[arg2.view.set]{fullShare} X_arg2) ∗ (arg5.view.loc (c : Thread nD τ) ↦[arg5.view.set]{fullShare} X_arg5) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg11.view.loc (c : Thread nD τ) ↦[arg11.view.set]{fullShare} f_arg11) ∗ (arg15.view.loc (c : Thread nD τ) ↦[arg15.view.set]{fullShare} f_arg15))

/-- ONE TRIP of `k0_t2_loop i` at a symbolic `k` and carried value `acc`, run by `sl_exec` (its
   rectangles where the program's in-range evidence puts them, their places unread): what it yields
   and the pieces it writes into arg11, arg15 are the run's own finds — the witnesses `sl_close`
   assigns handing the buffers to the continuation, as functions of the carried value and of the
   contents the trip finds in the memrefs it writes (the region loads some of them back).
   `@[irreducible]`: cited, never unfolded. -/
@[irreducible] def trip_k0_t2 (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v209 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (k : Fin (k0_t2_loop i).trips) :
    Σ' (R_k0_t2 : ((FVec F S512x128 .f32 × FVec F S512x128 .f32 × FVec F S512x128 .f32 × FVec F S512x128 .f32 × FVec F S1x512 .f32 × FVec F S1x512 .f32) → BufTy.Contents (Elt F) arg11.view.ty → BufTy.Contents (Elt F) arg15.view.ty → FVec F S512x128 .f32 × FVec F S512x128 .f32 × FVec F S512x128 .f32 × FVec F S512x128 .f32 × FVec F S1x512 .f32 × FVec F S1x512 .f32)) (L_arg11 : ((FVec F S512x128 .f32 × FVec F S512x128 .f32 × FVec F S512x128 .f32 × FVec F S512x128 .f32 × FVec F S1x512 .f32 × FVec F S1x512 .f32) → BufTy.Contents (Elt F) arg11.view.ty → BufTy.Contents (Elt F) arg15.view.ty → List (View.Piece (Elt F) S4096x128 .f32))) , { L_arg15 : ((FVec F S512x128 .f32 × FVec F S512x128 .f32 × FVec F S512x128 .f32 × FVec F S512x128 .f32 × FVec F S1x512 .f32 × FVec F S1x512 .f32) → BufTy.Contents (Elt F) arg11.view.ty → BufTy.Contents (Elt F) arg15.view.ty → List (View.Piece (Elt F) S1x4096x128 .f32)) // ∀ (E : Set ℕ) (acc : FVec F S512x128 .f32 × FVec F S512x128 .f32 × FVec F S512x128 .f32 × FVec F S512x128 .f32 × FVec F S1x512 .f32 × FVec F S1x512 .f32) (f_arg11 : BufTy.Contents (Elt F) arg11.view.ty) (f_arg15 : BufTy.Contents (Elt F) arg15.view.ty),
      Trip_k0_t2 (F := F) c arg2 arg5 arg7 arg8 arg9 arg11 arg15 X_arg2 X_arg5 X_arg7 X_arg8 X_arg9 f_arg11 f_arg15
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 k acc)
          (fun yld => iprop(⌜yld = R_k0_t2 acc f_arg11 f_arg15⌝ ∗ Trip_k0_t2 (F := F) c arg2 arg5 arg7 arg8 arg9 arg11 arg15 X_arg2 X_arg5 X_arg7 X_arg8 X_arg9 (arg11.view.writes (Elt F) f_arg11 (L_arg11 acc f_arg11 f_arg15)) (arg15.view.writes (Elt F) f_arg15 (L_arg15 acc f_arg11 f_arg15)))) } := by
  refine ⟨?_, ?_, ?_, fun E acc f_arg11 f_arg15 => ?run⟩
  case run =>
    unfold k0_t2_body
    iintro ⟨HR_arg2, HR_arg5, HR_arg7, HR_arg8, HR_arg9, HW_arg11, HW_arg15⟩
    sl_exec
    sl_step
    sl_close

/-- The trip's result (a plain projection of `trip_…`, for the recursion below to cite without its
   proof). -/
abbrev tripR_k0_t2 (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v209 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (k : Fin (k0_t2_loop i).trips) (acc : FVec F S512x128 .f32 × FVec F S512x128 .f32 × FVec F S512x128 .f32 × FVec F S512x128 .f32 × FVec F S1x512 .f32 × FVec F S1x512 .f32) (f_arg11 : BufTy.Contents (Elt F) arg11.view.ty) (f_arg15 : BufTy.Contents (Elt F) arg15.view.ty) : FVec F S512x128 .f32 × FVec F S512x128 .f32 × FVec F S512x128 .f32 × FVec F S512x128 .f32 × FVec F S1x512 .f32 × FVec F S1x512 .f32 :=
  (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 k).1 acc f_arg11 f_arg15

/-- The trip's piece lists (plain projections of `trip_…`, for the recursion below to cite without
   its proof), at the carried value and the contents the trip finds in the written memrefs. -/
abbrev tripL_k0_t2 (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v209 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (k : Fin (k0_t2_loop i).trips) (acc : FVec F S512x128 .f32 × FVec F S512x128 .f32 × FVec F S512x128 .f32 × FVec F S512x128 .f32 × FVec F S1x512 .f32 × FVec F S1x512 .f32) (f_arg11 : BufTy.Contents (Elt F) arg11.view.ty) (f_arg15 : BufTy.Contents (Elt F) arg15.view.ty) : List (View.Piece (Elt F) S4096x128 .f32) × List (View.Piece (Elt F) S1x4096x128 .f32) :=
  ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 k).2.1 acc f_arg11 f_arg15, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 k).2.2.1 acc f_arg11 f_arg15)

/-- Trip `k`'s contribution to the state the recursion `st_k0_t2` below carries (`prev`): its result
   as the new carried value and its pieces in front, per written memref; past the last trip, `prev`
   itself. -/
@[irreducible] def st_k0_t2Step (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v209 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) (G_arg15 : BufTy.Contents (Elt F) arg15.view.ty) (init : FVec F S512x128 .f32 × FVec F S512x128 .f32 × FVec F S512x128 .f32 × FVec F S512x128 .f32 × FVec F S1x512 .f32 × FVec F S1x512 .f32) (k : ℕ) (prev : (FVec F S512x128 .f32 × FVec F S512x128 .f32 × FVec F S512x128 .f32 × FVec F S512x128 .f32 × FVec F S1x512 .f32 × FVec F S1x512 .f32) × List (View.Piece (Elt F) S4096x128 .f32) × List (View.Piece (Elt F) S1x4096x128 .f32)) : (FVec F S512x128 .f32 × FVec F S512x128 .f32 × FVec F S512x128 .f32 × FVec F S512x128 .f32 × FVec F S1x512 .f32 × FVec F S1x512 .f32) × List (View.Piece (Elt F) S4096x128 .f32) × List (View.Piece (Elt F) S1x4096x128 .f32) :=
  if h : k < (k0_t2_loop i).trips then
    (tripR_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 ⟨k, h⟩ prev.1 (arg11.view.writes (Elt F) G_arg11 prev.2.1) (arg15.view.writes (Elt F) G_arg15 prev.2.2), (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 ⟨k, h⟩ prev.1 (arg11.view.writes (Elt F) G_arg11 prev.2.1) (arg15.view.writes (Elt F) G_arg15 prev.2.2)).1 ++ prev.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 ⟨k, h⟩ prev.1 (arg11.view.writes (Elt F) G_arg11 prev.2.1) (arg15.view.writes (Elt F) G_arg15 prev.2.2)).2 ++ prev.2.2)
  else prev

/-- The STATE before trip `k`: the carried value and, per written memref, the pieces of the trips
   before (last first), starting from the contents `G_·` at loop entry; each trip's pieces taken at
   the contents the earlier trips left. -/
def st_k0_t2 (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v209 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) (G_arg15 : BufTy.Contents (Elt F) arg15.view.ty) (init : FVec F S512x128 .f32 × FVec F S512x128 .f32 × FVec F S512x128 .f32 × FVec F S512x128 .f32 × FVec F S1x512 .f32 × FVec F S1x512 .f32) : ℕ → (FVec F S512x128 .f32 × FVec F S512x128 .f32 × FVec F S512x128 .f32 × FVec F S512x128 .f32 × FVec F S1x512 .f32 × FVec F S1x512 .f32) × List (View.Piece (Elt F) S4096x128 .f32) × List (View.Piece (Elt F) S1x4096x128 .f32)
  | 0 => (init, [], [])
  | k + 1 => st_k0_t2Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k (st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k)

theorem st_k0_t2_succ (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v209 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) (G_arg15 : BufTy.Contents (Elt F) arg15.view.ty) (init : FVec F S512x128 .f32 × FVec F S512x128 .f32 × FVec F S512x128 .f32 × FVec F S512x128 .f32 × FVec F S1x512 .f32 × FVec F S1x512 .f32) (k : Fin (k0_t2_loop i).trips) :
    st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init (k.val + 1)
      = ((tripR_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 k (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k.val).1 (arg11.view.writes (Elt F) G_arg11 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k.val).2.1) (arg15.view.writes (Elt F) G_arg15 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k.val).2.2)), (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 k (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k.val).1 (arg11.view.writes (Elt F) G_arg11 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k.val).2.1) (arg15.view.writes (Elt F) G_arg15 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k.val).2.2)).1 ++ (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k.val).2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 k (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k.val).1 (arg11.view.writes (Elt F) G_arg11 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k.val).2.1) (arg15.view.writes (Elt F) G_arg15 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k.val).2.2)).2 ++ (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k.val).2.2) := by
  rw [st_k0_t2.eq_2]; unfold st_k0_t2Step; exact dif_pos k.isLt

/-- The carried value before trip 0 is the initial one: the invariant's equation at loop entry,
   which the run closes by this (`sl_pure`) without unfolding the value it holds. -/
theorem st_k0_t2_zero (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v209 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) (G_arg15 : BufTy.Contents (Elt F) arg15.view.ty) (init : FVec F S512x128 .f32 × FVec F S512x128 .f32 × FVec F S512x128 .f32 × FVec F S512x128 .f32 × FVec F S1x512 .f32 × FVec F S1x512 .f32) :
    (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init 0).1 = init := rfl

/-- THE INVARIANT before trip `k`: arg2, arg5, arg7, arg8, arg9 read at `X_·`; arg11, arg15 holding
   the pieces of the trips before `k` written over the contents at loop entry `G_·` (stated `∃ f, …
   ∗ ⌜f = …⌝`, so that a hypothesis of any contents matches and the equation is what is proved); and
   `acc` equal to the state's carried value (an equation the run substitutes after the loop). -/
abbrev inv_k0_t2 (𝒱 : Variants) (c : Dev nD) (bd : Option 𝒱.V) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v209 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) (G_arg15 : BufTy.Contents (Elt F) arg15.view.ty) (init : FVec F S512x128 .f32 × FVec F S512x128 .f32 × FVec F S512x128 .f32 × FVec F S512x128 .f32 × FVec F S1x512 .f32 × FVec F S1x512 .f32) (k : ℕ) (acc : FVec F S512x128 .f32 × FVec F S512x128 .f32 × FVec F S512x128 .f32 × FVec F S512x128 .f32 × FVec F S1x512 .f32 × FVec F S1x512 .f32) : sProp 𝕄G :=
  iprop((arg2.view.loc (c : Thread nD τ) ↦[arg2.view.set]{fullShare} X_arg2) ∗ (arg5.view.loc (c : Thread nD τ) ↦[arg5.view.set]{fullShare} X_arg5) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (∃ f, (arg11.view.loc (c : Thread nD τ) ↦[arg11.view.set]{fullShare} f) ∗ ⌜f = arg11.view.writes (Elt F) G_arg11 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k).2.1⌝) ∗ (∃ f, (arg15.view.loc (c : Thread nD τ) ↦[arg15.view.set]{fullShare} f) ∗ ⌜f = arg15.view.writes (Elt F) G_arg15 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k).2.2⌝) ∗ ⌜acc = (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k).1⌝)

set_option warn.classDefReducibility false in
/-- THE LOOP BY ITS INVARIANT — generated (`@[sl_loop]`: `sl_exec` finds it meeting `k0_t2_loop i`,
   fixing `X_· G_·` and `init` against the context; after the loop each written memref holds `writes
   G (st … trips).2` and what it yields is `(st … trips).1`). -/
@[sl_loop] def loopInv_k0_t2 (𝒱 : Variants) (c : Dev nD) (bd : Option 𝒱.V) (E : Set ℕ) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (arg0 : BitVec 32) (arg1 : BitVec 32) (v0 : IVec S1x128 32) (v2 : IVec S1x128 1) (v7 : FVec F S512x128 .bf16) (v12 : FVec F S512x128 .bf16) (v17 : FVec F S512x128 .bf16) (v22 : FVec F S512x128 .bf16) (v27 : FVec F S512x128 .bf16) (v39 : FVec F S1x512 .f32) (v48 : FVec F S1x512 .f32) (v53 : FVec F S1x512 .f32) (v55 : BitVec 32) (v142 : FVec F S512x512 .f32) (v145 : FVec F S512x512 .f32) (v150 : FVec F S512x128 .f32) (v153 : FVec F S512x128 .f32) (v155 : FVec F S512x128 .f32) (v157 : FVec F S512x128 .f32) (v172 : FVec F S1x512 .f32) (v209 : BitVec 32) (X_arg2 : BufTy.Contents (Elt F) arg2.view.ty) (X_arg5 : BufTy.Contents (Elt F) arg5.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) (G_arg15 : BufTy.Contents (Elt F) arg15.view.ty) (init : FVec F S512x128 .f32 × FVec F S512x128 .f32 × FVec F S512x128 .f32 × FVec F S512x128 .f32 × FVec F S1x512 .f32 × FVec F S1x512 .f32) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 init where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init
  step k acc := by
    iintro ⟨HR_arg2, HR_arg5, HR_arg7, HR_arg8, HR_arg9, ⟨%f_arg11, HW_arg11, %h_arg11⟩, ⟨%f_arg15, HW_arg15, %h_arg15⟩, %h_acc⟩
    subst h_acc
    iapply (wp_wand_r Idealize.ShloMosaic.frame (wpE (defs₀ (F := F)) 𝒱 (c : Thread nD τ) bd) E)
    isplitl [HR_arg2 HR_arg5 HR_arg7 HR_arg8 HR_arg9 HW_arg11 HW_arg15]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 k).2.2.2 E (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v2 v7 v12 v17 v22 v27 v39 v48 v53 v55 v142 v145 v150 v153 v155 v157 v172 v209 X_arg2 X_arg5 X_arg7 X_arg8 X_arg9 G_arg11 G_arg15 init k).1 f_arg11 f_arg15)
      isplitl [HR_arg2]; · iexact HR_arg2
      isplitl [HR_arg5]; · iexact HR_arg5
      isplitl [HR_arg7]; · iexact HR_arg7
      isplitl [HR_arg8]; · iexact HR_arg8
      isplitl [HR_arg9]; · iexact HR_arg9
      isplitl [HW_arg11]; · iexact HW_arg11
      iexact HW_arg15
    · iintro %yld ⟨%h_res, HR_arg2, HR_arg5, HR_arg7, HR_arg8, HR_arg9, HW_arg11, HW_arg15⟩
      isplitl [HR_arg2]; · iexact HR_arg2
      isplitl [HR_arg5]; · iexact HR_arg5
      isplitl [HR_arg7]; · iexact HR_arg7
      isplitl [HR_arg8]; · iexact HR_arg8
      isplitl [HR_arg9]; · iexact HR_arg9
      simp only [st_k0_t2_succ]
      isplitl [HW_arg11]
      · iexists _; isplitl [HW_arg11]; · iexact HW_arg11
        ipureintro; rw [h_arg11, h_arg15, ← View.writes_append]
      isplitl [HW_arg15]
      · iexists _; isplitl [HW_arg15]; · iexact HW_arg15
        ipureintro; rw [h_arg11, h_arg15, ← View.writes_append]
      ipureintro; rw [h_res, h_arg11, h_arg15]

end Cert.KernelIdeal.Att

end
-- ==== Proof.AttPoint.lean ====
/- The vector arithmetic of the kernel `attention_bwd` at one grid point, read entry by entry over the extended reals.
   A point is a pair of heads and a block of 512 keys; the kernel walks over the blocks of 512 query rows from the diagonal on.
   For head `e` of the pair, query row `r` and key `s` of the block, `pr` is the attention weight, `dp` the gradient in it,
   `de` the row's sum of the output times its gradient and `ds` the gradient in the logit. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.SL.Sem

/-- The named constant that scales q: an eighth of log₂ e. -/
abbrev QS : Ideal .f32 := Named.named (F := Ideal) κ "qscale" 0x3E38AA3B#32
/-- The named constant log₂ e. -/
abbrev LE : Ideal .f32 := Named.named (F := Ideal) κ "log2e" 0x3FB8AA3B#32
/-- The named constant of the masked logits. -/
abbrev NG : Ideal .f32 := Named.named (F := Ideal) κ "neg" 0xF149F2CA#32

/-- Row `y` of the block `b` of 512 rows. -/
def rr (b : Fin 8) (y : Fin 512) : Fin 4096 := ⟨512 * b.val + y.val, by omega⟩

/-- The lane of head `e` of the point's pair, among 128. -/
def lane (i : grid0.Coords) (e : Fin 2) : Fin 128 :=
  ⟨2 * (i 0).val + e.val, by have h : (i 0).val < 4 := (i 0).isLt; omega⟩
/-- The row of head `e` of the point's pair, among 8. -/
def row8 (i : grid0.Coords) (e : Fin 2) : Fin 8 :=
  ⟨2 * (i 0).val + e.val, by have h : (i 0).val < 4 := (i 0).isLt; omega⟩

/-- Block `b` of the rows of `x`. -/
def rows {t : FTy} (x : FVec Ideal S4096x128 t) (b : Fin 8) : FVec Ideal S512x128 t := fun y => x (ix2 (rr b (y 0)) (y 1))
/-- Block `b` of the rows of plane `e` of `x`. -/
def rows5 (x : FVec Ideal S2x4096x128 .f32) (e : Fin 2) (b : Fin 8) : FVec Ideal S1x512x128 .f32 :=
  fun y => x (ix3 e (rr b (y 1)) (y 2))

theorem sel_first {α : Type} (x : Fin 128) (a b : α) :
    Scalar.select (IntOp.cmpi .slt (BitVec.ofNat 32 x.val) 64#32) a b = if x.val < 64 then a else b := by
  have h : ∀ x : Fin 128, (IntOp.cmpi .slt (BitVec.ofNat 32 x.val) 64#32 = 1) ↔ x.val < 64 := by decide +kernel
  unfold Scalar.select
  simp only [h]

theorem sel_ge {α : Type} (y s : Fin 512) (a b : α) :
    Scalar.select (IntOp.cmpi .sge (BitVec.ofNat 32 y.val) (BitVec.ofNat 32 s.val)) a b = if s.val ≤ y.val then a else b := by
  have h : (IntOp.cmpi .sge (BitVec.ofNat 32 y.val) (BitVec.ofNat 32 s.val) = 1) ↔ s.val ≤ y.val := by
    have hy : (BitVec.ofNat 32 y.val).toInt = y.val := by
      have := y.isLt
      rw [BitVec.toInt_eq_toNat_of_lt (by rw [BitVec.toNat_ofNat]; omega), BitVec.toNat_ofNat]; omega
    have hs : (BitVec.ofNat 32 s.val).toInt = s.val := by
      have := s.isLt
      rw [BitVec.toInt_eq_toNat_of_lt (by rw [BitVec.toNat_ofNat]; omega), BitVec.toNat_ofNat]; omega
    simp only [IntOp.cmpi, BitVec.sle, hy, hs, Int.ofNat_le]
    by_cases hsy : s.val ≤ y.val <;> simp [hsy]
  unfold Scalar.select
  simp only [h]

theorem lane_eq0 (i : grid0.Coords) (x : Fin 128) :
    (IntOp.cmpi .eq (BitVec.ofNat 32 x.val) (Scalar.muli 2#32 (BitVec.ofNat 32 (i 0).val)) = 1) ↔ x = lane i 0 := by
  have h : ∀ (p : Fin 4) (x : Fin 128), (IntOp.cmpi .eq (BitVec.ofNat 32 x.val) (Scalar.muli 2#32 (BitVec.ofNat 32 p.val)) = 1#1)
      ↔ x.val = 2 * p.val := by decide +kernel
  exact (h (i 0) x).trans (by rw [Fin.ext_iff]; rfl)

theorem lane_eq1 (i : grid0.Coords) (x : Fin 128) :
    (IntOp.cmpi .eq (BitVec.ofNat 32 x.val) (Scalar.addi (Scalar.muli 2#32 (BitVec.ofNat 32 (i 0).val)) 1#32) = 1) ↔ x = lane i 1 := by
  have h : ∀ (p : Fin 4) (x : Fin 128), (IntOp.cmpi .eq (BitVec.ofNat 32 x.val) (Scalar.addi (Scalar.muli 2#32 (BitVec.ofNat 32 p.val)) 1#32) = 1#1)
      ↔ x.val = 2 * p.val + 1 := by decide +kernel
  exact (h (i 0) x).trans (by rw [Fin.ext_iff]; rfl)

theorem row_eq0 (i : grid0.Coords) (x : Fin 8) :
    (IntOp.cmpi .eq (BitVec.ofNat 32 x.val) (Scalar.muli 2#32 (BitVec.ofNat 32 (i 0).val)) = 1) ↔ x = row8 i 0 := by
  have h : ∀ (p : Fin 4) (x : Fin 8), (IntOp.cmpi .eq (BitVec.ofNat 32 x.val) (Scalar.muli 2#32 (BitVec.ofNat 32 p.val)) = 1#1)
      ↔ x.val = 2 * p.val := by decide +kernel
  exact (h (i 0) x).trans (by rw [Fin.ext_iff]; rfl)

theorem row_eq1 (i : grid0.Coords) (x : Fin 8) :
    (IntOp.cmpi .eq (BitVec.ofNat 32 x.val) (Scalar.addi (Scalar.muli 2#32 (BitVec.ofNat 32 (i 0).val)) 1#32) = 1) ↔ x = row8 i 1 := by
  have h : ∀ (p : Fin 4) (x : Fin 8), (IntOp.cmpi .eq (BitVec.ofNat 32 x.val) (Scalar.addi (Scalar.muli 2#32 (BitVec.ofNat 32 p.val)) 1#32) = 1#1)
      ↔ x.val = 2 * p.val + 1 := by decide +kernel
  exact (h (i 0) x).trans (by rw [Fin.ext_iff]; rfl)

/-- A sum over the lanes that keeps one of them. -/
theorem sum_lane0 (i : grid0.Coords) (f : Fin 128 → Ideal .f32) :
    (∑ x : Fin 128, Scalar.select (IntOp.cmpi .eq (BitVec.ofNat 32 x.val) (Scalar.muli 2#32 (BitVec.ofNat 32 (i 0).val))) (f x) (0 : EReal))
      = f (lane i 0) := by
  unfold Scalar.select
  simp only [lane_eq0, Finset.sum_ite_eq', Finset.mem_univ, if_true]
theorem sum_lane1 (i : grid0.Coords) (f : Fin 128 → Ideal .f32) :
    (∑ x : Fin 128, Scalar.select (IntOp.cmpi .eq (BitVec.ofNat 32 x.val) (Scalar.addi (Scalar.muli 2#32 (BitVec.ofNat 32 (i 0).val)) 1#32)) (f x) (0 : EReal))
      = f (lane i 1) := by
  unfold Scalar.select
  simp only [lane_eq1, Finset.sum_ite_eq', Finset.mem_univ, if_true]
theorem sum_row0 (i : grid0.Coords) (f : Fin 8 → Ideal .f32) :
    (∑ x : Fin 8, Scalar.select (IntOp.cmpi .eq (BitVec.ofNat 32 x.val) (Scalar.muli 2#32 (BitVec.ofNat 32 (i 0).val))) (f x) (0 : EReal))
      = f (row8 i 0) := by
  unfold Scalar.select
  simp only [row_eq0, Finset.sum_ite_eq', Finset.mem_univ, if_true]
theorem sum_row1 (i : grid0.Coords) (f : Fin 8 → Ideal .f32) :
    (∑ x : Fin 8, Scalar.select (IntOp.cmpi .eq (BitVec.ofNat 32 x.val) (Scalar.addi (Scalar.muli 2#32 (BitVec.ofNat 32 (i 0).val)) 1#32)) (f x) (0 : EReal))
      = f (row8 i 1) := by
  unfold Scalar.select
  simp only [row_eq1, Finset.sum_ite_eq', Finset.mem_univ, if_true]

/-- The blocks a point reads: q's rows, its block of k and of v, the gates c by rows and by columns, the rows' log-sums,
    the attention's output and its gradient. -/
structure Blk where
  i : grid0.Coords
  x0 : FVec Ideal S4096x128 .f32
  x1 : FVec Ideal S512x128 .f32
  x2 : FVec Ideal S512x128 .f32
  x3 : FVec Ideal S4096x128 .f32
  x4 : FVec Ideal S8x512 .f32
  x5 : FVec Ideal S2x4096x128 .f32
  x6 : FVec Ideal S4096x128 .bf16
  x7 : FVec Ideal S4096x128 .f32

namespace Blk

variable (B : Blk)

/-- The head a lane belongs to. -/
def hd (l : Fin 128) : Fin 2 := if l.val < 64 then 0 else 1

/-- The scaled product of a query and a key. -/
def sc (e : Fin 2) (r : Fin 4096) (s : Fin 512) : EReal :=
  ∑ l : Fin 128, if hd l = e then B.x0 (ix2 r l) * QS * B.x1 (ix2 s l) else 0
/-- The row's log-sum, less its gate. -/
def ls (e : Fin 2) (r : Fin 4096) : EReal :=
  Finset.fold max (Ideal.ofBits FTy.f32 4286578688#32) (fun l : Fin 128 => B.x5 (ix3 e r l)) Finset.univ - B.x3 (ix2 r (lane B.i e)) * LE
/-- The attention weight. -/
def pr (e : Fin 2) (r : Fin 4096) (s : Fin 512) : EReal :=
  FloatOps.exp2 (F := Ideal) (φ := .f32)
    ((if 512 * (B.i 1).val + s.val ≤ r.val then B.sc e r s - B.x4 (ix2 (row8 B.i e) s) * LE else NG) - B.ls e r)
/-- The gradient in the weight. -/
def dp (e : Fin 2) (r : Fin 4096) (s : Fin 512) : EReal := ∑ l : Fin 128, if hd l = e then B.x7 (ix2 r l) * B.x2 (ix2 s l) else 0
/-- The row's sum of the output times its gradient. -/
def de (e : Fin 2) (r : Fin 4096) : EReal := ∑ l : Fin 128, if hd l = e then B.x7 (ix2 r l) * B.x6 (ix2 r l) else 0
/-- The gradient in the logit. -/
def ds (e : Fin 2) (r : Fin 4096) (s : Fin 512) : EReal := B.pr e r s * (B.dp e r s - B.de e r)

/-- The weights of row block `b`. -/
def PR (e : Fin 2) (b : Fin 8) : FVec Ideal S512x512 .f32 := fun y => B.pr e (rr b (y 0)) (y 1)
def DP (e : Fin 2) (b : Fin 8) : FVec Ideal S512x512 .f32 := fun y => B.dp e (rr b (y 0)) (y 1)
def DS (e : Fin 2) (b : Fin 8) : FVec Ideal S512x512 .f32 := fun y => B.ds e (rr b (y 0)) (y 1)
def DS16 (e : Fin 2) (b : Fin 8) : FVec Ideal S512x512 .bf16 := fun y => B.ds e (rr b (y 0)) (y 1)

abbrev a0 : BitVec 32 := BitVec.ofNat 32 (B.i 0).val
abbrev v39 : FVec Ideal S1x512 .f32 := k0_pay59 B.i B.x4
abbrev v48 : FVec Ideal S1x512 .f32 := k0_pay60 (k0_pay58 B.x4) (Scalar.muli 2#32 B.a0) 1#32

theorem hd_eq0 (l : Fin 128) : (hd l = 0) = (l.val < 64) := by unfold hd; split <;> simp_all
theorem hd_eq1 (l : Fin 128) : (hd l = 1) = ¬ (l.val < 64) := by unfold hd; split <;> simp_all

theorem sel0 (l : Fin 128) (a b : EReal) : (if l.val < 64 then a else b) = if hd l = 0 then a else b := by simp only [hd_eq0]
theorem sel1 (l : Fin 128) (a b : EReal) : (if l.val < 64 then b else a) = if hd l = 1 then a else b := by simp only [hd_eq1, ite_not]

theorem le_of_lt_block (b : Fin 8) (h : (B.i 1).val < b.val) (y s : Fin 512) : 512 * (B.i 1).val + s.val ≤ (rr b y).val := by
  show _ ≤ 512 * b.val + y.val; omega
theorem le_diag (b : Fin 8) (h : (B.i 1).val = b.val) (y s : Fin 512) : (512 * (B.i 1).val + s.val ≤ (rr b y).val) = (s.val ≤ y.val) := by
  show (_ ≤ 512 * b.val + y.val) = _; rw [h]; simp

theorem pr_off0 (b : Fin 8) (h : (B.i 1).val < b.val) :
    k0_pay8 (F := Ideal) B.a0 (k0_pay54 B.x1) B.v39 (rows B.x0 b) (rows B.x3 b) (rows5 B.x5 0 b) = B.PR 0 b := by
  funext y
  idx_vars y
  unfold v39
  unfold_payloads
  pointwise [rows, rows5, PR, pr, sc, ls]
  rw [sum_lane0, sum_row0]
  simp only [sel_first, hd_eq0, B.le_of_lt_block b h, if_true]

theorem pr_off1 (b : Fin 8) (h : (B.i 1).val < b.val) :
    k0_pay10 (F := Ideal) (k0_pay55 B.x1) B.v48 (k0_pay4 (rows B.x0 b)) (k0_pay7 (rows B.x3 b)) (Scalar.muli 2#32 B.a0)
      (rows5 B.x5 1 b) = B.PR 1 b := by
  funext y
  idx_vars y
  unfold v48
  unfold_payloads
  pointwise [rows, rows5, PR, pr, sc, ls]
  rw [sum_lane1, sum_row1]
  simp only [sel_first, hd_eq1, ite_not, B.le_of_lt_block b h, if_true]

theorem pr_diag0 (b : Fin 8) (h : (B.i 1).val = b.val) :
    k0_pay71 (F := Ideal) (k0_pay68 (rows B.x3 b)) (Scalar.muli 2#32 B.a0) (k0_pay69 (rows5 B.x5 0 b))
      (k0_pay70 (k0_pay54 B.x1) B.v39 (rows B.x0 b)) (iota .tc S512x512 32 [0] iota_S512x512_d0_w32) = B.PR 0 b := by
  funext y
  idx_vars y
  unfold v39
  unfold_payloads
  pointwise [rows, rows5, PR, pr, sc, ls]
  rw [sum_lane0, sum_row0]
  simp only [sel_first, sel_ge, hd_eq0, B.le_diag b h]

theorem pr_diag1 (b : Fin 8) (h : (B.i 1).val = b.val) :
    k0_pay73 (F := Ideal) B.a0 (k0_pay55 B.x1) B.v48 (k0_pay65 (rows B.x0 b)) (k0_pay68 (rows B.x3 b)) (rows5 B.x5 1 b) = B.PR 1 b := by
  funext y
  idx_vars y
  unfold v48
  unfold_payloads
  pointwise [rows, rows5, PR, pr, sc, ls]
  rw [sum_lane1, sum_row1]
  simp only [sel_first, sel_ge, hd_eq1, ite_not, B.le_diag b h]

theorem dp_off0 (b : Fin 8) : k0_pay9 (F := Ideal) (k0_pay56 B.x2) (rows B.x7 b) = B.DP 0 b := by
  funext y
  idx_vars y
  unfold_payloads
  pointwise [rows, DP, dp]
  simp only [sel_first, hd_eq0]
theorem dp_diag0 (b : Fin 8) : k0_pay72 (F := Ideal) (k0_pay56 B.x2) (k0_pay66 (rows B.x7 b)) = B.DP 0 b := by
  funext y
  idx_vars y
  unfold_payloads
  pointwise [rows, DP, dp]
  simp only [sel_first, hd_eq0]
theorem dp_diag1 (b : Fin 8) : k0_pay74 (F := Ideal) (k0_pay57 B.x2) (k0_pay66 (rows B.x7 b)) = B.DP 1 b := by
  funext y
  idx_vars y
  unfold_payloads
  pointwise [rows, DP, dp]
  simp only [sel_first, hd_eq1, ite_not]

theorem ds_off0 (b : Fin 8) : k0_pay11 (F := Ideal) k0_pay50 (k0_pay6 (rows B.x7 b) (rows B.x6 b)) (B.PR 0 b) (B.DP 0 b) = B.DS 0 b := by
  funext y
  idx_vars y
  unfold_payloads
  pointwise [rows, DP, PR, DS, ds, de]
  simp only [sel_first, hd_eq0]
theorem ds_off1 (b : Fin 8) (h : (B.i 1).val < b.val) :
    k0_pay12 (F := Ideal) k0_pay50 (k0_pay55 B.x1) (k0_pay57 B.x2) B.v48 (k0_pay4 (rows B.x0 b)) (k0_pay5 (rows B.x7 b))
      (k0_pay6 (rows B.x7 b) (rows B.x6 b)) (k0_pay7 (rows B.x3 b)) (Scalar.muli 2#32 B.a0) (rows5 B.x5 1 b) = B.DS 1 b := by
  unfold k0_pay12
  rw [B.pr_off1 b h]
  funext y
  idx_vars y
  unfold_payloads
  pointwise [rows, PR, DS, ds, de, dp]
  simp only [sel_first, hd_eq1, ite_not]
theorem ds_diag0 (b : Fin 8) : k0_pay75 (F := Ideal) k0_pay50 (k0_pay67 (rows B.x7 b) (rows B.x6 b)) (B.PR 0 b) (B.DP 0 b) = B.DS 0 b := by
  funext y
  idx_vars y
  unfold_payloads
  pointwise [rows, DP, PR, DS, ds, de]
  simp only [sel_first, hd_eq0]
theorem ds_diag1 (b : Fin 8) : k0_pay76 (F := Ideal) k0_pay50 (k0_pay67 (rows B.x7 b) (rows B.x6 b)) (B.PR 1 b) (B.DP 1 b) = B.DS 1 b := by
  funext y
  idx_vars y
  unfold_payloads
  pointwise [rows, DP, PR, DS, ds, de]
  simp only [sel_first, hd_eq1, ite_not]

/-! ## What a row block adds to the point's results -/

/-- The block's share of the gradient of k. -/
def tK (e : Fin 2) (b : Fin 8) (s : Fin 512) (l : Fin 128) : EReal := ∑ z : Fin 512, B.ds e (rr b z) s * (B.x0 (ix2 (rr b z) l) * QS)
/-- The block's share of the gradient of v. -/
def tV (e : Fin 2) (b : Fin 8) (s : Fin 512) (l : Fin 128) : EReal := ∑ z : Fin 512, B.pr e (rr b z) s * B.x7 (ix2 (rr b z) l)
/-- The block's share of the column sums, which are taken away. -/
def tC (e : Fin 2) (b : Fin 8) (s : Fin 512) : EReal := -∑ z : Fin 512, B.ds e (rr b z) s
/-- What the point adds to row `r` of the gradient of q. -/
def tQ (r : Fin 4096) (l : Fin 128) : EReal :=
  Ideal.ofBits .f32 0x3E000000#32 * ∑ s : Fin 512, B.ds (hd l) r s * B.x1 (ix2 s l)
/-- What the point adds to row `r` of the row sums. -/
def tS (r : Fin 4096) (l : Fin 128) : EReal :=
  if l.val = 0 then ∑ s : Fin 512, B.ds 0 r s else if l.val = 1 then ∑ s : Fin 512, B.ds 1 r s else 0

end Blk

end Cert.KernelIdeal.Att
end
-- ==== Proof.AttStep.lean ====
/- How a row block's values enter the results of the kernel `attention_bwd` at one grid point, entry by entry. -/
module

public import proofs.«01_k».proof.Proof.AttPoint

@[expose] public section

set_option maxRecDepth 16384

noncomputable section

namespace Cert.KernelIdeal.Att

open Cert.KernelIdeal Cert.KernelIdeal.Gen Idealize.ShloMosaic Idealize.ShloMosaic.TcCoe Idealize.SL.Sem

/-- The named constant ln 2. -/
abbrev LN2 : Ideal .f32 := Named.named (F := Ideal) κ "ln2" 0x3F317218#32

theorem sel_at0 {α : Type} {n : ℕ} (x : Fin n) (hn : n ≤ 512) (a b : α) :
    Scalar.select (IntOp.cmpi .eq (BitVec.ofNat 32 x.val) 0#32) a b = if x.val = 0 then a else b := by
  have h : (IntOp.cmpi .eq (BitVec.ofNat 32 x.val) 0#32 = 1) ↔ x.val = 0 := by
    have h512 : ∀ x : Fin 512, (IntOp.cmpi .eq (BitVec.ofNat 32 x.val) 0#32 = 1) ↔ x.val = 0 := by decide +kernel
    exact h512 ⟨x.val, by omega⟩
  unfold Scalar.select
  simp only [h]
theorem sel_at1 {α : Type} {n : ℕ} (x : Fin n) (hn : n ≤ 512) (a b : α) :
    Scalar.select (IntOp.cmpi .eq (BitVec.ofNat 32 x.val) 1#32) a b = if x.val = 1 then a else b := by
  have h : (IntOp.cmpi .eq (BitVec.ofNat 32 x.val) 1#32 = 1) ↔ x.val = 1 := by
    have h512 : ∀ x : Fin 512, (IntOp.cmpi .eq (BitVec.ofNat 32 x.val) 1#32 = 1) ↔ x.val = 1 := by decide +kernel
    exact h512 ⟨x.val, by omega⟩
  unfold Scalar.select
  simp only [h]

namespace Blk

variable (B : Blk)

/-- A choice by head. -/
theorem sel_hd (l : Fin 128) (f : Fin 2 → EReal) : (if l.val < 64 then f 0 else f 1) = f (hd l) := by
  unfold hd; split <;> rfl

theorem ds16_off0 (b : Fin 8) : k0_pay13 (F := Ideal) k0_pay50 (k0_pay6 (rows B.x7 b) (rows B.x6 b)) (B.PR 0 b) (B.DP 0 b) = B.DS16 0 b := by
  unfold k0_pay13
  rw [B.ds_off0 b]
  rfl
theorem ds16_off1 (b : Fin 8) (h : (B.i 1).val < b.val) :
    k0_pay14 (F := Ideal) k0_pay50 (k0_pay55 B.x1) (k0_pay57 B.x2) B.v48 (k0_pay4 (rows B.x0 b)) (k0_pay5 (rows B.x7 b))
      (k0_pay6 (rows B.x7 b) (rows B.x6 b)) (k0_pay7 (rows B.x3 b)) (Scalar.muli 2#32 B.a0) (rows5 B.x5 1 b) = B.DS16 1 b := by
  unfold k0_pay14
  rw [B.ds_off1 b h]
  rfl
theorem ds16_diag0 (b : Fin 8) : k0_pay77 (F := Ideal) k0_pay50 (k0_pay67 (rows B.x7 b) (rows B.x6 b)) (B.PR 0 b) (B.DP 0 b) = B.DS16 0 b := by
  unfold k0_pay77
  rw [B.ds_diag0 b]
  rfl
theorem ds16_diag1 (b : Fin 8) : k0_pay78 (F := Ideal) k0_pay50 (k0_pay67 (rows B.x7 b) (rows B.x6 b)) (B.PR 1 b) (B.DP 1 b) = B.DS16 1 b := by
  unfold k0_pay78
  rw [B.ds_diag1 b]
  rfl

theorem k_off0 (b : Fin 8) (a : FVec Ideal S512x128 .f32) :
    k0_pay18 (F := Ideal) a (k0_pay4 (rows B.x0 b)) (B.DS16 0 b)
      = fun y => a y + B.tK 0 b (y 0) (y 1) := by
  funext y
  idx_vars y
  unfold_payloads
  pointwise [rows, rows5, PR, DP, DS, DS16, tK, tV, tC, tQ, tS]

theorem k_off1 (b : Fin 8) (a : FVec Ideal S512x128 .f32) :
    k0_pay19 (F := Ideal) a (k0_pay4 (rows B.x0 b)) (B.DS16 1 b)
      = fun y => a y + B.tK 1 b (y 0) (y 1) := by
  funext y
  idx_vars y
  unfold_payloads
  pointwise [rows, rows5, PR, DP, DS, DS16, tK, tV, tC, tQ, tS]

theorem v_off0 (b : Fin 8) (a : FVec Ideal S512x128 .f32) :
    k0_pay15 (F := Ideal) a (k0_pay5 (rows B.x7 b)) (B.PR 0 b)
      = fun y => a y + B.tV 0 b (y 0) (y 1) := by
  funext y
  idx_vars y
  unfold_payloads
  pointwise [rows, rows5, PR, DP, DS, DS16, tK, tV, tC, tQ, tS]

theorem v_off1 (b : Fin 8) (h : (B.i 1).val < b.val) (a : FVec Ideal S512x128 .f32) :
    k0_pay17 (F := Ideal) a (k0_pay16 (k0_pay55 B.x1) B.v48 (k0_pay4 (rows B.x0 b)) (k0_pay5 (rows B.x7 b)) (k0_pay7 (rows B.x3 b)) (Scalar.muli 2#32 B.a0) (rows5 B.x5 1 b))
      = fun y => a y + B.tV 1 b (y 0) (y 1) := by
  unfold k0_pay16
  rw [B.pr_off1 b h]
  funext y
  idx_vars y
  unfold_payloads
  pointwise [rows, rows5, PR, DP, DS, DS16, tK, tV, tC, tQ, tS]

theorem c_off0 (b : Fin 8) (a : FVec Ideal S1x512 .f32) :
    k0_pay21 (F := Ideal) a (B.DS 0 b)
      = fun y => a y + B.tC 0 b (y 1) := by
  funext y
  idx_vars y
  unfold_payloads
  pointwise [rows, rows5, PR, DP, DS, DS16, tK, tV, tC, tQ, tS]
  rw [sub_eq_add_neg]

theorem c_off1 (b : Fin 8) (a : FVec Ideal S1x512 .f32) :
    k0_pay22 (F := Ideal) a (B.DS 1 b)
      = fun y => a y + B.tC 1 b (y 1) := by
  funext y
  idx_vars y
  unfold_payloads
  pointwise [rows, rows5, PR, DP, DS, DS16, tK, tV, tC, tQ, tS]
  rw [sub_eq_add_neg]

theorem q_off (b : Fin 8) (a : FVec Ideal S512x128 .f32) :
    k0_pay20 (F := Ideal) k0_pay50 (k0_pay53 B.x1) (B.DS16 0 b) (B.DS16 1 b) a
      = fun y => a y + B.tQ (rr b (y 0)) (y 1) := by
  funext y
  idx_vars y
  unfold_payloads
  pointwise [rows, rows5, PR, DP, DS, DS16, tK, tV, tC, tQ, tS]
  rw [sel_first]
  exact congrArg (fun z => a (ix2 y0 y1) + _ * z) (sel_hd y1 fun e => ∑ x : Fin 512, B.ds e (rr b y0) x * B.x1 (ix2 x y1))

theorem s_off (b : Fin 8) (a : FVec Ideal S1x512x128 .f32) :
    k0_pay88 (F := Ideal) (k0_pay23 a) (k0_pay24 (B.DS 0 b)) (k0_pay25 (iota .tc S1x128 32 [1] iota_S1x128_d1_w32) (B.DS 1 b)) (k0_pay26 (iota .tc S1x128 32 [1] iota_S1x128_d1_w32))
      = fun y => a y + B.tS (rr b (y 1)) (y 2) := by
  funext y
  idx_vars y
  unfold_payloads
  pointwise [rows, rows5, PR, DP, DS, DS16, tK, tV, tC, tQ, tS]
  obtain rfl : y0 = 0 := Subsingleton.elim _ _
  rw [sel_at0 _ (by decide), sel_at1 _ (by decide)]

theorem k_diag0 (b : Fin 8) :
    k0_pay81 (F := Ideal) k0_pay50 k0_pay63 (k0_pay65 (rows B.x0 b)) (k0_pay67 (rows B.x7 b) (rows B.x6 b)) (B.PR 0 b) (B.DP 0 b)
      = fun y => B.tK 0 b (y 0) (y 1) := by
  unfold k0_pay81
  rw [B.ds16_diag0 b]
  funext y
  idx_vars y
  unfold_payloads
  pointwise [rows, rows5, PR, DP, DS, DS16, tK, tV, tC, tQ, tS]

theorem k_diag1 (b : Fin 8) :
    k0_pay82 (F := Ideal) k0_pay50 k0_pay63 (k0_pay65 (rows B.x0 b)) (k0_pay67 (rows B.x7 b) (rows B.x6 b)) (B.PR 1 b) (B.DP 1 b)
      = fun y => B.tK 1 b (y 0) (y 1) := by
  unfold k0_pay82
  rw [B.ds16_diag1 b]
  funext y
  idx_vars y
  unfold_payloads
  pointwise [rows, rows5, PR, DP, DS, DS16, tK, tV, tC, tQ, tS]

theorem v_diag0 (b : Fin 8) :
    k0_pay79 (F := Ideal) k0_pay63 (k0_pay66 (rows B.x7 b)) (B.PR 0 b)
      = fun y => B.tV 0 b (y 0) (y 1) := by
  funext y
  idx_vars y
  unfold_payloads
  pointwise [rows, rows5, PR, DP, DS, DS16, tK, tV, tC, tQ, tS]

theorem v_diag1 (b : Fin 8) :
    k0_pay80 (F := Ideal) k0_pay63 (k0_pay66 (rows B.x7 b)) (B.PR 1 b)
      = fun y => B.tV 1 b (y 0) (y 1) := by
  funext y
  idx_vars y
  unfold_payloads
  pointwise [rows, rows5, PR, DP, DS, DS16, tK, tV, tC, tQ, tS]

theorem c_diag0 (b : Fin 8) :
    k0_pay85 (F := Ideal) k0_pay64 (k0_pay84 k0_pay50 (k0_pay67 (rows B.x7 b) (rows B.x6 b)) (B.PR 0 b) (B.DP 0 b))
      = fun y => B.tC 0 b (y 1) := by
  unfold k0_pay84
  rw [B.ds_diag0 b]
  funext y
  idx_vars y
  unfold_payloads
  pointwise [rows, rows5, PR, DP, DS, DS16, tK, tV, tC, tQ, tS]
  rw [sub_eq_add_neg, zero_add]

theorem c_diag1 (b : Fin 8) :
    k0_pay86 (F := Ideal) k0_pay64 (B.DS 1 b)
      = fun y => B.tC 1 b (y 1) := by
  funext y
  idx_vars y
  unfold_payloads
  pointwise [rows, rows5, PR, DP, DS, DS16, tK, tV, tC, tQ, tS]
  rw [sub_eq_add_neg, zero_add]

theorem q_diag (b : Fin 8) (a : FVec Ideal S512x128 .f32) :
    k0_pay83 (F := Ideal) k0_pay50 (k0_pay53 B.x1) (k0_pay67 (rows B.x7 b) (rows B.x6 b)) (B.PR 0 b) (B.DP 0 b) (B.PR 1 b) (B.DP 1 b) a
      = fun y => a y + B.tQ (rr b (y 0)) (y 1) := by
  unfold k0_pay83
  rw [B.ds16_diag0 b, B.ds16_diag1 b]
  funext y
  idx_vars y
  unfold_payloads
  pointwise [rows, rows5, PR, DP, DS, DS16, tK, tV, tC, tQ, tS]
  rw [sel_first]
  exact congrArg (fun z => a (ix2 y0 y1) + _ * z) (sel_hd y1 fun e => ∑ x : Fin 512, B.ds e (rr b y0) x * B.x1 (ix2 x y1))

theorem s_diag (b : Fin 8) (a : FVec Ideal S1x512x128 .f32) :
    k0_pay87 (F := Ideal) (iota .tc S1x128 32 [1] iota_S1x128_d1_w32) (B.DS 0 b) (B.DS 1 b) a
      = fun y => a y + B.tS (rr b (y 1)) (y 2) := by
  funext y
  idx_vars y
  unfold_payloads
  pointwise [rows, rows5, PR, DP, DS, DS16, tK, tV, tC, tQ, tS]
  obtain rfl : y0 = 0 := Subsingleton.elim _ _
  rw [sel_at0 _ (by decide), sel_at1 _ (by decide)]

theorem fin_k (a b : FVec Ideal S512x128 .f32) : k0_pay1 (F := Ideal) (k0_pay90 k0_pay50 a b) k0_pay91
    = fun y => (if hd (y 1) = 0 then a y else b y) * LN2 := by
  funext y
  idx_vars y
  unfold_payloads
  pointwise
  simp only [sel_first, hd_eq0]

theorem fin_v (a b : FVec Ideal S512x128 .f32) : k0_pay2 (F := Ideal) k0_pay50 a b = fun y => if hd (y 1) = 0 then a y else b y := by
  funext y
  idx_vars y
  unfold_payloads
  pointwise
  simp only [sel_first, hd_eq0]

theorem fin_c (a b : FVec Ideal S1x512 .f32) : k0_pay3 (F := Ideal) a b
    = fun y => if (y 1).val = 0 then a (ix2 0 (y 2)) else if (y 1).val = 1 then b (ix2 0 (y 2)) else 0 := by
  funext y
  idx_vars y
  unfold_payloads
  pointwise
  exact (sel_at0 y1 (by decide) _ _).trans (congrArg (fun z => if y1.val = 0 then a (ix2 0 y2) else z) (sel_at1 y1 (by decide) _ _))

end Blk

end Cert.KernelIdeal.Att
end
-- ==== Proof.AttTrip.lean ====
/- One trip of the kernel `attention_bwd`'s loop over the row blocks below the diagonal, and the loop, over the extended reals:
   what is carried is the sum of the blocks' shares, and each block of rows of the two accumulators is met once. -/
module

public import proofs.«01_k».proof.Proof.AttLoops
public import proofs.«01_k».proof.Proof.AttStep
public import Idealize.ShloMosaic.Lib.WritesUnit

@[expose] public section

set_option maxRecDepth 16384

noncomputable section

namespace Cert.KernelIdeal.Att

open Cert.KernelIdeal Cert.KernelIdeal.Gen Idealize.ShloMosaic Idealize.ShloMosaic.TcCoe Idealize.SL.Sem

abbrev V0 : IVec S1x128 32 := iota .tc S1x128 32 [1] iota_S1x128_d1_w32

theorem trips_eq : ∀ i : grid0.Coords, (k0_t1_loop i).trips = 7 - (i 1).val := by decide +kernel
theorem off1_eq : ∀ i : grid0.Coords, k0_off1 i = ![512 * (i 1).val, 0] := by decide +kernel
theorem off2_eq : ∀ i : grid0.Coords, k0_off2 i = ![0, 512 * (i 1).val, 0] := by decide +kernel
theorem off3_eq : ∀ i : grid0.Coords, k0_off3 i = ![1, 512 * (i 1).val, 0] := by decide +kernel
theorem off4_eq : ∀ i : grid0.Coords, k0_off4 i = ![0, 512 * (i 1).val, 0] := by decide +kernel
theorem off5_eq : ∀ (i : grid0.Coords) (k : Fin (k0_t1_loop i).trips), k0_off5 i k = ![512 * ((i 1).val + 1 + k.val), 0] := by decide +kernel
theorem off6_eq : ∀ (i : grid0.Coords) (k : Fin (k0_t1_loop i).trips), k0_off6 i k = ![0, 512 * ((i 1).val + 1 + k.val), 0] := by decide +kernel
theorem off7_eq : ∀ (i : grid0.Coords) (k : Fin (k0_t1_loop i).trips), k0_off7 i k = ![1, 512 * ((i 1).val + 1 + k.val), 0] := by decide +kernel
theorem off8_eq : ∀ (i : grid0.Coords) (k : Fin (k0_t1_loop i).trips), k0_off8 i k = ![0, 512 * ((i 1).val + 1 + k.val), 0] := by decide +kernel

/-- The `n`th row block from the diagonal on. -/
def bk (i : grid0.Coords) (n : ℕ) : Fin 8 := ⟨((i 1).val + n) % 8, by omega⟩

theorem bk_val (i : grid0.Coords) (n : ℕ) (h : n ≤ (k0_t1_loop i).trips) : (bk i n).val = (i 1).val + n := by
  have hj : (i 1).val < 8 := (i 1).isLt
  rw [trips_eq] at h
  show ((i 1).val + n) % 8 = _
  omega

/-- A load of 512 rows. -/
theorem load_rows {t : EltTy} (M : Memref sig .tc .vmem S4096x128 t) (hM : M.IsWhole) (x : Vec Ideal S4096x128 t) (b : Fin 8)
    {off : Fin 2 → ℕ} (h : off = ![512 * b.val, 0]) (inb : ∀ a, off a + S512x128.size a ≤ S4096x128.size a) :
    View.readAt (Elt Ideal) M.view (Rect.unit (s := S4096x128) off S512x128.size inb).toLoadRect (hM.unread x)
      = fun y => x (ix2 (rr b (y 0)) (y 1)) := by
  subst h
  funext y
  show M.view.read (Elt Ideal) (hM.unread x) _ = _
  rw [hM.read_unread]
  refine congrArg x (funext fun a => Fin.ext ?_)
  fin_cases a
  · show 512 * b.val + 1 * (y 0).val = 512 * b.val + (y 0).val; omega
  · show 0 + 1 * (y 1).val = (y 1).val; omega

/-- A load of 512 rows of one plane. -/
theorem load_rows5 (M : Memref sig .tc .vmem S2x4096x128 .f32) (hM : M.IsWhole) (x : FVec Ideal S2x4096x128 .f32) (e : Fin 2) (b : Fin 8)
    {off : Fin 3 → ℕ} (h : off = ![e.val, 512 * b.val, 0]) (inb : ∀ a, off a + S1x512x128.size a ≤ S2x4096x128.size a) :
    View.readAt (Elt Ideal) M.view (Rect.unit (s := S2x4096x128) off S1x512x128.size inb).toLoadRect (hM.unread x) = rows5 x e b := by
  subst h
  funext y
  show M.view.read (Elt Ideal) (hM.unread x) _ = _
  rw [hM.read_unread]
  refine congrArg x (funext fun a => Fin.ext ?_)
  fin_cases a
  · show e.val + 1 * (y 0).val = e.val
    have : (y 0).val < 1 := (y 0).isLt
    omega
  · show 512 * b.val + 1 * (y 1).val = 512 * b.val + (y 1).val; omega
  · show 0 + 1 * (y 2).val = (y 2).val; omega

variable (B : Blk) (𝒱 : Variants) (c : Dev nD) (bd : Option 𝒱.V) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (a1 : BitVec 32) (w53 : FVec Ideal S1x512 .f32) (w55 : BitVec 32) (w142 : FVec Ideal S512x512 .f32) (w145 : FVec Ideal S512x512 .f32) (w150 : FVec Ideal S512x128 .f32) (w153 : FVec Ideal S512x128 .f32) (w155 : FVec Ideal S512x128 .f32) (w157 : FVec Ideal S512x128 .f32) (w172 : FVec Ideal S1x512 .f32) (w204 : BitVec 32)

/-- What one trip makes of the carried values. -/
theorem tripR_eq (k : Fin (k0_t1_loop B.i).trips) (b : Fin 8) (hb : b.val = (B.i 1).val + 1 + k.val) (acc : FVec Ideal S512x128 .f32 × FVec Ideal S512x128 .f32 × FVec Ideal S512x128 .f32 × FVec Ideal S512x128 .f32 × FVec Ideal S1x512 .f32 × FVec Ideal S1x512 .f32)
    (f11 : BufTy.Contents (Elt Ideal) arg11.view.ty) (f15 : BufTy.Contents (Elt Ideal) arg15.view.ty) :
    tripR_k0_t1 (F := Ideal) 𝒱 c bd B.i arg2 harg2 arg3 harg3 arg4 harg4 arg5 harg5 arg6 harg6 arg7 harg7 arg8 harg8 arg9 harg9 arg10 harg10 arg11 harg11 arg12 harg12 arg13 harg13 arg14 harg14 arg15 harg15 B.a0 a1 V0 k0_pay50 (k0_pay53 B.x1) (k0_pay54 B.x1) (k0_pay55 B.x1) (k0_pay56 B.x2) (k0_pay57 B.x2) B.v39 B.v48 w53 w55 w142 w145 w150 w153 w155 w157 w172 w204 (harg2.unread B.x0) (harg5.unread B.x3) (harg7.unread B.x5) (harg8.unread B.x6) (harg9.unread B.x7) k acc f11 f15
      = (fun y => acc.1 y + B.tK 0 b (y 0) (y 1), fun y => acc.2.1 y + B.tK 1 b (y 0) (y 1),
         fun y => acc.2.2.1 y + B.tV 0 b (y 0) (y 1), fun y => acc.2.2.2.1 y + B.tV 1 b (y 0) (y 1),
         fun y => acc.2.2.2.2.1 y + B.tC 0 b (y 1), fun y => acc.2.2.2.2.2 y + B.tC 1 b (y 1)) := by
  have hlt : (B.i 1).val < b.val := by omega
  have e5 : k0_off5 B.i k = ![512 * b.val, 0] := by rw [off5_eq, hb]
  have e6 : k0_off6 B.i k = ![(0 : Fin 2).val, 512 * b.val, 0] := by rw [off6_eq, hb]; rfl
  have e7 : k0_off7 B.i k = ![(1 : Fin 2).val, 512 * b.val, 0] := by rw [off7_eq, hb]; rfl
  have l0 : View.readAt (Elt Ideal) arg2.view (Rect.unit (s := S4096x128) (k0_off5 B.i k) S512x128.size (k0_off5_inb B.i k)).toLoadRect (harg2.unread B.x0) = rows B.x0 b :=
    load_rows arg2 harg2 B.x0 b e5 (k0_off5_inb B.i k)
  have l3 : View.readAt (Elt Ideal) arg5.view (Rect.unit (s := S4096x128) (k0_off5 B.i k) S512x128.size (k0_off5_inb B.i k)).toLoadRect (harg5.unread B.x3) = rows B.x3 b :=
    load_rows arg5 harg5 B.x3 b e5 (k0_off5_inb B.i k)
  have l6 : View.readAt (Elt Ideal) arg8.view (Rect.unit (s := S4096x128) (k0_off5 B.i k) S512x128.size (k0_off5_inb B.i k)).toLoadRect (harg8.unread B.x6) = rows B.x6 b :=
    load_rows arg8 harg8 B.x6 b e5 (k0_off5_inb B.i k)
  have l7 : View.readAt (Elt Ideal) arg9.view (Rect.unit (s := S4096x128) (k0_off5 B.i k) S512x128.size (k0_off5_inb B.i k)).toLoadRect (harg9.unread B.x7) = rows B.x7 b :=
    load_rows arg9 harg9 B.x7 b e5 (k0_off5_inb B.i k)
  have l5a := load_rows5 arg7 harg7 B.x5 0 b e6 (k0_off6_inb B.i k)
  have l5b := load_rows5 arg7 harg7 B.x5 1 b e7 (k0_off7_inb B.i k)
  unfold tripR_k0_t1 trip_k0_t1
  dsimp only
  refine Prod.ext ?_ (Prod.ext ?_ (Prod.ext ?_ (Prod.ext ?_ (Prod.ext ?_ ?_))))
  · show k0_pay18 acc.1 (k0_pay4 (View.readAt (Elt Ideal) arg2.view (Rect.unit (s := S4096x128) (k0_off5 B.i k) S512x128.size (k0_off5_inb B.i k)).toLoadRect (harg2.unread B.x0))) (k0_pay13 k0_pay50 (k0_pay6 (View.readAt (Elt Ideal) arg9.view (Rect.unit (s := S4096x128) (k0_off5 B.i k) S512x128.size (k0_off5_inb B.i k)).toLoadRect (harg9.unread B.x7)) (View.readAt (Elt Ideal) arg8.view (Rect.unit (s := S4096x128) (k0_off5 B.i k) S512x128.size (k0_off5_inb B.i k)).toLoadRect (harg8.unread B.x6))) (k0_pay8 B.a0 (k0_pay54 B.x1) B.v39 (View.readAt (Elt Ideal) arg2.view (Rect.unit (s := S4096x128) (k0_off5 B.i k) S512x128.size (k0_off5_inb B.i k)).toLoadRect (harg2.unread B.x0)) (View.readAt (Elt Ideal) arg5.view (Rect.unit (s := S4096x128) (k0_off5 B.i k) S512x128.size (k0_off5_inb B.i k)).toLoadRect (harg5.unread B.x3)) (View.readAt (Elt Ideal) arg7.view (Rect.unit (s := S2x4096x128) (k0_off6 B.i k) S1x512x128.size (k0_off6_inb B.i k)).toLoadRect (harg7.unread B.x5))) (k0_pay9 (k0_pay56 B.x2) (View.readAt (Elt Ideal) arg9.view (Rect.unit (s := S4096x128) (k0_off5 B.i k) S512x128.size (k0_off5_inb B.i k)).toLoadRect (harg9.unread B.x7)))) = _
    rw [l0, l3, l6, l7, l5a, B.pr_off0 b hlt, B.dp_off0 b, B.ds16_off0 b, B.k_off0 b]
  · show k0_pay19 acc.2.1 (k0_pay4 (View.readAt (Elt Ideal) arg2.view (Rect.unit (s := S4096x128) (k0_off5 B.i k) S512x128.size (k0_off5_inb B.i k)).toLoadRect (harg2.unread B.x0))) (k0_pay14 k0_pay50 (k0_pay55 B.x1) (k0_pay57 B.x2) B.v48 (k0_pay4 (View.readAt (Elt Ideal) arg2.view (Rect.unit (s := S4096x128) (k0_off5 B.i k) S512x128.size (k0_off5_inb B.i k)).toLoadRect (harg2.unread B.x0))) (k0_pay5 (View.readAt (Elt Ideal) arg9.view (Rect.unit (s := S4096x128) (k0_off5 B.i k) S512x128.size (k0_off5_inb B.i k)).toLoadRect (harg9.unread B.x7))) (k0_pay6 (View.readAt (Elt Ideal) arg9.view (Rect.unit (s := S4096x128) (k0_off5 B.i k) S512x128.size (k0_off5_inb B.i k)).toLoadRect (harg9.unread B.x7)) (View.readAt (Elt Ideal) arg8.view (Rect.unit (s := S4096x128) (k0_off5 B.i k) S512x128.size (k0_off5_inb B.i k)).toLoadRect (harg8.unread B.x6))) (k0_pay7 (View.readAt (Elt Ideal) arg5.view (Rect.unit (s := S4096x128) (k0_off5 B.i k) S512x128.size (k0_off5_inb B.i k)).toLoadRect (harg5.unread B.x3))) (Scalar.muli 2#32 B.a0) (View.readAt (Elt Ideal) arg7.view (Rect.unit (s := S2x4096x128) (k0_off7 B.i k) S1x512x128.size (k0_off7_inb B.i k)).toLoadRect (harg7.unread B.x5))) = _
    rw [l0, l3, l6, l7, l5b, B.ds16_off1 b hlt, B.k_off1 b]
  · show k0_pay15 acc.2.2.1 (k0_pay5 (View.readAt (Elt Ideal) arg9.view (Rect.unit (s := S4096x128) (k0_off5 B.i k) S512x128.size (k0_off5_inb B.i k)).toLoadRect (harg9.unread B.x7))) (k0_pay8 B.a0 (k0_pay54 B.x1) B.v39 (View.readAt (Elt Ideal) arg2.view (Rect.unit (s := S4096x128) (k0_off5 B.i k) S512x128.size (k0_off5_inb B.i k)).toLoadRect (harg2.unread B.x0)) (View.readAt (Elt Ideal) arg5.view (Rect.unit (s := S4096x128) (k0_off5 B.i k) S512x128.size (k0_off5_inb B.i k)).toLoadRect (harg5.unread B.x3)) (View.readAt (Elt Ideal) arg7.view (Rect.unit (s := S2x4096x128) (k0_off6 B.i k) S1x512x128.size (k0_off6_inb B.i k)).toLoadRect (harg7.unread B.x5))) = _
    rw [l0, l3, l7, l5a, B.pr_off0 b hlt, B.v_off0 b]
  · show k0_pay17 acc.2.2.2.1 (k0_pay16 (k0_pay55 B.x1) B.v48 (k0_pay4 (View.readAt (Elt Ideal) arg2.view (Rect.unit (s := S4096x128) (k0_off5 B.i k) S512x128.size (k0_off5_inb B.i k)).toLoadRect (harg2.unread B.x0))) (k0_pay5 (View.readAt (Elt Ideal) arg9.view (Rect.unit (s := S4096x128) (k0_off5 B.i k) S512x128.size (k0_off5_inb B.i k)).toLoadRect (harg9.unread B.x7))) (k0_pay7 (View.readAt (Elt Ideal) arg5.view (Rect.unit (s := S4096x128) (k0_off5 B.i k) S512x128.size (k0_off5_inb B.i k)).toLoadRect (harg5.unread B.x3))) (Scalar.muli 2#32 B.a0) (View.readAt (Elt Ideal) arg7.view (Rect.unit (s := S2x4096x128) (k0_off7 B.i k) S1x512x128.size (k0_off7_inb B.i k)).toLoadRect (harg7.unread B.x5))) = _
    rw [l0, l3, l7, l5b, B.v_off1 b hlt]
  · show k0_pay21 acc.2.2.2.2.1 (k0_pay11 k0_pay50 (k0_pay6 (View.readAt (Elt Ideal) arg9.view (Rect.unit (s := S4096x128) (k0_off5 B.i k) S512x128.size (k0_off5_inb B.i k)).toLoadRect (harg9.unread B.x7)) (View.readAt (Elt Ideal) arg8.view (Rect.unit (s := S4096x128) (k0_off5 B.i k) S512x128.size (k0_off5_inb B.i k)).toLoadRect (harg8.unread B.x6))) (k0_pay8 B.a0 (k0_pay54 B.x1) B.v39 (View.readAt (Elt Ideal) arg2.view (Rect.unit (s := S4096x128) (k0_off5 B.i k) S512x128.size (k0_off5_inb B.i k)).toLoadRect (harg2.unread B.x0)) (View.readAt (Elt Ideal) arg5.view (Rect.unit (s := S4096x128) (k0_off5 B.i k) S512x128.size (k0_off5_inb B.i k)).toLoadRect (harg5.unread B.x3)) (View.readAt (Elt Ideal) arg7.view (Rect.unit (s := S2x4096x128) (k0_off6 B.i k) S1x512x128.size (k0_off6_inb B.i k)).toLoadRect (harg7.unread B.x5))) (k0_pay9 (k0_pay56 B.x2) (View.readAt (Elt Ideal) arg9.view (Rect.unit (s := S4096x128) (k0_off5 B.i k) S512x128.size (k0_off5_inb B.i k)).toLoadRect (harg9.unread B.x7)))) = _
    rw [l0, l3, l6, l7, l5a, B.pr_off0 b hlt, B.dp_off0 b, B.ds_off0 b, B.c_off0 b]
  · show k0_pay22 acc.2.2.2.2.2 (k0_pay12 k0_pay50 (k0_pay55 B.x1) (k0_pay57 B.x2) B.v48 (k0_pay4 (View.readAt (Elt Ideal) arg2.view (Rect.unit (s := S4096x128) (k0_off5 B.i k) S512x128.size (k0_off5_inb B.i k)).toLoadRect (harg2.unread B.x0))) (k0_pay5 (View.readAt (Elt Ideal) arg9.view (Rect.unit (s := S4096x128) (k0_off5 B.i k) S512x128.size (k0_off5_inb B.i k)).toLoadRect (harg9.unread B.x7))) (k0_pay6 (View.readAt (Elt Ideal) arg9.view (Rect.unit (s := S4096x128) (k0_off5 B.i k) S512x128.size (k0_off5_inb B.i k)).toLoadRect (harg9.unread B.x7)) (View.readAt (Elt Ideal) arg8.view (Rect.unit (s := S4096x128) (k0_off5 B.i k) S512x128.size (k0_off5_inb B.i k)).toLoadRect (harg8.unread B.x6))) (k0_pay7 (View.readAt (Elt Ideal) arg5.view (Rect.unit (s := S4096x128) (k0_off5 B.i k) S512x128.size (k0_off5_inb B.i k)).toLoadRect (harg5.unread B.x3))) (Scalar.muli 2#32 B.a0) (View.readAt (Elt Ideal) arg7.view (Rect.unit (s := S2x4096x128) (k0_off7 B.i k) S1x512x128.size (k0_off7_inb B.i k)).toLoadRect (harg7.unread B.x5))) = _
    rw [l0, l3, l6, l7, l5b, B.ds_off1 b hlt, B.c_off1 b]

/-- What one trip stores: its rows of the two accumulators, each with the block's share added. -/
theorem tripL_eq (k : Fin (k0_t1_loop B.i).trips) (b : Fin 8) (hb : b.val = (B.i 1).val + 1 + k.val) (acc : FVec Ideal S512x128 .f32 × FVec Ideal S512x128 .f32 × FVec Ideal S512x128 .f32 × FVec Ideal S512x128 .f32 × FVec Ideal S1x512 .f32 × FVec Ideal S1x512 .f32)
    (f11 : BufTy.Contents (Elt Ideal) arg11.view.ty) (f15 : BufTy.Contents (Elt Ideal) arg15.view.ty) :
    tripL_k0_t1 (F := Ideal) 𝒱 c bd B.i arg2 harg2 arg3 harg3 arg4 harg4 arg5 harg5 arg6 harg6 arg7 harg7 arg8 harg8 arg9 harg9 arg10 harg10 arg11 harg11 arg12 harg12 arg13 harg13 arg14 harg14 arg15 harg15 B.a0 a1 V0 k0_pay50 (k0_pay53 B.x1) (k0_pay54 B.x1) (k0_pay55 B.x1) (k0_pay56 B.x2) (k0_pay57 B.x2) B.v39 B.v48 w53 w55 w142 w145 w150 w153 w155 w157 w172 w204 (harg2.unread B.x0) (harg5.unread B.x3) (harg7.unread B.x5) (harg8.unread B.x6) (harg9.unread B.x7) k acc f11 f15
      = ([(⟨Rect.unit (s := S4096x128) (k0_off5 B.i k) S512x128.size (k0_off5_inb B.i k),
            fun y : S512x128.Idx => (View.readAt (Elt Ideal) arg11.view (Rect.unit (s := S4096x128) (k0_off5 B.i k) S512x128.size (k0_off5_inb B.i k)).toLoadRect f11) y + B.tQ (rr b (y 0)) (y 1)⟩ : View.Piece (Elt Ideal) S4096x128 .f32)],
         [(⟨Rect.unit (s := S1x4096x128) (k0_off8 B.i k) S1x512x128.size (k0_off8_inb B.i k),
            fun y : S1x512x128.Idx => (View.readAt (Elt Ideal) arg15.view (Rect.unit (s := S1x4096x128) (k0_off8 B.i k) S1x512x128.size (k0_off8_inb B.i k)).toLoadRect f15) y + B.tS (rr b (y 1)) (y 2)⟩ : View.Piece (Elt Ideal) S1x4096x128 .f32)]) := by
  have hlt : (B.i 1).val < b.val := by omega
  have e5 : k0_off5 B.i k = ![512 * b.val, 0] := by rw [off5_eq, hb]
  have e6 : k0_off6 B.i k = ![(0 : Fin 2).val, 512 * b.val, 0] := by rw [off6_eq, hb]; rfl
  have e7 : k0_off7 B.i k = ![(1 : Fin 2).val, 512 * b.val, 0] := by rw [off7_eq, hb]; rfl
  have l0 : View.readAt (Elt Ideal) arg2.view (Rect.unit (s := S4096x128) (k0_off5 B.i k) S512x128.size (k0_off5_inb B.i k)).toLoadRect (harg2.unread B.x0) = rows B.x0 b :=
    load_rows arg2 harg2 B.x0 b e5 (k0_off5_inb B.i k)
  have l3 : View.readAt (Elt Ideal) arg5.view (Rect.unit (s := S4096x128) (k0_off5 B.i k) S512x128.size (k0_off5_inb B.i k)).toLoadRect (harg5.unread B.x3) = rows B.x3 b :=
    load_rows arg5 harg5 B.x3 b e5 (k0_off5_inb B.i k)
  have l6 : View.readAt (Elt Ideal) arg8.view (Rect.unit (s := S4096x128) (k0_off5 B.i k) S512x128.size (k0_off5_inb B.i k)).toLoadRect (harg8.unread B.x6) = rows B.x6 b :=
    load_rows arg8 harg8 B.x6 b e5 (k0_off5_inb B.i k)
  have l7 : View.readAt (Elt Ideal) arg9.view (Rect.unit (s := S4096x128) (k0_off5 B.i k) S512x128.size (k0_off5_inb B.i k)).toLoadRect (harg9.unread B.x7) = rows B.x7 b :=
    load_rows arg9 harg9 B.x7 b e5 (k0_off5_inb B.i k)
  have l5a := load_rows5 arg7 harg7 B.x5 0 b e6 (k0_off6_inb B.i k)
  have l5b := load_rows5 arg7 harg7 B.x5 1 b e7 (k0_off7_inb B.i k)
  unfold tripL_k0_t1 trip_k0_t1
  dsimp only
  refine Prod.ext ?_ ?_
  · have h : k0_pay20 k0_pay50 (k0_pay53 B.x1) (k0_pay13 k0_pay50 (k0_pay6 (View.readAt (Elt Ideal) arg9.view (Rect.unit (s := S4096x128) (k0_off5 B.i k) S512x128.size (k0_off5_inb B.i k)).toLoadRect (harg9.unread B.x7)) (View.readAt (Elt Ideal) arg8.view (Rect.unit (s := S4096x128) (k0_off5 B.i k) S512x128.size (k0_off5_inb B.i k)).toLoadRect (harg8.unread B.x6))) (k0_pay8 B.a0 (k0_pay54 B.x1) B.v39 (View.readAt (Elt Ideal) arg2.view (Rect.unit (s := S4096x128) (k0_off5 B.i k) S512x128.size (k0_off5_inb B.i k)).toLoadRect (harg2.unread B.x0)) (View.readAt (Elt Ideal) arg5.view (Rect.unit (s := S4096x128) (k0_off5 B.i k) S512x128.size (k0_off5_inb B.i k)).toLoadRect (harg5.unread B.x3)) (View.readAt (Elt Ideal) arg7.view (Rect.unit (s := S2x4096x128) (k0_off6 B.i k) S1x512x128.size (k0_off6_inb B.i k)).toLoadRect (harg7.unread B.x5))) (k0_pay9 (k0_pay56 B.x2) (View.readAt (Elt Ideal) arg9.view (Rect.unit (s := S4096x128) (k0_off5 B.i k) S512x128.size (k0_off5_inb B.i k)).toLoadRect (harg9.unread B.x7)))) (k0_pay14 k0_pay50 (k0_pay55 B.x1) (k0_pay57 B.x2) B.v48 (k0_pay4 (View.readAt (Elt Ideal) arg2.view (Rect.unit (s := S4096x128) (k0_off5 B.i k) S512x128.size (k0_off5_inb B.i k)).toLoadRect (harg2.unread B.x0))) (k0_pay5 (View.readAt (Elt Ideal) arg9.view (Rect.unit (s := S4096x128) (k0_off5 B.i k) S512x128.size (k0_off5_inb B.i k)).toLoadRect (harg9.unread B.x7))) (k0_pay6 (View.readAt (Elt Ideal) arg9.view (Rect.unit (s := S4096x128) (k0_off5 B.i k) S512x128.size (k0_off5_inb B.i k)).toLoadRect (harg9.unread B.x7)) (View.readAt (Elt Ideal) arg8.view (Rect.unit (s := S4096x128) (k0_off5 B.i k) S512x128.size (k0_off5_inb B.i k)).toLoadRect (harg8.unread B.x6))) (k0_pay7 (View.readAt (Elt Ideal) arg5.view (Rect.unit (s := S4096x128) (k0_off5 B.i k) S512x128.size (k0_off5_inb B.i k)).toLoadRect (harg5.unread B.x3))) (Scalar.muli 2#32 B.a0) (View.readAt (Elt Ideal) arg7.view (Rect.unit (s := S2x4096x128) (k0_off7 B.i k) S1x512x128.size (k0_off7_inb B.i k)).toLoadRect (harg7.unread B.x5))) (View.readAt (Elt Ideal) arg11.view (Rect.unit (s := S4096x128) (k0_off5 B.i k) S512x128.size (k0_off5_inb B.i k)).toLoadRect f11) = fun y : S512x128.Idx => (View.readAt (Elt Ideal) arg11.view (Rect.unit (s := S4096x128) (k0_off5 B.i k) S512x128.size (k0_off5_inb B.i k)).toLoadRect f11) y + B.tQ (rr b (y 0)) (y 1) := by
      rw [l0, l3, l6, l7, l5a, l5b, B.pr_off0 b hlt, B.dp_off0 b, B.ds16_off0 b, B.ds16_off1 b hlt, B.q_off b]
    exact congrArg (fun w => [(⟨Rect.unit (s := S4096x128) (k0_off5 B.i k) S512x128.size (k0_off5_inb B.i k), w⟩ : View.Piece (Elt Ideal) S4096x128 .f32)]) h
  · have h : k0_pay88 (k0_pay23 (View.readAt (Elt Ideal) arg15.view (Rect.unit (s := S1x4096x128) (k0_off8 B.i k) S1x512x128.size (k0_off8_inb B.i k)).toLoadRect f15)) (k0_pay24 (k0_pay11 k0_pay50 (k0_pay6 (View.readAt (Elt Ideal) arg9.view (Rect.unit (s := S4096x128) (k0_off5 B.i k) S512x128.size (k0_off5_inb B.i k)).toLoadRect (harg9.unread B.x7)) (View.readAt (Elt Ideal) arg8.view (Rect.unit (s := S4096x128) (k0_off5 B.i k) S512x128.size (k0_off5_inb B.i k)).toLoadRect (harg8.unread B.x6))) (k0_pay8 B.a0 (k0_pay54 B.x1) B.v39 (View.readAt (Elt Ideal) arg2.view (Rect.unit (s := S4096x128) (k0_off5 B.i k) S512x128.size (k0_off5_inb B.i k)).toLoadRect (harg2.unread B.x0)) (View.readAt (Elt Ideal) arg5.view (Rect.unit (s := S4096x128) (k0_off5 B.i k) S512x128.size (k0_off5_inb B.i k)).toLoadRect (harg5.unread B.x3)) (View.readAt (Elt Ideal) arg7.view (Rect.unit (s := S2x4096x128) (k0_off6 B.i k) S1x512x128.size (k0_off6_inb B.i k)).toLoadRect (harg7.unread B.x5))) (k0_pay9 (k0_pay56 B.x2) (View.readAt (Elt Ideal) arg9.view (Rect.unit (s := S4096x128) (k0_off5 B.i k) S512x128.size (k0_off5_inb B.i k)).toLoadRect (harg9.unread B.x7))))) (k0_pay25 V0 (k0_pay12 k0_pay50 (k0_pay55 B.x1) (k0_pay57 B.x2) B.v48 (k0_pay4 (View.readAt (Elt Ideal) arg2.view (Rect.unit (s := S4096x128) (k0_off5 B.i k) S512x128.size (k0_off5_inb B.i k)).toLoadRect (harg2.unread B.x0))) (k0_pay5 (View.readAt (Elt Ideal) arg9.view (Rect.unit (s := S4096x128) (k0_off5 B.i k) S512x128.size (k0_off5_inb B.i k)).toLoadRect (harg9.unread B.x7))) (k0_pay6 (View.readAt (Elt Ideal) arg9.view (Rect.unit (s := S4096x128) (k0_off5 B.i k) S512x128.size (k0_off5_inb B.i k)).toLoadRect (harg9.unread B.x7)) (View.readAt (Elt Ideal) arg8.view (Rect.unit (s := S4096x128) (k0_off5 B.i k) S512x128.size (k0_off5_inb B.i k)).toLoadRect (harg8.unread B.x6))) (k0_pay7 (View.readAt (Elt Ideal) arg5.view (Rect.unit (s := S4096x128) (k0_off5 B.i k) S512x128.size (k0_off5_inb B.i k)).toLoadRect (harg5.unread B.x3))) (Scalar.muli 2#32 B.a0) (View.readAt (Elt Ideal) arg7.view (Rect.unit (s := S2x4096x128) (k0_off7 B.i k) S1x512x128.size (k0_off7_inb B.i k)).toLoadRect (harg7.unread B.x5)))) (k0_pay26 V0) = fun y : S1x512x128.Idx => (View.readAt (Elt Ideal) arg15.view (Rect.unit (s := S1x4096x128) (k0_off8 B.i k) S1x512x128.size (k0_off8_inb B.i k)).toLoadRect f15) y + B.tS (rr b (y 1)) (y 2) := by
      rw [l0, l3, l6, l7, l5a, l5b, B.pr_off0 b hlt, B.dp_off0 b, B.ds_off0 b, B.ds_off1 b hlt, B.s_off b]
    exact congrArg (fun w => [(⟨Rect.unit (s := S1x4096x128) (k0_off8 B.i k) S1x512x128.size (k0_off8_inb B.i k), w⟩ : View.Piece (Elt Ideal) S1x4096x128 .f32)]) h

end Cert.KernelIdeal.Att
end
-- ==== Proof.AttLoop.lean ====
/- The kernel `attention_bwd`'s loop over the row blocks below the diagonal, over the extended reals: what is carried is the sum of
   the blocks' shares from the diagonal on, and each block of rows of the two accumulators has been met once. -/
module

public import proofs.«01_k».proof.Proof.AttTrip
public import Idealize.ShloMosaic.Lib.WritesUnit

@[expose] public section

set_option maxRecDepth 16384

noncomputable section

namespace Cert.KernelIdeal.Att

open Cert.KernelIdeal Cert.KernelIdeal.Gen Idealize.ShloMosaic Idealize.ShloMosaic.TcCoe Idealize.SL.Sem

/-- Reading a load of a rectangle at an index inside it. -/
theorem load_local {s : Shape} {e : EltTy} {κ : Kind} {sp : Space} (v : View sig κ sp s e) {off size : Fin s.rank → ℕ}
    (inb : ∀ a, off a + size a ≤ s.size a) (f : BufTy.Contents (Elt Ideal) v.ty) (y : s.Idx)
    (h : ∀ a, off a ≤ (y a).val ∧ (y a).val < off a + size a) :
    View.readAt (Elt Ideal) v (Rect.unit (s := s) off size inb).toLoadRect f (Rect.unitLocal (s := s) (off := off) (size := size) y h) = v.read (Elt Ideal) f y := by
  show v.read (Elt Ideal) f _ = _
  refine congrArg (v.read (Elt Ideal) f) (funext fun a => Fin.ext ?_)
  show off a + 1 * ((y a).val - off a) = (y a).val
  have := h a
  omega

/-- The sums carried after `n` trips. -/
abbrev Blk.carry (B : Blk) (n : ℕ) : FVec Ideal S512x128 .f32 × FVec Ideal S512x128 .f32 × FVec Ideal S512x128 .f32 × FVec Ideal S512x128 .f32 × FVec Ideal S1x512 .f32 × FVec Ideal S1x512 .f32 :=
  (fun y => ∑ k ∈ Finset.range (n + 1), B.tK 0 (bk B.i k) (y 0) (y 1), fun y => ∑ k ∈ Finset.range (n + 1), B.tK 1 (bk B.i k) (y 0) (y 1),
   fun y => ∑ k ∈ Finset.range (n + 1), B.tV 0 (bk B.i k) (y 0) (y 1), fun y => ∑ k ∈ Finset.range (n + 1), B.tV 1 (bk B.i k) (y 0) (y 1),
   fun y => ∑ k ∈ Finset.range (n + 1), B.tC 0 (bk B.i k) (y 1), fun y => ∑ k ∈ Finset.range (n + 1), B.tC 1 (bk B.i k) (y 1))

/-- Storing a block's rows with its share added, read back. -/
theorem rows_added (B : Blk) (M : Memref sig .tc .vmem S4096x128 .f32) (g : BufTy.Contents (Elt Ideal) M.view.ty)
    (L : List (View.Piece (Elt Ideal) S4096x128 .f32)) (b : Fin 8) {off : Fin 2 → ℕ} (h : off = ![512 * b.val, 0])
    (inb : ∀ a, off a + S512x128.size a ≤ S4096x128.size a) (y : S4096x128.Idx) :
    M.view.read (Elt Ideal) (M.view.writes (Elt Ideal) g ((⟨Rect.unit (s := S4096x128) off S512x128.size inb,
        fun y : S512x128.Idx => (View.readAt (Elt Ideal) M.view (Rect.unit (s := S4096x128) off S512x128.size inb).toLoadRect (M.view.writes (Elt Ideal) g L)) y + B.tQ (rr b (y 0)) (y 1)⟩ : View.Piece (Elt Ideal) S4096x128 .f32) :: L)) y
      = if 512 * b.val ≤ (y 0).val ∧ (y 0).val < 512 * b.val + 512 then M.view.read (Elt Ideal) (M.view.writes (Elt Ideal) g L) y + B.tQ (y 0) (y 1)
        else M.view.read (Elt Ideal) (M.view.writes (Elt Ideal) g L) y := by
  subst h
  rw [View.read_writes_cons_unit M.view g inb _ L y rfl]
  by_cases hy : 512 * b.val ≤ (y 0).val ∧ (y 0).val < 512 * b.val + 512
  · have hall : ∀ a, (![512 * b.val, 0] : Fin 2 → ℕ) a ≤ (y a).val ∧ (y a).val < (![512 * b.val, 0] : Fin 2 → ℕ) a + S512x128.size a := by
      intro a
      fin_cases a
      · exact hy
      · have : (y 1).val < 128 := (y 1).isLt
        exact ⟨Nat.zero_le _, by show (y 1).val < 0 + 128; omega⟩
    rw [if_pos hy, dif_pos hall]
    refine congrArg₂ (· + ·) (load_local M.view inb _ y hall) (congrArg₂ B.tQ (Fin.ext ?_) (Fin.ext ?_))
    · show 512 * b.val + ((y 0).val - 512 * b.val) = (y 0).val; omega
    · show (y 1).val - 0 = (y 1).val; omega
  · rw [if_neg hy, dif_neg fun hall => hy (hall 0)]

/-- The same for the one-plane accumulator of the row sums. -/
theorem rows_added3 (B : Blk) (M : Memref sig .tc .vmem S1x4096x128 .f32) (g : BufTy.Contents (Elt Ideal) M.view.ty)
    (L : List (View.Piece (Elt Ideal) S1x4096x128 .f32)) (b : Fin 8) {off : Fin 3 → ℕ} (h : off = ![0, 512 * b.val, 0])
    (inb : ∀ a, off a + S1x512x128.size a ≤ S1x4096x128.size a) (y : S1x4096x128.Idx) :
    M.view.read (Elt Ideal) (M.view.writes (Elt Ideal) g ((⟨Rect.unit (s := S1x4096x128) off S1x512x128.size inb,
        fun y : S1x512x128.Idx => (View.readAt (Elt Ideal) M.view (Rect.unit (s := S1x4096x128) off S1x512x128.size inb).toLoadRect (M.view.writes (Elt Ideal) g L)) y + B.tS (rr b (y 1)) (y 2)⟩ : View.Piece (Elt Ideal) S1x4096x128 .f32) :: L)) y
      = if 512 * b.val ≤ (y 1).val ∧ (y 1).val < 512 * b.val + 512 then M.view.read (Elt Ideal) (M.view.writes (Elt Ideal) g L) y + B.tS (y 1) (y 2)
        else M.view.read (Elt Ideal) (M.view.writes (Elt Ideal) g L) y := by
  subst h
  rw [View.read_writes_cons_unit M.view g inb _ L y rfl]
  by_cases hy : 512 * b.val ≤ (y 1).val ∧ (y 1).val < 512 * b.val + 512
  · have hall : ∀ a, (![0, 512 * b.val, 0] : Fin 3 → ℕ) a ≤ (y a).val ∧ (y a).val < (![0, 512 * b.val, 0] : Fin 3 → ℕ) a + S1x512x128.size a := by
      intro a
      fin_cases a
      · have : (y 0).val < 1 := (y 0).isLt
        exact ⟨Nat.zero_le _, by show (y 0).val < 0 + 1; omega⟩
      · exact hy
      · have : (y 2).val < 128 := (y 2).isLt
        exact ⟨Nat.zero_le _, by show (y 2).val < 0 + 128; omega⟩
    rw [if_pos hy, dif_pos hall]
    refine congrArg₂ (· + ·) (load_local M.view inb _ y hall) (congrArg₂ B.tS (Fin.ext ?_) (Fin.ext ?_))
    · show 512 * b.val + ((y 1).val - 512 * b.val) = (y 1).val; omega
    · show (y 2).val - 0 = (y 2).val; omega
  · rw [if_neg hy, dif_neg fun hall => hy (hall 1)]

variable (B : Blk) (𝒱 : Variants) (c : Dev nD) (bd : Option 𝒱.V) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (a1 : BitVec 32) (w53 : FVec Ideal S1x512 .f32) (w55 : BitVec 32) (w142 : FVec Ideal S512x512 .f32) (w145 : FVec Ideal S512x512 .f32) (w150 : FVec Ideal S512x128 .f32) (w153 : FVec Ideal S512x128 .f32) (w155 : FVec Ideal S512x128 .f32) (w157 : FVec Ideal S512x128 .f32) (w172 : FVec Ideal S1x512 .f32) (w204 : BitVec 32)

/-- The state after `n` trips. -/
theorem st_eq (G11 : BufTy.Contents (Elt Ideal) arg11.view.ty) (G15 : BufTy.Contents (Elt Ideal) arg15.view.ty) (init : FVec Ideal S512x128 .f32 × FVec Ideal S512x128 .f32 × FVec Ideal S512x128 .f32 × FVec Ideal S512x128 .f32 × FVec Ideal S1x512 .f32 × FVec Ideal S1x512 .f32)
    (hinit : init = B.carry 0) : ∀ n : ℕ, n ≤ (k0_t1_loop B.i).trips →
    (st_k0_t1 (F := Ideal) 𝒱 c bd B.i arg2 harg2 arg3 harg3 arg4 harg4 arg5 harg5 arg6 harg6 arg7 harg7 arg8 harg8 arg9 harg9 arg10 harg10 arg11 harg11 arg12 harg12 arg13 harg13 arg14 harg14 arg15 harg15 B.a0 a1 V0 k0_pay50 (k0_pay53 B.x1) (k0_pay54 B.x1) (k0_pay55 B.x1) (k0_pay56 B.x2) (k0_pay57 B.x2) B.v39 B.v48 w53 w55 w142 w145 w150 w153 w155 w157 w172 w204 (harg2.unread B.x0) (harg5.unread B.x3) (harg7.unread B.x5) (harg8.unread B.x6) (harg9.unread B.x7) G11 G15 init n).1 = B.carry n
    ∧ (∀ y : S4096x128.Idx, arg11.view.read (Elt Ideal) (arg11.view.writes (Elt Ideal) G11 (st_k0_t1 (F := Ideal) 𝒱 c bd B.i arg2 harg2 arg3 harg3 arg4 harg4 arg5 harg5 arg6 harg6 arg7 harg7 arg8 harg8 arg9 harg9 arg10 harg10 arg11 harg11 arg12 harg12 arg13 harg13 arg14 harg14 arg15 harg15 B.a0 a1 V0 k0_pay50 (k0_pay53 B.x1) (k0_pay54 B.x1) (k0_pay55 B.x1) (k0_pay56 B.x2) (k0_pay57 B.x2) B.v39 B.v48 w53 w55 w142 w145 w150 w153 w155 w157 w172 w204 (harg2.unread B.x0) (harg5.unread B.x3) (harg7.unread B.x5) (harg8.unread B.x6) (harg9.unread B.x7) G11 G15 init n).2.1) y
        = if 512 * ((B.i 1).val + 1) ≤ (y 0).val ∧ (y 0).val < 512 * ((B.i 1).val + 1 + n) then arg11.view.read (Elt Ideal) G11 y + B.tQ (y 0) (y 1)
          else arg11.view.read (Elt Ideal) G11 y)
    ∧ (∀ y : S1x4096x128.Idx, arg15.view.read (Elt Ideal) (arg15.view.writes (Elt Ideal) G15 (st_k0_t1 (F := Ideal) 𝒱 c bd B.i arg2 harg2 arg3 harg3 arg4 harg4 arg5 harg5 arg6 harg6 arg7 harg7 arg8 harg8 arg9 harg9 arg10 harg10 arg11 harg11 arg12 harg12 arg13 harg13 arg14 harg14 arg15 harg15 B.a0 a1 V0 k0_pay50 (k0_pay53 B.x1) (k0_pay54 B.x1) (k0_pay55 B.x1) (k0_pay56 B.x2) (k0_pay57 B.x2) B.v39 B.v48 w53 w55 w142 w145 w150 w153 w155 w157 w172 w204 (harg2.unread B.x0) (harg5.unread B.x3) (harg7.unread B.x5) (harg8.unread B.x6) (harg9.unread B.x7) G11 G15 init n).2.2) y
        = if 512 * ((B.i 1).val + 1) ≤ (y 1).val ∧ (y 1).val < 512 * ((B.i 1).val + 1 + n) then arg15.view.read (Elt Ideal) G15 y + B.tS (y 1) (y 2)
          else arg15.view.read (Elt Ideal) G15 y)
  | 0, _ => by
    refine ⟨hinit, fun y => ?_, fun y => ?_⟩
    · rw [if_neg (by omega)]; rfl
    · rw [if_neg (by omega)]; rfl
  | n + 1, hn => by
    obtain ⟨h1, h2, h3⟩ := st_eq G11 G15 init hinit n (by omega)
    have hb := bk_val B.i (n + 1) hn
    have hs := st_k0_t1_succ (F := Ideal) 𝒱 c bd B.i arg2 harg2 arg3 harg3 arg4 harg4 arg5 harg5 arg6 harg6 arg7 harg7 arg8 harg8 arg9 harg9 arg10 harg10 arg11 harg11 arg12 harg12 arg13 harg13 arg14 harg14 arg15 harg15 B.a0 a1 V0 k0_pay50 (k0_pay53 B.x1) (k0_pay54 B.x1) (k0_pay55 B.x1) (k0_pay56 B.x2) (k0_pay57 B.x2) B.v39 B.v48 w53 w55 w142 w145 w150 w153 w155 w157 w172 w204 (harg2.unread B.x0) (harg5.unread B.x3) (harg7.unread B.x5) (harg8.unread B.x6) (harg9.unread B.x7) G11 G15 init ⟨n, hn⟩
    have hR := tripR_eq B 𝒱 c bd arg2 harg2 arg3 harg3 arg4 harg4 arg5 harg5 arg6 harg6 arg7 harg7 arg8 harg8 arg9 harg9 arg10 harg10 arg11 harg11 arg12 harg12 arg13 harg13 arg14 harg14 arg15 harg15 a1 w53 w55 w142 w145 w150 w153 w155 w157 w172 w204 ⟨n, hn⟩ (bk B.i (n + 1)) (by rw [hb]; show _ = _ + 1 + n; omega)
    have hL := tripL_eq B 𝒱 c bd arg2 harg2 arg3 harg3 arg4 harg4 arg5 harg5 arg6 harg6 arg7 harg7 arg8 harg8 arg9 harg9 arg10 harg10 arg11 harg11 arg12 harg12 arg13 harg13 arg14 harg14 arg15 harg15 a1 w53 w55 w142 w145 w150 w153 w155 w157 w172 w204 ⟨n, hn⟩ (bk B.i (n + 1)) (by rw [hb]; show _ = _ + 1 + n; omega)
    rw [hR, hL] at hs
    have e5 : k0_off5 B.i ⟨n, hn⟩ = ![512 * (bk B.i (n + 1)).val, 0] := by rw [off5_eq, hb]; show ![512 * (_ + 1 + n), 0] = _; rw [Nat.add_assoc, Nat.add_comm 1 n]
    have e8 : k0_off8 B.i ⟨n, hn⟩ = ![0, 512 * (bk B.i (n + 1)).val, 0] := by rw [off8_eq, hb]; show ![0, 512 * (_ + 1 + n), 0] = _; rw [Nat.add_assoc, Nat.add_comm 1 n]
    refine ⟨?_, fun y => ?_, fun y => ?_⟩
    · refine (congrArg (fun z => z.1) hs).trans ?_
      dsimp only
      rw [h1]
      simp only [Blk.carry, Finset.sum_range_succ _ (n + 1)]
    · refine (congrArg (fun z => arg11.view.read (Elt Ideal) (arg11.view.writes (Elt Ideal) G11 z.2.1) y) hs).trans ?_
      refine (rows_added B arg11 G11 _ (bk B.i (n + 1)) e5 (k0_off5_inb B.i ⟨n, hn⟩) y).trans ?_
      rw [h2 y, hb]
      by_cases c1 : 512 * ((B.i 1).val + 1) ≤ (y 0).val ∧ (y 0).val < 512 * ((B.i 1).val + 1 + n)
      · rw [if_neg (by omega), if_pos c1, if_pos (by omega)]
      · by_cases c2 : 512 * ((B.i 1).val + (n + 1)) ≤ (y 0).val ∧ (y 0).val < 512 * ((B.i 1).val + (n + 1)) + 512
        · rw [if_pos c2, if_neg c1, if_pos (by omega)]
        · rw [if_neg c2, if_neg c1, if_neg (by omega)]
    · refine (congrArg (fun z => arg15.view.read (Elt Ideal) (arg15.view.writes (Elt Ideal) G15 z.2.2) y) hs).trans ?_
      refine (rows_added3 B arg15 G15 _ (bk B.i (n + 1)) e8 (k0_off8_inb B.i ⟨n, hn⟩) y).trans ?_
      rw [h3 y, hb]
      by_cases c1 : 512 * ((B.i 1).val + 1) ≤ (y 1).val ∧ (y 1).val < 512 * ((B.i 1).val + 1 + n)
      · rw [if_neg (by omega), if_pos c1, if_pos (by omega)]
      · by_cases c2 : 512 * ((B.i 1).val + (n + 1)) ≤ (y 1).val ∧ (y 1).val < 512 * ((B.i 1).val + (n + 1)) + 512
        · rw [if_pos c2, if_neg c1, if_pos (by omega)]
        · rw [if_neg c2, if_neg c1, if_neg (by omega)]

end Cert.KernelIdeal.Att
end
-- ==== Proof.AttReal.lean ====
/- What one grid point of the kernel `attention_bwd` computes, where its blocks hold real numbers: the weights, the
   gradients in the weights and in the scores are the real attention's, and the sums over row blocks are sums over rows. -/
module

public import proofs.«01_k».proof.Proof.AttLoop
public import proofs.«01_k».proof.Proof.AttStep
public import proofs.«01_k».proof.Proof.AttMath

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.IdealRules

theorem QS_eq : QS = (((1 / 8 / Real.log 2 : ℝ)) : EReal) := by
  refine (named_const.ideal_named_scalar κ "qscale" _ (((1 / 8) * (Real.log 2)⁻¹ : ℝ) : EReal) rfl).trans ?_
  rw [div_eq_mul_inv, div_eq_mul_inv]
theorem LE_eq : LE = ((1 / Real.log 2 : ℝ) : EReal) := by
  refine (named_const.ideal_named_scalar κ "log2e" _ (((Real.log 2)⁻¹ : ℝ) : EReal) rfl).trans ?_
  rw [one_div]
theorem NG_eq : NG = (⊥ : EReal) := named_const.ideal_named_scalar κ "neg" _ _ rfl
theorem LN2_eq : LN2 = ((Real.log 2 : ℝ) : EReal) := named_const.ideal_named_scalar κ "ln2" _ _ rfl

/-- The head of column `l`. -/
def headOf (l : Fin 512) : Fin 8 := ⟨l.val / 64, by omega⟩
/-- Column `l` of pair `p`. -/
def pcol (p : Fin 4) (l : Fin 128) : Fin 512 := ⟨128 * p.val + l.val, by omega⟩
/-- Head `e` of pair `p`. -/
def hp (p : Fin 4) (e : Fin 2) : Fin 8 := ⟨2 * p.val + e.val, by omega⟩
/-- Lane `d` of head `e` in a pair. -/
def hl (e : Fin 2) (d : Fin 64) : Fin 128 := ⟨64 * e.val + d.val, by omega⟩

theorem pcol_hl (p : Fin 4) (e : Fin 2) (d : Fin 64) : pcol p (hl e d) = col (hp p e) d :=
  Fin.ext (by simp only [pcol, hl, col, hp]; omega)
theorem headOf_pcol (p : Fin 4) (l : Fin 128) : headOf (pcol p l) = hp p (Blk.hd l) :=
  Fin.ext (by simp only [headOf, pcol, hp, Blk.hd]; split <;> simp <;> omega)
theorem headOf_col (h : Fin 8) (d : Fin 64) : headOf (col h d) = h :=
  Fin.ext (by simp only [headOf, col]; omega)

/-- A sum over the lanes of one head. -/
theorem sum_lanes {A : Type} [AddCommMonoid A] (e : Fin 2) (f : Fin 128 → A) :
    (∑ l : Fin 128, if Blk.hd l = e then f l else 0) = ∑ d : Fin 64, f (hl e d) := by
  have h := Fin.sum_univ_add (a := 64) (b := 64) (fun l : Fin (64 + 64) => if Blk.hd l = e then f l else 0)
  refine h.trans ?_
  have hc : ∀ d : Fin 64, Blk.hd (Fin.castAdd 64 d) = 0 := fun d => by
    unfold Blk.hd; rw [if_pos]; exact d.isLt
  have hn : ∀ d : Fin 64, Blk.hd (Fin.natAdd 64 d) = 1 := fun d => by
    unfold Blk.hd; rw [if_neg]; show ¬ 64 + d.val < 64; omega
  simp only [hc, hn]
  match e with
  | ⟨0, _⟩ =>
    simp only [Fin.zero_eta, Fin.isValue, if_true, one_ne_zero, if_false, Finset.sum_const_zero, add_zero]
    exact Finset.sum_congr rfl fun d _ => congrArg f (Fin.ext (by show d.val = 64 * 0 + d.val; omega))
  | ⟨1, _⟩ =>
    simp only [Fin.mk_one, Fin.isValue, zero_ne_one, if_false, if_true, Finset.sum_const_zero, zero_add]
    exact Finset.sum_congr rfl fun d _ => congrArg f (Fin.ext (by show 64 + d.val = 64 * 1 + d.val; omega))

/-- A sum over all rows, block by block. -/
theorem sum_blocks {A : Type} [AddCommMonoid A] (g : Fin 4096 → A) : (∑ r, g r) = ∑ b : Fin 8, ∑ z : Fin 512, g (rr b z) := by
  rw [← Finset.sum_product', Finset.univ_product_univ]
  refine (Fintype.sum_equiv (finProdFinEquiv (m := 8) (n := 512)) _ _ fun x => ?_).symm
  refine congrArg g (Fin.ext ?_)
  show 512 * x.1.val + x.2.val = x.2.val + 512 * x.1.val
  omega

/-- A sum over all rows where only the rows of the blocks from the point's own on count. -/
theorem sum_from {A : Type} [AddCommMonoid A] (i : grid0.Coords) (g : Fin 4096 → A)
    (h0 : ∀ r : Fin 4096, r.val < 512 * (i 1).val → g r = 0) :
    (∑ k ∈ Finset.range (7 - (i 1).val + 1), ∑ z : Fin 512, g (rr (bk i k) z)) = ∑ r, g r := by
  have hj : (i 1).val < 8 := (i 1).isLt
  rw [sum_blocks, ← Finset.sum_filter_add_sum_filter_not Finset.univ (fun b : Fin 8 => (i 1).val ≤ b.val)]
  have hz : (∑ b ∈ Finset.univ.filter (fun b : Fin 8 => ¬ (i 1).val ≤ b.val), ∑ z : Fin 512, g (rr b z)) = 0 := by
    refine Finset.sum_eq_zero fun b hb => Finset.sum_eq_zero fun z _ => h0 _ ?_
    have := (Finset.mem_filter.1 hb).2
    show 512 * b.val + z.val < _
    omega
  rw [hz, add_zero]
  refine Finset.sum_bij (fun k _ => bk i k) (fun k hk => ?_) (fun k hk k' hk' h => ?_) (fun b hb => ?_) (fun k _ => rfl)
  · have := Finset.mem_range.1 hk
    refine Finset.mem_filter.2 ⟨Finset.mem_univ _, ?_⟩
    show (i 1).val ≤ ((i 1).val + k) % 8
    omega
  · have h1 := Finset.mem_range.1 hk
    have h2 := Finset.mem_range.1 hk'
    have h3 : ((i 1).val + k) % 8 = ((i 1).val + k') % 8 := congrArg Fin.val h
    omega
  · have hb := (Finset.mem_filter.1 hb).2
    have := b.isLt
    refine ⟨b.val - (i 1).val, Finset.mem_range.2 (by omega), Fin.ext ?_⟩
    show ((i 1).val + (b.val - (i 1).val)) % 8 = b.val
    omega

/-- The pair of a point. -/
def Blk.p (B : Blk) : Fin 4 := ⟨(B.i 0).val, (B.i 0).isLt⟩
/-- The block of keys of a point. -/
def Blk.j (B : Blk) : Fin 8 := ⟨(B.i 1).val, (B.i 1).isLt⟩

/-- The blocks of a point hold the given real arrays. -/
structure Blk.Holds (B : Blk) (Q K V D : Fin 4096 → Fin 512 → ℝ) (C : Fin 4096 → Fin 8 → ℝ) (M : Fin 8 → Fin 4096 → ℝ) : Prop where
  h0 : ∀ r l, B.x0 (ix2 r l) = ((Q r (pcol B.p l) : ℝ) : EReal)
  h1 : ∀ s l, B.x1 (ix2 s l) = ((K (rr B.j s) (pcol B.p l) : ℝ) : EReal)
  h2 : ∀ s l, B.x2 (ix2 s l) = ((V (rr B.j s) (pcol B.p l) : ℝ) : EReal)
  h3 : ∀ r e, B.x3 (ix2 r (lane B.i e)) = ((C r (hp B.p e) : ℝ) : EReal)
  h4 : ∀ e s, B.x4 (ix2 (row8 B.i e) s) = ((C (rr B.j s) (hp B.p e) : ℝ) : EReal)
  h5 : ∀ e r l, B.x5 (ix3 e r l) = (((M (hp B.p e) r + Real.log (∑ t, exM Q K C (hp B.p e) r t (M (hp B.p e) r))) * (1 / Real.log 2) : ℝ) : EReal)
  h6 : ∀ r l, B.x6 (ix2 r l) = ((∑ t, prR Q K C (headOf (pcol B.p l)) r t * V t (pcol B.p l) : ℝ) : EReal)
  h7 : ∀ r l, B.x7 (ix2 r l) = ((D r (pcol B.p l) : ℝ) : EReal)

section holds
variable {B : Blk} {Q K V D : Fin 4096 → Fin 512 → ℝ} {C : Fin 4096 → Fin 8 → ℝ} {M : Fin 8 → Fin 4096 → ℝ}
variable (H : B.Holds Q K V D C M) (e : Fin 2) (r : Fin 4096) (s : Fin 512) (l : Fin 128)
include H

theorem Blk.Holds.pr_eq : B.pr e r s = ((prR Q K C (hp B.p e) r (rr B.j s) : ℝ) : EReal) := by
  have hsc : B.sc e r s = (((∑ d, Q r (col (hp B.p e) d) * K (rr B.j s) (col (hp B.p e) d)) * (1 / 8 / Real.log 2) : ℝ) : EReal) := by
    unfold Blk.sc
    rw [sum_lanes e, Finset.sum_mul, ← coe_sum]
    refine Finset.sum_congr rfl fun d _ => ?_
    rw [H.h0, H.h1, QS_eq, ← EReal.coe_mul, ← EReal.coe_mul, pcol_hl]
    exact congrArg _ (by ring)
  have hls : B.ls e r = (((M (hp B.p e) r + Real.log (∑ t, exM Q K C (hp B.p e) r t (M (hp B.p e) r))) * (1 / Real.log 2)
      - C r (hp B.p e) * (1 / Real.log 2) : ℝ) : EReal) := by
    unfold Blk.ls
    simp only [H.h5]
    rw [ofBits_neg_inf, fold_max_const, H.h3, LE_eq, ← EReal.coe_mul, ← EReal.coe_sub]
  unfold Blk.pr
  rw [hls, hsc, H.h4, LE_eq, NG_eq]
  show Ideal.exp2 _ = _
  by_cases hm : 512 * (B.i 1).val + s.val ≤ r.val
  · rw [if_pos hm, ← EReal.coe_mul, ← EReal.coe_sub, ← EReal.coe_sub, Ideal.exp2_coe]
    exact congrArg _ (pow_two Q K C (hp B.p e) r (rr B.j s) (M (hp B.p e) r) _ rfl hm)
  · rw [if_neg hm, EReal.bot_sub, Ideal.exp2_bot, prR_later Q K C _ r (rr B.j s) hm]; rfl

theorem Blk.Holds.dp_eq : B.dp e r s = ((dpR V D (hp B.p e) r (rr B.j s) : ℝ) : EReal) := by
  unfold Blk.dp dpR
  rw [sum_lanes e, ← coe_sum]
  refine Finset.sum_congr rfl fun d _ => ?_
  rw [H.h7, H.h2, ← EReal.coe_mul, pcol_hl]

theorem Blk.Holds.de_eq : B.de e r = ((∑ t, prR Q K C (hp B.p e) r t * dpR V D (hp B.p e) r t : ℝ) : EReal) := by
  unfold Blk.de
  rw [sum_lanes e, ← out_dot, ← coe_sum]
  refine Finset.sum_congr rfl fun d _ => ?_
  rw [H.h7, H.h6, ← EReal.coe_mul, pcol_hl, headOf_col]

theorem Blk.Holds.ds_eq : B.ds e r s = ((dsR Q K V D C (hp B.p e) r (rr B.j s) : ℝ) : EReal) := by
  unfold Blk.ds dsR
  rw [H.pr_eq, H.dp_eq, H.de_eq, ← EReal.coe_sub, ← EReal.coe_mul]

theorem Blk.Holds.ds_early (h : r.val < 512 * (B.i 1).val) : dsR Q K V D C (hp B.p e) r (rr B.j s) = 0 :=
  dsR_later Q K V D C _ _ _ (by rw [Fin.le_def]; show ¬ 512 * (B.i 1).val + s.val ≤ r.val; omega)
theorem Blk.Holds.pr_early (h : r.val < 512 * (B.i 1).val) : prR Q K C (hp B.p e) r (rr B.j s) = 0 :=
  prR_later Q K C _ _ _ (by rw [Fin.le_def]; show ¬ 512 * (B.i 1).val + s.val ≤ r.val; omega)

theorem Blk.Holds.tK_sum : (∑ k ∈ Finset.range (7 - (B.i 1).val + 1), B.tK e (bk B.i k) s l)
    = ((∑ r, dsR Q K V D C (hp B.p e) r (rr B.j s) * (Q r (pcol B.p l) * (1 / 8 / Real.log 2)) : ℝ) : EReal) := by
  unfold Blk.tK
  simp only [H.ds_eq, H.h0, QS_eq, ← EReal.coe_mul, coe_sum]
  refine congrArg _ (sum_from B.i (fun r => dsR Q K V D C (hp B.p e) r (rr B.j s) * (Q r (pcol B.p l) * (1 / 8 / Real.log 2))) fun r hr => ?_)
  show dsR Q K V D C (hp B.p e) r (rr B.j s) * _ = 0
  rw [H.ds_early e r s hr, zero_mul]

theorem Blk.Holds.tV_sum : (∑ k ∈ Finset.range (7 - (B.i 1).val + 1), B.tV e (bk B.i k) s l)
    = ((∑ r, prR Q K C (hp B.p e) r (rr B.j s) * D r (pcol B.p l) : ℝ) : EReal) := by
  unfold Blk.tV
  simp only [H.pr_eq, H.h7, ← EReal.coe_mul, coe_sum]
  refine congrArg _ (sum_from B.i (fun r => prR Q K C (hp B.p e) r (rr B.j s) * D r (pcol B.p l)) fun r hr => ?_)
  show prR Q K C (hp B.p e) r (rr B.j s) * _ = 0
  rw [H.pr_early e r s hr, zero_mul]

theorem Blk.Holds.tC_sum : (∑ k ∈ Finset.range (7 - (B.i 1).val + 1), B.tC e (bk B.i k) s)
    = ((∑ r, -dsR Q K V D C (hp B.p e) r (rr B.j s) : ℝ) : EReal) := by
  unfold Blk.tC
  simp only [H.ds_eq, coe_sum, ← EReal.coe_neg]
  refine congrArg _ (Eq.trans (Finset.sum_congr rfl fun k _ => (Finset.sum_neg_distrib _).symm) (sum_from B.i (fun r => -dsR Q K V D C (hp B.p e) r (rr B.j s)) fun r hr => ?_))
  show -dsR Q K V D C (hp B.p e) r (rr B.j s) = 0
  rw [H.ds_early e r s hr, neg_zero]

theorem Blk.Holds.tQ_eq : B.tQ r l
    = ((∑ s : Fin 512, dsR Q K V D C (headOf (pcol B.p l)) r (rr B.j s) * (1 / 8) * K (rr B.j s) (pcol B.p l) : ℝ) : EReal) := by
  unfold Blk.tQ
  rw [headOf_pcol]
  simp only [H.ds_eq, H.h1, ← EReal.coe_mul, coe_sum]
  rw [show Ideal.ofBits .f32 0x3E000000#32 = ((1 / 8 : ℝ) : EReal) from ofBits_eighth, ← EReal.coe_mul, Finset.mul_sum]
  exact congrArg _ (Finset.sum_congr rfl fun s _ => by ring)

theorem Blk.Holds.tS_eq : B.tS r l = if h : l.val < 2 then
    ((∑ s : Fin 512, dsR Q K V D C (hp B.p ⟨l.val, h⟩) r (rr B.j s) : ℝ) : EReal) else 0 := by
  unfold Blk.tS
  simp only [H.ds_eq, coe_sum]
  by_cases h0 : l.val = 0
  · rw [if_pos h0, dif_pos (by omega)]
    exact congrArg _ (Finset.sum_congr rfl fun s _ => congrArg (fun e => dsR Q K V D C (hp B.p e) r (rr B.j s)) (Fin.ext h0.symm))
  · rw [if_neg h0]
    by_cases h1 : l.val = 1
    · rw [if_pos h1, dif_pos (by omega)]
      exact congrArg _ (Finset.sum_congr rfl fun s _ => congrArg (fun e => dsR Q K V D C (hp B.p e) r (rr B.j s)) (Fin.ext h1.symm))
    · rw [if_neg h1, dif_neg (by omega)]

end holds

end Cert.KernelIdeal.Att
end
-- ==== Proof.AttHost.lean ====
/- The arrays the host prepares for the kernel `attention_bwd`, at arguments that are real numbers: the projection's rows
   with q, k and v in their columns, the gates by rows and by columns, the rows' log-sums to base 2 and the attention's output. -/
module

public import proofs.«01_k».proof.Proof.Gen.KernelIdeal.Frame
public import proofs.«01_k».proof.Proof.AttRef
public import proofs.«01_k».proof.Proof.AttReal
public import Idealize.ShloMosaic.Lib.StableHlo.ReadAt
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- The exponentials of the logits less their row's maximum. -/
def hostEx (y : FVec Ideal S8x4096x4096 .f32) (x : FVec Ideal S8x4096 .f32) : FVec Ideal S8x4096x4096 .f32 :=
  Host.exp (subf y (broadcastInDim S8x4096x4096 ![0, 1, 2] bcast_S8x4096x1_S8x4096x4096_0_1_2 (broadcastInDim S8x4096x1 ![0, 1] bcast_S8x4096_S8x4096x1_0_1 x)))
/-- Their row sums. -/
def hostTot (e : FVec Ideal S8x4096x4096 .f32) : FVec Ideal S8x4096x1 .f32 :=
  broadcastInDim S8x4096x1 ![0, 1] bcast_S8x4096_S8x4096x1_0_1 (Host.reduceAdd e (constant S_ .f32 0x00000000#32) reducesTo_S8x4096x4096_S8x4096_d2 h_S_)
/-- The rows' log-sums to base 2, in every lane. -/
def hostLse (x : FVec Ideal S8x4096 .f32) (t : FVec Ideal S8x4096x1 .f32) : FVec Ideal S8x4096x128 .f32 :=
  broadcastInDim S8x4096x128 ![0, 1, 2] bcast_S8x4096x1_S8x4096x128_0_1_2
    (Host.divf (addf (broadcastInDim S8x4096x1 ![0, 1] bcast_S8x4096_S8x4096x1_0_1 x) (Host.log t))
      (broadcastInDim S8x4096x1 ![] bcast_S_S8x4096x1 (Host.log (constant (F := Ideal) S_ .f32 0x40000000#32))))
/-- The attention's output. -/
def hostAtt (v : FVec Ideal S4096x512 .f32) (e : FVec Ideal S8x4096x4096 .f32) (t : FVec Ideal S8x4096x1 .f32) : FVec Ideal S4096x512 .f32 :=
  shapeCast _ (transpose S4096x8x64 [2, 0, 1] (Host.dotGeneral dot_S4096x8x64_S8x4096x4096_S8x64x4096_0_2_2_1_1_0 none
      (shapeCast _ v shapeCasts_S4096x512_S4096x8x64)
      (Host.divf e (broadcastInDim S8x4096x4096 ![0, 1, 2] bcast_S8x4096x1_S8x4096x4096_0_1_2 t)))
    transposes_S8x64x4096_S4096x8x64_2_0_1) shapeCasts_S4096x8x64_S4096x512

theorem hostEx_at (y : FVec Ideal S8x4096x4096 .f32) (x : FVec Ideal S8x4096 .f32) (h : Fin 8) (r s : Fin 4096) :
    hostEx y x (ix3 h r s) = Ideal.exp (y (ix3 h r s) - x (ix2 h r)) := by
  pointwise [hostEx]
theorem hostTot_at (e : FVec Ideal S8x4096x4096 .f32) (h : Fin 8) (r : Fin 4096) :
    hostTot e (ix3 h r 0) = ∑ s : Fin 4096, e (ix3 h r s) := by
  pointwise [hostTot]
theorem hostLse_at (x : FVec Ideal S8x4096 .f32) (t : FVec Ideal S8x4096x1 .f32) (h : Fin 8) (r : Fin 4096) (l : Fin 128) :
    hostLse x t (ix3 h r l) = Ideal.div (x (ix2 h r) + Ideal.log (t (ix3 h r 0))) (Ideal.log (Ideal.ofBits .f32 1073741824#32)) := by
  pointwise [hostLse]
theorem hostAtt_at (v : FVec Ideal S4096x512 .f32) (e : FVec Ideal S8x4096x4096 .f32) (t : FVec Ideal S8x4096x1 .f32) (r : Fin 4096) (l : Fin 512) :
    hostAtt v e t (ix2 r l) = ∑ s : Fin 4096, v (ix2 s l) * Ideal.div (e (ix3 (headOf l) r s)) (t (ix3 (headOf l) r 0)) := by
  pointwise [hostAtt]
  rfl

theorem V_lse : V m c main_v41 = hostLse (Cert.ReferenceIdeal.Read.val_main_v22 (F := Ideal) (m ((c : Thread nD τ).loc main_arg0)) (m ((c : Thread nD τ).loc main_arg1)) (m ((c : Thread nD τ).loc main_arg3))) (hostTot (hostEx (Cert.ReferenceIdeal.Read.val_main_v21_0 (F := Ideal) (m ((c : Thread nD τ).loc main_arg0)) (m ((c : Thread nD τ).loc main_arg1)) (m ((c : Thread nD τ).loc main_arg3))) (Cert.ReferenceIdeal.Read.val_main_v22 (F := Ideal) (m ((c : Thread nD τ).loc main_arg0)) (m ((c : Thread nD τ).loc main_arg1)) (m ((c : Thread nD τ).loc main_arg3))))) := by
  unfold V hostOps0 hostOps0_1 hostOps0_2 hostOps0_3 hostOps0_4
  simp only [List.flatten_cons, List.flatten_nil, List.cons_append, List.nil_append, List.append_nil]
  after_reads_simp
  rfl

theorem V_att : V m c main_v46 = (truncf .bf16 (hostAtt (m ((c : Thread nD τ).loc main_arg2)) (hostEx (Cert.ReferenceIdeal.Read.val_main_v21_0 (F := Ideal) (m ((c : Thread nD τ).loc main_arg0)) (m ((c : Thread nD τ).loc main_arg1)) (m ((c : Thread nD τ).loc main_arg3))) (Cert.ReferenceIdeal.Read.val_main_v22 (F := Ideal) (m ((c : Thread nD τ).loc main_arg0)) (m ((c : Thread nD τ).loc main_arg1)) (m ((c : Thread nD τ).loc main_arg3)))) (hostTot (hostEx (Cert.ReferenceIdeal.Read.val_main_v21_0 (F := Ideal) (m ((c : Thread nD τ).loc main_arg0)) (m ((c : Thread nD τ).loc main_arg1)) (m ((c : Thread nD τ).loc main_arg3))) (Cert.ReferenceIdeal.Read.val_main_v22 (F := Ideal) (m ((c : Thread nD τ).loc main_arg0)) (m ((c : Thread nD τ).loc main_arg1)) (m ((c : Thread nD τ).loc main_arg3)))))) bitsLt_bf16_f32 : FVec Ideal S4096x512 .bf16) := by
  unfold V hostOps0 hostOps0_1 hostOps0_2 hostOps0_3 hostOps0_4
  simp only [List.flatten_cons, List.flatten_nil, List.cons_append, List.nil_append, List.append_nil]
  after_reads_simp
  rfl

theorem V_c (r : Fin 4096) (l : Fin 128) (h : l.val < 8) : V m c main_v42 (ix2 r l) = (m ((c : Thread nD τ).loc main_arg3)) (ix2 r ⟨l.val, h⟩) := by
  unfold V hostOps0 hostOps0_1 hostOps0_2 hostOps0_3 hostOps0_4
  simp only [List.flatten_cons, List.flatten_nil, List.cons_append, List.nil_append, List.append_nil]
  after_reads_at
  pointwise
  rw [dif_pos h]

theorem V_ct (l : Fin 8) (r : Fin 4096) : V m c main_v45 (ix2 l r) = (m ((c : Thread nD τ).loc main_arg3)) (ix2 r l) := by
  unfold V hostOps0 hostOps0_1 hostOps0_2 hostOps0_3 hostOps0_4
  simp only [List.flatten_cons, List.flatten_nil, List.cons_append, List.nil_append, List.append_nil]
  after_reads_at

/-- The projection's rows: the columns of q, k and v among zeros. -/
def hostH (q k v : FVec Ideal S4096x512 .f32) : FVec Ideal S4096x6144 .f32 :=
  concatenate S4096x6144 1 [⟨S4096x3072, (broadcastInDim S4096x3072 ![] bcast_S_S4096x3072 (constant (F := Ideal) S_ .f32 0x00000000#32) : FVec Ideal S4096x3072 .f32)⟩,
    ⟨S4096x512, q⟩, ⟨S4096x512, k⟩, ⟨S4096x512, v⟩,
    ⟨S4096x1536, (broadcastInDim S4096x1536 ![] bcast_S_S4096x1536 (constant (F := Ideal) S_ .f32 0x00000000#32) : FVec Ideal S4096x1536 .f32)⟩]
    concatenates_S4096x3072_S4096x512_S4096x512_S4096x512_S4096x1536_S4096x6144_d1

theorem hostH_q (q k v : FVec Ideal S4096x512 .f32) (r : Fin 4096) (n : Fin 6144) (l : Fin 512) (h : n.val = 3072 + l.val) :
    hostH q k v (ix2 r n) = q (ix2 r l) := by
  pointwise [hostH]
  rw [dif_neg (by omega), dif_pos (by omega)]
  exact congrArg q (congrArg (ix2 r) (Fin.ext (by show n.val - 3072 = l.val; omega)))
theorem hostH_k (q k v : FVec Ideal S4096x512 .f32) (r : Fin 4096) (n : Fin 6144) (l : Fin 512) (h : n.val = 3584 + l.val) :
    hostH q k v (ix2 r n) = k (ix2 r l) := by
  pointwise [hostH]
  rw [dif_neg (by omega), dif_neg (by omega), dif_pos (by omega)]
  exact congrArg k (congrArg (ix2 r) (Fin.ext (by show n.val - 3072 - 512 = l.val; omega)))
theorem hostH_v (q k v : FVec Ideal S4096x512 .f32) (r : Fin 4096) (n : Fin 6144) (l : Fin 512) (h : n.val = 4096 + l.val) :
    hostH q k v (ix2 r n) = v (ix2 r l) := by
  pointwise [hostH]
  rw [dif_neg (by omega), dif_neg (by omega), dif_neg (by omega), dif_pos (by omega)]
  exact congrArg v (congrArg (ix2 r) (Fin.ext (by show n.val - 3072 - 512 - 512 = l.val; omega)))

theorem V_h : V m c main_v2 = hostH (m ((c : Thread nD τ).loc main_arg0)) (m ((c : Thread nD τ).loc main_arg1)) (m ((c : Thread nD τ).loc main_arg2)) := by
  unfold V hostOps0 hostOps0_1 hostOps0_2 hostOps0_3 hostOps0_4
  simp only [List.flatten_cons, List.flatten_nil, List.cons_append, List.nil_append, List.append_nil]
  after_reads_simp
  rfl

/-- The arguments hold the given real arrays. -/
structure Args (Q K V D : Fin 4096 → Fin 512 → ℝ) (C : Fin 4096 → Fin 8 → ℝ) : Prop where
  hq : (m ((c : Thread nD τ).loc main_arg0)) = up Q
  hk : (m ((c : Thread nD τ).loc main_arg1)) = up K
  hv : (m ((c : Thread nD τ).loc main_arg2)) = up V
  hc : (m ((c : Thread nD τ).loc main_arg3)) = upC C
  hd : (m ((c : Thread nD τ).loc main_arg4)) = up D

/-- The maximum of a row of the masked logits. -/
def MxR (Q K : Fin 4096 → Fin 512 → ℝ) (C : Fin 4096 → Fin 8 → ℝ) (h : Fin 8) (r : Fin 4096) : ℝ := (r_max Q K C h r).choose
theorem MxR_eq (Q K : Fin 4096 → Fin 512 → ℝ) (C : Fin 4096 → Fin 8 → ℝ) (h : Fin 8) (r : Fin 4096) :
    Cert.ReferenceIdeal.Read.val_main_v22 (F := Ideal) (up Q) (up K) (upC C) (ix2 h r) = (MxR Q K C h r : EReal) := (r_max Q K C h r).choose_spec

section real
variable (Q K V D : Fin 4096 → Fin 512 → ℝ) (C : Fin 4096 → Fin 8 → ℝ)

theorem hostEx_real (h : Fin 8) (r s : Fin 4096) :
    hostEx (Cert.ReferenceIdeal.Read.val_main_v21_0 (F := Ideal) (up Q) (up K) (upC C)) (Cert.ReferenceIdeal.Read.val_main_v22 (F := Ideal) (up Q) (up K) (upC C)) (ix3 h r s)
      = ((exM Q K C h r s (MxR Q K C h r) : ℝ) : EReal) := by
  rw [hostEx_at, MxR_eq, r_logit]
  unfold exM
  split
  · rw [← EReal.coe_sub, Ideal.exp_coe]
  · rw [EReal.bot_sub, Ideal.exp_bot]; rfl

theorem hostTot_real (h : Fin 8) (r : Fin 4096) :
    hostTot (hostEx (Cert.ReferenceIdeal.Read.val_main_v21_0 (F := Ideal) (up Q) (up K) (upC C)) (Cert.ReferenceIdeal.Read.val_main_v22 (F := Ideal) (up Q) (up K) (upC C))) (ix3 h r 0)
      = ((∑ s, exM Q K C h r s (MxR Q K C h r) : ℝ) : EReal) := by
  rw [hostTot_at, ← coe_sum]
  exact Finset.sum_congr rfl fun s _ => hostEx_real Q K C h r s

variable {Q K V D C} (H : Args m c Q K V D C)
include H

theorem host_lse (h : Fin 8) (r : Fin 4096) (l : Fin 128) : Gen.V m c main_v41 (ix3 h r l)
    = (((MxR Q K C h r + Real.log (∑ s, exM Q K C h r s (MxR Q K C h r))) * (1 / Real.log 2) : ℝ) : EReal) := by
  rw [V_lse, H.hq, H.hk, H.hc, hostLse_at, MxR_eq, hostTot_real, ofBits_two, Ideal.log_coe, Ideal.log_coe,
    if_neg (not_le.2 (sum_exM_pos Q K C h r _)), if_neg (by norm_num), ← EReal.coe_add, Ideal.div_coe (Real.log_pos one_lt_two).ne', ← EReal.coe_mul]

theorem host_att (r : Fin 4096) (l : Fin 512) : Gen.V m c main_v46 (ix2 r l)
    = ((∑ t, prR Q K C (headOf l) r t * V t l : ℝ) : EReal) := by
  rw [V_att, H.hq, H.hk, H.hv, H.hc]
  show hostAtt _ _ _ (ix2 r l) = _
  rw [hostAtt_at, ← coe_sum]
  refine Finset.sum_congr rfl fun t _ => ?_
  rw [hostEx_real, hostTot_real, Ideal.div_coe (sum_exM_pos Q K C _ r _).ne', ← EReal.coe_mul, mul_one_div, exM_div, up_at, ← EReal.coe_mul, mul_comm]

theorem host_c (r : Fin 4096) (l : Fin 128) (e : Fin 8) (h : l.val = e.val) : Gen.V m c main_v42 (ix2 r l) = ((C r e : ℝ) : EReal) := by
  rw [V_c m c r l (by omega), H.hc, upC_at]
  exact congrArg _ (congrArg (C r) (Fin.ext h))
theorem host_ct (l : Fin 8) (r : Fin 4096) : Gen.V m c main_v45 (ix2 l r) = ((C r l : ℝ) : EReal) := by
  rw [V_ct, H.hc, upC_at]
theorem host_q (r : Fin 4096) (n : Fin 6144) (l : Fin 512) (h : n.val = 3072 + l.val) : Gen.V m c main_v2 (ix2 r n) = ((Q r l : ℝ) : EReal) := by
  rw [V_h, hostH_q _ _ _ r n l h, H.hq, up_at]
theorem host_k (r : Fin 4096) (n : Fin 6144) (l : Fin 512) (h : n.val = 3584 + l.val) : Gen.V m c main_v2 (ix2 r n) = ((K r l : ℝ) : EReal) := by
  rw [V_h, hostH_k _ _ _ r n l h, H.hk, up_at]
theorem host_v (r : Fin 4096) (n : Fin 6144) (l : Fin 512) (h : n.val = 4096 + l.val) : Gen.V m c main_v2 (ix2 r n) = ((V r l : ℝ) : EReal) := by
  rw [V_h, hostH_v _ _ _ r n l h, H.hv, up_at]
end real

end Cert.KernelIdeal.Att
end
-- ==== Proof.AttHolds.lean ====
/- The blocks the kernel `attention_bwd` reads at a grid point, at arguments that are real numbers. -/
module

public import proofs.«01_k».proof.Proof.AttHost
public import proofs.«01_k».proof.Proof.AttReal
public import Idealize.ShloMosaic.Lib.Pipeline.ValueKit

@[expose] public section

set_option maxRecDepth 16384

noncomputable section

namespace Cert.KernelIdeal.Att

open Cert.KernelIdeal Cert.KernelIdeal.Gen Idealize.ShloMosaic Idealize.ShloMosaic.TcCoe Idealize.SL.Sem

/-- Where each window's block lies at each of the points, and the points' coordinates. -/
theorem index_eq : ∀ t : Fin cfg0.N, win0_0.index t = ![0, 24 + t.val / 8] ∧ win0_1.index t = ![t.val % 8, 28 + t.val / 8]
    ∧ win0_2.index t = ![t.val % 8, 32 + t.val / 8] ∧ win0_3.index t = ![0, 0] ∧ win0_4.index t = ![0, t.val % 8]
    ∧ win0_5.index t = ![t.val / 8, 0, 0] ∧ win0_6.index t = ![0, t.val / 8] ∧ win0_7.index t = ![0, t.val / 8] :=
  (by decide +kernel : ∀ t : Fin grid0.N, _)
theorem index_out : ∀ t : Fin cfg0.N, win0_9.index t = ![0, t.val / 8] ∧ win0_10.index t = ![t.val % 8, t.val / 8]
    ∧ win0_11.index t = ![t.val % 8, t.val / 8] ∧ win0_12.index t = ![t.val / 8, 0, t.val % 8] ∧ win0_13.index t = ![t.val / 8, 0, 0] :=
  (by decide +kernel : ∀ t : Fin grid0.N, _)
theorem coords_eq : ∀ t : Fin cfg0.N, (grid0.coords t 0).val = t.val / 8 ∧ (grid0.coords t 1).val = t.val % 8 :=
  (by decide +kernel : ∀ t : Fin grid0.N, _)

variable (m : (ℓ : Loc nD τ sig) → Buf (Elt Ideal) ℓ) (c : Dev nD)

/-- The blocks of point `t`. -/
def blk (t : Fin cfg0.N) : Blk := ⟨grid0.coords t, iblk m c 0 t, iblk m c 1 t, iblk m c 2 t, iblk m c 3 t, iblk m c 4 t, iblk m c 5 t, iblk m c 6 t, iblk m c 7 t⟩

theorem N_lt (t : Fin cfg0.N) : t.val < 32 := lt_of_lt_of_eq t.isLt (show cfg0.N = 32 from N_0)

theorem at0 (t : Fin cfg0.N) (r : Fin 4096) (l : Fin 128) :
    iblk m c 0 t (ix2 r l) = V m c main_v2 (ix2 r ⟨(24 + t.val / 8) * 128 + l.val, by have := N_lt t; omega⟩) := by
  obtain ⟨e, -⟩ := index_eq t
  blk_point [iblk, e]
theorem at1 (t : Fin cfg0.N) (s : Fin 512) (l : Fin 128) :
    iblk m c 1 t (ix2 s l) = V m c main_v2 (ix2 ⟨t.val % 8 * 512 + s.val, by omega⟩ ⟨(28 + t.val / 8) * 128 + l.val, by have := N_lt t; omega⟩) := by
  obtain ⟨-, e, -⟩ := index_eq t
  blk_point [iblk, e]
theorem at2 (t : Fin cfg0.N) (s : Fin 512) (l : Fin 128) :
    iblk m c 2 t (ix2 s l) = V m c main_v2 (ix2 ⟨t.val % 8 * 512 + s.val, by omega⟩ ⟨(32 + t.val / 8) * 128 + l.val, by have := N_lt t; omega⟩) := by
  obtain ⟨-, -, e, -⟩ := index_eq t
  blk_point [iblk, e]
theorem at3 (t : Fin cfg0.N) (r : Fin 4096) (l : Fin 128) : iblk m c 3 t (ix2 r l) = V m c main_v42 (ix2 r l) := by
  obtain ⟨-, -, -, e, -⟩ := index_eq t
  blk_point [iblk, e]
theorem at4 (t : Fin cfg0.N) (l : Fin 8) (s : Fin 512) :
    iblk m c 4 t (ix2 l s) = V m c main_v45 (ix2 l ⟨t.val % 8 * 512 + s.val, by omega⟩) := by
  obtain ⟨-, -, -, -, e, -⟩ := index_eq t
  blk_point [iblk, e]
theorem at5 (t : Fin cfg0.N) (e : Fin 2) (r : Fin 4096) (l : Fin 128) :
    iblk m c 5 t (ix3 e r l) = V m c main_v41 (ix3 ⟨t.val / 8 * 2 + e.val, by have := N_lt t; omega⟩ r l) := by
  obtain ⟨-, -, -, -, -, e5, -⟩ := index_eq t
  blk_point [iblk, e5]
theorem at6 (t : Fin cfg0.N) (r : Fin 4096) (l : Fin 128) :
    iblk m c 6 t (ix2 r l) = V m c main_v46 (ix2 r ⟨t.val / 8 * 128 + l.val, by have := N_lt t; omega⟩) := by
  obtain ⟨-, -, -, -, -, -, e, -⟩ := index_eq t
  blk_point [iblk, e]
theorem at7 (t : Fin cfg0.N) (r : Fin 4096) (l : Fin 128) :
    iblk m c 7 t (ix2 r l) = V m c main_arg4 (ix2 r ⟨t.val / 8 * 128 + l.val, by have := N_lt t; omega⟩) := by
  obtain ⟨-, -, -, -, -, -, -, e⟩ := index_eq t
  blk_point [iblk, e]

variable {Q K V D : Fin 4096 → Fin 512 → ℝ} {C : Fin 4096 → Fin 8 → ℝ} {m c} (H : Args m c Q K V D C)
include H

set_option maxHeartbeats 4000000 in
theorem blk_holds (t : Fin cfg0.N) : (blk m c t).Holds Q K V D C (MxR Q K C) := by
  have hp : (blk m c t).p.val = t.val / 8 := (coords_eq t).1
  have hj : (blk m c t).j.val = t.val % 8 := (coords_eq t).2
  have hr : ∀ s : Fin 512, (⟨t.val % 8 * 512 + s.val, by omega⟩ : Fin 4096) = rr (blk m c t).j s :=
    fun s => Fin.ext (by show t.val % 8 * 512 + s.val = 512 * (blk m c t).j.val + s.val; rw [hj]; omega)
  have hc : ∀ l : Fin 128, (⟨t.val / 8 * 128 + l.val, by have := N_lt t; omega⟩ : Fin 512) = pcol (blk m c t).p l :=
    fun l => Fin.ext (by show t.val / 8 * 128 + l.val = 128 * (blk m c t).p.val + l.val; rw [hp]; omega)
  constructor
  · intro r l
    exact (at0 m c t r l).trans (host_q m c H r _ (pcol (blk m c t).p l) (by show _ = 3072 + (128 * (blk m c t).p.val + l.val); rw [hp]; show (24 + t.val / 8) * 128 + l.val = _; omega))
  · intro s l
    refine ((at1 m c t s l).trans (host_k m c H _ _ (pcol (blk m c t).p l) ?_)).trans (congrArg (fun n => ((K n (pcol (blk m c t).p l) : ℝ) : EReal)) (hr s))
    show _ = 3584 + (128 * (blk m c t).p.val + l.val); rw [hp]; show (28 + t.val / 8) * 128 + l.val = _; omega
  · intro s l
    refine ((at2 m c t s l).trans (host_v m c H _ _ (pcol (blk m c t).p l) ?_)).trans (congrArg (fun n => ((V n (pcol (blk m c t).p l) : ℝ) : EReal)) (hr s))
    show _ = 4096 + (128 * (blk m c t).p.val + l.val); rw [hp]; show (32 + t.val / 8) * 128 + l.val = _; omega
  · intro r e
    exact (at3 m c t r _).trans (host_c m c H r _ (Att.hp (blk m c t).p e) rfl)
  · intro e s
    exact ((at4 m c t _ s).trans (host_ct m c H _ _)).trans (congrArg (fun n => ((C n (Att.hp (blk m c t).p e) : ℝ) : EReal)) (hr s))
  · intro e r l
    have he : (⟨t.val / 8 * 2 + e.val, by have := N_lt t; omega⟩ : Fin 8) = Att.hp (blk m c t).p e :=
      Fin.ext (by show t.val / 8 * 2 + e.val = 2 * (blk m c t).p.val + e.val; rw [hp]; omega)
    exact ((at5 m c t e r l).trans (host_lse m c H _ r l)).trans (congrArg (fun h => (((MxR Q K C h r + Real.log (∑ s, exM Q K C h r s (MxR Q K C h r))) * (1 / Real.log 2) : ℝ) : EReal)) he)
  · intro r l
    exact ((at6 m c t r l).trans (host_att m c H r _)).trans (congrArg (fun l => ((∑ t, prR Q K C (headOf l) r t * V t l : ℝ) : EReal)) (hc l))
  · intro r l
    have e : Gen.V m c main_arg4 = up D := (V_main_arg4 m c).trans H.hd
    exact ((at7 m c t r l).trans (congrFun e _)).trans (congrArg (fun l => ((D r l : ℝ) : EReal)) (hc l))

end Cert.KernelIdeal.Att
end
-- ==== Proof.AttRuns.lean ====
module

public import proofs.«01_k».proof.Proof.AttLoops
public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Att

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The kernel body on any staging memrefs: a subtype the run finds -/

/-- One staging buffer of output window 9, through which its contents are stated (`View.read_writes_of_cover`: the
    choice does not matter). -/
abbrev VO0_9 : View sig .tc .vmem S4096x128 .f32 := (Memref.whole cc0_stg9_0 : Memref sig .tc .vmem S4096x128 .f32).view
/-- One staging buffer of output window 10, through which its contents are stated (`View.read_writes_of_cover`: the
    choice does not matter). -/
abbrev VO0_10 : View sig .tc .vmem S512x128 .f32 := (Memref.whole cc0_stg10_0 : Memref sig .tc .vmem S512x128 .f32).view
/-- One staging buffer of output window 11, through which its contents are stated (`View.read_writes_of_cover`: the
    choice does not matter). -/
abbrev VO0_11 : View sig .tc .vmem S512x128 .f32 := (Memref.whole cc0_stg11_0 : Memref sig .tc .vmem S512x128 .f32).view
/-- One staging buffer of output window 12, through which its contents are stated (`View.read_writes_of_cover`: the
    choice does not matter). -/
abbrev VO0_12 : View sig .tc .vmem S1x8x512 .f32 := (Memref.whole cc0_stg12_0 : Memref sig .tc .vmem S1x8x512 .f32).view
/-- One staging buffer of output window 13, through which its contents are stated (`View.read_writes_of_cover`: the
    choice does not matter). -/
abbrev VO0_13 : View sig .tc .vmem S1x4096x128 .f32 := (Memref.whole cc0_stg13_0 : Memref sig .tc .vmem S1x4096x128 .f32).view
/-- Each window's current staging memref at point `t`, spelled as the pipeline passes it (`bodyAt0`), and its wholeness. -/
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x4096x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4096x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x8x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x4096x128 .f32 := win0_13.stage (cfg0.slots t 13)
abbrev hs0_13 (t : Fin cfg0.N) : (ms0_13 t).IsWhole := hstage0_13 ((cfg0.slots t 13).cast nbuf0_13)

end Cert.KernelIdeal.Att

end
-- ==== Proof.AttRunA.lean ====
module

public import proofs.«01_k».proof.Proof.AttRuns

@[expose] public section

-- membership in a rectangle of production extents (`View.cover_of_tiled`): the elaborator's structural look
-- recurses once per coordinate of the long axes
set_option maxRecDepth 16384

noncomputable section

namespace Cert.KernelIdeal.Att

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 8, 16, 24), WITH the
    proof that on whole staging memrefs — the inputs' at their contents, the outputs it reads before covering (9, 13) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) :
    Σ' (L9 : List (View.Piece (Elt F) S4096x128 .f32)), Σ' (L10 : List (View.Piece (Elt F) S512x128 .f32)), Σ' (L11 : List (View.Piece (Elt F) S512x128 .f32)), Σ' (L12 : List (View.Piece (Elt F) S1x8x512 .f32)), { L13 : List (View.Piece (Elt F) S1x4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13)) -∗ K ⟨⟩))
          ⊢ wp frame (wpE (defs₀ (F := F)) Variants.none c none) E (cc0_attention_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_attention_bwd_eq_skeleton]; unfold cc0_attention_bwd_skel
    simp only [k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    iexists _; iexact H13

end Cert.KernelIdeal.Att

end
-- ==== Proof.AttRunB.lean ====
module

public import proofs.«01_k».proof.Proof.AttRuns

@[expose] public section

-- membership in a rectangle of production extents (`View.cover_of_tiled`): the elaborator's structural look
-- recurses once per coordinate of the long axes
set_option maxRecDepth 16384

noncomputable section

namespace Cert.KernelIdeal.Att

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 31: 28 of 32), WITH the
    proof that on whole staging memrefs — the inputs' at their contents, the outputs it reads before covering (9, 13) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : ¬cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) (xo9 : Vec F S4096x128 .f32) (xo13 : Vec F S1x4096x128 .f32) :
    Σ' (L9 : List (View.Piece (Elt F) S4096x128 .f32)), Σ' (L10 : List (View.Piece (Elt F) S512x128 .f32)), Σ' (L11 : List (View.Piece (Elt F) S512x128 .f32)), Σ' (L12 : List (View.Piece (Elt F) S1x8x512 .f32)), { L13 : List (View.Piece (Elt F) S1x4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (arg11.view.loc (c : Thread nD τ) ↦[arg11.view.set]{fullShare} arg11.view.writes (Elt F) (harg11.unread xo9) L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (arg15.view.loc (c : Thread nD τ) ↦[arg15.view.set]{fullShare} arg15.view.writes (Elt F) (harg15.unread xo13) L13)) -∗ K ⟨⟩))
          ⊢ wp frame (wpE (defs₀ (F := F)) Variants.none c none) E (cc0_attention_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_attention_bwd_eq_skeleton]; unfold cc0_attention_bwd_skel
    simp only [k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hf13
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexact H9
    isplitl [H10]; · iexists _; iexact H10
    isplitl [H11]; · iexists _; iexact H11
    isplitl [H12]; · iexists _; iexact H12
    iexact H13

end Cert.KernelIdeal.Att

end
-- ==== Proof.AttFrame.lean ====
module

public import proofs.«01_k».proof.Proof.AttRunA
public import proofs.«01_k».proof.Proof.AttRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Att

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 9 include stores at SYMBOLIC offsets (a loaded word, the grid coordinates), which no evaluation decides; one explicit piece is a literal store of the WHOLE block (found by walking the list as the run left it, that piece checked by the kernel's evaluation of it alone: Lib/Ring.lean `sl_whole_mem`), so they cover it whatever the others are. -/
theorem cover0_A_9 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) (y : S4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1 (by sl_whole_mem) y

/-- What case A leaves in output 9's staging buffer: its pieces read back over junk. -/
def out0_A_9 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) : Vec F S4096x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1)

/-- Case A's pieces for output 10 tile its block (1 store of `S512x128`, checked by the kernel's evaluation: Lib/Ring.lean `Piece.tiledL`, linear in the pieces, through a loop's `@[irreducible]` trip theorem too), so they cover it. -/
theorem cover0_A_10 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) (y : S512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1 S512x128.size (by sl_kernel_rfl) y

/-- What case A leaves in output 10's staging buffer: its pieces read back over junk. -/
def out0_A_10 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) : Vec F S512x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1)

/-- Case A's pieces for output 11 tile its block (1 store of `S512x128`, checked by the kernel's evaluation: Lib/Ring.lean `Piece.tiledL`, linear in the pieces, through a loop's `@[irreducible]` trip theorem too), so they cover it. -/
theorem cover0_A_11 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) (y : S512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1 S512x128.size (by sl_kernel_rfl) y

/-- What case A leaves in output 11's staging buffer: its pieces read back over junk. -/
def out0_A_11 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) : Vec F S512x128 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1)

/-- Case A's pieces for output 12 tile its block (1 store of `S1x8x512`, checked by the kernel's evaluation: Lib/Ring.lean `Piece.tiledL`, linear in the pieces, through a loop's `@[irreducible]` trip theorem too), so they cover it. -/
theorem cover0_A_12 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) (y : S1x8x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1 S1x8x512.size (by sl_kernel_rfl) y

/-- What case A leaves in output 12's staging buffer: its pieces read back over junk. -/
def out0_A_12 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) : Vec F S1x8x512 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1)

/-- Case A's pieces for output 13 include stores at SYMBOLIC offsets (a loaded word, the grid coordinates), which no evaluation decides; one explicit piece is a literal store of the WHOLE block (found by walking the list as the run left it, that piece checked by the kernel's evaluation of it alone: Lib/Ring.lean `sl_whole_mem`), so they cover it whatever the others are. -/
theorem cover0_A_13 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) (y : S1x4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.1 (by sl_whole_mem) y

/-- What case A leaves in output 13's staging buffer: its pieces read back over junk. -/
def out0_A_13 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) : Vec F S1x4096x128 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.1)

/-- What case B leaves in output 9's staging buffer: its stores read back over what the point before left there (they do not cover the block). -/
def out0_B_9 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : ¬cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) (xo9 : Vec F S4096x128 .f32) (xo13 : Vec F S1x4096x128 .f32) : Vec F S4096x128 .f32 :=
  arg11.view.read (Elt F) (arg11.view.writes (Elt F) (harg11.unread xo9) (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo9 xo13).1)

/-- Case B's pieces for output 10 tile its block (1 store of `S512x128`, checked by the kernel's evaluation: Lib/Ring.lean `Piece.tiledL`, linear in the pieces, through a loop's `@[irreducible]` trip theorem too), so they cover it. -/
theorem cover0_B_10 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : ¬cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) (xo9 : Vec F S4096x128 .f32) (xo13 : Vec F S1x4096x128 .f32) (y : S512x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo9 xo13).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo9 xo13).2.1 S512x128.size (by sl_kernel_rfl) y

/-- What case B leaves in output 10's staging buffer: its pieces read back over junk. -/
def out0_B_10 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : ¬cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) (xo9 : Vec F S4096x128 .f32) (xo13 : Vec F S1x4096x128 .f32) : Vec F S512x128 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo9 xo13).2.1)

/-- Case B's pieces for output 11 tile its block (1 store of `S512x128`, checked by the kernel's evaluation: Lib/Ring.lean `Piece.tiledL`, linear in the pieces, through a loop's `@[irreducible]` trip theorem too), so they cover it. -/
theorem cover0_B_11 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : ¬cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) (xo9 : Vec F S4096x128 .f32) (xo13 : Vec F S1x4096x128 .f32) (y : S512x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo9 xo13).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo9 xo13).2.2.1 S512x128.size (by sl_kernel_rfl) y

/-- What case B leaves in output 11's staging buffer: its pieces read back over junk. -/
def out0_B_11 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : ¬cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) (xo9 : Vec F S4096x128 .f32) (xo13 : Vec F S1x4096x128 .f32) : Vec F S512x128 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo9 xo13).2.2.1)

/-- Case B's pieces for output 12 tile its block (1 store of `S1x8x512`, checked by the kernel's evaluation: Lib/Ring.lean `Piece.tiledL`, linear in the pieces, through a loop's `@[irreducible]` trip theorem too), so they cover it. -/
theorem cover0_B_12 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : ¬cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) (xo9 : Vec F S4096x128 .f32) (xo13 : Vec F S1x4096x128 .f32) (y : S1x8x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo9 xo13).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo9 xo13).2.2.2.1 S1x8x512.size (by sl_kernel_rfl) y

/-- What case B leaves in output 12's staging buffer: its pieces read back over junk. -/
def out0_B_12 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : ¬cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) (xo9 : Vec F S4096x128 .f32) (xo13 : Vec F S1x4096x128 .f32) : Vec F S1x8x512 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo9 xo13).2.2.2.1)

/-- What case B leaves in output 13's staging buffer: its stores read back over what the point before left there (they do not cover the block). -/
def out0_B_13 (c : Dev nD) (i : grid0.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (hc0 : ¬cond0_0 i)
    (x0 : Vec F S4096x128 .f32) (x1 : Vec F S512x128 .f32) (x2 : Vec F S512x128 .f32) (x3 : Vec F S4096x128 .f32) (x4 : Vec F S8x512 .f32) (x5 : Vec F S2x4096x128 .f32) (x6 : Vec F S4096x128 .bf16) (x7 : Vec F S4096x128 .f32) (x8 : Vec F S8x128 .f32) (xo9 : Vec F S4096x128 .f32) (xo13 : Vec F S1x4096x128 .f32) : Vec F S1x4096x128 .f32 :=
  arg15.view.read (Elt F) (arg15.view.writes (Elt F) (harg15.unread xo13) (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo9 xo13).2.2.2.2.1)

/-! ## What the outputs hold after each point -/

/-- What the five output blocks hold after a pair's first point (case A). -/
def atA (c : Dev nD) (t : Fin cfg0.N) (h0 : t.val % 8 = 0) :
    Vec F S4096x128 .f32 × Vec F S512x128 .f32 × Vec F S512x128 .f32 × Vec F S1x8x512 .f32 × Vec F S1x4096x128 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t) (iblk m c 3 t) (iblk m c 4 t) (iblk m c 5 t) (iblk m c 6 t) (iblk m c 7 t) (iblk m c 8 t),
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t) (iblk m c 3 t) (iblk m c 4 t) (iblk m c 5 t) (iblk m c 6 t) (iblk m c 7 t) (iblk m c 8 t),
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t) (iblk m c 3 t) (iblk m c 4 t) (iblk m c 5 t) (iblk m c 6 t) (iblk m c 7 t) (iblk m c 8 t),
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t) (iblk m c 3 t) (iblk m c 4 t) (iblk m c 5 t) (iblk m c 6 t) (iblk m c 7 t) (iblk m c 8 t),
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t) (iblk m c 3 t) (iblk m c 4 t) (iblk m c 5 t) (iblk m c 6 t) (iblk m c 7 t) (iblk m c 8 t))

/-- What the five output blocks hold after a later point (case B), which found `xo9` in the block of dq and `xo13`
    in the block of the row sums. -/
def atB (c : Dev nD) (t : Fin cfg0.N) (h0 : ¬t.val % 8 = 0) (xo9 : Vec F S4096x128 .f32) (xo13 : Vec F S1x4096x128 .f32) :
    Vec F S4096x128 .f32 × Vec F S512x128 .f32 × Vec F S512x128 .f32 × Vec F S1x8x512 .f32 × Vec F S1x4096x128 .f32 :=
  (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) xo9 xo13,
    out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) xo9 xo13,
    out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) xo9 xo13,
    out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) xo9 xo13,
    out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) xo9 xo13)

/-- What the output blocks hold after point `n`: the first point of a pair starts anew, a later one goes on from
    what the point before left in the blocks of dq and of the row sums. -/
def outsAt0 (c : Dev nD) : (n : ℕ) → n < cfg0.N → Vec F S4096x128 .f32 × Vec F S512x128 .f32 × Vec F S512x128 .f32 × Vec F S1x8x512 .f32 × Vec F S1x4096x128 .f32
  | 0, hn => atA m c ⟨0, hn⟩ (Nat.zero_mod _)
  | n + 1, hn =>
    if h0 : (n + 1) % 8 = 0 then atA m c ⟨n + 1, hn⟩ h0
    else atB m c ⟨n + 1, hn⟩ h0 (outsAt0 c n (Nat.lt_of_succ_lt hn)).1 (outsAt0 c n (Nat.lt_of_succ_lt hn)).2.2.2.2

theorem outsAt0_A (c : Dev nD) (t : Fin cfg0.N) (h0 : t.val % 8 = 0) : outsAt0 m c t.val t.isLt = atA m c t h0 := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = atB m c t h0 (outsAt0 m c (t.val - 1) (Nat.lt_of_le_of_lt (Nat.sub_le _ _) t.isLt)).1
      (outsAt0 m c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2.1
    | ⟨13, _⟩ => (outsAt0 m c t.val t.isLt).2.2.2.2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2.1 := by dsimp only [dats]
theorem after0_13 (c : Dev nD) (t : Fin cfg0.N) : (dats m 0 c).after 13 t = (outsAt0 m c t.val t.isLt).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 8 = 0) (d) :
    (dats m 0 c).before 9 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case B output 13's current staging buffer holds what the body left at the point before: the point is
    not the first, the buffer was not written back between (`flush0_13`), the window is live and uncut (Lib/Pipeline/Frame.lean
    `Dat.before_out_kept`). -/
theorem before0_13_B (c : Dev nD) (t : Fin cfg0.N) (h0 : ¬t.val % 8 = 0) (d) :
    (dats m 0 c).before 13 t d = (outsAt0 m c (t.val - 1) (Nat.lt_of_le_of_lt (Nat.sub_le _ _) t.isLt)).2.2.2.2 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  have hN : t.val < 32 := lt_of_lt_of_eq t.isLt (show cfg0.N = 32 from N_0)
  by_cases h0 : t.val % 8 = 0
  · rw [outsAt0_A m c t h0]
    unfold atA out0_A_9 out0_A_10 out0_A_11 out0_A_12 out0_A_13; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, ⟨%e9, H9⟩, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _)
    unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _)
  · rw [outsAt0_B m c t h0]
    simp only [before0_9_B m c t h0, before0_13_B m c t h0]
    unfold atB out0_B_9 out0_B_10 out0_B_11 out0_B_12 out0_B_13; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    iintro ⟨H0, H1, H2, H3, H4, H5, H6, H7, H8, H9, ⟨%e10, H10⟩, ⟨%e11, H11⟩, ⟨%e12, H12⟩, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; rfl
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _)
    unfold owns; iexists _; isplitr
    swap; · iexact H13
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame of the program: every argument array ends unchanged and no semaphore is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Att

end
-- ==== Proof.AttOut.lean ====
/- What one grid point of the kernel `attention_bwd` stores, over the extended reals: the column block's sums over the row blocks
   from the diagonal on, and the block's share added to those rows of the two accumulators. -/
module

public import proofs.«01_k».proof.Proof.AttLoop
public import proofs.«01_k».proof.Proof.AttRunA
public import proofs.«01_k».proof.Proof.AttRunB
public import proofs.«01_k».proof.Proof.AttStep
public import Idealize.ShloMosaic.Lib.WritesUnit

@[expose] public section

set_option maxRecDepth 16384

noncomputable section

namespace Cert.KernelIdeal.Att

open Cert.KernelIdeal Cert.KernelIdeal.Gen Idealize.ShloMosaic Idealize.ShloMosaic.TcCoe Idealize.SL.Sem

/-- The loads of a grid point: the column block of k and of v, of the cumulative gates, the diagonal block of the row operands, and
    of the two planes of the row sums' logarithms. -/
abbrev ldB {M : Memref sig .tc .vmem S512x128 .f32} (hM : M.IsWhole) (x : Vec Ideal S512x128 .f32) :=
  View.readAt (Elt Ideal) M.view (Rect.unit (s := S512x128) ![0, 0] S512x128.size inb_S512x128_S512x128_0_0).toLoadRect (hM.unread x)
abbrev ldC {M : Memref sig .tc .vmem S8x512 .f32} (hM : M.IsWhole) (x : Vec Ideal S8x512 .f32) :=
  View.readAt (Elt Ideal) M.view (Rect.unit (s := S8x512) ![0, 0] S8x512.size inb_S8x512_S8x512_0_0).toLoadRect (hM.unread x)
abbrev ldR (i : grid0.Coords) {t : EltTy} {M : Memref sig .tc .vmem S4096x128 t} (hM : M.IsWhole) (x : Vec Ideal S4096x128 t) :=
  View.readAt (Elt Ideal) M.view (Rect.unit (s := S4096x128) (k0_off1 i) S512x128.size (k0_off1_inb i)).toLoadRect (hM.unread x)
abbrev ldP0 (i : grid0.Coords) {M : Memref sig .tc .vmem S2x4096x128 .f32} (hM : M.IsWhole) (x : Vec Ideal S2x4096x128 .f32) :=
  View.readAt (Elt Ideal) M.view (Rect.unit (s := S2x4096x128) (k0_off2 i) S1x512x128.size (k0_off2_inb i)).toLoadRect (hM.unread x)
abbrev ldP1 (i : grid0.Coords) {M : Memref sig .tc .vmem S2x4096x128 .f32} (hM : M.IsWhole) (x : Vec Ideal S2x4096x128 .f32) :=
  View.readAt (Elt Ideal) M.view (Rect.unit (s := S2x4096x128) (k0_off3 i) S1x512x128.size (k0_off3_inb i)).toLoadRect (hM.unread x)

/-- A load of a whole block. -/
theorem load_all {s : Shape} {t : EltTy} (M : Memref sig .tc .vmem s t) (hM : M.IsWhole) (x : Vec Ideal s t) {off : Fin s.rank → ℕ}
    (h : ∀ a, off a = 0) (inb : ∀ a, off a + s.size a ≤ s.size a) :
    View.readAt (Elt Ideal) M.view (Rect.unit (s := s) off s.size inb).toLoadRect (hM.unread x) = x := by
  funext y
  show M.view.read (Elt Ideal) (hM.unread x) _ = _
  rw [hM.read_unread]
  refine congrArg x (funext fun a => Fin.ext ?_)
  show off a + 1 * (y a).val = (y a).val
  have := h a
  omega

/-- A block stored whole, read back. -/
theorem stored_all {s : Shape} {t : EltTy} (v : View sig .tc .vmem s t) (f : BufTy.Contents (Elt Ideal) v.ty) {off : Fin s.rank → ℕ}
    (h : ∀ a, off a = 0) (inb : ∀ a, off a + s.size a ≤ s.size a) (w : Vec Ideal s t) (L : List (View.Piece (Elt Ideal) s t)) :
    v.read (Elt Ideal) (v.writes (Elt Ideal) f ((⟨Rect.unit (s := s) off s.size inb, w⟩ : View.Piece (Elt Ideal) s t) :: L)) = w :=
  funext fun y => View.read_writes_cons_unit_of_mem v f inb w L y y rfl fun a => by have := h a; omega

theorem trips2_eq : ∀ i : grid0.Coords, (k0_t2_loop i).trips = 0 := by decide +kernel

/-- What the diagonal block carries into the loop. -/
theorem carry_zero (B : Blk) (b : Fin 8) (h : b = bk B.i 0) : ((fun y => B.tK 0 b (y 0) (y 1), fun y => B.tK 1 b (y 0) (y 1), fun y => B.tV 0 b (y 0) (y 1), fun y => B.tV 1 b (y 0) (y 1), fun y => B.tC 0 b (y 1), fun y => B.tC 1 b (y 1)) : FVec Ideal S512x128 .f32 × FVec Ideal S512x128 .f32 × FVec Ideal S512x128 .f32 × FVec Ideal S512x128 .f32 × FVec Ideal S1x512 .f32 × FVec Ideal S1x512 .f32) = B.carry 0 := by
  subst h
  simp only [Blk.carry, zero_add, Finset.sum_range_one]

end Cert.KernelIdeal.Att
end
-- ==== Proof.AttOutA.lean ====
/- What one grid point of the kernel `attention_bwd` stores, over the extended reals, where the accumulators are started (the first point of a pair of heads): the column block's sums over the row blocks
   from the diagonal on, and the block's share added to those rows of the two accumulators. -/
module

public import proofs.«01_k».proof.Proof.AttLoop
public import proofs.«01_k».proof.Proof.AttOut
public import proofs.«01_k».proof.Proof.AttStep
public import Idealize.ShloMosaic.Lib.WritesUnit

@[expose] public section

set_option maxRecDepth 16384

noncomputable section

namespace Cert.KernelIdeal.Att

open Cert.KernelIdeal Cert.KernelIdeal.Gen Idealize.ShloMosaic Idealize.ShloMosaic.TcCoe Idealize.SL.Sem

theorem off2 : ∀ a : Fin 2, (![0, 0] : Fin 2 → ℕ) a = 0 := by decide
theorem off3 : ∀ a : Fin 3, (![0, 0, 0] : Fin 3 → ℕ) a = 0 := by decide

/-- The first store of the pair's first point sets the accumulator to zero. -/
theorem zero9 (v : View sig .tc .vmem S4096x128 .f32) (f : BufTy.Contents (Elt Ideal) v.ty) (y : S4096x128.Idx) :
    v.read (Elt Ideal) (v.writes (Elt Ideal) f (kernelRun0_A.sl.H9_1 (F := Ideal))) y = (0 : EReal) := by
  unfold kernelRun0_A.sl.H9_1
  refine (congrFun (stored_all v f off2 inb_S4096x128_S4096x128_0_0 (k0_pay61 (F := Ideal)) []) y).trans ?_
  idx_vars y
  unfold_payloads
  pointwise

theorem zero13 (v : View sig .tc .vmem S1x4096x128 .f32) (f : BufTy.Contents (Elt Ideal) v.ty) (y : S1x4096x128.Idx) :
    v.read (Elt Ideal) (v.writes (Elt Ideal) f (kernelRun0_A.sl.H13_1 (F := Ideal))) y = (0 : EReal) := by
  unfold kernelRun0_A.sl.H13_1
  refine (congrFun (stored_all v f off3 inb_S1x4096x128_S1x4096x128_0_0_0 (k0_pay62 (F := Ideal)) []) y).trans ?_
  idx_vars y
  unfold_payloads
  pointwise
variable (B : Blk) (c : Dev nD) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (x8 : Vec Ideal S8x128 .f32)

set_option maxHeartbeats 2000000 in
theorem out9_A (hc0 : cond0_0 B.i) (y : S4096x128.Idx) :
    arg11.view.read (Elt Ideal) (arg11.view.writes (Elt Ideal) arg11.view.junk (kernelRun0_A (F := Ideal) c B.i arg2 harg2 arg3 harg3 arg4 harg4 arg5 harg5 arg6 harg6 arg7 harg7 arg8 harg8 arg9 harg9 arg10 harg10 arg11 harg11 arg12 harg12 arg13 harg13 arg14 harg14 arg15 harg15 hc0 B.x0 B.x1 B.x2 B.x3 B.x4 B.x5 B.x6 B.x7 x8).1) y
      = if 512 * (B.i 1).val ≤ (y 0).val then 0 + B.tQ (y 0) (y 1) else 0 := by
  obtain ⟨b, hbk⟩ : ∃ b, b = bk B.i 0 := ⟨_, rfl⟩
  have hb : (B.i 1).val = b.val := by rw [hbk, bk_val B.i 0 (Nat.zero_le _)]; rfl
  have e1 : k0_off1 B.i = ![512 * b.val, 0] := by rw [off1_eq, hb]
  have e4 : k0_off4 B.i = ![0, 512 * b.val, 0] := by rw [off4_eq, hb]
  have l0 : (ldR B.i harg2 B.x0) = rows B.x0 b := load_rows arg2 harg2 B.x0 b e1 (k0_off1_inb B.i)
  have l3 : (ldR B.i harg5 B.x3) = rows B.x3 b := load_rows arg5 harg5 B.x3 b e1 (k0_off1_inb B.i)
  have l6 : (ldR B.i harg8 B.x6) = rows B.x6 b := load_rows arg8 harg8 B.x6 b e1 (k0_off1_inb B.i)
  have l7 : (ldR B.i harg9 B.x7) = rows B.x7 b := load_rows arg9 harg9 B.x7 b e1 (k0_off1_inb B.i)
  have l5a : (ldP0 B.i harg7 B.x5) = rows5 B.x5 0 b := load_rows5 arg7 harg7 B.x5 0 b (show k0_off2 B.i = ![(0 : Fin 2).val, 512 * b.val, 0] by rw [off2_eq, hb]; rfl) (k0_off2_inb B.i)
  have l5b : (ldP1 B.i harg7 B.x5) = rows5 B.x5 1 b := load_rows5 arg7 harg7 B.x5 1 b (show k0_off3 B.i = ![(1 : Fin 2).val, 512 * b.val, 0] by rw [off3_eq, hb]; rfl) (k0_off3_inb B.i)
  have h1 : (ldB harg3 B.x1) = B.x1 := load_all arg3 harg3 B.x1 (fun a => by fin_cases a <;> rfl) _
  have h2 : (ldB harg4 B.x2) = B.x2 := load_all arg4 harg4 B.x2 (fun a => by fin_cases a <;> rfl) _
  have h4 : (ldC harg6 B.x4) = B.x4 := load_all arg6 harg6 B.x4 (fun a => by fin_cases a <;> rfl) _
  have h39 : k0_pay59 B.i B.x4 = B.v39 := rfl
  have h48 : k0_pay60 (k0_pay58 B.x4) (Scalar.muli 2#32 B.a0) 1#32 = B.v48 := rfl
  unfold kernelRun0_A
  dsimp only
  show arg11.view.read (Elt Ideal) (arg11.view.writes (Elt Ideal) arg11.view.junk ((st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).2.1 ++ ((st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) (arg11.view.writes (Elt Ideal) arg11.view.junk ((⟨(Rect.unit (s := S4096x128) (k0_off1 B.i) S512x128.size (k0_off1_inb B.i)), k0_pay83 k0_pay50 (k0_pay53 (ldB harg3 B.x1)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))) (View.readAt (Elt Ideal) arg11.view (Rect.unit (s := S4096x128) (k0_off1 B.i) S512x128.size (k0_off1_inb B.i)).toLoadRect (arg11.view.writes (Elt Ideal) arg11.view.junk (kernelRun0_A.sl.H9_1 (F := Ideal))))⟩ : View.Piece (Elt Ideal) S4096x128 .f32) :: (kernelRun0_A.sl.H9_1 (F := Ideal)))) (arg15.view.writes (Elt Ideal) arg15.view.junk ((⟨(Rect.unit (s := S1x4096x128) (k0_off4 B.i) S1x512x128.size (k0_off4_inb B.i)), k0_pay87 V0 (k0_pay75 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))) (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7)))) (View.readAt (Elt Ideal) arg15.view (Rect.unit (s := S1x4096x128) (k0_off4 B.i) S1x512x128.size (k0_off4_inb B.i)).toLoadRect (arg15.view.writes (Elt Ideal) arg15.view.junk (kernelRun0_A.sl.H13_1 (F := Ideal))))⟩ : View.Piece (Elt Ideal) S1x4096x128 .f32) :: (kernelRun0_A.sl.H13_1 (F := Ideal)))) (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).2.1 ++ ((⟨(Rect.unit (s := S4096x128) (k0_off1 B.i) S512x128.size (k0_off1_inb B.i)), k0_pay83 k0_pay50 (k0_pay53 (ldB harg3 B.x1)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))) (View.readAt (Elt Ideal) arg11.view (Rect.unit (s := S4096x128) (k0_off1 B.i) S512x128.size (k0_off1_inb B.i)).toLoadRect (arg11.view.writes (Elt Ideal) arg11.view.junk (kernelRun0_A.sl.H9_1 (F := Ideal))))⟩ : View.Piece (Elt Ideal) S4096x128 .f32) :: (kernelRun0_A.sl.H9_1 (F := Ideal)))))) y = _
  rw [trips2_eq]
  show arg11.view.read (Elt Ideal) (arg11.view.writes (Elt Ideal) arg11.view.junk ([] ++ ((st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) (arg11.view.writes (Elt Ideal) arg11.view.junk ((⟨(Rect.unit (s := S4096x128) (k0_off1 B.i) S512x128.size (k0_off1_inb B.i)), k0_pay83 k0_pay50 (k0_pay53 (ldB harg3 B.x1)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))) (View.readAt (Elt Ideal) arg11.view (Rect.unit (s := S4096x128) (k0_off1 B.i) S512x128.size (k0_off1_inb B.i)).toLoadRect (arg11.view.writes (Elt Ideal) arg11.view.junk (kernelRun0_A.sl.H9_1 (F := Ideal))))⟩ : View.Piece (Elt Ideal) S4096x128 .f32) :: (kernelRun0_A.sl.H9_1 (F := Ideal)))) (arg15.view.writes (Elt Ideal) arg15.view.junk ((⟨(Rect.unit (s := S1x4096x128) (k0_off4 B.i) S1x512x128.size (k0_off4_inb B.i)), k0_pay87 V0 (k0_pay75 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))) (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7)))) (View.readAt (Elt Ideal) arg15.view (Rect.unit (s := S1x4096x128) (k0_off4 B.i) S1x512x128.size (k0_off4_inb B.i)).toLoadRect (arg15.view.writes (Elt Ideal) arg15.view.junk (kernelRun0_A.sl.H13_1 (F := Ideal))))⟩ : View.Piece (Elt Ideal) S1x4096x128 .f32) :: (kernelRun0_A.sl.H13_1 (F := Ideal)))) (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).2.1 ++ ((⟨(Rect.unit (s := S4096x128) (k0_off1 B.i) S512x128.size (k0_off1_inb B.i)), k0_pay83 k0_pay50 (k0_pay53 (ldB harg3 B.x1)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))) (View.readAt (Elt Ideal) arg11.view (Rect.unit (s := S4096x128) (k0_off1 B.i) S512x128.size (k0_off1_inb B.i)).toLoadRect (arg11.view.writes (Elt Ideal) arg11.view.junk (kernelRun0_A.sl.H9_1 (F := Ideal))))⟩ : View.Piece (Elt Ideal) S4096x128 .f32) :: (kernelRun0_A.sl.H9_1 (F := Ideal)))))) y = _
  rw [List.nil_append, View.writes_append, h1, h2, h4, l0, l3, l6, l7, l5a, l5b, h39, h48, B.pr_diag0 b hb, B.pr_diag1 b hb, B.dp_diag0 b, B.dp_diag1 b, B.ds_diag0 b, B.ds_diag1 b, B.k_diag0 b, B.k_diag1 b, B.v_diag0 b, B.v_diag1 b, B.c_diag0 b, B.c_diag1 b, B.q_diag b]
  refine ((st_eq B _ _ _ _ _ _ _ _ _ _ _ _ _ _ _ _ _ _ _ _ _ _ _ _ _ _ _ _ _ _ _ _ _ _ _ _ _ _ _ _ _ _ _ _ _ (carry_zero B b hbk) _ le_rfl).2.1 y).trans ?_
  have hbase : arg11.view.read (Elt Ideal) (arg11.view.writes (Elt Ideal) arg11.view.junk (kernelRun0_A.sl.H9_1 (F := Ideal))) y = 0 := zero9 arg11.view _ y
  have hD := (rows_added B arg11 arg11.view.junk (kernelRun0_A.sl.H9_1 (F := Ideal)) b e1 (k0_off1_inb B.i) y)
  rw [hbase] at hD
  refine (ite_congr rfl (fun _ => congrArg (· + _) hD) (fun _ => hD)).trans ?_
  have hj : (B.i 1).val < 8 := (B.i 1).isLt
  have hy : (y 0).val < 4096 := (y 0).isLt
  rw [trips_eq, hb]
  by_cases c1 : 512 * b.val ≤ (y 0).val
  · by_cases c2 : (y 0).val < 512 * b.val + 512
    · rw [if_neg (by omega), if_pos ⟨c1, c2⟩, if_pos c1]
    · rw [if_pos (by omega), if_neg (by omega), if_pos c1]
  · rw [if_neg (by omega), if_neg (by omega), if_neg c1]

set_option maxHeartbeats 2000000 in
theorem out13_A (hc0 : cond0_0 B.i) (y : S1x4096x128.Idx) :
    arg15.view.read (Elt Ideal) (arg15.view.writes (Elt Ideal) arg15.view.junk (kernelRun0_A (F := Ideal) c B.i arg2 harg2 arg3 harg3 arg4 harg4 arg5 harg5 arg6 harg6 arg7 harg7 arg8 harg8 arg9 harg9 arg10 harg10 arg11 harg11 arg12 harg12 arg13 harg13 arg14 harg14 arg15 harg15 hc0 B.x0 B.x1 B.x2 B.x3 B.x4 B.x5 B.x6 B.x7 x8).2.2.2.2.1) y
      = if 512 * (B.i 1).val ≤ (y 1).val then 0 + B.tS (y 1) (y 2) else 0 := by
  obtain ⟨b, hbk⟩ : ∃ b, b = bk B.i 0 := ⟨_, rfl⟩
  have hb : (B.i 1).val = b.val := by rw [hbk, bk_val B.i 0 (Nat.zero_le _)]; rfl
  have e1 : k0_off1 B.i = ![512 * b.val, 0] := by rw [off1_eq, hb]
  have e4 : k0_off4 B.i = ![0, 512 * b.val, 0] := by rw [off4_eq, hb]
  have l0 : (ldR B.i harg2 B.x0) = rows B.x0 b := load_rows arg2 harg2 B.x0 b e1 (k0_off1_inb B.i)
  have l3 : (ldR B.i harg5 B.x3) = rows B.x3 b := load_rows arg5 harg5 B.x3 b e1 (k0_off1_inb B.i)
  have l6 : (ldR B.i harg8 B.x6) = rows B.x6 b := load_rows arg8 harg8 B.x6 b e1 (k0_off1_inb B.i)
  have l7 : (ldR B.i harg9 B.x7) = rows B.x7 b := load_rows arg9 harg9 B.x7 b e1 (k0_off1_inb B.i)
  have l5a : (ldP0 B.i harg7 B.x5) = rows5 B.x5 0 b := load_rows5 arg7 harg7 B.x5 0 b (show k0_off2 B.i = ![(0 : Fin 2).val, 512 * b.val, 0] by rw [off2_eq, hb]; rfl) (k0_off2_inb B.i)
  have l5b : (ldP1 B.i harg7 B.x5) = rows5 B.x5 1 b := load_rows5 arg7 harg7 B.x5 1 b (show k0_off3 B.i = ![(1 : Fin 2).val, 512 * b.val, 0] by rw [off3_eq, hb]; rfl) (k0_off3_inb B.i)
  have h1 : (ldB harg3 B.x1) = B.x1 := load_all arg3 harg3 B.x1 (fun a => by fin_cases a <;> rfl) _
  have h2 : (ldB harg4 B.x2) = B.x2 := load_all arg4 harg4 B.x2 (fun a => by fin_cases a <;> rfl) _
  have h4 : (ldC harg6 B.x4) = B.x4 := load_all arg6 harg6 B.x4 (fun a => by fin_cases a <;> rfl) _
  have h39 : k0_pay59 B.i B.x4 = B.v39 := rfl
  have h48 : k0_pay60 (k0_pay58 B.x4) (Scalar.muli 2#32 B.a0) 1#32 = B.v48 := rfl
  unfold kernelRun0_A
  dsimp only
  show arg15.view.read (Elt Ideal) (arg15.view.writes (Elt Ideal) arg15.view.junk ((st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).2.2 ++ ((st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) (arg11.view.writes (Elt Ideal) arg11.view.junk ((⟨(Rect.unit (s := S4096x128) (k0_off1 B.i) S512x128.size (k0_off1_inb B.i)), k0_pay83 k0_pay50 (k0_pay53 (ldB harg3 B.x1)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))) (View.readAt (Elt Ideal) arg11.view (Rect.unit (s := S4096x128) (k0_off1 B.i) S512x128.size (k0_off1_inb B.i)).toLoadRect (arg11.view.writes (Elt Ideal) arg11.view.junk (kernelRun0_A.sl.H9_1 (F := Ideal))))⟩ : View.Piece (Elt Ideal) S4096x128 .f32) :: (kernelRun0_A.sl.H9_1 (F := Ideal)))) (arg15.view.writes (Elt Ideal) arg15.view.junk ((⟨(Rect.unit (s := S1x4096x128) (k0_off4 B.i) S1x512x128.size (k0_off4_inb B.i)), k0_pay87 V0 (k0_pay75 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))) (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7)))) (View.readAt (Elt Ideal) arg15.view (Rect.unit (s := S1x4096x128) (k0_off4 B.i) S1x512x128.size (k0_off4_inb B.i)).toLoadRect (arg15.view.writes (Elt Ideal) arg15.view.junk (kernelRun0_A.sl.H13_1 (F := Ideal))))⟩ : View.Piece (Elt Ideal) S1x4096x128 .f32) :: (kernelRun0_A.sl.H13_1 (F := Ideal)))) (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).2.2 ++ ((⟨(Rect.unit (s := S1x4096x128) (k0_off4 B.i) S1x512x128.size (k0_off4_inb B.i)), k0_pay87 V0 (k0_pay75 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))) (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7)))) (View.readAt (Elt Ideal) arg15.view (Rect.unit (s := S1x4096x128) (k0_off4 B.i) S1x512x128.size (k0_off4_inb B.i)).toLoadRect (arg15.view.writes (Elt Ideal) arg15.view.junk (kernelRun0_A.sl.H13_1 (F := Ideal))))⟩ : View.Piece (Elt Ideal) S1x4096x128 .f32) :: (kernelRun0_A.sl.H13_1 (F := Ideal)))))) y = _
  rw [trips2_eq]
  show arg15.view.read (Elt Ideal) (arg15.view.writes (Elt Ideal) arg15.view.junk ([] ++ ((st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) (arg11.view.writes (Elt Ideal) arg11.view.junk ((⟨(Rect.unit (s := S4096x128) (k0_off1 B.i) S512x128.size (k0_off1_inb B.i)), k0_pay83 k0_pay50 (k0_pay53 (ldB harg3 B.x1)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))) (View.readAt (Elt Ideal) arg11.view (Rect.unit (s := S4096x128) (k0_off1 B.i) S512x128.size (k0_off1_inb B.i)).toLoadRect (arg11.view.writes (Elt Ideal) arg11.view.junk (kernelRun0_A.sl.H9_1 (F := Ideal))))⟩ : View.Piece (Elt Ideal) S4096x128 .f32) :: (kernelRun0_A.sl.H9_1 (F := Ideal)))) (arg15.view.writes (Elt Ideal) arg15.view.junk ((⟨(Rect.unit (s := S1x4096x128) (k0_off4 B.i) S1x512x128.size (k0_off4_inb B.i)), k0_pay87 V0 (k0_pay75 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))) (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7)))) (View.readAt (Elt Ideal) arg15.view (Rect.unit (s := S1x4096x128) (k0_off4 B.i) S1x512x128.size (k0_off4_inb B.i)).toLoadRect (arg15.view.writes (Elt Ideal) arg15.view.junk (kernelRun0_A.sl.H13_1 (F := Ideal))))⟩ : View.Piece (Elt Ideal) S1x4096x128 .f32) :: (kernelRun0_A.sl.H13_1 (F := Ideal)))) (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).2.2 ++ ((⟨(Rect.unit (s := S1x4096x128) (k0_off4 B.i) S1x512x128.size (k0_off4_inb B.i)), k0_pay87 V0 (k0_pay75 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))) (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7)))) (View.readAt (Elt Ideal) arg15.view (Rect.unit (s := S1x4096x128) (k0_off4 B.i) S1x512x128.size (k0_off4_inb B.i)).toLoadRect (arg15.view.writes (Elt Ideal) arg15.view.junk (kernelRun0_A.sl.H13_1 (F := Ideal))))⟩ : View.Piece (Elt Ideal) S1x4096x128 .f32) :: (kernelRun0_A.sl.H13_1 (F := Ideal)))))) y = _
  rw [List.nil_append, View.writes_append, h1, h2, h4, l0, l3, l6, l7, l5a, l5b, h39, h48, B.pr_diag0 b hb, B.pr_diag1 b hb, B.dp_diag0 b, B.dp_diag1 b, B.ds_diag0 b, B.ds_diag1 b, B.k_diag0 b, B.k_diag1 b, B.v_diag0 b, B.v_diag1 b, B.c_diag0 b, B.c_diag1 b, B.s_diag b]
  refine ((st_eq B _ _ _ _ _ _ _ _ _ _ _ _ _ _ _ _ _ _ _ _ _ _ _ _ _ _ _ _ _ _ _ _ _ _ _ _ _ _ _ _ _ _ _ _ _ (carry_zero B b hbk) _ le_rfl).2.2 y).trans ?_
  have hbase : arg15.view.read (Elt Ideal) (arg15.view.writes (Elt Ideal) arg15.view.junk (kernelRun0_A.sl.H13_1 (F := Ideal))) y = 0 := zero13 arg15.view _ y
  have hD := (rows_added3 B arg15 arg15.view.junk (kernelRun0_A.sl.H13_1 (F := Ideal)) b e4 (k0_off4_inb B.i) y)
  rw [hbase] at hD
  refine (ite_congr rfl (fun _ => congrArg (· + _) hD) (fun _ => hD)).trans ?_
  have hj : (B.i 1).val < 8 := (B.i 1).isLt
  have hy : (y 1).val < 4096 := (y 1).isLt
  rw [trips_eq, hb]
  by_cases c1 : 512 * b.val ≤ (y 1).val
  · by_cases c2 : (y 1).val < 512 * b.val + 512
    · rw [if_neg (by omega), if_pos ⟨c1, c2⟩, if_pos c1]
    · rw [if_pos (by omega), if_neg (by omega), if_pos c1]
  · rw [if_neg (by omega), if_neg (by omega), if_neg c1]

set_option maxHeartbeats 2000000 in
theorem out10_A (hc0 : cond0_0 B.i) :
    VO0_10.read (Elt Ideal) (VO0_10.writes (Elt Ideal) VO0_10.junk (kernelRun0_A (F := Ideal) c B.i arg2 harg2 arg3 harg3 arg4 harg4 arg5 harg5 arg6 harg6 arg7 harg7 arg8 harg8 arg9 harg9 arg10 harg10 arg11 harg11 arg12 harg12 arg13 harg13 arg14 harg14 arg15 harg15 hc0 B.x0 B.x1 B.x2 B.x3 B.x4 B.x5 B.x6 B.x7 x8).2.1) = (fun y => (if Blk.hd (y 1) = 0 then (B.carry (7 - (B.i 1).val)).1 y else (B.carry (7 - (B.i 1).val)).2.1 y) * LN2 : Vec Ideal S512x128 .f32) := by
  obtain ⟨b, hbk⟩ : ∃ b, b = bk B.i 0 := ⟨_, rfl⟩
  have hb : (B.i 1).val = b.val := by rw [hbk, bk_val B.i 0 (Nat.zero_le _)]; rfl
  have e1 : k0_off1 B.i = ![512 * b.val, 0] := by rw [off1_eq, hb]
  have e4 : k0_off4 B.i = ![0, 512 * b.val, 0] := by rw [off4_eq, hb]
  have l0 : (ldR B.i harg2 B.x0) = rows B.x0 b := load_rows arg2 harg2 B.x0 b e1 (k0_off1_inb B.i)
  have l3 : (ldR B.i harg5 B.x3) = rows B.x3 b := load_rows arg5 harg5 B.x3 b e1 (k0_off1_inb B.i)
  have l6 : (ldR B.i harg8 B.x6) = rows B.x6 b := load_rows arg8 harg8 B.x6 b e1 (k0_off1_inb B.i)
  have l7 : (ldR B.i harg9 B.x7) = rows B.x7 b := load_rows arg9 harg9 B.x7 b e1 (k0_off1_inb B.i)
  have l5a : (ldP0 B.i harg7 B.x5) = rows5 B.x5 0 b := load_rows5 arg7 harg7 B.x5 0 b (show k0_off2 B.i = ![(0 : Fin 2).val, 512 * b.val, 0] by rw [off2_eq, hb]; rfl) (k0_off2_inb B.i)
  have l5b : (ldP1 B.i harg7 B.x5) = rows5 B.x5 1 b := load_rows5 arg7 harg7 B.x5 1 b (show k0_off3 B.i = ![(1 : Fin 2).val, 512 * b.val, 0] by rw [off3_eq, hb]; rfl) (k0_off3_inb B.i)
  have h1 : (ldB harg3 B.x1) = B.x1 := load_all arg3 harg3 B.x1 (fun a => by fin_cases a <;> rfl) _
  have h2 : (ldB harg4 B.x2) = B.x2 := load_all arg4 harg4 B.x2 (fun a => by fin_cases a <;> rfl) _
  have h4 : (ldC harg6 B.x4) = B.x4 := load_all arg6 harg6 B.x4 (fun a => by fin_cases a <;> rfl) _
  have h39 : k0_pay59 B.i B.x4 = B.v39 := rfl
  have h48 : k0_pay60 (k0_pay58 B.x4) (Scalar.muli 2#32 B.a0) 1#32 = B.v48 := rfl
  unfold kernelRun0_A
  dsimp only
  show VO0_10.read (Elt Ideal) (VO0_10.writes (Elt Ideal) VO0_10.junk [(⟨Rect.unit (s := S512x128) ![0, 0] S512x128.size inb_S512x128_S512x128_0_0, k0_pay1 (k0_pay90 k0_pay50 (st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).1.1 (st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).1.2.1) k0_pay91⟩ : View.Piece (Elt Ideal) S512x128 .f32)]) = _
  refine (stored_all VO0_10 _ (fun a => by fin_cases a <;> rfl) _ _ []).trans ?_
  rw [trips2_eq, st_k0_t2_zero]
  dsimp only
  show k0_pay1 (k0_pay90 k0_pay50 (st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) _ _ (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).1.1 (st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) _ _ (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).1.2.1) k0_pay91 = _
  rw [h1, h2, h4, l0, l3, l6, l7, l5a, l5b, h39, h48, B.pr_diag0 b hb, B.pr_diag1 b hb, B.dp_diag0 b, B.dp_diag1 b, B.ds_diag1 b, B.k_diag0 b, B.k_diag1 b, B.v_diag0 b, B.v_diag1 b, B.c_diag0 b, B.c_diag1 b]
  rw [(st_eq B _ _ _ _ _ _ _ _ _ _ _ _ _ _ _ _ _ _ _ _ _ _ _ _ _ _ _ _ _ _ _ _ _ _ _ _ _ _ _ _ _ _ _ _ _ (carry_zero B b hbk) _ le_rfl).1, trips_eq]
  exact Blk.fin_k _ _

set_option maxHeartbeats 2000000 in
theorem out11_A (hc0 : cond0_0 B.i) :
    VO0_11.read (Elt Ideal) (VO0_11.writes (Elt Ideal) VO0_11.junk (kernelRun0_A (F := Ideal) c B.i arg2 harg2 arg3 harg3 arg4 harg4 arg5 harg5 arg6 harg6 arg7 harg7 arg8 harg8 arg9 harg9 arg10 harg10 arg11 harg11 arg12 harg12 arg13 harg13 arg14 harg14 arg15 harg15 hc0 B.x0 B.x1 B.x2 B.x3 B.x4 B.x5 B.x6 B.x7 x8).2.2.1) = (fun y => if Blk.hd (y 1) = 0 then (B.carry (7 - (B.i 1).val)).2.2.1 y else (B.carry (7 - (B.i 1).val)).2.2.2.1 y : Vec Ideal S512x128 .f32) := by
  obtain ⟨b, hbk⟩ : ∃ b, b = bk B.i 0 := ⟨_, rfl⟩
  have hb : (B.i 1).val = b.val := by rw [hbk, bk_val B.i 0 (Nat.zero_le _)]; rfl
  have e1 : k0_off1 B.i = ![512 * b.val, 0] := by rw [off1_eq, hb]
  have e4 : k0_off4 B.i = ![0, 512 * b.val, 0] := by rw [off4_eq, hb]
  have l0 : (ldR B.i harg2 B.x0) = rows B.x0 b := load_rows arg2 harg2 B.x0 b e1 (k0_off1_inb B.i)
  have l3 : (ldR B.i harg5 B.x3) = rows B.x3 b := load_rows arg5 harg5 B.x3 b e1 (k0_off1_inb B.i)
  have l6 : (ldR B.i harg8 B.x6) = rows B.x6 b := load_rows arg8 harg8 B.x6 b e1 (k0_off1_inb B.i)
  have l7 : (ldR B.i harg9 B.x7) = rows B.x7 b := load_rows arg9 harg9 B.x7 b e1 (k0_off1_inb B.i)
  have l5a : (ldP0 B.i harg7 B.x5) = rows5 B.x5 0 b := load_rows5 arg7 harg7 B.x5 0 b (show k0_off2 B.i = ![(0 : Fin 2).val, 512 * b.val, 0] by rw [off2_eq, hb]; rfl) (k0_off2_inb B.i)
  have l5b : (ldP1 B.i harg7 B.x5) = rows5 B.x5 1 b := load_rows5 arg7 harg7 B.x5 1 b (show k0_off3 B.i = ![(1 : Fin 2).val, 512 * b.val, 0] by rw [off3_eq, hb]; rfl) (k0_off3_inb B.i)
  have h1 : (ldB harg3 B.x1) = B.x1 := load_all arg3 harg3 B.x1 (fun a => by fin_cases a <;> rfl) _
  have h2 : (ldB harg4 B.x2) = B.x2 := load_all arg4 harg4 B.x2 (fun a => by fin_cases a <;> rfl) _
  have h4 : (ldC harg6 B.x4) = B.x4 := load_all arg6 harg6 B.x4 (fun a => by fin_cases a <;> rfl) _
  have h39 : k0_pay59 B.i B.x4 = B.v39 := rfl
  have h48 : k0_pay60 (k0_pay58 B.x4) (Scalar.muli 2#32 B.a0) 1#32 = B.v48 := rfl
  unfold kernelRun0_A
  dsimp only
  show VO0_11.read (Elt Ideal) (VO0_11.writes (Elt Ideal) VO0_11.junk [(⟨Rect.unit (s := S512x128) ![0, 0] S512x128.size inb_S512x128_S512x128_0_0, k0_pay2 k0_pay50 (st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).1.2.2.1 (st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).1.2.2.2.1⟩ : View.Piece (Elt Ideal) S512x128 .f32)]) = _
  refine (stored_all VO0_11 _ (fun a => by fin_cases a <;> rfl) _ _ []).trans ?_
  rw [trips2_eq, st_k0_t2_zero]
  dsimp only
  show k0_pay2 k0_pay50 (st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) _ _ (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).1.2.2.1 (st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) _ _ (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).1.2.2.2.1 = _
  rw [h1, h2, h4, l0, l3, l6, l7, l5a, l5b, h39, h48, B.pr_diag0 b hb, B.pr_diag1 b hb, B.dp_diag0 b, B.dp_diag1 b, B.ds_diag1 b, B.k_diag0 b, B.k_diag1 b, B.v_diag0 b, B.v_diag1 b, B.c_diag0 b, B.c_diag1 b]
  rw [(st_eq B _ _ _ _ _ _ _ _ _ _ _ _ _ _ _ _ _ _ _ _ _ _ _ _ _ _ _ _ _ _ _ _ _ _ _ _ _ _ _ _ _ _ _ _ _ (carry_zero B b hbk) _ le_rfl).1, trips_eq]
  exact Blk.fin_v _ _

set_option maxHeartbeats 2000000 in
theorem out12_A (hc0 : cond0_0 B.i) :
    VO0_12.read (Elt Ideal) (VO0_12.writes (Elt Ideal) VO0_12.junk (kernelRun0_A (F := Ideal) c B.i arg2 harg2 arg3 harg3 arg4 harg4 arg5 harg5 arg6 harg6 arg7 harg7 arg8 harg8 arg9 harg9 arg10 harg10 arg11 harg11 arg12 harg12 arg13 harg13 arg14 harg14 arg15 harg15 hc0 B.x0 B.x1 B.x2 B.x3 B.x4 B.x5 B.x6 B.x7 x8).2.2.2.1) = (fun y => if (y 1).val = 0 then (B.carry (7 - (B.i 1).val)).2.2.2.2.1 (ix2 0 (y 2)) else if (y 1).val = 1 then (B.carry (7 - (B.i 1).val)).2.2.2.2.2 (ix2 0 (y 2)) else 0 : Vec Ideal S1x8x512 .f32) := by
  obtain ⟨b, hbk⟩ : ∃ b, b = bk B.i 0 := ⟨_, rfl⟩
  have hb : (B.i 1).val = b.val := by rw [hbk, bk_val B.i 0 (Nat.zero_le _)]; rfl
  have e1 : k0_off1 B.i = ![512 * b.val, 0] := by rw [off1_eq, hb]
  have e4 : k0_off4 B.i = ![0, 512 * b.val, 0] := by rw [off4_eq, hb]
  have l0 : (ldR B.i harg2 B.x0) = rows B.x0 b := load_rows arg2 harg2 B.x0 b e1 (k0_off1_inb B.i)
  have l3 : (ldR B.i harg5 B.x3) = rows B.x3 b := load_rows arg5 harg5 B.x3 b e1 (k0_off1_inb B.i)
  have l6 : (ldR B.i harg8 B.x6) = rows B.x6 b := load_rows arg8 harg8 B.x6 b e1 (k0_off1_inb B.i)
  have l7 : (ldR B.i harg9 B.x7) = rows B.x7 b := load_rows arg9 harg9 B.x7 b e1 (k0_off1_inb B.i)
  have l5a : (ldP0 B.i harg7 B.x5) = rows5 B.x5 0 b := load_rows5 arg7 harg7 B.x5 0 b (show k0_off2 B.i = ![(0 : Fin 2).val, 512 * b.val, 0] by rw [off2_eq, hb]; rfl) (k0_off2_inb B.i)
  have l5b : (ldP1 B.i harg7 B.x5) = rows5 B.x5 1 b := load_rows5 arg7 harg7 B.x5 1 b (show k0_off3 B.i = ![(1 : Fin 2).val, 512 * b.val, 0] by rw [off3_eq, hb]; rfl) (k0_off3_inb B.i)
  have h1 : (ldB harg3 B.x1) = B.x1 := load_all arg3 harg3 B.x1 (fun a => by fin_cases a <;> rfl) _
  have h2 : (ldB harg4 B.x2) = B.x2 := load_all arg4 harg4 B.x2 (fun a => by fin_cases a <;> rfl) _
  have h4 : (ldC harg6 B.x4) = B.x4 := load_all arg6 harg6 B.x4 (fun a => by fin_cases a <;> rfl) _
  have h39 : k0_pay59 B.i B.x4 = B.v39 := rfl
  have h48 : k0_pay60 (k0_pay58 B.x4) (Scalar.muli 2#32 B.a0) 1#32 = B.v48 := rfl
  unfold kernelRun0_A
  dsimp only
  show VO0_12.read (Elt Ideal) (VO0_12.writes (Elt Ideal) VO0_12.junk [(⟨Rect.unit (s := S1x8x512) ![0, 0, 0] S1x8x512.size inb_S1x8x512_S1x8x512_0_0_0, k0_pay3 (st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).1.2.2.2.2.1 (st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).1.2.2.2.2.2⟩ : View.Piece (Elt Ideal) S1x8x512 .f32)]) = _
  refine (stored_all VO0_12 _ (fun a => by fin_cases a <;> rfl) _ _ []).trans ?_
  rw [trips2_eq, st_k0_t2_zero]
  dsimp only
  show k0_pay3 (st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) _ _ (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).1.2.2.2.2.1 (st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) _ _ (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).1.2.2.2.2.2 = _
  rw [h1, h2, h4, l0, l3, l6, l7, l5a, l5b, h39, h48, B.pr_diag0 b hb, B.pr_diag1 b hb, B.dp_diag0 b, B.dp_diag1 b, B.ds_diag1 b, B.k_diag0 b, B.k_diag1 b, B.v_diag0 b, B.v_diag1 b, B.c_diag0 b, B.c_diag1 b]
  rw [(st_eq B _ _ _ _ _ _ _ _ _ _ _ _ _ _ _ _ _ _ _ _ _ _ _ _ _ _ _ _ _ _ _ _ _ _ _ _ _ _ _ _ _ _ _ _ _ (carry_zero B b hbk) _ le_rfl).1, trips_eq]
  exact Blk.fin_c _ _

end Cert.KernelIdeal.Att
end
-- ==== Proof.AttOutB.lean ====
/- What one grid point of the kernel `attention_bwd` stores, over the extended reals, after the first of a pair of heads: the column block's sums over the row blocks
   from the diagonal on, and the block's share added to those rows of the two accumulators. -/
module

public import proofs.«01_k».proof.Proof.AttLoop
public import proofs.«01_k».proof.Proof.AttOut
public import proofs.«01_k».proof.Proof.AttStep
public import Idealize.ShloMosaic.Lib.WritesUnit

@[expose] public section

set_option maxRecDepth 16384

noncomputable section

namespace Cert.KernelIdeal.Att

open Cert.KernelIdeal Cert.KernelIdeal.Gen Idealize.ShloMosaic Idealize.ShloMosaic.TcCoe Idealize.SL.Sem

variable (B : Blk) (c : Dev nD) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (x8 : Vec Ideal S8x128 .f32)

set_option maxHeartbeats 2000000 in
theorem out9_B (hc0 : ¬cond0_0 B.i) (xo9 : Vec Ideal S4096x128 .f32) (xo13 : Vec Ideal S1x4096x128 .f32) (y : S4096x128.Idx) :
    arg11.view.read (Elt Ideal) (arg11.view.writes (Elt Ideal) (harg11.unread xo9) (kernelRun0_B (F := Ideal) c B.i arg2 harg2 arg3 harg3 arg4 harg4 arg5 harg5 arg6 harg6 arg7 harg7 arg8 harg8 arg9 harg9 arg10 harg10 arg11 harg11 arg12 harg12 arg13 harg13 arg14 harg14 arg15 harg15 hc0 B.x0 B.x1 B.x2 B.x3 B.x4 B.x5 B.x6 B.x7 x8 xo9 xo13).1) y
      = if 512 * (B.i 1).val ≤ (y 0).val then xo9 y + B.tQ (y 0) (y 1) else xo9 y := by
  obtain ⟨b, hbk⟩ : ∃ b, b = bk B.i 0 := ⟨_, rfl⟩
  have hb : (B.i 1).val = b.val := by rw [hbk, bk_val B.i 0 (Nat.zero_le _)]; rfl
  have e1 : k0_off1 B.i = ![512 * b.val, 0] := by rw [off1_eq, hb]
  have e4 : k0_off4 B.i = ![0, 512 * b.val, 0] := by rw [off4_eq, hb]
  have l0 : (ldR B.i harg2 B.x0) = rows B.x0 b := load_rows arg2 harg2 B.x0 b e1 (k0_off1_inb B.i)
  have l3 : (ldR B.i harg5 B.x3) = rows B.x3 b := load_rows arg5 harg5 B.x3 b e1 (k0_off1_inb B.i)
  have l6 : (ldR B.i harg8 B.x6) = rows B.x6 b := load_rows arg8 harg8 B.x6 b e1 (k0_off1_inb B.i)
  have l7 : (ldR B.i harg9 B.x7) = rows B.x7 b := load_rows arg9 harg9 B.x7 b e1 (k0_off1_inb B.i)
  have l5a : (ldP0 B.i harg7 B.x5) = rows5 B.x5 0 b := load_rows5 arg7 harg7 B.x5 0 b (show k0_off2 B.i = ![(0 : Fin 2).val, 512 * b.val, 0] by rw [off2_eq, hb]; rfl) (k0_off2_inb B.i)
  have l5b : (ldP1 B.i harg7 B.x5) = rows5 B.x5 1 b := load_rows5 arg7 harg7 B.x5 1 b (show k0_off3 B.i = ![(1 : Fin 2).val, 512 * b.val, 0] by rw [off3_eq, hb]; rfl) (k0_off3_inb B.i)
  have h1 : (ldB harg3 B.x1) = B.x1 := load_all arg3 harg3 B.x1 (fun a => by fin_cases a <;> rfl) _
  have h2 : (ldB harg4 B.x2) = B.x2 := load_all arg4 harg4 B.x2 (fun a => by fin_cases a <;> rfl) _
  have h4 : (ldC harg6 B.x4) = B.x4 := load_all arg6 harg6 B.x4 (fun a => by fin_cases a <;> rfl) _
  have h39 : k0_pay59 B.i B.x4 = B.v39 := rfl
  have h48 : k0_pay60 (k0_pay58 B.x4) (Scalar.muli 2#32 B.a0) 1#32 = B.v48 := rfl
  unfold kernelRun0_B
  dsimp only
  show arg11.view.read (Elt Ideal) (arg11.view.writes (Elt Ideal) (harg11.unread xo9) ((st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).2.1 ++ ((st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) (arg11.view.writes (Elt Ideal) (harg11.unread xo9) ((⟨(Rect.unit (s := S4096x128) (k0_off1 B.i) S512x128.size (k0_off1_inb B.i)), k0_pay83 k0_pay50 (k0_pay53 (ldB harg3 B.x1)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))) (View.readAt (Elt Ideal) arg11.view (Rect.unit (s := S4096x128) (k0_off1 B.i) S512x128.size (k0_off1_inb B.i)).toLoadRect (harg11.unread xo9))⟩ : View.Piece (Elt Ideal) S4096x128 .f32) :: [])) (arg15.view.writes (Elt Ideal) (harg15.unread xo13) ((⟨(Rect.unit (s := S1x4096x128) (k0_off4 B.i) S1x512x128.size (k0_off4_inb B.i)), k0_pay87 V0 (k0_pay75 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))) (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7)))) (View.readAt (Elt Ideal) arg15.view (Rect.unit (s := S1x4096x128) (k0_off4 B.i) S1x512x128.size (k0_off4_inb B.i)).toLoadRect (harg15.unread xo13))⟩ : View.Piece (Elt Ideal) S1x4096x128 .f32) :: [])) (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).2.1 ++ ((⟨(Rect.unit (s := S4096x128) (k0_off1 B.i) S512x128.size (k0_off1_inb B.i)), k0_pay83 k0_pay50 (k0_pay53 (ldB harg3 B.x1)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))) (View.readAt (Elt Ideal) arg11.view (Rect.unit (s := S4096x128) (k0_off1 B.i) S512x128.size (k0_off1_inb B.i)).toLoadRect (harg11.unread xo9))⟩ : View.Piece (Elt Ideal) S4096x128 .f32) :: [])))) y = _
  rw [trips2_eq]
  show arg11.view.read (Elt Ideal) (arg11.view.writes (Elt Ideal) (harg11.unread xo9) ([] ++ ((st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) (arg11.view.writes (Elt Ideal) (harg11.unread xo9) ((⟨(Rect.unit (s := S4096x128) (k0_off1 B.i) S512x128.size (k0_off1_inb B.i)), k0_pay83 k0_pay50 (k0_pay53 (ldB harg3 B.x1)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))) (View.readAt (Elt Ideal) arg11.view (Rect.unit (s := S4096x128) (k0_off1 B.i) S512x128.size (k0_off1_inb B.i)).toLoadRect (harg11.unread xo9))⟩ : View.Piece (Elt Ideal) S4096x128 .f32) :: [])) (arg15.view.writes (Elt Ideal) (harg15.unread xo13) ((⟨(Rect.unit (s := S1x4096x128) (k0_off4 B.i) S1x512x128.size (k0_off4_inb B.i)), k0_pay87 V0 (k0_pay75 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))) (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7)))) (View.readAt (Elt Ideal) arg15.view (Rect.unit (s := S1x4096x128) (k0_off4 B.i) S1x512x128.size (k0_off4_inb B.i)).toLoadRect (harg15.unread xo13))⟩ : View.Piece (Elt Ideal) S1x4096x128 .f32) :: [])) (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).2.1 ++ ((⟨(Rect.unit (s := S4096x128) (k0_off1 B.i) S512x128.size (k0_off1_inb B.i)), k0_pay83 k0_pay50 (k0_pay53 (ldB harg3 B.x1)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))) (View.readAt (Elt Ideal) arg11.view (Rect.unit (s := S4096x128) (k0_off1 B.i) S512x128.size (k0_off1_inb B.i)).toLoadRect (harg11.unread xo9))⟩ : View.Piece (Elt Ideal) S4096x128 .f32) :: [])))) y = _
  rw [List.nil_append, View.writes_append, h1, h2, h4, l0, l3, l6, l7, l5a, l5b, h39, h48, B.pr_diag0 b hb, B.pr_diag1 b hb, B.dp_diag0 b, B.dp_diag1 b, B.ds_diag0 b, B.ds_diag1 b, B.k_diag0 b, B.k_diag1 b, B.v_diag0 b, B.v_diag1 b, B.c_diag0 b, B.c_diag1 b, B.q_diag b]
  refine ((st_eq B _ _ _ _ _ _ _ _ _ _ _ _ _ _ _ _ _ _ _ _ _ _ _ _ _ _ _ _ _ _ _ _ _ _ _ _ _ _ _ _ _ _ _ _ _ (carry_zero B b hbk) _ le_rfl).2.1 y).trans ?_
  have hbase : arg11.view.read (Elt Ideal) (arg11.view.writes (Elt Ideal) (harg11.unread xo9) []) y = xo9 y := congrFun (harg11.read_unread _) y
  have hD := (rows_added B arg11 (harg11.unread xo9) [] b e1 (k0_off1_inb B.i) y)
  rw [hbase] at hD
  refine (ite_congr rfl (fun _ => congrArg (· + _) hD) (fun _ => hD)).trans ?_
  have hj : (B.i 1).val < 8 := (B.i 1).isLt
  have hy : (y 0).val < 4096 := (y 0).isLt
  rw [trips_eq, hb]
  by_cases c1 : 512 * b.val ≤ (y 0).val
  · by_cases c2 : (y 0).val < 512 * b.val + 512
    · rw [if_neg (by omega), if_pos ⟨c1, c2⟩, if_pos c1]
    · rw [if_pos (by omega), if_neg (by omega), if_pos c1]
  · rw [if_neg (by omega), if_neg (by omega), if_neg c1]

set_option maxHeartbeats 2000000 in
theorem out13_B (hc0 : ¬cond0_0 B.i) (xo9 : Vec Ideal S4096x128 .f32) (xo13 : Vec Ideal S1x4096x128 .f32) (y : S1x4096x128.Idx) :
    arg15.view.read (Elt Ideal) (arg15.view.writes (Elt Ideal) (harg15.unread xo13) (kernelRun0_B (F := Ideal) c B.i arg2 harg2 arg3 harg3 arg4 harg4 arg5 harg5 arg6 harg6 arg7 harg7 arg8 harg8 arg9 harg9 arg10 harg10 arg11 harg11 arg12 harg12 arg13 harg13 arg14 harg14 arg15 harg15 hc0 B.x0 B.x1 B.x2 B.x3 B.x4 B.x5 B.x6 B.x7 x8 xo9 xo13).2.2.2.2.1) y
      = if 512 * (B.i 1).val ≤ (y 1).val then xo13 y + B.tS (y 1) (y 2) else xo13 y := by
  obtain ⟨b, hbk⟩ : ∃ b, b = bk B.i 0 := ⟨_, rfl⟩
  have hb : (B.i 1).val = b.val := by rw [hbk, bk_val B.i 0 (Nat.zero_le _)]; rfl
  have e1 : k0_off1 B.i = ![512 * b.val, 0] := by rw [off1_eq, hb]
  have e4 : k0_off4 B.i = ![0, 512 * b.val, 0] := by rw [off4_eq, hb]
  have l0 : (ldR B.i harg2 B.x0) = rows B.x0 b := load_rows arg2 harg2 B.x0 b e1 (k0_off1_inb B.i)
  have l3 : (ldR B.i harg5 B.x3) = rows B.x3 b := load_rows arg5 harg5 B.x3 b e1 (k0_off1_inb B.i)
  have l6 : (ldR B.i harg8 B.x6) = rows B.x6 b := load_rows arg8 harg8 B.x6 b e1 (k0_off1_inb B.i)
  have l7 : (ldR B.i harg9 B.x7) = rows B.x7 b := load_rows arg9 harg9 B.x7 b e1 (k0_off1_inb B.i)
  have l5a : (ldP0 B.i harg7 B.x5) = rows5 B.x5 0 b := load_rows5 arg7 harg7 B.x5 0 b (show k0_off2 B.i = ![(0 : Fin 2).val, 512 * b.val, 0] by rw [off2_eq, hb]; rfl) (k0_off2_inb B.i)
  have l5b : (ldP1 B.i harg7 B.x5) = rows5 B.x5 1 b := load_rows5 arg7 harg7 B.x5 1 b (show k0_off3 B.i = ![(1 : Fin 2).val, 512 * b.val, 0] by rw [off3_eq, hb]; rfl) (k0_off3_inb B.i)
  have h1 : (ldB harg3 B.x1) = B.x1 := load_all arg3 harg3 B.x1 (fun a => by fin_cases a <;> rfl) _
  have h2 : (ldB harg4 B.x2) = B.x2 := load_all arg4 harg4 B.x2 (fun a => by fin_cases a <;> rfl) _
  have h4 : (ldC harg6 B.x4) = B.x4 := load_all arg6 harg6 B.x4 (fun a => by fin_cases a <;> rfl) _
  have h39 : k0_pay59 B.i B.x4 = B.v39 := rfl
  have h48 : k0_pay60 (k0_pay58 B.x4) (Scalar.muli 2#32 B.a0) 1#32 = B.v48 := rfl
  unfold kernelRun0_B
  dsimp only
  show arg15.view.read (Elt Ideal) (arg15.view.writes (Elt Ideal) (harg15.unread xo13) ((st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).2.2 ++ ((st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) (arg11.view.writes (Elt Ideal) (harg11.unread xo9) ((⟨(Rect.unit (s := S4096x128) (k0_off1 B.i) S512x128.size (k0_off1_inb B.i)), k0_pay83 k0_pay50 (k0_pay53 (ldB harg3 B.x1)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))) (View.readAt (Elt Ideal) arg11.view (Rect.unit (s := S4096x128) (k0_off1 B.i) S512x128.size (k0_off1_inb B.i)).toLoadRect (harg11.unread xo9))⟩ : View.Piece (Elt Ideal) S4096x128 .f32) :: [])) (arg15.view.writes (Elt Ideal) (harg15.unread xo13) ((⟨(Rect.unit (s := S1x4096x128) (k0_off4 B.i) S1x512x128.size (k0_off4_inb B.i)), k0_pay87 V0 (k0_pay75 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))) (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7)))) (View.readAt (Elt Ideal) arg15.view (Rect.unit (s := S1x4096x128) (k0_off4 B.i) S1x512x128.size (k0_off4_inb B.i)).toLoadRect (harg15.unread xo13))⟩ : View.Piece (Elt Ideal) S1x4096x128 .f32) :: [])) (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).2.2 ++ ((⟨(Rect.unit (s := S1x4096x128) (k0_off4 B.i) S1x512x128.size (k0_off4_inb B.i)), k0_pay87 V0 (k0_pay75 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))) (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7)))) (View.readAt (Elt Ideal) arg15.view (Rect.unit (s := S1x4096x128) (k0_off4 B.i) S1x512x128.size (k0_off4_inb B.i)).toLoadRect (harg15.unread xo13))⟩ : View.Piece (Elt Ideal) S1x4096x128 .f32) :: [])))) y = _
  rw [trips2_eq]
  show arg15.view.read (Elt Ideal) (arg15.view.writes (Elt Ideal) (harg15.unread xo13) ([] ++ ((st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) (arg11.view.writes (Elt Ideal) (harg11.unread xo9) ((⟨(Rect.unit (s := S4096x128) (k0_off1 B.i) S512x128.size (k0_off1_inb B.i)), k0_pay83 k0_pay50 (k0_pay53 (ldB harg3 B.x1)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))) (View.readAt (Elt Ideal) arg11.view (Rect.unit (s := S4096x128) (k0_off1 B.i) S512x128.size (k0_off1_inb B.i)).toLoadRect (harg11.unread xo9))⟩ : View.Piece (Elt Ideal) S4096x128 .f32) :: [])) (arg15.view.writes (Elt Ideal) (harg15.unread xo13) ((⟨(Rect.unit (s := S1x4096x128) (k0_off4 B.i) S1x512x128.size (k0_off4_inb B.i)), k0_pay87 V0 (k0_pay75 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))) (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7)))) (View.readAt (Elt Ideal) arg15.view (Rect.unit (s := S1x4096x128) (k0_off4 B.i) S1x512x128.size (k0_off4_inb B.i)).toLoadRect (harg15.unread xo13))⟩ : View.Piece (Elt Ideal) S1x4096x128 .f32) :: [])) (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).2.2 ++ ((⟨(Rect.unit (s := S1x4096x128) (k0_off4 B.i) S1x512x128.size (k0_off4_inb B.i)), k0_pay87 V0 (k0_pay75 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))) (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7)))) (View.readAt (Elt Ideal) arg15.view (Rect.unit (s := S1x4096x128) (k0_off4 B.i) S1x512x128.size (k0_off4_inb B.i)).toLoadRect (harg15.unread xo13))⟩ : View.Piece (Elt Ideal) S1x4096x128 .f32) :: [])))) y = _
  rw [List.nil_append, View.writes_append, h1, h2, h4, l0, l3, l6, l7, l5a, l5b, h39, h48, B.pr_diag0 b hb, B.pr_diag1 b hb, B.dp_diag0 b, B.dp_diag1 b, B.ds_diag0 b, B.ds_diag1 b, B.k_diag0 b, B.k_diag1 b, B.v_diag0 b, B.v_diag1 b, B.c_diag0 b, B.c_diag1 b, B.s_diag b]
  refine ((st_eq B _ _ _ _ _ _ _ _ _ _ _ _ _ _ _ _ _ _ _ _ _ _ _ _ _ _ _ _ _ _ _ _ _ _ _ _ _ _ _ _ _ _ _ _ _ (carry_zero B b hbk) _ le_rfl).2.2 y).trans ?_
  have hbase : arg15.view.read (Elt Ideal) (arg15.view.writes (Elt Ideal) (harg15.unread xo13) []) y = xo13 y := congrFun (harg15.read_unread _) y
  have hD := (rows_added3 B arg15 (harg15.unread xo13) [] b e4 (k0_off4_inb B.i) y)
  rw [hbase] at hD
  refine (ite_congr rfl (fun _ => congrArg (· + _) hD) (fun _ => hD)).trans ?_
  have hj : (B.i 1).val < 8 := (B.i 1).isLt
  have hy : (y 1).val < 4096 := (y 1).isLt
  rw [trips_eq, hb]
  by_cases c1 : 512 * b.val ≤ (y 1).val
  · by_cases c2 : (y 1).val < 512 * b.val + 512
    · rw [if_neg (by omega), if_pos ⟨c1, c2⟩, if_pos c1]
    · rw [if_pos (by omega), if_neg (by omega), if_pos c1]
  · rw [if_neg (by omega), if_neg (by omega), if_neg c1]

set_option maxHeartbeats 2000000 in
theorem out10_B (hc0 : ¬cond0_0 B.i) (xo9 : Vec Ideal S4096x128 .f32) (xo13 : Vec Ideal S1x4096x128 .f32) :
    VO0_10.read (Elt Ideal) (VO0_10.writes (Elt Ideal) VO0_10.junk (kernelRun0_B (F := Ideal) c B.i arg2 harg2 arg3 harg3 arg4 harg4 arg5 harg5 arg6 harg6 arg7 harg7 arg8 harg8 arg9 harg9 arg10 harg10 arg11 harg11 arg12 harg12 arg13 harg13 arg14 harg14 arg15 harg15 hc0 B.x0 B.x1 B.x2 B.x3 B.x4 B.x5 B.x6 B.x7 x8 xo9 xo13).2.1) = (fun y => (if Blk.hd (y 1) = 0 then (B.carry (7 - (B.i 1).val)).1 y else (B.carry (7 - (B.i 1).val)).2.1 y) * LN2 : Vec Ideal S512x128 .f32) := by
  obtain ⟨b, hbk⟩ : ∃ b, b = bk B.i 0 := ⟨_, rfl⟩
  have hb : (B.i 1).val = b.val := by rw [hbk, bk_val B.i 0 (Nat.zero_le _)]; rfl
  have e1 : k0_off1 B.i = ![512 * b.val, 0] := by rw [off1_eq, hb]
  have e4 : k0_off4 B.i = ![0, 512 * b.val, 0] := by rw [off4_eq, hb]
  have l0 : (ldR B.i harg2 B.x0) = rows B.x0 b := load_rows arg2 harg2 B.x0 b e1 (k0_off1_inb B.i)
  have l3 : (ldR B.i harg5 B.x3) = rows B.x3 b := load_rows arg5 harg5 B.x3 b e1 (k0_off1_inb B.i)
  have l6 : (ldR B.i harg8 B.x6) = rows B.x6 b := load_rows arg8 harg8 B.x6 b e1 (k0_off1_inb B.i)
  have l7 : (ldR B.i harg9 B.x7) = rows B.x7 b := load_rows arg9 harg9 B.x7 b e1 (k0_off1_inb B.i)
  have l5a : (ldP0 B.i harg7 B.x5) = rows5 B.x5 0 b := load_rows5 arg7 harg7 B.x5 0 b (show k0_off2 B.i = ![(0 : Fin 2).val, 512 * b.val, 0] by rw [off2_eq, hb]; rfl) (k0_off2_inb B.i)
  have l5b : (ldP1 B.i harg7 B.x5) = rows5 B.x5 1 b := load_rows5 arg7 harg7 B.x5 1 b (show k0_off3 B.i = ![(1 : Fin 2).val, 512 * b.val, 0] by rw [off3_eq, hb]; rfl) (k0_off3_inb B.i)
  have h1 : (ldB harg3 B.x1) = B.x1 := load_all arg3 harg3 B.x1 (fun a => by fin_cases a <;> rfl) _
  have h2 : (ldB harg4 B.x2) = B.x2 := load_all arg4 harg4 B.x2 (fun a => by fin_cases a <;> rfl) _
  have h4 : (ldC harg6 B.x4) = B.x4 := load_all arg6 harg6 B.x4 (fun a => by fin_cases a <;> rfl) _
  have h39 : k0_pay59 B.i B.x4 = B.v39 := rfl
  have h48 : k0_pay60 (k0_pay58 B.x4) (Scalar.muli 2#32 B.a0) 1#32 = B.v48 := rfl
  unfold kernelRun0_B
  dsimp only
  show VO0_10.read (Elt Ideal) (VO0_10.writes (Elt Ideal) VO0_10.junk [(⟨Rect.unit (s := S512x128) ![0, 0] S512x128.size inb_S512x128_S512x128_0_0, k0_pay1 (k0_pay90 k0_pay50 (st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).1.1 (st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).1.2.1) k0_pay91⟩ : View.Piece (Elt Ideal) S512x128 .f32)]) = _
  refine (stored_all VO0_10 _ (fun a => by fin_cases a <;> rfl) _ _ []).trans ?_
  rw [trips2_eq, st_k0_t2_zero]
  dsimp only
  show k0_pay1 (k0_pay90 k0_pay50 (st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) _ _ (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).1.1 (st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) _ _ (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).1.2.1) k0_pay91 = _
  rw [h1, h2, h4, l0, l3, l6, l7, l5a, l5b, h39, h48, B.pr_diag0 b hb, B.pr_diag1 b hb, B.dp_diag0 b, B.dp_diag1 b, B.ds_diag1 b, B.k_diag0 b, B.k_diag1 b, B.v_diag0 b, B.v_diag1 b, B.c_diag0 b, B.c_diag1 b]
  rw [(st_eq B _ _ _ _ _ _ _ _ _ _ _ _ _ _ _ _ _ _ _ _ _ _ _ _ _ _ _ _ _ _ _ _ _ _ _ _ _ _ _ _ _ _ _ _ _ (carry_zero B b hbk) _ le_rfl).1, trips_eq]
  exact Blk.fin_k _ _

set_option maxHeartbeats 2000000 in
theorem out11_B (hc0 : ¬cond0_0 B.i) (xo9 : Vec Ideal S4096x128 .f32) (xo13 : Vec Ideal S1x4096x128 .f32) :
    VO0_11.read (Elt Ideal) (VO0_11.writes (Elt Ideal) VO0_11.junk (kernelRun0_B (F := Ideal) c B.i arg2 harg2 arg3 harg3 arg4 harg4 arg5 harg5 arg6 harg6 arg7 harg7 arg8 harg8 arg9 harg9 arg10 harg10 arg11 harg11 arg12 harg12 arg13 harg13 arg14 harg14 arg15 harg15 hc0 B.x0 B.x1 B.x2 B.x3 B.x4 B.x5 B.x6 B.x7 x8 xo9 xo13).2.2.1) = (fun y => if Blk.hd (y 1) = 0 then (B.carry (7 - (B.i 1).val)).2.2.1 y else (B.carry (7 - (B.i 1).val)).2.2.2.1 y : Vec Ideal S512x128 .f32) := by
  obtain ⟨b, hbk⟩ : ∃ b, b = bk B.i 0 := ⟨_, rfl⟩
  have hb : (B.i 1).val = b.val := by rw [hbk, bk_val B.i 0 (Nat.zero_le _)]; rfl
  have e1 : k0_off1 B.i = ![512 * b.val, 0] := by rw [off1_eq, hb]
  have e4 : k0_off4 B.i = ![0, 512 * b.val, 0] := by rw [off4_eq, hb]
  have l0 : (ldR B.i harg2 B.x0) = rows B.x0 b := load_rows arg2 harg2 B.x0 b e1 (k0_off1_inb B.i)
  have l3 : (ldR B.i harg5 B.x3) = rows B.x3 b := load_rows arg5 harg5 B.x3 b e1 (k0_off1_inb B.i)
  have l6 : (ldR B.i harg8 B.x6) = rows B.x6 b := load_rows arg8 harg8 B.x6 b e1 (k0_off1_inb B.i)
  have l7 : (ldR B.i harg9 B.x7) = rows B.x7 b := load_rows arg9 harg9 B.x7 b e1 (k0_off1_inb B.i)
  have l5a : (ldP0 B.i harg7 B.x5) = rows5 B.x5 0 b := load_rows5 arg7 harg7 B.x5 0 b (show k0_off2 B.i = ![(0 : Fin 2).val, 512 * b.val, 0] by rw [off2_eq, hb]; rfl) (k0_off2_inb B.i)
  have l5b : (ldP1 B.i harg7 B.x5) = rows5 B.x5 1 b := load_rows5 arg7 harg7 B.x5 1 b (show k0_off3 B.i = ![(1 : Fin 2).val, 512 * b.val, 0] by rw [off3_eq, hb]; rfl) (k0_off3_inb B.i)
  have h1 : (ldB harg3 B.x1) = B.x1 := load_all arg3 harg3 B.x1 (fun a => by fin_cases a <;> rfl) _
  have h2 : (ldB harg4 B.x2) = B.x2 := load_all arg4 harg4 B.x2 (fun a => by fin_cases a <;> rfl) _
  have h4 : (ldC harg6 B.x4) = B.x4 := load_all arg6 harg6 B.x4 (fun a => by fin_cases a <;> rfl) _
  have h39 : k0_pay59 B.i B.x4 = B.v39 := rfl
  have h48 : k0_pay60 (k0_pay58 B.x4) (Scalar.muli 2#32 B.a0) 1#32 = B.v48 := rfl
  unfold kernelRun0_B
  dsimp only
  show VO0_11.read (Elt Ideal) (VO0_11.writes (Elt Ideal) VO0_11.junk [(⟨Rect.unit (s := S512x128) ![0, 0] S512x128.size inb_S512x128_S512x128_0_0, k0_pay2 k0_pay50 (st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).1.2.2.1 (st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).1.2.2.2.1⟩ : View.Piece (Elt Ideal) S512x128 .f32)]) = _
  refine (stored_all VO0_11 _ (fun a => by fin_cases a <;> rfl) _ _ []).trans ?_
  rw [trips2_eq, st_k0_t2_zero]
  dsimp only
  show k0_pay2 k0_pay50 (st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) _ _ (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).1.2.2.1 (st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) _ _ (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).1.2.2.2.1 = _
  rw [h1, h2, h4, l0, l3, l6, l7, l5a, l5b, h39, h48, B.pr_diag0 b hb, B.pr_diag1 b hb, B.dp_diag0 b, B.dp_diag1 b, B.ds_diag1 b, B.k_diag0 b, B.k_diag1 b, B.v_diag0 b, B.v_diag1 b, B.c_diag0 b, B.c_diag1 b]
  rw [(st_eq B _ _ _ _ _ _ _ _ _ _ _ _ _ _ _ _ _ _ _ _ _ _ _ _ _ _ _ _ _ _ _ _ _ _ _ _ _ _ _ _ _ _ _ _ _ (carry_zero B b hbk) _ le_rfl).1, trips_eq]
  exact Blk.fin_v _ _

set_option maxHeartbeats 2000000 in
theorem out12_B (hc0 : ¬cond0_0 B.i) (xo9 : Vec Ideal S4096x128 .f32) (xo13 : Vec Ideal S1x4096x128 .f32) :
    VO0_12.read (Elt Ideal) (VO0_12.writes (Elt Ideal) VO0_12.junk (kernelRun0_B (F := Ideal) c B.i arg2 harg2 arg3 harg3 arg4 harg4 arg5 harg5 arg6 harg6 arg7 harg7 arg8 harg8 arg9 harg9 arg10 harg10 arg11 harg11 arg12 harg12 arg13 harg13 arg14 harg14 arg15 harg15 hc0 B.x0 B.x1 B.x2 B.x3 B.x4 B.x5 B.x6 B.x7 x8 xo9 xo13).2.2.2.1) = (fun y => if (y 1).val = 0 then (B.carry (7 - (B.i 1).val)).2.2.2.2.1 (ix2 0 (y 2)) else if (y 1).val = 1 then (B.carry (7 - (B.i 1).val)).2.2.2.2.2 (ix2 0 (y 2)) else 0 : Vec Ideal S1x8x512 .f32) := by
  obtain ⟨b, hbk⟩ : ∃ b, b = bk B.i 0 := ⟨_, rfl⟩
  have hb : (B.i 1).val = b.val := by rw [hbk, bk_val B.i 0 (Nat.zero_le _)]; rfl
  have e1 : k0_off1 B.i = ![512 * b.val, 0] := by rw [off1_eq, hb]
  have e4 : k0_off4 B.i = ![0, 512 * b.val, 0] := by rw [off4_eq, hb]
  have l0 : (ldR B.i harg2 B.x0) = rows B.x0 b := load_rows arg2 harg2 B.x0 b e1 (k0_off1_inb B.i)
  have l3 : (ldR B.i harg5 B.x3) = rows B.x3 b := load_rows arg5 harg5 B.x3 b e1 (k0_off1_inb B.i)
  have l6 : (ldR B.i harg8 B.x6) = rows B.x6 b := load_rows arg8 harg8 B.x6 b e1 (k0_off1_inb B.i)
  have l7 : (ldR B.i harg9 B.x7) = rows B.x7 b := load_rows arg9 harg9 B.x7 b e1 (k0_off1_inb B.i)
  have l5a : (ldP0 B.i harg7 B.x5) = rows5 B.x5 0 b := load_rows5 arg7 harg7 B.x5 0 b (show k0_off2 B.i = ![(0 : Fin 2).val, 512 * b.val, 0] by rw [off2_eq, hb]; rfl) (k0_off2_inb B.i)
  have l5b : (ldP1 B.i harg7 B.x5) = rows5 B.x5 1 b := load_rows5 arg7 harg7 B.x5 1 b (show k0_off3 B.i = ![(1 : Fin 2).val, 512 * b.val, 0] by rw [off3_eq, hb]; rfl) (k0_off3_inb B.i)
  have h1 : (ldB harg3 B.x1) = B.x1 := load_all arg3 harg3 B.x1 (fun a => by fin_cases a <;> rfl) _
  have h2 : (ldB harg4 B.x2) = B.x2 := load_all arg4 harg4 B.x2 (fun a => by fin_cases a <;> rfl) _
  have h4 : (ldC harg6 B.x4) = B.x4 := load_all arg6 harg6 B.x4 (fun a => by fin_cases a <;> rfl) _
  have h39 : k0_pay59 B.i B.x4 = B.v39 := rfl
  have h48 : k0_pay60 (k0_pay58 B.x4) (Scalar.muli 2#32 B.a0) 1#32 = B.v48 := rfl
  unfold kernelRun0_B
  dsimp only
  show VO0_12.read (Elt Ideal) (VO0_12.writes (Elt Ideal) VO0_12.junk [(⟨Rect.unit (s := S1x8x512) ![0, 0, 0] S1x8x512.size inb_S1x8x512_S1x8x512_0_0_0, k0_pay3 (st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).1.2.2.2.2.1 (st_k0_t2 (F := Ideal) _ c _ B.i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ _ _ _ (k0_t2_loop B.i).trips).1.2.2.2.2.2⟩ : View.Piece (Elt Ideal) S1x8x512 .f32)]) = _
  refine (stored_all VO0_12 _ (fun a => by fin_cases a <;> rfl) _ _ []).trans ?_
  rw [trips2_eq, st_k0_t2_zero]
  dsimp only
  show k0_pay3 (st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) _ _ (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).1.2.2.2.2.1 (st_k0_t1 (F := Ideal) Variants.none c none B.i arg2 harg2 arg3 harg3 arg4 harg4 arg5 harg5 arg6 harg6 arg7 harg7 arg8 harg8 arg9 harg9 arg10 harg10 arg11 harg11 arg12 harg12 arg13 harg13 arg14 harg14 arg15 harg15 B.a0 _ V0 k0_pay50 (k0_pay53 (ldB harg3 B.x1)) (k0_pay54 (ldB harg3 B.x1)) (k0_pay55 (ldB harg3 B.x1)) (k0_pay56 (ldB harg4 B.x2)) (k0_pay57 (ldB harg4 B.x2)) (k0_pay59 B.i (ldC harg6 B.x4)) (k0_pay60 (k0_pay58 (ldC harg6 B.x4)) (Scalar.muli 2#32 B.a0) 1#32) _ _ _ _ _ _ _ _ _ _ (harg2.unread B.x0) (harg5.unread B.x3) (harg7.unread B.x5) (harg8.unread B.x6) (harg9.unread B.x7) _ _ (k0_pay81 k0_pay50 k0_pay63 (k0_pay65 (ldR B.i harg2 B.x0)) (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7))), k0_pay82 k0_pay50 k0_pay63 (k0_pay65 (ldR B.i harg2 B.x0)) (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))), k0_pay79 k0_pay63 (k0_pay66 (ldR B.i harg9 B.x7)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)), k0_pay80 k0_pay63 (k0_pay66 (ldR B.i harg9 B.x7)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)), k0_pay85 k0_pay64 (k0_pay84 k0_pay50 (k0_pay67 (ldR B.i harg9 B.x7) (ldR B.i harg8 B.x6)) (k0_pay71 (k0_pay68 (ldR B.i harg5 B.x3)) (Scalar.muli 2#32 B.a0) (k0_pay69 (ldP0 B.i harg7 B.x5)) (k0_pay70 (k0_pay54 (ldB harg3 B.x1)) (k0_pay59 B.i (ldC harg6 B.x4)) (ldR B.i harg2 B.x0)) (iota .tc S512x512 32 [0] iota_S512x512_d0_w32)) (k0_pay72 (k0_pay56 (ldB harg4 B.x2)) (k0_pay66 (ldR B.i harg9 B.x7)))), k0_pay86 k0_pay64 (k0_pay76 k0_pay50 (k0_pay67 (ldR B.i harg9 B.x7) (ldR B.i harg8 B.x6)) (k0_pay73 B.a0 (k0_pay55 (ldB harg3 B.x1)) (k0_pay60 (k0_pay58 (ldC harg6 B.x4)) (Scalar.muli 2#32 B.a0) 1#32) (k0_pay65 (ldR B.i harg2 B.x0)) (k0_pay68 (ldR B.i harg5 B.x3)) (ldP1 B.i harg7 B.x5)) (k0_pay74 (k0_pay57 (ldB harg4 B.x2)) (k0_pay66 (ldR B.i harg9 B.x7))))) (k0_t1_loop B.i).trips).1.2.2.2.2.2 = _
  rw [h1, h2, h4, l0, l3, l6, l7, l5a, l5b, h39, h48, B.pr_diag0 b hb, B.pr_diag1 b hb, B.dp_diag0 b, B.dp_diag1 b, B.ds_diag1 b, B.k_diag0 b, B.k_diag1 b, B.v_diag0 b, B.v_diag1 b, B.c_diag0 b, B.c_diag1 b]
  rw [(st_eq B _ _ _ _ _ _ _ _ _ _ _ _ _ _ _ _ _ _ _ _ _ _ _ _ _ _ _ _ _ _ _ _ _ _ _ _ _ _ _ _ _ _ _ _ _ (carry_zero B b hbk) _ le_rfl).1, trips_eq]
  exact Blk.fin_c _ _

end Cert.KernelIdeal.Att
end
-- ==== Proof.AttGridK.lean ====
/- What each grid point of the kernel `attention_bwd` leaves in its output blocks, at arguments that are real numbers. -/
module

public import proofs.«01_k».proof.Proof.AttFrame
public import proofs.«01_k».proof.Proof.AttOutA
public import proofs.«01_k».proof.Proof.AttOutB
public import proofs.«01_k».proof.Proof.AttHolds

@[expose] public section

set_option maxRecDepth 16384

noncomputable section

namespace Cert.KernelIdeal.Att

open Cert.KernelIdeal Cert.KernelIdeal.Gen Idealize.ShloMosaic Idealize.ShloMosaic.TcCoe Idealize.SL.Sem

variable (m : (ℓ : Loc nD τ sig) → Buf (Elt Ideal) ℓ) (c : Dev nD)

set_option maxHeartbeats 4000000 in
/-- The block of the gradient of k. -/
theorem at_out10 (t : Fin cfg0.N) : (outsAt0 m c t.val t.isLt).2.1 = (fun y => (if Blk.hd (y 1) = 0 then ((blk m c t).carry (7 - ((blk m c t).i 1).val)).1 y else ((blk m c t).carry (7 - ((blk m c t).i 1).val)).2.1 y) * LN2 : Vec Ideal S512x128 .f32) := by
  by_cases h : t.val % 8 = 0
  · refine (congrArg (fun x => x.2.1) (outsAt0_A m c t h)).trans ?_
    unfold atA out0_A_10
    dsimp only
    have e := out10_A (blk m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 8 t) ((hcond0_0 t).mpr h)
    exact e
  · refine (congrArg (fun x => x.2.1) (outsAt0_B m c t h)).trans ?_
    unfold atB out0_B_10
    dsimp only
    have e := out10_B (blk m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 8 t) (fun h' => h ((hcond0_0 t).mp h')) (outsAt0 m c (t.val - 1) (Nat.lt_of_le_of_lt (Nat.sub_le _ _) t.isLt)).1 (outsAt0 m c (t.val - 1) (Nat.lt_of_le_of_lt (Nat.sub_le _ _) t.isLt)).2.2.2.2
    exact e

set_option maxHeartbeats 4000000 in
/-- The block of the gradient of v. -/
theorem at_out11 (t : Fin cfg0.N) : (outsAt0 m c t.val t.isLt).2.2.1 = (fun y => if Blk.hd (y 1) = 0 then ((blk m c t).carry (7 - ((blk m c t).i 1).val)).2.2.1 y else ((blk m c t).carry (7 - ((blk m c t).i 1).val)).2.2.2.1 y : Vec Ideal S512x128 .f32) := by
  by_cases h : t.val % 8 = 0
  · refine (congrArg (fun x => x.2.2.1) (outsAt0_A m c t h)).trans ?_
    unfold atA out0_A_11
    dsimp only
    have e := out11_A (blk m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 8 t) ((hcond0_0 t).mpr h)
    exact e
  · refine (congrArg (fun x => x.2.2.1) (outsAt0_B m c t h)).trans ?_
    unfold atB out0_B_11
    dsimp only
    have e := out11_B (blk m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 8 t) (fun h' => h ((hcond0_0 t).mp h')) (outsAt0 m c (t.val - 1) (Nat.lt_of_le_of_lt (Nat.sub_le _ _) t.isLt)).1 (outsAt0 m c (t.val - 1) (Nat.lt_of_le_of_lt (Nat.sub_le _ _) t.isLt)).2.2.2.2
    exact e

end Cert.KernelIdeal.Att
end
-- ==== Proof.AttGridC.lean ====
/- What each grid point of the kernel `attention_bwd` leaves in its output blocks, at arguments that are real numbers. -/
module

public import proofs.«01_k».proof.Proof.AttFrame
public import proofs.«01_k».proof.Proof.AttOutA
public import proofs.«01_k».proof.Proof.AttOutB
public import proofs.«01_k».proof.Proof.AttHolds

@[expose] public section

set_option maxRecDepth 16384

noncomputable section

namespace Cert.KernelIdeal.Att

open Cert.KernelIdeal Cert.KernelIdeal.Gen Idealize.ShloMosaic Idealize.ShloMosaic.TcCoe Idealize.SL.Sem

variable (m : (ℓ : Loc nD τ sig) → Buf (Elt Ideal) ℓ) (c : Dev nD)

set_option maxHeartbeats 4000000 in
/-- The block of the column sums. -/
theorem at_out12 (t : Fin cfg0.N) : (outsAt0 m c t.val t.isLt).2.2.2.1 = (fun y => if (y 1).val = 0 then ((blk m c t).carry (7 - ((blk m c t).i 1).val)).2.2.2.2.1 (ix2 0 (y 2)) else if (y 1).val = 1 then ((blk m c t).carry (7 - ((blk m c t).i 1).val)).2.2.2.2.2 (ix2 0 (y 2)) else 0 : Vec Ideal S1x8x512 .f32) := by
  by_cases h : t.val % 8 = 0
  · refine (congrArg (fun x => x.2.2.2.1) (outsAt0_A m c t h)).trans ?_
    unfold atA out0_A_12
    dsimp only
    have e := out12_A (blk m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 8 t) ((hcond0_0 t).mpr h)
    exact e
  · refine (congrArg (fun x => x.2.2.2.1) (outsAt0_B m c t h)).trans ?_
    unfold atB out0_B_12
    dsimp only
    have e := out12_B (blk m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 8 t) (fun h' => h ((hcond0_0 t).mp h')) (outsAt0 m c (t.val - 1) (Nat.lt_of_le_of_lt (Nat.sub_le _ _) t.isLt)).1 (outsAt0 m c (t.val - 1) (Nat.lt_of_le_of_lt (Nat.sub_le _ _) t.isLt)).2.2.2.2
    exact e

end Cert.KernelIdeal.Att
end
-- ==== Proof.AttGridQ.lean ====
/- What each grid point of the kernel `attention_bwd` leaves in its output blocks, at arguments that are real numbers. -/
module

public import proofs.«01_k».proof.Proof.AttFrame
public import proofs.«01_k».proof.Proof.AttOutA
public import proofs.«01_k».proof.Proof.AttOutB
public import proofs.«01_k».proof.Proof.AttHolds

@[expose] public section

set_option maxRecDepth 16384

noncomputable section

namespace Cert.KernelIdeal.Att

open Cert.KernelIdeal Cert.KernelIdeal.Gen Idealize.ShloMosaic Idealize.ShloMosaic.TcCoe Idealize.SL.Sem

variable (m : (ℓ : Loc nD τ sig) → Buf (Elt Ideal) ℓ) (c : Dev nD)

set_option maxHeartbeats 4000000 in
/-- The rows of the gradient of q after a pair's first point. -/
theorem at_out9_A (t : Fin cfg0.N) (h : t.val % 8 = 0) (y : S4096x128.Idx) : (outsAt0 m c t.val t.isLt).1 y
    = if 512 * ((blk m c t).i 1).val ≤ (y 0).val then 0 + (blk m c t).tQ (y 0) (y 1) else 0 := by
  refine (congrArg (fun x => x.1 y) (outsAt0_A m c t h)).trans ?_
  unfold atA out0_A_9
  dsimp only
  refine (congrFun (View.read_writes_of_cover VO0_9 _ (ms0_9 t).view (ms0_9 t).view.junk _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h) (iblk m c 0 t) (iblk m c 1 t) (iblk m c 2 t) (iblk m c 3 t) (iblk m c 4 t) (iblk m c 5 t) (iblk m c 6 t) (iblk m c 7 t) (iblk m c 8 t))) y).trans ?_
  have e := out9_A (blk m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 8 t) ((hcond0_0 t).mpr h) y
  exact e

set_option maxHeartbeats 4000000 in
/-- The rows of the gradient of q after a later point. -/
theorem at_out9_B (t : Fin cfg0.N) (h : ¬t.val % 8 = 0) (y : S4096x128.Idx) : (outsAt0 m c t.val t.isLt).1 y
    = if 512 * ((blk m c t).i 1).val ≤ (y 0).val then (outsAt0 m c (t.val - 1) (Nat.lt_of_le_of_lt (Nat.sub_le _ _) t.isLt)).1 y + (blk m c t).tQ (y 0) (y 1)
      else (outsAt0 m c (t.val - 1) (Nat.lt_of_le_of_lt (Nat.sub_le _ _) t.isLt)).1 y := by
  refine (congrArg (fun x => x.1 y) (outsAt0_B m c t h)).trans ?_
  unfold atB out0_B_9
  dsimp only
  have e := out9_B (blk m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 8 t) (fun h' => h ((hcond0_0 t).mp h')) (outsAt0 m c (t.val - 1) (Nat.lt_of_le_of_lt (Nat.sub_le _ _) t.isLt)).1 (outsAt0 m c (t.val - 1) (Nat.lt_of_le_of_lt (Nat.sub_le _ _) t.isLt)).2.2.2.2 y
  exact e

end Cert.KernelIdeal.Att
end
-- ==== Proof.AttGridS.lean ====
/- What each grid point of the kernel `attention_bwd` leaves in its output blocks, at arguments that are real numbers. -/
module

public import proofs.«01_k».proof.Proof.AttFrame
public import proofs.«01_k».proof.Proof.AttOutA
public import proofs.«01_k».proof.Proof.AttOutB
public import proofs.«01_k».proof.Proof.AttHolds

@[expose] public section

set_option maxRecDepth 16384

noncomputable section

namespace Cert.KernelIdeal.Att

open Cert.KernelIdeal Cert.KernelIdeal.Gen Idealize.ShloMosaic Idealize.ShloMosaic.TcCoe Idealize.SL.Sem

section val
variable (B : Blk) (c : Dev nD) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S8x512 .f32) (harg6 : arg6.IsWhole) (arg7 : Memref sig .tc .vmem S2x4096x128 .f32) (harg7 : arg7.IsWhole) (arg8 : Memref sig .tc .vmem S4096x128 .bf16) (harg8 : arg8.IsWhole) (arg9 : Memref sig .tc .vmem S4096x128 .f32) (harg9 : arg9.IsWhole) (arg10 : Memref sig .tc .vmem S8x128 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x8x512 .f32) (harg14 : arg14.IsWhole) (arg15 : Memref sig .tc .vmem S1x4096x128 .f32) (harg15 : arg15.IsWhole) (x8 : Vec Ideal S8x128 .f32)

/-- The row sums of a pair's first point, as the output is named. -/
theorem val13_A (hc0 : cond0_0 B.i) (y : S1x4096x128.Idx) : out0_A_13 (F := Ideal) c B.i arg2 harg2 arg3 harg3 arg4 harg4 arg5 harg5 arg6 harg6 arg7 harg7 arg8 harg8 arg9 harg9 arg10 harg10 arg11 harg11 arg12 harg12 arg13 harg13 arg14 harg14 arg15 harg15 hc0 B.x0 B.x1 B.x2 B.x3 B.x4 B.x5 B.x6 B.x7 x8 y
    = if 512 * (B.i 1).val ≤ (y 1).val then 0 + B.tS (y 1) (y 2) else 0 := by
  have e := out13_A B c arg2 harg2 arg3 harg3 arg4 harg4 arg5 harg5 arg6 harg6 arg7 harg7 arg8 harg8 arg9 harg9 arg10 harg10 arg11 harg11 arg12 harg12 arg13 harg13 arg14 harg14 arg15 harg15 x8 hc0 y
  have h := congrFun (View.read_writes_of_cover VO0_13 VO0_13.junk arg15.view arg15.view.junk _ (cover0_A_13 c B.i arg2 harg2 arg3 harg3 arg4 harg4 arg5 harg5 arg6 harg6 arg7 harg7 arg8 harg8 arg9 harg9 arg10 harg10 arg11 harg11 arg12 harg12 arg13 harg13 arg14 harg14 arg15 harg15 hc0 B.x0 B.x1 B.x2 B.x3 B.x4 B.x5 B.x6 B.x7 x8)) y
  exact h.trans e

/-- The row sums of a later point, as the output is named. -/
theorem val13_B (hc0 : ¬cond0_0 B.i) (xo9 : Vec Ideal S4096x128 .f32) (xo13 : Vec Ideal S1x4096x128 .f32) (y : S1x4096x128.Idx) :
    out0_B_13 (F := Ideal) c B.i arg2 harg2 arg3 harg3 arg4 harg4 arg5 harg5 arg6 harg6 arg7 harg7 arg8 harg8 arg9 harg9 arg10 harg10 arg11 harg11 arg12 harg12 arg13 harg13 arg14 harg14 arg15 harg15 hc0 B.x0 B.x1 B.x2 B.x3 B.x4 B.x5 B.x6 B.x7 x8 xo9 xo13 y
    = if 512 * (B.i 1).val ≤ (y 1).val then xo13 y + B.tS (y 1) (y 2) else xo13 y := by
  unfold out0_B_13
  exact out13_B B c arg2 harg2 arg3 harg3 arg4 harg4 arg5 harg5 arg6 harg6 arg7 harg7 arg8 harg8 arg9 harg9 arg10 harg10 arg11 harg11 arg12 harg12 arg13 harg13 arg14 harg14 arg15 harg15 x8 hc0 xo9 xo13 y
end val

variable (m : (ℓ : Loc nD τ sig) → Buf (Elt Ideal) ℓ) (c : Dev nD)

set_option maxHeartbeats 4000000 in
/-- The row sums after a pair's first point. -/
theorem at_out13_A (t : Fin cfg0.N) (h : t.val % 8 = 0) (y : S1x4096x128.Idx) : (outsAt0 m c t.val t.isLt).2.2.2.2 y
    = if 512 * ((blk m c t).i 1).val ≤ (y 1).val then 0 + (blk m c t).tS (y 1) (y 2) else 0 := by
  refine (congrArg (fun x => x.2.2.2.2 y) (outsAt0_A m c t h)).trans ?_
  unfold atA
  dsimp only
  have e := val13_A (blk m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 8 t) ((hcond0_0 t).mpr h) y
  exact e

set_option maxHeartbeats 4000000 in
/-- The row sums after a later point. -/
theorem at_out13_B (t : Fin cfg0.N) (h : ¬t.val % 8 = 0) (y : S1x4096x128.Idx) : (outsAt0 m c t.val t.isLt).2.2.2.2 y
    = if 512 * ((blk m c t).i 1).val ≤ (y 1).val then (outsAt0 m c (t.val - 1) (Nat.lt_of_le_of_lt (Nat.sub_le _ _) t.isLt)).2.2.2.2 y + (blk m c t).tS (y 1) (y 2)
      else (outsAt0 m c (t.val - 1) (Nat.lt_of_le_of_lt (Nat.sub_le _ _) t.isLt)).2.2.2.2 y := by
  refine (congrArg (fun x => x.2.2.2.2 y) (outsAt0_B m c t h)).trans ?_
  unfold atB
  dsimp only
  have e := val13_B (blk m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 8 t) (fun h' => h ((hcond0_0 t).mp h')) (outsAt0 m c (t.val - 1) (Nat.lt_of_le_of_lt (Nat.sub_le _ _) t.isLt)).1 (outsAt0 m c (t.val - 1) (Nat.lt_of_le_of_lt (Nat.sub_le _ _) t.isLt)).2.2.2.2 y
  exact e

end Cert.KernelIdeal.Att
end
-- ==== Proof.AttSums.lean ====
/- What the kernel `attention_bwd` has in its output blocks, where its arguments hold real numbers: after every point the
   gradients of k and v and the column sums of the point's keys, after a pair's last point the gradient of q and the row sums. -/
module

public import proofs.«01_k».proof.Proof.AttHolds
public import proofs.«01_k».proof.Proof.AttGridK
public import proofs.«01_k».proof.Proof.AttGridC
public import proofs.«01_k».proof.Proof.AttGridQ
public import proofs.«01_k».proof.Proof.AttGridS

@[expose] public section

set_option maxRecDepth 16384

noncomputable section

namespace Cert.KernelIdeal.Att

open Cert.KernelIdeal Cert.KernelIdeal.Gen Idealize.ShloMosaic Idealize.ShloMosaic.TcCoe Idealize.SL.Sem

/-- The choice between the two heads of a pair by the lane. -/
theorem pick_hd (l : Fin 128) (f : Fin 2 → EReal) : (if Blk.hd l = 0 then f 0 else f 1) = f (Blk.hd l) := by
  by_cases h : Blk.hd l = 0
  · rw [if_pos h, h]
  · have h1 : Blk.hd l = 1 := Fin.ext (by have := (Blk.hd l).isLt; have : (Blk.hd l).val ≠ 0 := fun e => h (Fin.ext e); show (Blk.hd l).val = 1; omega)
    rw [if_neg h, h1]

theorem head_eq (l : Fin 512) : head l = headOf l := rfl

section holds
variable {B : Blk} {Q K V D : Fin 4096 → Fin 512 → ℝ} {C : Fin 4096 → Fin 8 → ℝ} {M : Fin 8 → Fin 4096 → ℝ}
variable (H : B.Holds Q K V D C M)
include H

/-- The gradient of k in a point's block. -/
theorem Blk.Holds.k_real (s : Fin 512) (l : Fin 128) :
    (if Blk.hd l = 0 then (∑ k ∈ Finset.range (7 - (B.i 1).val + 1), B.tK 0 (bk B.i k) s l)
      else ∑ k ∈ Finset.range (7 - (B.i 1).val + 1), B.tK 1 (bk B.i k) s l) * LN2
    = ((∑ r, dsR Q K V D C (headOf (pcol B.p l)) r (rr B.j s) * (1 / 8) * Q r (pcol B.p l) : ℝ) : EReal) := by
  refine (congrArg (· * LN2) (pick_hd l fun e => ∑ k ∈ Finset.range (7 - (B.i 1).val + 1), B.tK e (bk B.i k) s l)).trans ?_
  show (∑ k ∈ Finset.range (7 - (B.i 1).val + 1), B.tK (Blk.hd l) (bk B.i k) s l) * LN2 = _
  rw [H.tK_sum, LN2_eq, ← EReal.coe_mul, Finset.sum_mul, headOf_pcol]
  refine congrArg _ (Finset.sum_congr rfl fun r _ => ?_)
  have : Real.log 2 ≠ 0 := (Real.log_pos (by norm_num)).ne'
  field_simp

/-- The gradient of v in a point's block. -/
theorem Blk.Holds.v_real (s : Fin 512) (l : Fin 128) :
    (if Blk.hd l = 0 then (∑ k ∈ Finset.range (7 - (B.i 1).val + 1), B.tV 0 (bk B.i k) s l)
      else ∑ k ∈ Finset.range (7 - (B.i 1).val + 1), B.tV 1 (bk B.i k) s l)
    = ((∑ r, D r (pcol B.p l) * prR Q K C (headOf (pcol B.p l)) r (rr B.j s) : ℝ) : EReal) := by
  refine (pick_hd l fun e => ∑ k ∈ Finset.range (7 - (B.i 1).val + 1), B.tV e (bk B.i k) s l).trans ?_
  show (∑ k ∈ Finset.range (7 - (B.i 1).val + 1), B.tV (Blk.hd l) (bk B.i k) s l) = _
  rw [H.tV_sum, headOf_pcol]
  exact congrArg _ (Finset.sum_congr rfl fun r _ => mul_comm _ _)

/-- The column sums in a point's block. -/
theorem Blk.Holds.c_real (e : Fin 8) (s : Fin 512) :
    (if e.val = 0 then (∑ k ∈ Finset.range (7 - (B.i 1).val + 1), B.tC 0 (bk B.i k) s)
      else if e.val = 1 then (∑ k ∈ Finset.range (7 - (B.i 1).val + 1), B.tC 1 (bk B.i k) s) else 0)
    = if h : e.val < 2 then ((∑ r, -dsR Q K V D C ⟨B.p.val * 2 + e.val, by omega⟩ r (rr B.j s) : ℝ) : EReal) else 0 := by
  rw [H.tC_sum 0, H.tC_sum 1]
  by_cases h0 : e.val = 0
  · rw [if_pos h0, dif_pos (by omega)]
    refine congrArg _ (Finset.sum_congr rfl fun r _ => congrArg (fun h => -dsR Q K V D C h r (rr B.j s)) (Fin.ext ?_))
    show 2 * B.p.val + 0 = B.p.val * 2 + e.val
    omega
  · rw [if_neg h0]
    by_cases h1 : e.val = 1
    · rw [if_pos h1, dif_pos (by omega)]
      refine congrArg _ (Finset.sum_congr rfl fun r _ => congrArg (fun h => -dsR Q K V D C h r (rr B.j s)) (Fin.ext ?_))
      show 2 * B.p.val + 1 = B.p.val * 2 + e.val
      omega
    · rw [if_neg h1, dif_neg (by omega)]

/-- Rows before the point's keys take no share in the gradient of q. -/
theorem Blk.Holds.q_share (a : EReal) (r : Fin 4096) (l : Fin 128) :
    (if 512 * (B.i 1).val ≤ r.val then a + B.tQ r l else a) = a + B.tQ r l := by
  by_cases h : 512 * (B.i 1).val ≤ r.val
  · rw [if_pos h]
  · rw [if_neg h, H.tQ_eq]
    have hz : (∑ s : Fin 512, dsR Q K V D C (headOf (pcol B.p l)) r (rr B.j s) * (1 / 8) * K (rr B.j s) (pcol B.p l)) = 0 :=
      Finset.sum_eq_zero fun s _ => by rw [headOf_pcol, H.ds_early _ r s (by omega), zero_mul, zero_mul]
    rw [hz, EReal.coe_zero, add_zero]

theorem Blk.Holds.q_share_zero (r : Fin 4096) (l : Fin 128) :
    (if 512 * (B.i 1).val ≤ r.val then 0 + B.tQ r l else 0) = 0 + B.tQ r l := H.q_share 0 r l

/-- Rows before the point's keys take no share in the row sums. -/
theorem Blk.Holds.s_share (a : EReal) (r : Fin 4096) (l : Fin 128) :
    (if 512 * (B.i 1).val ≤ r.val then a + B.tS r l else a) = a + B.tS r l := by
  by_cases h : 512 * (B.i 1).val ≤ r.val
  · rw [if_pos h]
  · rw [if_neg h, H.tS_eq]
    split
    · have hz : ∀ e, (∑ s : Fin 512, dsR Q K V D C (hp B.p e) r (rr B.j s)) = 0 := fun e =>
        Finset.sum_eq_zero fun s _ => H.ds_early e r s (by omega)
      rw [hz, EReal.coe_zero, add_zero]
    · rw [add_zero]

theorem Blk.Holds.s_share_zero (r : Fin 4096) (l : Fin 128) :
    (if 512 * (B.i 1).val ≤ r.val then 0 + B.tS r l else 0) = 0 + B.tS r l := H.s_share 0 r l

end holds

variable {m : (ℓ : Loc nD τ sig) → Buf (Elt Ideal) ℓ} {c : Dev nD}

theorem blk_p (t : Fin cfg0.N) : (blk m c t).p.val = t.val / 8 := (coords_eq t).1
theorem blk_j (t : Fin cfg0.N) : (blk m c t).j.val = t.val % 8 := (coords_eq t).2

variable {Q K V D : Fin 4096 → Fin 512 → ℝ} {C : Fin 4096 → Fin 8 → ℝ} (H : Args m c Q K V D C)
include H

theorem real10 (t : Fin cfg0.N) (s : Fin 512) (l : Fin 128) : (outsAt0 m c t.val t.isLt).2.1 (ix2 s l)
    = ((∑ r, dsR Q K V D C (headOf (pcol (blk m c t).p l)) r (rr (blk m c t).j s) * (1 / 8) * Q r (pcol (blk m c t).p l) : ℝ) : EReal) :=
  (congrFun (at_out10 m c t) (ix2 s l)).trans ((blk_holds H t).k_real s l)

theorem real11 (t : Fin cfg0.N) (s : Fin 512) (l : Fin 128) : (outsAt0 m c t.val t.isLt).2.2.1 (ix2 s l)
    = ((∑ r, D r (pcol (blk m c t).p l) * prR Q K C (headOf (pcol (blk m c t).p l)) r (rr (blk m c t).j s) : ℝ) : EReal) :=
  (congrFun (at_out11 m c t) (ix2 s l)).trans ((blk_holds H t).v_real s l)

theorem real12 (t : Fin cfg0.N) (z : Fin 1) (e : Fin 8) (s : Fin 512) : (outsAt0 m c t.val t.isLt).2.2.2.1 (ix3 z e s)
    = if h : e.val < 2 then ((∑ r, -dsR Q K V D C ⟨(blk m c t).p.val * 2 + e.val, by omega⟩ r (rr (blk m c t).j s) : ℝ) : EReal) else 0 :=
  (congrFun (at_out12 m c t) (ix3 z e s)).trans ((blk_holds H t).c_real e s)

/-- The gradient of q after a pair's last point: the eight points' shares are the sum over all keys. -/
theorem real9 (t : Fin cfg0.N) (ht : t.val % 8 = 7) (r : Fin 4096) (l : Fin 128) : (outsAt0 m c t.val t.isLt).1 (ix2 r l)
    = ((∑ s, dsR Q K V D C (headOf (pcol (blk m c t).p l)) r s * (1 / 8) * K s (pcol (blk m c t).p l) : ℝ) : EReal) := by
  refine (Pipeline.eq_sum_fin_of_reset_step_of_flush (fun n h => (outsAt0 m c n h).1 (ix2 r l)) 8 0
    (fun t => (blk m c t).tQ r l) (fun t h => ?_) (fun t h => ?_) t ht).trans ?_
  · exact (at_out9_A m c t h (ix2 r l)).trans ((blk_holds H t).q_share_zero r l)
  · exact (at_out9_B m c t h (ix2 r l)).trans ((blk_holds H t).q_share _ r l)
  · rw [zero_add, sum_blocks, ← coe_sum]
    refine Finset.sum_congr rfl fun b _ => ?_
    refine ((blk_holds H _).tQ_eq r l).trans ?_
    have ep : ∀ h, (blk m c ⟨8 * (t.val / 8) + b.val, h⟩).p = (blk m c t).p := fun h => Fin.ext (by
      rw [blk_p, blk_p]; show (8 * (t.val / 8) + b.val) / 8 = t.val / 8; omega)
    have ej : ∀ h, (blk m c ⟨8 * (t.val / 8) + b.val, h⟩).j = b := fun h => Fin.ext (by
      rw [blk_j]; show (8 * (t.val / 8) + b.val) % 8 = b.val; omega)
    rw [ep, ej]

/-- The row sums after a pair's last point. -/
theorem real13 (t : Fin cfg0.N) (ht : t.val % 8 = 7) (z : Fin 1) (r : Fin 4096) (e : Fin 128) : (outsAt0 m c t.val t.isLt).2.2.2.2 (ix3 z r e)
    = if h : e.val < 2 then ((∑ s, dsR Q K V D C ⟨(blk m c t).p.val * 2 + e.val, by omega⟩ r s : ℝ) : EReal) else 0 := by
  refine (Pipeline.eq_sum_fin_of_reset_step_of_flush (fun n h => (outsAt0 m c n h).2.2.2.2 (ix3 z r e)) 8 0
    (fun t => (blk m c t).tS r e) (fun t h => ?_) (fun t h => ?_) t ht).trans ?_
  · exact (at_out13_A m c t h (ix3 z r e)).trans ((blk_holds H t).s_share_zero r e)
  · exact (at_out13_B m c t h (ix3 z r e)).trans ((blk_holds H t).s_share _ r e)
  · rw [zero_add]
    have ep : ∀ (b : Fin 8) h, (blk m c ⟨8 * (t.val / 8) + b.val, h⟩).p = (blk m c t).p := fun b h => Fin.ext (by
      rw [blk_p, blk_p]; show (8 * (t.val / 8) + b.val) / 8 = t.val / 8; omega)
    have ej : ∀ (b : Fin 8) h, (blk m c ⟨8 * (t.val / 8) + b.val, h⟩).j = b := fun b h => Fin.ext (by
      rw [blk_j]; show (8 * (t.val / 8) + b.val) % 8 = b.val; omega)
    by_cases he : e.val < 2
    · rw [dif_pos he, sum_blocks, ← coe_sum]
      refine Finset.sum_congr rfl fun b _ => ?_
      refine ((blk_holds H _).tS_eq r e).trans ?_
      rw [dif_pos he, ep, ej]
      refine congrArg _ (Finset.sum_congr rfl fun s _ => congrArg (fun h => dsR Q K V D C h r (rr b s)) (Fin.ext ?_))
      show 2 * (blk m c t).p.val + e.val = (blk m c t).p.val * 2 + e.val
      omega
    · rw [dif_neg he]
      refine Finset.sum_eq_zero fun b _ => ?_
      refine ((blk_holds H _).tS_eq r e).trans ?_
      rw [dif_neg he]

end Cert.KernelIdeal.Att
end
-- ==== Proof.AttBlocks.lean ====
/- The run of the kernel `attention_bwd` with each result named as the array its window's write-backs leave. -/
module

public import proofs.«01_k».proof.Proof.AttFrame
public import Idealize.ShloMosaic.Lib.Pipeline.Value

@[expose] public section

noncomputable section

namespace Cert.KernelIdeal.Att

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- What the run leaves in output window 9's array. -/
theorem post9 (r : PUnit × MemSt nD τ sig (Elt F)) (h : Pipeline.FramePost cfgs (dats m) 0 (V m) r) (c : Dev nD) :
    r.2.mem ((c : Thread nD τ).loc main_v47_0) = (dats m 0 c).arrAt 9 cfg0.N :=
  (h c).1 9

/-- What the run leaves in output window 10's array. -/
theorem post10 (r : PUnit × MemSt nD τ sig (Elt F)) (h : Pipeline.FramePost cfgs (dats m) 0 (V m) r) (c : Dev nD) :
    r.2.mem ((c : Thread nD τ).loc main_v47_1) = (dats m 0 c).arrAt 10 cfg0.N :=
  (h c).1 10

/-- What the run leaves in output window 11's array. -/
theorem post11 (r : PUnit × MemSt nD τ sig (Elt F)) (h : Pipeline.FramePost cfgs (dats m) 0 (V m) r) (c : Dev nD) :
    r.2.mem ((c : Thread nD τ).loc main_v47_2) = (dats m 0 c).arrAt 11 cfg0.N :=
  (h c).1 11

/-- What the run leaves in output window 12's array. -/
theorem post12 (r : PUnit × MemSt nD τ sig (Elt F)) (h : Pipeline.FramePost cfgs (dats m) 0 (V m) r) (c : Dev nD) :
    r.2.mem ((c : Thread nD τ).loc main_v47_3) = (dats m 0 c).arrAt 12 cfg0.N :=
  (h c).1 12

/-- What the run leaves in output window 13's array. -/
theorem post13 (r : PUnit × MemSt nD τ sig (Elt F)) (h : Pipeline.FramePost cfgs (dats m) 0 (V m) r) (c : Dev nD) :
    r.2.mem ((c : Thread nD τ).loc main_v47_4) = (dats m 0 c).arrAt 13 cfg0.N :=
  (h c).1 13

/-- The run leaves argument `main_arg0` as it was. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The run leaves argument `main_arg1` as it was. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The run leaves argument `main_arg2` as it was. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The run leaves argument `main_arg3` as it was. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run leaves argument `main_arg4` as it was. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 7).trans (((dats m 0 c).arrAt_in 7 rfl _).trans ((A_eq m c 7).trans (V_main_arg4 m c)))

/-- The run with its five results named, the arguments unchanged. -/
theorem run_blocks : θ_run defs (onTc (τ := τ) (main (F := F))) ⟨m, fun _ => 0, ρ⟩ fun r => ∀ c : Dev nD,
      r.2.mem ((c : Thread nD τ).loc main_v47_0) = (dats m 0 c).arrAt 9 cfg0.N
      ∧ r.2.mem ((c : Thread nD τ).loc main_v47_1) = (dats m 0 c).arrAt 10 cfg0.N
      ∧ r.2.mem ((c : Thread nD τ).loc main_v47_2) = (dats m 0 c).arrAt 11 cfg0.N
      ∧ r.2.mem ((c : Thread nD τ).loc main_v47_3) = (dats m 0 c).arrAt 12 cfg0.N
      ∧ r.2.mem ((c : Thread nD τ).loc main_v47_4) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post9 m r h c,
      post10 m r h c,
      post11 m r h c,
      post12 m r h c,
      post13 m r h c,
      kept_main_arg0 m r h c,
      kept_main_arg1 m r h c,
      kept_main_arg2 m r h c,
      kept_main_arg3 m r h c,
      kept_main_arg4 m r h c⟩)
    (run_main m ρ)

end Cert.KernelIdeal.Att
end
-- ==== Proof.AttFinal.lean ====
/- The five results of the kernel `attention_bwd` as arrays, where its arguments hold real numbers: the gradients of q, k and v,
   the column sums and the row sums, each as the reference spells it. -/
module

public import proofs.«01_k».proof.Proof.AttSums
public import proofs.«01_k».proof.Proof.AttBlocks

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)
open Cert.ReferenceIdeal.Read

/-- The rows of the gradient of q are written back after a pair's last point. -/
theorem flush9 : ∀ t : Fin cfg0.N, (cfg0.win 9).flush t = true → t.val % 8 = 7 :=
  (by decide +kernel : ∀ t : Fin grid0.N, (cfg0.win 9).flush t = true → t.val % 8 = 7)
/-- So are the row sums. -/
theorem flush13 : ∀ t : Fin cfg0.N, (cfg0.win 13).flush t = true → t.val % 8 = 7 :=
  (by decide +kernel : ∀ t : Fin grid0.N, (cfg0.win 13).flush t = true → t.val % 8 = 7)

variable {m : (ℓ : Loc nD τ sig) → Buf (Elt Ideal) ℓ} {c : Dev nD}

theorem pcol_eq (t : Fin cfg0.N) (l : Fin 128) : pcol (blk m c t).p l = ⟨t.val / 8 * 128 + l.val, by have := N_lt t; omega⟩ :=
  Fin.ext (by show 128 * (blk m c t).p.val + l.val = t.val / 8 * 128 + l.val; rw [blk_p]; omega)
theorem rr_eq (t : Fin cfg0.N) (s : Fin 512) : rr (blk m c t).j s = ⟨t.val % 8 * 512 + s.val, by omega⟩ :=
  Fin.ext (by show 512 * (blk m c t).j.val + s.val = t.val % 8 * 512 + s.val; rw [blk_j]; omega)
theorem p_eq (t : Fin cfg0.N) : (blk m c t).p = ⟨t.val / 8, by have := N_lt t; omega⟩ := Fin.ext (blk_p t)

variable {Q K V D : Fin 4096 → Fin 512 → ℝ} {C : Fin 4096 → Fin 8 → ℝ} (H : Args m c Q K V D C)
include H

theorem final_dq : (dats m 0 c).arrAt 9 cfg0.N = val_main_v88 (F := Ideal) (up Q) (up K) (up V) (upC C) (up D) := by
  refine (dats m 0 c).arrAt_eq_of_covers 9 _ (by decide +kernel) fun t hf y => ?_
  obtain ⟨e9, -⟩ := index_out t
  have ht := flush9 t hf
  blk_simp
  rw [after0_9]
  idx_vars y
  refine (real9 H t ht _ _).trans ((r_dq Q K V D C _ (pcol (blk m c t).p _)).symm.trans ?_)
  rw [pcol_eq]
  blk_point [e9]

theorem final_dk : (dats m 0 c).arrAt 10 cfg0.N = val_main_v87 (F := Ideal) (up Q) (up K) (up V) (upC C) (up D) := by
  refine (dats m 0 c).arrAt_eq_of_covers 10 _ (by decide +kernel) fun t hf y => ?_
  obtain ⟨-, e10, -⟩ := index_out t
  blk_simp
  rw [after0_10]
  idx_vars y
  refine (real10 H t _ _).trans ((r_dk Q K V D C (rr (blk m c t).j _) (pcol (blk m c t).p _)).symm.trans ?_)
  rw [pcol_eq, rr_eq]
  blk_point [e10]

theorem final_dv : (dats m 0 c).arrAt 11 cfg0.N = val_main_v86 (F := Ideal) (up Q) (up K) (upC C) (up D) := by
  refine (dats m 0 c).arrAt_eq_of_covers 11 _ (by decide +kernel) fun t hf y => ?_
  obtain ⟨-, -, e11, -⟩ := index_out t
  blk_simp
  rw [after0_11]
  idx_vars y
  refine (real11 H t _ _).trans ((r_dv Q K D C (rr (blk m c t).j _) (pcol (blk m c t).p _)).symm.trans ?_)
  rw [pcol_eq, rr_eq]
  blk_point [e11]

theorem final_dcs : (dats m 0 c).arrAt 12 cfg0.N = val_main_v91 (F := Ideal) (up Q) (up K) (up V) (upC C) (up D) := by
  refine (dats m 0 c).arrAt_eq_of_covers 12 _ (by decide +kernel) fun t hf y => ?_
  obtain ⟨-, -, -, e12, -⟩ := index_out t
  blk_simp
  rw [after0_12]
  idx_vars y
  refine (real12 H t _ _ _).trans ((r_dcs Q K V D C (rr (blk m c t).j _) (blk m c t).p _).symm.trans ?_)
  rw [p_eq, rr_eq]
  blk_point [e12]

theorem final_dct : (dats m 0 c).arrAt 13 cfg0.N = val_main_v94 (F := Ideal) (up Q) (up K) (up V) (upC C) (up D) := by
  refine (dats m 0 c).arrAt_eq_of_covers 13 _ (by decide +kernel) fun t hf y => ?_
  obtain ⟨-, -, -, -, e13⟩ := index_out t
  have ht := flush13 t hf
  blk_simp
  rw [after0_13]
  idx_vars y
  refine (real13 H t ht _ _ _).trans ((r_dct Q K V D C _ (blk m c t).p _).symm.trans ?_)
  rw [p_eq]
  blk_point [e13]

end Cert.KernelIdeal.Att
end
-- ==== Proof.AttFinite.lean ====
/- What the precondition `finite` says: every number of the five arguments is real. -/
module

public import proofs.«01_k».proof.Defs
public import proofs.«01_k».proof.Proof.Gen.Pre_finite
public import proofs.«01_k».proof.Proof.AttHost
public import Idealize.ShloMosaic.Lib.ReduceAll

@[expose] public section

set_option maxRecDepth 16384

noncomputable section

namespace Cert.KernelIdeal.Att

open Cert.KernelIdeal Cert.KernelIdeal.Gen Idealize.ShloMosaic Idealize.ShloMosaic.TcCoe Idealize.SL.Sem

/-- A number whose magnitude is below infinity is real. -/
theorem real_of_abs_lt (x : EReal) (h : Ideal.cmp .olt (max x (-x)) (Ideal.ofBits .f32 0x7F800000#32) = 1#1) :
    x = ((x.toReal : ℝ) : EReal) := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  have h1 := lt_of_le_of_lt (le_max_left x (-x)) hlt
  have h2 := lt_of_le_of_lt (le_max_right x (-x)) hlt
  refine (EReal.coe_toReal h1.ne fun hb => ?_).symm
  rw [hb] at h2
  simp at h2

theorem both_one (a b : BitVec 1) (h : IntOp.andi a b = 1#1) : a = 1#1 ∧ b = 1#1 := by
  revert a b
  decide

instance : Subsingleton Cert.Pre_finite.S_.Idx := ⟨fun a b => funext fun x => x.elim0⟩

/-- Where `finite` is one, every number of the five arrays is real. -/
theorem all_real (x0 x1 x2 : FVec Ideal Cert.Pre_finite.S4096x512 .f32) (x3 : FVec Ideal Cert.Pre_finite.S4096x8 .f32)
    (x4 : FVec Ideal Cert.Pre_finite.S4096x512 .f32) (h : Cert.Pre_finite.fn (F := Ideal) x0 x1 x2 x3 x4 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal))
      ∧ (∀ i, x4 i = (((x4 i : EReal).toReal : ℝ) : EReal)) := by
  have h := congrFun h (fun a => a.elim0)
  unfold Cert.Pre_finite.fn Cert.Pre_finite.fn_part1 at h
  obtain ⟨h, h4⟩ := both_one _ _ h
  obtain ⟨h, h3⟩ := both_one _ _ h
  obtain ⟨h, h2⟩ := both_one _ _ h
  obtain ⟨h0, h1⟩ := both_one _ _ h
  exact ⟨fun i => real_of_abs_lt _ (Host.reduce_andi_all _ _ _ _ _ h0 i), fun i => real_of_abs_lt _ (Host.reduce_andi_all _ _ _ _ _ h1 i),
    fun i => real_of_abs_lt _ (Host.reduce_andi_all _ _ _ _ _ h2 i), fun i => real_of_abs_lt _ (Host.reduce_andi_all _ _ _ _ _ h3 i),
    fun i => real_of_abs_lt _ (Host.reduce_andi_all _ _ _ _ _ h4 i)⟩

/-- An array of real numbers. -/
theorem eq_up (x : (⟨Cert.ReferenceIdeal.S4096x512, .f32⟩ : BufTy).Contents (Elt Ideal)) (h : ∀ i, x i = (((x i : EReal).toReal : ℝ) : EReal)) :
    x = up fun r l => (x (ix2 r l) : EReal).toReal :=
  funext fun i => (h i).trans (congrArg (fun j => (((x j : EReal).toReal : ℝ) : EReal)) (ix2_eta i).symm)
theorem eq_upC (x : (⟨Cert.ReferenceIdeal.S4096x8, .f32⟩ : BufTy).Contents (Elt Ideal)) (h : ∀ i, x i = (((x i : EReal).toReal : ℝ) : EReal)) :
    x = upC fun r l => (x (ix2 r l) : EReal).toReal :=
  funext fun i => (h i).trans (congrArg (fun j => (((x j : EReal).toReal : ℝ) : EReal)) (ix2_eta i).symm)

/-- Under `finite` the arguments hold real numbers. -/
theorem args_real (m : (ℓ : Loc nD τ sig) → Buf (Elt Ideal) ℓ) (h : Cert.Pre_KernelIdeal_finite m) (c : Dev nD) :
    ∃ (Q K V D : Fin 4096 → Fin 512 → ℝ) (C : Fin 4096 → Fin 8 → ℝ), Args m c Q K V D C := by
  obtain ⟨h0, h1, h2, h3, h4⟩ := all_real _ _ _ _ _ (h c)
  exact ⟨_, _, _, _, _, eq_up _ h0, eq_up _ h1, eq_up _ h2, eq_upC _ h3, eq_up _ h4⟩

end Cert.KernelIdeal.Att
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxRefIdeal
public import proofs.«01_k».proof.Proof.Gen.UpDxRefIdeal.Read
public import proofs.«01_k».proof.Proof.Gen.UpDxRefIdeal.Run
public import proofs.«01_k».proof.Proof.Gen.UpDxIdeal.Value
public import proofs.«01_k».proof.Proof.UpDxValue
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Read
public import proofs.«01_k».proof.Proof.Gen.InDxRefIdeal.Run
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Read
public import proofs.«01_k».proof.Proof.Gen.OutDxRefIdeal.Run
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Read
public import proofs.«01_k».proof.Proof.Gen.UpDwRefIdeal.Run
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Read
public import proofs.«01_k».proof.Proof.Gen.InDwRefIdeal.Run
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Read
public import proofs.«01_k».proof.Proof.Gen.DownDxRefIdeal.Run
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Read
public import proofs.«01_k».proof.Proof.Gen.DownDwRefIdeal.Run
public import proofs.«01_k».proof.Proof.InDxValue
public import proofs.«01_k».proof.Proof.OutDxValue
public import proofs.«01_k».proof.Proof.UpDwValue
public import proofs.«01_k».proof.Proof.InDwValue
public import proofs.«01_k».proof.Proof.DownDxValue
public import proofs.«01_k».proof.Proof.DownDwValue
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Read
public import proofs.«01_k».proof.Proof.Gen.OutDwRefIdeal.Run
public import proofs.«01_k».proof.Proof.Gen.InFw
public import proofs.«01_k».proof.Proof.Gen.InFw.Skeleton
public import proofs.«01_k».proof.Proof.Gen.InFw.Launch
public import proofs.«01_k».proof.Proof.Gen.InFw.Points
public import proofs.«01_k».proof.Proof.Gen.InFw.Frame
public import proofs.«01_k».proof.Proof.Gen.InFwIdeal
public import proofs.«01_k».proof.Proof.Gen.InFwIdeal.Skeleton
public import proofs.«01_k».proof.Proof.Gen.InFwIdeal.Launch
public import proofs.«01_k».proof.Proof.Gen.InFwIdeal.Points
public import proofs.«01_k».proof.Proof.Gen.InFwIdeal.Frame
public import proofs.«01_k».proof.Proof.Gen.InFwIdeal.Value
public import proofs.«01_k».proof.Proof.Gen.InFwRefIdeal
public import proofs.«01_k».proof.Proof.Gen.InFwRefIdeal.Read
public import proofs.«01_k».proof.Proof.Gen.InFwRefIdeal.Run
public import proofs.«01_k».proof.Proof.Gen.UpFw
public import proofs.«01_k».proof.Proof.Gen.UpFw.Skeleton
public import proofs.«01_k».proof.Proof.Gen.UpFw.Launch
public import proofs.«01_k».proof.Proof.Gen.UpFw.Points
public import proofs.«01_k».proof.Proof.Gen.UpFw.Frame
public import proofs.«01_k».proof.Proof.Gen.UpFwIdeal
public import proofs.«01_k».proof.Proof.Gen.UpFwIdeal.Skeleton
public import proofs.«01_k».proof.Proof.Gen.UpFwIdeal.Launch
public import proofs.«01_k».proof.Proof.Gen.UpFwIdeal.Points
public import proofs.«01_k».proof.Proof.Gen.UpFwIdeal.Frame
public import proofs.«01_k».proof.Proof.Gen.UpFwIdeal.Value
public import proofs.«01_k».proof.Proof.Gen.UpFwRefIdeal
public import proofs.«01_k».proof.Proof.Gen.UpFwRefIdeal.Read
public import proofs.«01_k».proof.Proof.Gen.UpFwRefIdeal.Run
public import proofs.«01_k».proof.Proof.OutDwValue
public import proofs.«01_k».proof.Proof.InFwValue
public import proofs.«01_k».proof.Proof.UpFwValue
public import proofs.«01_k».proof.Proof.Gen.SconvDx
public import proofs.«01_k».proof.Proof.Gen.SconvDx.Skeleton
public import proofs.«01_k».proof.Proof.Gen.SconvDx.Launch
public import proofs.«01_k».proof.Proof.Gen.SconvDx.Points
public import proofs.«01_k».proof.Proof.Gen.SconvDx.Frame
public import proofs.«01_k».proof.Proof.Gen.SconvDxIdeal
public import proofs.«01_k».proof.Proof.Gen.SconvDxIdeal.Skeleton
public import proofs.«01_k».proof.Proof.Gen.SconvDxIdeal.Launch
public import proofs.«01_k».proof.Proof.Gen.SconvDxIdeal.Points
public import proofs.«01_k».proof.Proof.Gen.SconvDxIdeal.Frame
public import proofs.«01_k».proof.Proof.Gen.SconvDxIdeal.Value
public import proofs.«01_k».proof.Proof.Gen.SconvDxRefIdeal
public import proofs.«01_k».proof.Proof.Gen.SconvDxRefIdeal.Read
public import proofs.«01_k».proof.Proof.Gen.SconvDxRefIdeal.Run
public import proofs.«01_k».proof.Proof.SconvDxValue
public import proofs.«01_k».proof.Proof.Gen.PostDx
public import proofs.«01_k».proof.Proof.Gen.PostDx.Skeleton
public import proofs.«01_k».proof.Proof.Gen.PostDx.Launch
public import proofs.«01_k».proof.Proof.Gen.PostDx.Points
public import proofs.«01_k».proof.Proof.Gen.PostDx.Frame
public import proofs.«01_k».proof.Proof.Gen.PostDxIdeal
public import proofs.«01_k».proof.Proof.Gen.PostDxIdeal.Skeleton
public import proofs.«01_k».proof.Proof.Gen.PostDxIdeal.Launch
public import proofs.«01_k».proof.Proof.Gen.PostDxIdeal.Points
public import proofs.«01_k».proof.Proof.Gen.PostDxIdeal.Frame
public import proofs.«01_k».proof.Proof.Gen.PostDxIdeal.Value
public import proofs.«01_k».proof.Proof.Gen.PostDxRefIdeal
public import proofs.«01_k».proof.Proof.Gen.PostDxRefIdeal.Read
public import proofs.«01_k».proof.Proof.Gen.PostDxRefIdeal.Run
public import proofs.«01_k».proof.Proof.Gen.DownFw
public import proofs.«01_k».proof.Proof.Gen.DownFw.Skeleton
public import proofs.«01_k».proof.Proof.Gen.DownFw.Launch
public import proofs.«01_k».proof.Proof.Gen.DownFw.Points
public import proofs.«01_k».proof.Proof.Gen.DownFw.Frame
public import proofs.«01_k».proof.Proof.Gen.DownFwIdeal
public import proofs.«01_k».proof.Proof.Gen.DownFwIdeal.Skeleton
public import proofs.«01_k».proof.Proof.Gen.DownFwIdeal.Launch
public import proofs.«01_k».proof.Proof.Gen.DownFwIdeal.Points
public import proofs.«01_k».proof.Proof.Gen.DownFwIdeal.Frame
public import proofs.«01_k».proof.Proof.Gen.DownFwIdeal.Value
public import proofs.«01_k».proof.Proof.Gen.DownFwRefIdeal
public import proofs.«01_k».proof.Proof.Gen.DownFwRefIdeal.Read
public import proofs.«01_k».proof.Proof.Gen.DownFwRefIdeal.Run
public import proofs.«01_k».proof.Proof.Gen.SconvFw
public import proofs.«01_k».proof.Proof.Gen.SconvFw.Skeleton
public import proofs.«01_k».proof.Proof.Gen.SconvFw.Launch
public import proofs.«01_k».proof.Proof.Gen.SconvFw.Points
public import proofs.«01_k».proof.Proof.Gen.SconvFw.Frame
public import proofs.«01_k».proof.Proof.Gen.SconvFwIdeal
public import proofs.«01_k».proof.Proof.Gen.SconvFwIdeal.Skeleton
public import proofs.«01_k».proof.Proof.Gen.SconvFwIdeal.Launch
public import proofs.«01_k».proof.Proof.Gen.SconvFwIdeal.Points
public import proofs.«01_k».proof.Proof.Gen.SconvFwIdeal.Frame
public import proofs.«01_k».proof.Proof.Gen.SconvFwIdeal.Value
public import proofs.«01_k».proof.Proof.Gen.SconvFwRefIdeal
public import proofs.«01_k».proof.Proof.Gen.SconvFwRefIdeal.Read
public import proofs.«01_k».proof.Proof.Gen.SconvFwRefIdeal.Run
public import proofs.«01_k».proof.Proof.PostDxValue
public import proofs.«01_k».proof.Proof.DownFwValue
public import proofs.«01_k».proof.Proof.SconvFwValue
public import proofs.«01_k».proof.Proof.Gen.MergeFw
public import proofs.«01_k».proof.Proof.Gen.MergeFw.Skeleton
public import proofs.«01_k».proof.Proof.Gen.MergeFw.Launch
public import proofs.«01_k».proof.Proof.Gen.MergeFw.Points
public import proofs.«01_k».proof.Proof.Gen.MergeFw.Frame
public import proofs.«01_k».proof.Proof.Gen.MergeFwIdeal
public import proofs.«01_k».proof.Proof.Gen.MergeFwIdeal.Skeleton
public import proofs.«01_k».proof.Proof.Gen.MergeFwIdeal.Launch
public import proofs.«01_k».proof.Proof.Gen.MergeFwIdeal.Points
public import proofs.«01_k».proof.Proof.Gen.MergeFwIdeal.Frame
public import proofs.«01_k».proof.Proof.Gen.MergeFwIdeal.Value
public import proofs.«01_k».proof.Proof.Gen.MergeFwRefIdeal
public import proofs.«01_k».proof.Proof.Gen.MergeFwRefIdeal.Read
public import proofs.«01_k».proof.Proof.Gen.MergeFwRefIdeal.Run
public import proofs.«01_k».proof.Proof.MergeFwValue
public import proofs.«01_k».proof.Proof.AttRawFrame
public import proofs.«01_k».proof.Proof.AttFinal
public import proofs.«01_k».proof.Proof.AttFinite
public import Idealize.ShloMosaic.Adequacy
public import Idealize.ShloMosaic.Init

@[expose] public section

noncomputable section

namespace Cert.Proof

open Idealize.ShloMosaic Idealize.SL.Sem

/-- The reference's run read at its arguments; the program declares no counter. -/
theorem frame_UpDxRef : Cert.quiescent_UpDxRefIdeal := fun m ρ _ =>
  (θ_run Cert.UpDxRefIdeal.defs _ _).mono
    (fun r h => ⟨fun c => (h c).2.2, sem_eq_zero_of_no_sems (by decide) r.2⟩)
    (Cert.UpDxRefIdeal.Value.run (F := Ideal) m ρ)

/-- Both programs leave the gradient of the input and the gradient of the scale, as the reference spells them. -/
theorem algebraic_UpDx : Cert.algebraic_UpDxIdeal_UpDxRefIdeal := by
  intro m ρ m' ρ' _ hagree
  refine ⟨_, _, (θ_run Cert.UpDxIdeal.defs _ _).mono
    (fun r h c => ⟨(h c).1.trans (Cert.UpDxIdeal.Value.final_dx m c), (h c).2.1.trans (Cert.UpDxIdeal.Value.final_dg m c),
      (h c).2.2⟩) (Cert.UpDxIdeal.Value.run_blocks (F := Ideal) m ρ), ?_⟩
  refine (θ_run Cert.UpDxRefIdeal.defs _ _).mono (fun r h c => ⟨(h c).1.trans ?_, (h c).2.1.trans ?_, (h c).2.2⟩)
    (Cert.UpDxRefIdeal.Value.run (F := Ideal) m' ρ')
  · rw [Cert.UpDxRefIdeal.Read.val_main_v38_eq, (hagree c).1, (hagree c).2.1, (hagree c).2.2.1, (hagree c).2.2.2.1,
      (hagree c).2.2.2.2]
  · rw [Cert.UpDxRefIdeal.Read.val_main_v39_eq, (hagree c).1, (hagree c).2.2.1, (hagree c).2.2.2.1]

/-- The attention's reference run read at its arguments; the program declares no counter. -/
theorem frame_Reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- Each of the four constants is named by the number it stands for. -/
theorem preserves_Kernel : Cert.preserves_Kernel_KernelIdeal :=
  ⟨IdealRules.named_const.statement Cert.KernelIdeal.κ "log2e" .f32 0x3FB8AA3B#32 _ rfl,
    IdealRules.named_const.statement Cert.KernelIdeal.κ "qscale" .f32 0x3E38AA3B#32 _ rfl,
    IdealRules.named_const.statement Cert.KernelIdeal.κ "neg" .f32 0xF149F2CA#32 _ rfl,
    IdealRules.named_const.statement Cert.KernelIdeal.κ "ln2" .f32 0x3F317218#32 _ rfl⟩

set_option maxHeartbeats 4000000 in
/-- At arguments that are real numbers both programs leave the gradients of q, k and v and the column and row sums of the
    gradient in the scores, as the reference spells them. -/
theorem algebraic_Kernel : Cert.algebraic_KernelIdeal_ReferenceIdeal_pre_finite := by
  intro m ρ m' ρ' hpre hagree
  refine ⟨fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    (θ_run Cert.KernelIdeal.defs _ _).mono (fun r h c => ?_) (Cert.KernelIdeal.Att.run_blocks m ρ), ?_⟩
  rotate_left 1
  · refine (θ_run Cert.ReferenceIdeal.defs _ _).mono (fun r h c => ⟨(h c).1.trans ?_, (h c).2.1.trans ?_, (h c).2.2.1.trans ?_,
      (h c).2.2.2.1.trans ?_, (h c).2.2.2.2.1.trans ?_, (h c).2.2.2.2.2⟩) (Cert.ReferenceIdeal.Value.run (F := Ideal) m' ρ')
    · rw [Cert.ReferenceIdeal.Read.val_main_v88_eq, (hagree c).1, (hagree c).2.1, (hagree c).2.2.1, (hagree c).2.2.2.1, (hagree c).2.2.2.2]
    · rw [Cert.ReferenceIdeal.Read.val_main_v87_eq, (hagree c).1, (hagree c).2.1, (hagree c).2.2.1, (hagree c).2.2.2.1, (hagree c).2.2.2.2]
    · rw [Cert.ReferenceIdeal.Read.val_main_v86_eq, (hagree c).1, (hagree c).2.1, (hagree c).2.2.2.1, (hagree c).2.2.2.2]
    · rw [Cert.ReferenceIdeal.Read.val_main_v91_eq, (hagree c).1, (hagree c).2.1, (hagree c).2.2.1, (hagree c).2.2.2.1, (hagree c).2.2.2.2]
    · rw [Cert.ReferenceIdeal.Read.val_main_v94_eq, (hagree c).1, (hagree c).2.1, (hagree c).2.2.1, (hagree c).2.2.2.1, (hagree c).2.2.2.2]
  · obtain ⟨Q, K, V, D, C, H⟩ := Cert.KernelIdeal.Att.args_real m hpre c
    refine ⟨(h c).1.trans ((Cert.KernelIdeal.Att.final_dq H).trans ?_), (h c).2.1.trans ((Cert.KernelIdeal.Att.final_dk H).trans ?_),
      (h c).2.2.1.trans ((Cert.KernelIdeal.Att.final_dv H).trans ?_), (h c).2.2.2.1.trans ((Cert.KernelIdeal.Att.final_dcs H).trans ?_),
      (h c).2.2.2.2.1.trans ((Cert.KernelIdeal.Att.final_dct H).trans ?_), (h c).2.2.2.2.2⟩
    · beta_reduce; rw [H.hq, H.hk, H.hv, H.hc, H.hd]
    · beta_reduce; rw [H.hq, H.hk, H.hv, H.hc, H.hd]
    · beta_reduce; rw [H.hq, H.hk, H.hc, H.hd]
    · beta_reduce; rw [H.hq, H.hk, H.hv, H.hc, H.hd]
    · beta_reduce; rw [H.hq, H.hk, H.hv, H.hc, H.hd]

/-- The run of the reference `InDxRef` read at its arguments; the program declares no counter. -/
theorem frame_InDxRef : Cert.quiescent_InDxRefIdeal := fun m ρ _ =>
  (θ_run Cert.InDxRefIdeal.defs _ _).mono
    (fun r h => ⟨fun c => (h c).2.2, sem_eq_zero_of_no_sems (by decide) r.2⟩)
    (Cert.InDxRefIdeal.Value.run (F := Ideal) m ρ)

/-- Both programs leave the gradient of the input and the gradient of the scale, as the reference spells them. -/
theorem algebraic_InDx : Cert.algebraic_InDxIdeal_InDxRefIdeal := by
  intro m ρ m' ρ' _ hagree
  refine ⟨_, _, (θ_run Cert.InDxIdeal.defs _ _).mono
    (fun r h c => ⟨(h c).1.trans (Cert.InDxIdeal.Value.final_dx m c), (h c).2.1.trans (Cert.InDxIdeal.Value.final_dg m c),
      (h c).2.2⟩) (Cert.InDxIdeal.Value.run_blocks (F := Ideal) m ρ), ?_⟩
  refine (θ_run Cert.InDxRefIdeal.defs _ _).mono (fun r h c => ⟨(h c).1.trans ?_, (h c).2.1.trans ?_, (h c).2.2⟩)
    (Cert.InDxRefIdeal.Value.run (F := Ideal) m' ρ')
  · rw [Cert.InDxRefIdeal.Read.val_main_v38_eq, (hagree c).1, (hagree c).2.1, (hagree c).2.2.1, (hagree c).2.2.2.1, (hagree c).2.2.2.2]
  · rw [Cert.InDxRefIdeal.Read.val_main_v39_eq, (hagree c).1, (hagree c).2.2.1, (hagree c).2.2.2.1]

/-- The run of the reference `OutDxRef` read at its arguments; the program declares no counter. -/
theorem frame_OutDxRef : Cert.quiescent_OutDxRefIdeal := fun m ρ _ =>
  (θ_run Cert.OutDxRefIdeal.defs _ _).mono
    (fun r h => ⟨fun c => (h c).2.2.2, sem_eq_zero_of_no_sems (by decide) r.2⟩)
    (Cert.OutDxRefIdeal.Value.run (F := Ideal) m ρ)

/-- Both programs leave the gradient through the normalisation, the gradient of the scale and the gradient of the merged
    heads, as the reference spells them. -/
theorem algebraic_OutDx : Cert.algebraic_OutDxIdeal_OutDxRefIdeal := by
  intro m ρ m' ρ' _ hagree
  refine ⟨_, _, _, (θ_run Cert.OutDxIdeal.defs _ _).mono
    (fun r h c => ⟨(h c).1.trans (Cert.OutDxIdeal.Value.final_do m c), (h c).2.1.trans (Cert.OutDxIdeal.Value.final_dg m c), (h c).2.2.1.trans (Cert.OutDxIdeal.Value.final_dm m c),
      (h c).2.2.2⟩) (Cert.OutDxIdeal.Value.run_blocks (F := Ideal) m ρ), ?_⟩
  refine (θ_run Cert.OutDxRefIdeal.defs _ _).mono (fun r h c => ⟨(h c).1.trans ?_, (h c).2.1.trans ?_, (h c).2.2.1.trans ?_, (h c).2.2.2⟩)
    (Cert.OutDxRefIdeal.Value.run (F := Ideal) m' ρ')
  · rw [Cert.OutDxRefIdeal.Read.val_main_v39_eq, (hagree c).1, (hagree c).2.1, (hagree c).2.2.2]
  · rw [Cert.OutDxRefIdeal.Read.val_main_v40_eq, (hagree c).1, (hagree c).2.2.2]
  · rw [Cert.OutDxRefIdeal.Read.val_main_v38_eq, (hagree c).1, (hagree c).2.1, (hagree c).2.2.1, (hagree c).2.2.2]

/-- The run of the reference `UpDwRef` read at its arguments; the program declares no counter. -/
theorem frame_UpDwRef : Cert.quiescent_UpDwRefIdeal := fun m ρ _ =>
  (θ_run Cert.UpDwRefIdeal.defs _ _).mono
    (fun r h => ⟨fun c => (h c).2, sem_eq_zero_of_no_sems (by decide) r.2⟩)
    (Cert.UpDwRefIdeal.Value.run (F := Ideal) m ρ)

/-- Both programs leave the gradient of the weight, as the reference spells it. -/
theorem algebraic_UpDw : Cert.algebraic_UpDwIdeal_UpDwRefIdeal := by
  intro m ρ m' ρ' _ hagree
  refine ⟨_, (θ_run Cert.UpDwIdeal.defs _ _).mono
    (fun r h c => ⟨(h c).1.trans (Cert.UpDwIdeal.Value.final_dw m c),
      (h c).2⟩) (Cert.UpDwIdeal.Value.run_blocks (F := Ideal) m ρ), ?_⟩
  refine (θ_run Cert.UpDwRefIdeal.defs _ _).mono (fun r h c => ⟨(h c).1.trans ?_, (h c).2⟩)
    (Cert.UpDwRefIdeal.Value.run (F := Ideal) m' ρ')
  rw [Cert.UpDwRefIdeal.Read.val_main_v5_eq, (hagree c).1, (hagree c).2]

/-- The run of the reference `InDwRef` read at its arguments; the program declares no counter. -/
theorem frame_InDwRef : Cert.quiescent_InDwRefIdeal := fun m ρ _ =>
  (θ_run Cert.InDwRefIdeal.defs _ _).mono
    (fun r h => ⟨fun c => (h c).2, sem_eq_zero_of_no_sems (by decide) r.2⟩)
    (Cert.InDwRefIdeal.Value.run (F := Ideal) m ρ)

/-- Both programs leave the gradient of the weight, as the reference spells it. -/
theorem algebraic_InDw : Cert.algebraic_InDwIdeal_InDwRefIdeal := by
  intro m ρ m' ρ' _ hagree
  refine ⟨_, (θ_run Cert.InDwIdeal.defs _ _).mono
    (fun r h c => ⟨(h c).1.trans (Cert.InDwIdeal.Value.final_dw m c),
      (h c).2⟩) (Cert.InDwIdeal.Value.run_blocks (F := Ideal) m ρ), ?_⟩
  refine (θ_run Cert.InDwRefIdeal.defs _ _).mono (fun r h c => ⟨(h c).1.trans ?_, (h c).2⟩)
    (Cert.InDwRefIdeal.Value.run (F := Ideal) m' ρ')
  rw [Cert.InDwRefIdeal.Read.val_main_v5_eq, (hagree c).1, (hagree c).2]

/-- The run of the reference `DownDxRef` read at its arguments; the program declares no counter. -/
theorem frame_DownDxRef : Cert.quiescent_DownDxRefIdeal := fun m ρ _ =>
  (θ_run Cert.DownDxRefIdeal.defs _ _).mono
    (fun r h => ⟨fun c => (h c).2, sem_eq_zero_of_no_sems (by decide) r.2⟩)
    (Cert.DownDxRefIdeal.Value.run (F := Ideal) m ρ)

/-- Both programs leave the gradient of the product's left operand, as the reference spells it. -/
theorem algebraic_DownDx : Cert.algebraic_DownDxIdeal_DownDxRefIdeal := by
  intro m ρ m' ρ' _ hagree
  refine ⟨_, (θ_run Cert.DownDxIdeal.defs _ _).mono
    (fun r h c => ⟨(h c).1.trans (Cert.DownDxIdeal.Value.final_dx m c),
      (h c).2⟩) (Cert.DownDxIdeal.Value.run_blocks (F := Ideal) m ρ), ?_⟩
  refine (θ_run Cert.DownDxRefIdeal.defs _ _).mono (fun r h c => ⟨(h c).1.trans ?_, (h c).2⟩)
    (Cert.DownDxRefIdeal.Value.run (F := Ideal) m' ρ')
  rw [Cert.DownDxRefIdeal.Read.val_main_v2_eq, (hagree c).1, (hagree c).2]

/-- The run of the reference `DownDwRef` read at its arguments; the program declares no counter. -/
theorem frame_DownDwRef : Cert.quiescent_DownDwRefIdeal := fun m ρ _ =>
  (θ_run Cert.DownDwRefIdeal.defs _ _).mono
    (fun r h => ⟨fun c => (h c).2, sem_eq_zero_of_no_sems (by decide) r.2⟩)
    (Cert.DownDwRefIdeal.Value.run (F := Ideal) m ρ)

/-- Both programs leave the gradient of the weight, as the reference spells it. -/
theorem algebraic_DownDw : Cert.algebraic_DownDwIdeal_DownDwRefIdeal := by
  intro m ρ m' ρ' _ hagree
  refine ⟨_, (θ_run Cert.DownDwIdeal.defs _ _).mono
    (fun r h c => ⟨(h c).1.trans (Cert.DownDwIdeal.Value.final_dw m c),
      (h c).2⟩) (Cert.DownDwIdeal.Value.run_blocks (F := Ideal) m ρ), ?_⟩
  refine (θ_run Cert.DownDwRefIdeal.defs _ _).mono (fun r h c => ⟨(h c).1.trans ?_, (h c).2⟩)
    (Cert.DownDwRefIdeal.Value.run (F := Ideal) m' ρ')
  rw [Cert.DownDwRefIdeal.Read.val_main_v4_eq, (hagree c).1, (hagree c).2]

/-- The run of the reference `OutDwRef` read at its arguments; the program declares no counter. -/
theorem frame_OutDwRef : Cert.quiescent_OutDwRefIdeal := fun m ρ _ =>
  (θ_run Cert.OutDwRefIdeal.defs _ _).mono
    (fun r h => ⟨fun c => (h c).2, sem_eq_zero_of_no_sems (by decide) r.2⟩)
    (Cert.OutDwRefIdeal.Value.run (F := Ideal) m ρ)

/-- Both programs leave the gradient of the weight, as the reference spells it. -/
theorem algebraic_OutDw : Cert.algebraic_OutDwIdeal_OutDwRefIdeal := by
  intro m ρ m' ρ' _ hagree
  refine ⟨_, (θ_run Cert.OutDwIdeal.defs _ _).mono
    (fun r h c => ⟨(h c).1.trans (Cert.OutDwIdeal.Value.final_dw m c),
      (h c).2⟩) (Cert.OutDwIdeal.Value.run_blocks (F := Ideal) m ρ), ?_⟩
  refine (θ_run Cert.OutDwRefIdeal.defs _ _).mono (fun r h c => ⟨(h c).1.trans ?_, (h c).2⟩)
    (Cert.OutDwRefIdeal.Value.run (F := Ideal) m' ρ')
  rw [Cert.OutDwRefIdeal.Read.val_main_v4_eq, (hagree c).1, (hagree c).2]

/-- The run of the reference `InFwRef` read at its arguments; the program declares no counter. -/
theorem frame_InFwRef : Cert.quiescent_InFwRefIdeal := fun m ρ _ =>
  (θ_run Cert.InFwRefIdeal.defs _ _).mono
    (fun r h => ⟨fun c => (h c).2, sem_eq_zero_of_no_sems (by decide) r.2⟩)
    (Cert.InFwRefIdeal.Value.run (F := Ideal) m ρ)

/-- Both programs leave the product, as the reference spells it. -/
theorem algebraic_InFw : Cert.algebraic_InFwIdeal_InFwRefIdeal := by
  intro m ρ m' ρ' _ hagree
  refine ⟨_, (θ_run Cert.InFwIdeal.defs _ _).mono
    (fun r h c => ⟨(h c).1.trans (Cert.InFwIdeal.Value.final_h m c),
      (h c).2⟩) (Cert.InFwIdeal.Value.run_blocks (F := Ideal) m ρ), ?_⟩
  refine (θ_run Cert.InFwRefIdeal.defs _ _).mono (fun r h c => ⟨(h c).1.trans ?_, (h c).2⟩)
    (Cert.InFwRefIdeal.Value.run (F := Ideal) m' ρ')
  rw [Cert.InFwRefIdeal.Read.val_main_v0_eq, (hagree c).1, (hagree c).2]

/-- The run of the reference `UpFwRef` read at its arguments; the program declares no counter. -/
theorem frame_UpFwRef : Cert.quiescent_UpFwRefIdeal := fun m ρ _ =>
  (θ_run Cert.UpFwRefIdeal.defs _ _).mono
    (fun r h => ⟨fun c => (h c).2, sem_eq_zero_of_no_sems (by decide) r.2⟩)
    (Cert.UpFwRefIdeal.Value.run (F := Ideal) m ρ)

/-- Both programs leave the product, as the reference spells it. -/
theorem algebraic_UpFw : Cert.algebraic_UpFwIdeal_UpFwRefIdeal := by
  intro m ρ m' ρ' _ hagree
  refine ⟨_, (θ_run Cert.UpFwIdeal.defs _ _).mono
    (fun r h c => ⟨(h c).1.trans (Cert.UpFwIdeal.Value.final_h m c),
      (h c).2⟩) (Cert.UpFwIdeal.Value.run_blocks (F := Ideal) m ρ), ?_⟩
  refine (θ_run Cert.UpFwRefIdeal.defs _ _).mono (fun r h c => ⟨(h c).1.trans ?_, (h c).2⟩)
    (Cert.UpFwRefIdeal.Value.run (F := Ideal) m' ρ')
  rw [Cert.UpFwRefIdeal.Read.val_main_v0_eq, (hagree c).1, (hagree c).2]

/-- The run of the reference `SconvDxRef` read at its arguments; the program declares no counter. -/
theorem frame_SconvDxRef : Cert.quiescent_SconvDxRefIdeal := fun m ρ _ =>
  (θ_run Cert.SconvDxRefIdeal.defs _ _).mono
    (fun r h => ⟨fun c => (h c).2.2.2.2, sem_eq_zero_of_no_sems (by decide) r.2⟩)
    (Cert.SconvDxRefIdeal.Value.run (F := Ideal) m ρ)

/-- Both programs leave the gradients of the two gates, of the gated branch and of the convolution's weight, as the
    reference spells them. -/
theorem algebraic_SconvDx : Cert.algebraic_SconvDxIdeal_SconvDxRefIdeal := by
  intro m ρ m' ρ' _ hagree
  refine ⟨_, _, _, _, (θ_run Cert.SconvDxIdeal.defs _ _).mono
    (fun r h c => ⟨(h c).1.trans (Cert.SconvDxIdeal.Value.final_db m c), (h c).2.1.trans (Cert.SconvDxIdeal.Value.final_dc m c), (h c).2.2.1.trans (Cert.SconvDxIdeal.Value.final_dh m c), (h c).2.2.2.1.trans (Cert.SconvDxIdeal.Value.final_dw m c),
      (h c).2.2.2.2⟩) (Cert.SconvDxIdeal.Value.run_blocks (F := Ideal) m ρ), ?_⟩
  refine (θ_run Cert.SconvDxRefIdeal.defs _ _).mono (fun r h c => ⟨(h c).1.trans ?_, (h c).2.1.trans ?_, (h c).2.2.1.trans ?_, (h c).2.2.2.1.trans ?_, (h c).2.2.2.2⟩)
    (Cert.SconvDxRefIdeal.Value.run (F := Ideal) m' ρ')
  · rw [Cert.SconvDxRefIdeal.Read.val_main_v62_eq, (hagree c).2.1, (hagree c).2.2.1, (hagree c).2.2.2.1, (hagree c).2.2.2.2]
  · rw [Cert.SconvDxRefIdeal.Read.val_main_v63_eq, (hagree c).1, (hagree c).2.2.1, (hagree c).2.2.2.1, (hagree c).2.2.2.2]
  · rw [Cert.SconvDxRefIdeal.Read.val_main_v64_eq, (hagree c).1, (hagree c).2.1, (hagree c).2.2.2.1, (hagree c).2.2.2.2]
  · rw [Cert.SconvDxRefIdeal.Read.val_main_v65_eq, (hagree c).1, (hagree c).2.1, (hagree c).2.2.1, (hagree c).2.2.2.2]

/-- The run of the reference `PostDxRef` read at its arguments; the program declares no counter. -/
theorem frame_PostDxRef : Cert.quiescent_PostDxRefIdeal := fun m ρ _ =>
  (θ_run Cert.PostDxRefIdeal.defs _ _).mono
    (fun r h => ⟨fun c => (h c).2.2, sem_eq_zero_of_no_sems (by decide) r.2⟩)
    (Cert.PostDxRefIdeal.Value.run (F := Ideal) m ρ)

/-- Both programs leave the gradient through the normalisation and the gradient of the scale, as the reference spells them.
    -/
theorem algebraic_PostDx : Cert.algebraic_PostDxIdeal_PostDxRefIdeal := by
  intro m ρ m' ρ' _ hagree
  refine ⟨_, _, (θ_run Cert.PostDxIdeal.defs _ _).mono
    (fun r h c => ⟨(h c).1.trans (Cert.PostDxIdeal.Value.final_do m c), (h c).2.1.trans (Cert.PostDxIdeal.Value.final_dg m c),
      (h c).2.2⟩) (Cert.PostDxIdeal.Value.run_blocks (F := Ideal) m ρ), ?_⟩
  refine (θ_run Cert.PostDxRefIdeal.defs _ _).mono (fun r h c => ⟨(h c).1.trans ?_, (h c).2.1.trans ?_, (h c).2.2⟩)
    (Cert.PostDxRefIdeal.Value.run (F := Ideal) m' ρ')
  · rw [Cert.PostDxRefIdeal.Read.val_main_v36_eq, (hagree c).1, (hagree c).2.1, (hagree c).2.2]
  · rw [Cert.PostDxRefIdeal.Read.val_main_v37_eq, (hagree c).1, (hagree c).2.2]

/-- The run of the reference `DownFwRef` read at its arguments; the program declares no counter. -/
theorem frame_DownFwRef : Cert.quiescent_DownFwRefIdeal := fun m ρ _ =>
  (θ_run Cert.DownFwRefIdeal.defs _ _).mono
    (fun r h => ⟨fun c => (h c).2.2.2, sem_eq_zero_of_no_sems (by decide) r.2⟩)
    (Cert.DownFwRefIdeal.Value.run (F := Ideal) m ρ)

/-- Both programs leave the product, the residual sum and the normalised rows, as the reference spells them. -/
theorem algebraic_DownFw : Cert.algebraic_DownFwIdeal_DownFwRefIdeal := by
  intro m ρ m' ρ' _ hagree
  refine ⟨_, _, _, (θ_run Cert.DownFwIdeal.defs _ _).mono
    (fun r h c => ⟨(h c).1.trans (Cert.DownFwIdeal.Value.final_o m c), (h c).2.1.trans (Cert.DownFwIdeal.Value.final_x m c), (h c).2.2.1.trans (Cert.DownFwIdeal.Value.final_xn m c),
      (h c).2.2.2⟩) (Cert.DownFwIdeal.Value.run_blocks (F := Ideal) m ρ), ?_⟩
  refine (θ_run Cert.DownFwRefIdeal.defs _ _).mono (fun r h c => ⟨(h c).1.trans ?_, (h c).2.1.trans ?_, (h c).2.2.1.trans ?_, (h c).2.2.2⟩)
    (Cert.DownFwRefIdeal.Value.run (F := Ideal) m' ρ')
  · rw [Cert.DownFwRefIdeal.Read.val_main_v0_eq, (hagree c).1, (hagree c).2.1]
  · rw [Cert.DownFwRefIdeal.Read.val_main_v14_eq, (hagree c).1, (hagree c).2.1, (hagree c).2.2.1, (hagree c).2.2.2.1]
  · rw [Cert.DownFwRefIdeal.Read.val_main_v28_eq, (hagree c).1, (hagree c).2.1, (hagree c).2.2.1, (hagree c).2.2.2.1, (hagree c).2.2.2.2]

/-- The run of the reference `SconvFwRef` read at its arguments; the program declares no counter. -/
theorem frame_SconvFwRef : Cert.quiescent_SconvFwRefIdeal := fun m ρ _ =>
  (θ_run Cert.SconvFwRefIdeal.defs _ _).mono
    (fun r h => ⟨fun c => (h c).2, sem_eq_zero_of_no_sems (by decide) r.2⟩)
    (Cert.SconvFwRefIdeal.Value.run (F := Ideal) m ρ)

/-- Both programs leave the gated convolution, as the reference spells it. -/
theorem algebraic_SconvFw : Cert.algebraic_SconvFwIdeal_SconvFwRefIdeal := by
  intro m ρ m' ρ' _ hagree
  refine ⟨_, (θ_run Cert.SconvFwIdeal.defs _ _).mono
    (fun r h c => ⟨(h c).1.trans (Cert.SconvFwIdeal.Value.final_y m c),
      (h c).2⟩) (Cert.SconvFwIdeal.Value.run_blocks (F := Ideal) m ρ), ?_⟩
  refine (θ_run Cert.SconvFwRefIdeal.defs _ _).mono (fun r h c => ⟨(h c).1.trans ?_, (h c).2⟩)
    (Cert.SconvFwRefIdeal.Value.run (F := Ideal) m' ρ')
  rw [Cert.SconvFwRefIdeal.Read.val_main_v24_eq, (hagree c).1, (hagree c).2.1, (hagree c).2.2.1, (hagree c).2.2.2]

/-- The run of the reference `MergeFwRef` read at its arguments; the program declares no counter. -/
theorem frame_MergeFwRef : Cert.quiescent_MergeFwRefIdeal := fun m ρ _ =>
  (θ_run Cert.MergeFwRefIdeal.defs _ _).mono
    (fun r h => ⟨fun c => (h c).2.2.2.2, sem_eq_zero_of_no_sems (by decide) r.2⟩)
    (Cert.MergeFwRefIdeal.Value.run (F := Ideal) m ρ)

/-- Both programs leave the gated sum, the product, the residual sum and the normalised rows, as the reference spells them.
    -/
theorem algebraic_MergeFw : Cert.algebraic_MergeFwIdeal_MergeFwRefIdeal := by
  intro m ρ m' ρ' _ hagree
  refine ⟨_, _, _, _, (θ_run Cert.MergeFwIdeal.defs _ _).mono
    (fun r h c => ⟨(h c).1.trans (Cert.MergeFwIdeal.Value.final_m m c), (h c).2.1.trans (Cert.MergeFwIdeal.Value.final_o m c), (h c).2.2.1.trans (Cert.MergeFwIdeal.Value.final_x m c), (h c).2.2.2.1.trans (Cert.MergeFwIdeal.Value.final_xn m c),
      (h c).2.2.2.2⟩) (Cert.MergeFwIdeal.Value.run_blocks (F := Ideal) m ρ), ?_⟩
  refine (θ_run Cert.MergeFwRefIdeal.defs _ _).mono (fun r h c => ⟨(h c).1.trans ?_, (h c).2.1.trans ?_, (h c).2.2.1.trans ?_, (h c).2.2.2.1.trans ?_, (h c).2.2.2.2⟩)
    (Cert.MergeFwRefIdeal.Value.run (F := Ideal) m' ρ')
  · rw [Cert.MergeFwRefIdeal.Read.val_main_v39_eq, (hagree c).1, (hagree c).2.1, (hagree c).2.2.1, (hagree c).2.2.2.1, (hagree c).2.2.2.2.1, (hagree c).2.2.2.2.2.1, (hagree c).2.2.2.2.2.2.1, (hagree c).2.2.2.2.2.2.2.1]
  · rw [Cert.MergeFwRefIdeal.Read.val_main_v24_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]
  · rw [Cert.MergeFwRefIdeal.Read.val_main_v38_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]
  · rw [Cert.MergeFwRefIdeal.Read.val_main_v53_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.UpDx.Gen.facts,
  Cert.UpDxIdeal.Gen.facts, Cert.UpDxRefIdeal.Gen.facts,
  Cert.InDx.Gen.facts, Cert.InDxIdeal.Gen.facts, Cert.InDxRefIdeal.Gen.facts,
  Cert.OutDx.Gen.facts, Cert.OutDxIdeal.Gen.facts, Cert.OutDxRefIdeal.Gen.facts,
  Cert.UpDw.Gen.facts, Cert.UpDwIdeal.Gen.facts, Cert.UpDwRefIdeal.Gen.facts,
  Cert.InDw.Gen.facts, Cert.InDwIdeal.Gen.facts, Cert.InDwRefIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.OutDw.Gen.facts, Cert.OutDwIdeal.Gen.facts, Cert.OutDwRefIdeal.Gen.facts,
  Cert.InFw.Gen.facts, Cert.InFwIdeal.Gen.facts, Cert.InFwRefIdeal.Gen.facts,
  Cert.UpFw.Gen.facts, Cert.UpFwIdeal.Gen.facts, Cert.UpFwRefIdeal.Gen.facts,
  Cert.SconvDx.Gen.facts, Cert.SconvDxIdeal.Gen.facts, Cert.SconvDxRefIdeal.Gen.facts,
  Cert.PostDx.Gen.facts, Cert.PostDxIdeal.Gen.facts, Cert.PostDxRefIdeal.Gen.facts,
  Cert.DownFw.Gen.facts, Cert.DownFwIdeal.Gen.facts, Cert.DownFwRefIdeal.Gen.facts,
  Cert.SconvFw.Gen.facts, Cert.SconvFwIdeal.Gen.facts, Cert.SconvFwRefIdeal.Gen.facts,
  Cert.MergeFw.Gen.facts, Cert.MergeFwIdeal.Gen.facts, Cert.MergeFwRefIdeal.Gen.facts,
  Cert.Pre_finite.Gen.facts,
  fun m ρ _ => Cert.Kernel.Att.frame m ρ, fun m ρ _ => Cert.KernelIdeal.Att.frame m ρ, fun m ρ _ => Cert.KernelIdeal.Att.frame m ρ,
  frame_Reference, fun m ρ _ => frame_Reference m ρ trivial,
  fun m ρ _ => Cert.UpDx.Gen.frame m ρ, fun m ρ _ => Cert.UpDxIdeal.Gen.frame m ρ, frame_UpDxRef,
  fun m ρ _ => Cert.InDx.Gen.frame m ρ, fun m ρ _ => Cert.InDxIdeal.Gen.frame m ρ, frame_InDxRef,
  fun m ρ _ => Cert.OutDx.Gen.frame m ρ, fun m ρ _ => Cert.OutDxIdeal.Gen.frame m ρ, frame_OutDxRef,
  fun m ρ _ => Cert.UpDw.Gen.frame m ρ, fun m ρ _ => Cert.UpDwIdeal.Gen.frame m ρ, frame_UpDwRef,
  fun m ρ _ => Cert.InDw.Gen.frame m ρ, fun m ρ _ => Cert.InDwIdeal.Gen.frame m ρ, frame_InDwRef,
  fun m ρ _ => Cert.DownDx.Gen.frame m ρ, fun m ρ _ => Cert.DownDxIdeal.Gen.frame m ρ, frame_DownDxRef,
  fun m ρ _ => Cert.DownDw.Gen.frame m ρ, fun m ρ _ => Cert.DownDwIdeal.Gen.frame m ρ, frame_DownDwRef,
  fun m ρ _ => Cert.OutDw.Gen.frame m ρ, fun m ρ _ => Cert.OutDwIdeal.Gen.frame m ρ, frame_OutDwRef,
  fun m ρ _ => Cert.InFw.Gen.frame m ρ, fun m ρ _ => Cert.InFwIdeal.Gen.frame m ρ, frame_InFwRef,
  fun m ρ _ => Cert.UpFw.Gen.frame m ρ, fun m ρ _ => Cert.UpFwIdeal.Gen.frame m ρ, frame_UpFwRef,
  fun m ρ _ => Cert.SconvDx.Gen.frame m ρ, fun m ρ _ => Cert.SconvDxIdeal.Gen.frame m ρ, frame_SconvDxRef,
  fun m ρ _ => Cert.PostDx.Gen.frame m ρ, fun m ρ _ => Cert.PostDxIdeal.Gen.frame m ρ, frame_PostDxRef,
  fun m ρ _ => Cert.DownFw.Gen.frame m ρ, fun m ρ _ => Cert.DownFwIdeal.Gen.frame m ρ, frame_DownFwRef,
  fun m ρ _ => Cert.SconvFw.Gen.frame m ρ, fun m ρ _ => Cert.SconvFwIdeal.Gen.frame m ρ, frame_SconvFwRef,
  fun m ρ _ => Cert.MergeFw.Gen.frame m ρ, fun m ρ _ => Cert.MergeFwIdeal.Gen.frame m ρ, frame_MergeFwRef,
  preserves_Kernel, algebraic_Kernel, trivial, algebraic_UpDx,
  trivial, algebraic_InDx, trivial, algebraic_OutDx, trivial, algebraic_UpDw, trivial, algebraic_InDw, trivial, algebraic_DownDx, trivial, algebraic_DownDw,
  trivial, algebraic_OutDw, trivial, algebraic_InFw, trivial, algebraic_UpFw,
  trivial, algebraic_SconvDx,
  trivial, algebraic_PostDx, trivial, algebraic_DownFw, trivial, algebraic_SconvFw,
  trivial, algebraic_MergeFw⟩

end Cert.Proof

end
